-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_marked [hPre_marked : Cert.Pre_marked.Facts] (m : (ℓ : Loc Cert.KernelIdeal.nD Cert.KernelIdeal.τ Cert.KernelIdeal.sig) → Buf (Elt Ideal) ℓ) : Prop :=
  ∀ c : Dev Cert.KernelIdeal.nD,
    (Cert.Pre_marked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_marked [hPre_marked : Cert.Pre_marked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_marked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_marked [hKernelIdeal : Cert.KernelIdeal.Facts] [hPre_marked : Cert.Pre_marked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_marked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_marked [hReferenceIdeal : Cert.ReferenceIdeal.Facts] [hPre_marked : Cert.Pre_marked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_marked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_marked [hKernelIdeal : Cert.KernelIdeal.Facts] [hReferenceIdeal : Cert.ReferenceIdeal.Facts] [hPre_marked : Cert.Pre_marked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_marked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_marked : Cert.Pre_marked.Facts),
    quiescent_Kernel (hKernel := hKernel)
    ∧ quiescent_KernelIdeal (hKernelIdeal := hKernelIdeal)
    ∧ quiescent_KernelIdeal_pre_marked (hKernelIdeal := hKernelIdeal) (hPre_marked := hPre_marked)
    ∧ quiescent_ReferenceIdeal (hReferenceIdeal := hReferenceIdeal)
    ∧ quiescent_ReferenceIdeal_pre_marked (hReferenceIdeal := hReferenceIdeal) (hPre_marked := hPre_marked)
    ∧ preserves_Kernel_KernelIdeal
    ∧ algebraic_KernelIdeal_ReferenceIdeal_pre_marked (hKernelIdeal := hKernelIdeal) (hReferenceIdeal := hReferenceIdeal) (hPre_marked := hPre_marked)
-- ==== Pre_marked.lean ====
abbrev S1x128 : Shape := ⟨2, ![1, 128]⟩
abbrev S20x4096x128 : Shape := ⟨3, ![20, 4096, 128]⟩
abbrev S5x4x128 : Shape := ⟨3, ![5, 4, 128]⟩
abbrev S640x4 : Shape := ⟨2, ![640, 4]⟩
abbrev S32000 : Shape := ⟨1, ![32000]⟩
abbrev S32000x4096 : Shape := ⟨2, ![32000, 4096]⟩
abbrev S640x4x1000 : Shape := ⟨3, ![640, 4, 1000]⟩
abbrev S1x125 : Shape := ⟨2, ![1, 125]⟩
abbrev S125 : Shape := ⟨1, ![125]⟩
abbrev S_ : Shape := ⟨0, ![]⟩
abbrev S640x4x125x8 : Shape := ⟨4, ![640, 4, 125, 8]⟩
abbrev S1x1x125x1 : Shape := ⟨4, ![1, 1, 125, 1]⟩

class Facts : Prop where
  slices_S1x128_S1x125_0_0 : S1x128.Slices ![0, 0] S1x125
  shapeCasts_S1x125_S125 : S1x125.ShapeCasts S125
  bcast_S_S125 : S_.BroadcastsInDim S125 (![] : Fin 0 → Fin S125.rank)
  shapeCasts_S640x4x1000_S640x4x125x8 : S640x4x1000.ShapeCasts S640x4x125x8
  bcast_S_S640x4x125x8 : S_.BroadcastsInDim S640x4x125x8 (![] : Fin 0 → Fin S640x4x125x8.rank)
  bcast_S125_S1x1x125x1_2 : S125.BroadcastsInDim S1x1x125x1 (![2] : Fin 1 → Fin S1x1x125x1.rank)
  bcast_S1x1x125x1_S640x4x125x8_0_1_2_3 : S1x1x125x1.BroadcastsInDim S640x4x125x8 (![0, 1, 2, 3] : Fin 4 → Fin S640x4x125x8.rank)

variable [Facts]

def fn {F : FTy → Type} [FloatOps F] (main_arg0 : IVec S1x128 32) (main_arg1 : IVec S20x4096x128 8) (main_arg2 : FVec F S5x4x128 .f32) (main_arg3 : IVec S640x4 32) (main_arg4 : FVec F S32000 .f32) (main_arg5 : IVec S32000x4096 8) (main_arg6 : IVec S640x4x1000 32) : IVec S640x4x125x8 1 :=
  let main_v0 : IVec S1x125 32 := (extractStridedSlice S1x125 ![0, 0] · slices_S1x128_S1x125_0_0) main_arg0
  let main_v1 : IVec S125 32 := shapeCast S125 main_v0 shapeCasts_S1x125_S125
  let main_c : IVec S_ 32 := constantI S_ 32 0#32
  let main_v2 : IVec S125 32 := broadcastInDim S125 ![] bcast_S_S125 main_c
  let main_v3 : IVec S125 1 := cmpi .ne main_v1 main_v2
  let main_v4 : IVec S640x4x125x8 32 := shapeCast S640x4x125x8 main_arg6 shapeCasts_S640x4x1000_S640x4x125x8
  let main_c_0 : IVec S_ 32 := constantI S_ 32 0#32
  let main_v5 : IVec S640x4x125x8 32 := broadcastInDim S640x4x125x8 ![] bcast_S_S640x4x125x8 main_c_0
  let main_v6 : IVec S640x4x125x8 1 := cmpi .eq main_v4 main_v5
  let main_v7 : IVec S1x1x125x1 1 := broadcastInDim S1x1x125x1 ![2] bcast_S125_S1x1x125x1_2 main_v3
  let main_v8 : IVec S640x4x125x8 1 := broadcastInDim S640x4x125x8 ![0, 1, 2, 3] bcast_S1x1x125x1_S640x4x125x8_0_1_2_3 main_v7
  let main_v9 : IVec S640x4x125x8 1 := ori main_v6 main_v8
  main_v9
-- ==== Kernel.lean ====
abbrev S1x128 : Shape := ⟨2, ![1, 128]⟩
abbrev S20x4096x128 : Shape := ⟨3, ![20, 4096, 128]⟩
abbrev S5x4x128 : Shape := ⟨3, ![5, 4, 128]⟩
abbrev S640x4 : Shape := ⟨2, ![640, 4]⟩
abbrev S32000 : Shape := ⟨1, ![32000]⟩
abbrev S32000x4096 : Shape := ⟨2, ![32000, 4096]⟩
abbrev S640x4x1000 : Shape := ⟨3, ![640, 4, 1000]⟩
abbrev S4x1000x640 : Shape := ⟨3, ![4, 1000, 640]⟩
abbrev S4x125x8x5x128 : Shape := ⟨5, ![4, 125, 8, 5, 128]⟩
abbrev S4x125x5x8x128 : Shape := ⟨5, ![4, 125, 5, 8, 128]⟩
abbrev S4x640 : Shape := ⟨2, ![4, 640]⟩
abbrev S4x5x128 : Shape := ⟨3, ![4, 5, 128]⟩
abbrev S20x128 : Shape := ⟨2, ![20, 128]⟩
abbrev S250x128 : Shape := ⟨2, ![250, 128]⟩
abbrev S63x5x4x128 : Shape := ⟨4, ![63, 5, 4, 128]⟩
abbrev S2x256x4096 : Shape := ⟨3, ![2, 256, 4096]⟩
abbrev S2x4x5x8x128 : Shape := ⟨5, ![2, 4, 5, 8, 128]⟩
abbrev S256x128 : Shape := ⟨2, ![256, 128]⟩
abbrev S63x24x128 : Shape := ⟨3, ![63, 24, 128]⟩
abbrev S24x128 : Shape := ⟨2, ![24, 128]⟩
abbrev S128 : Shape := ⟨1, ![128]⟩
abbrev S2 : Shape := ⟨1, ![2]⟩
abbrev S1x1 : Shape := ⟨2, ![1, 1]⟩
abbrev S1 : Shape := ⟨1, ![1]⟩
abbrev S_ : Shape := ⟨0, ![]⟩
abbrev S1x256x4096 : Shape := ⟨3, ![1, 256, 4096]⟩
abbrev S256x4096 : Shape := ⟨2, ![256, 4096]⟩
abbrev S1x4x5x8x128 : Shape := ⟨5, ![1, 4, 5, 8, 128]⟩
abbrev S4x5x8x128 : Shape := ⟨4, ![4, 5, 8, 128]⟩
abbrev S4x1x5x8x128 : Shape := ⟨5, ![4, 1, 5, 8, 128]⟩
abbrev S128x128 : Shape := ⟨2, ![128, 128]⟩
abbrev S1x4096x128 : Shape := ⟨3, ![1, 4096, 128]⟩
abbrev S4096x128 : Shape := ⟨2, ![4096, 128]⟩
abbrev S32x128 : Shape := ⟨2, ![32, 128]⟩
abbrev S1x1x1x1x128 : Shape := ⟨5, ![1, 1, 1, 1, 128]⟩
abbrev S1x24x128 : Shape := ⟨3, ![1, 24, 128]⟩
abbrev S1x5x4x128 : Shape := ⟨4, ![1, 5, 4, 128]⟩

abbrev nBuf : Space → Nat
  | .hbm => 19
  | .vmem => 15
  | .smem => 2
  | _ => 0

abbrev bufTy : (tb : Table) → Fin (tcTables nBuf tb) → BufTy
  | .hbm, ⟨0, _⟩ => ⟨S1x128, .i32⟩
  | .hbm, ⟨1, _⟩ => ⟨S20x4096x128, .i8⟩
  | .hbm, ⟨2, _⟩ => ⟨S5x4x128, .f32⟩
  | .hbm, ⟨3, _⟩ => ⟨S640x4, .i32⟩
  | .hbm, ⟨4, _⟩ => ⟨S32000, .f32⟩
  | .hbm, ⟨5, _⟩ => ⟨S32000x4096, .i8⟩
  | .hbm, ⟨6, _⟩ => ⟨S640x4x1000, .i32⟩
  | .hbm, ⟨7, _⟩ => ⟨S4x1000x640, .i32⟩
  | .hbm, ⟨8, _⟩ => ⟨S4x125x8x5x128, .i32⟩
  | .hbm, ⟨9, _⟩ => ⟨S4x125x5x8x128, .i32⟩
  | .hbm, ⟨10, _⟩ => ⟨S4x640, .i32⟩
  | .hbm, ⟨11, _⟩ => ⟨S4x5x128, .i32⟩
  | .hbm, ⟨12, _⟩ => ⟨S5x4x128, .i32⟩
  | .hbm, ⟨13, _⟩ => ⟨S20x128, .f32⟩
  | .hbm, ⟨14, _⟩ => ⟨S20x128, .i32⟩
  | .hbm, ⟨15, _⟩ => ⟨S250x128, .f32⟩
  | .hbm, ⟨16, _⟩ => ⟨S5x4x128, .f32⟩
  | .hbm, ⟨17, _⟩ => ⟨S5x4x128, .f32⟩
  | .hbm, ⟨18, _⟩ => ⟨S63x5x4x128, .f32⟩
  | .local _ .vmem, ⟨0, _⟩ => ⟨S20x4096x128, .i8⟩
  | .local _ .vmem, ⟨1, _⟩ => ⟨S20x128, .f32⟩
  | .local _ .vmem, ⟨2, _⟩ => ⟨S20x128, .i32⟩
  | .local _ .vmem, ⟨3, _⟩ => ⟨S250x128, .f32⟩
  | .local _ .vmem, ⟨4, _⟩ => ⟨S5x4x128, .f32⟩
  | .local _ .vmem, ⟨5, _⟩ => ⟨S5x4x128, .f32⟩
  | .local _ .vmem, ⟨6, _⟩ => ⟨S63x5x4x128, .f32⟩
  | .local _ .vmem, ⟨7, _⟩ => ⟨S2x256x4096, .i8⟩
  | .local _ .vmem, ⟨8, _⟩ => ⟨S2x4x5x8x128, .i32⟩
  | .local _ .vmem, ⟨9, _⟩ => ⟨S256x128, .f32⟩
  | .local _ .vmem, ⟨10, _⟩ => ⟨S63x24x128, .f32⟩
  | .local _ .vmem, ⟨11, _⟩ => ⟨S63x24x128, .f32⟩
  | .local _ .vmem, ⟨12, _⟩ => ⟨S24x128, .f32⟩
  | .local _ .vmem, ⟨13, _⟩ => ⟨S24x128, .f32⟩
  | .local _ .vmem, ⟨14, _⟩ => ⟨S24x128, .f32⟩
  | .local _ .smem, ⟨0, _⟩ => ⟨S1x128, .i32⟩
  | .local _ .smem, ⟨1, _⟩ => ⟨S128, .i32⟩
  | _, _ => ⟨S1x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_stg0_0 : Ref sig .tc := ⟨.smem, 0, rfl⟩
abbrev cc0_scratch8 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32_9 : BitVec 32 := 0#32
  let c125_i32 : BitVec 32 := 125#32
  let v12 : BitVec 32 := Scalar.addi c0_i32_9 c125_i32
  let c1_i32 : BitVec 32 := 1#32
  ⟨c0_i32_9, v12, c1_i32⟩
def k0_off1 (k0_t1 : Fin k0_t1_loop.trips) : Fin 2 → Nat :=
  let c0_48 : Index := 0#32
  let c0_i32_9 : BitVec 32 := 0#32
  let c1_i32 : BitVec 32 := 1#32
  let arg21 : BitVec 32 := Scf.iv c0_i32_9 c1_i32 k0_t1
  let v59 : Index := Scalar.indexCast arg21
  ![0, v59.toNat]
def k0_off2 (arg22 : BitVec 32) : Fin 1 → Nat :=
  let v69 : Index := Scalar.indexCast arg22
  ![v69.toNat]
def k0_cond1 (v60 : BitVec 32) : BitVec 1 :=
  let c0_i32_49 : BitVec 32 := 0#32
  let v61 : BitVec 1 := Scalar.cmpi .ne v60 c0_i32_49
  let v62 : BitVec 32 := Scalar.extui v61
  let c0_i32_50 : BitVec 32 := 0#32
  let v63 : BitVec 1 := Scalar.cmpi .ne v62 c0_i32_50
  v63

def k0_chk1 (arg22 : BitVec 32) (v60 : BitVec 32) : Prop :=
  (∀ (k0_h1 : k0_cond1 v60 = 1#1), ∀ a, (k0_off2 arg22) a + S1.size a ≤ S128.size a)
theorem k0_off2_inb : ∀ (arg22 : BitVec 32) (v60 : BitVec 32) (k0_hw1 : k0_chk1 arg22 v60), ∀ (k0_h1 : k0_cond1 v60 = 1#1), ∀ a, (k0_off2 arg22) a + S1.size a ≤ S128.size a := fun arg22 v60 k0_hw1 k0_h1 => k0_hw1 k0_h1

def k0_off3 (k0_t1 : Fin k0_t1_loop.trips) : Fin 2 → Nat :=
  let c0_51 : Index := 0#32
  let c0_i32_9 : BitVec 32 := 0#32
  let c1_i32 : BitVec 32 := 1#32
  let arg21 : BitVec 32 := Scf.iv c0_i32_9 c1_i32 k0_t1
  let v64 : Index := Scalar.indexCast arg21
  ![0, v64.toNat]
def k0_off4 (v59 : BitVec 32) : Fin 2 → Nat :=
  let c256_i32 : BitVec 32 := 256#32
  let v60 : BitVec 32 := Scalar.muli v59 c256_i32
  let c0_i32_53 : BitVec 32 := 0#32
  ![v60.toNat, 0]
def k0_cond2 (v13 : BitVec 32) : BitVec 1 :=
  let c0_i32_11 : BitVec 32 := 0#32
  let v14 : BitVec 1 := Scalar.cmpi .sgt v13 c0_i32_11
  let v15 : BitVec 32 := Scalar.extui v14
  let c0_i32_12 : BitVec 32 := 0#32
  let v16 : BitVec 1 := Scalar.cmpi .ne v15 c0_i32_12
  v16

def k0_chk2 (v13 : BitVec 32) (v59 : BitVec 32) : Prop :=
  (∀ (k0_h2 : k0_cond2 v13 = 1#1), ∀ a, (k0_off4 v59) a + S256x4096.size a ≤ S32000x4096.size a) ∧
  (∀ (k0_h2 : k0_cond2 v13 = 1#1), ∀ (hinb : ∀ a, (k0_off4 v59) a + S256x4096.size a ≤ S32000x4096.size a), (Rect.unit (s := S32000x4096) (k0_off4 v59) S256x4096.size hinb).WholeWords (EltTy.packing .i8))
theorem k0_off4_inb : ∀ (v13 : BitVec 32) (v59 : BitVec 32) (k0_hw2 : k0_chk2 v13 v59), ∀ (k0_h2 : k0_cond2 v13 = 1#1), ∀ a, (k0_off4 v59) a + S256x4096.size a ≤ S32000x4096.size a := fun v13 v59 k0_hw2 k0_h2 => k0_hw2.1 k0_h2
theorem k0_off4_wordsi8 : ∀ (v13 : BitVec 32) (v59 : BitVec 32) (k0_hw2 : k0_chk2 v13 v59), ∀ (k0_h2 : k0_cond2 v13 = 1#1), (Rect.unit (s := S32000x4096) (k0_off4 v59) S256x4096.size (k0_off4_inb v13 v59 k0_hw2 k0_h2)).WholeWords (EltTy.packing .i8) := fun v13 v59 k0_hw2 k0_h2 => k0_hw2.2 k0_h2 (k0_off4_inb v13 v59 k0_hw2 k0_h2)

def k0_off5 (v66 : BitVec 32) : Fin 5 → Nat :=
  let c0_i32_61 : BitVec 32 := 0#32
  let c0_i32_62 : BitVec 32 := 0#32
  let c0_i32_63 : BitVec 32 := 0#32
  let c0_i32_64 : BitVec 32 := 0#32
  ![0, v66.toNat, 0, 0, 0]

def k0_chk3 (v13 : BitVec 32) (v66 : BitVec 32) : Prop :=
  (∀ (k0_h2 : k0_cond2 v13 = 1#1), ∀ a, (k0_off5 v66) a + S4x1x5x8x128.size a ≤ S4x125x5x8x128.size a)
theorem k0_off5_inb : ∀ (v13 : BitVec 32) (v66 : BitVec 32) (k0_hw3 : k0_chk3 v13 v66), ∀ (k0_h2 : k0_cond2 v13 = 1#1), ∀ a, (k0_off5 v66) a + S4x1x5x8x128.size a ≤ S4x125x5x8x128.size a := fun v13 v66 k0_hw3 k0_h2 => k0_hw3 k0_h2

@[reducible] def k0_t2_loop (v13 : BitVec 32) : Scf.Loop 32 :=
  let c0_i32_19 : BitVec 32 := 0#32
  let v25 : BitVec 32 := Scalar.subi v13 c0_i32_19
  let c1_i32_21 : BitVec 32 := 1#32
  let v27 : BitVec 32 := Scalar.divsi v25 c1_i32_21
  let v28 : BitVec 32 := Scalar.muli v27 c1_i32_21
  let v29 : BitVec 32 := Scalar.addi c0_i32_19 v28
  let c1_i32_22 : BitVec 32 := 1#32
  ⟨c0_i32_19, v29, c1_i32_22⟩

def k0_off6 (v13 : BitVec 32) (k0_t2 : Fin (k0_t2_loop v13).trips) : Fin 1 → Nat :=
  let c0_i32_19 : BitVec 32 := 0#32
  let c1_i32_22 : BitVec 32 := 1#32
  let arg21 : BitVec 32 := Scf.iv c0_i32_19 c1_i32_22 k0_t2
  let v69 : Index := Scalar.indexCast arg21
  ![v69.toNat]
def k0_off7 (v13 : BitVec 32) (k0_t2 : Fin (k0_t2_loop v13).trips) : Fin 1 → Nat :=
  let c0_i32_19 : BitVec 32 := 0#32
  let c1_i32_22 : BitVec 32 := 1#32
  let arg21 : BitVec 32 := Scf.iv c0_i32_19 c1_i32_22 k0_t2
  let c1_i32_103 : BitVec 32 := 1#32
  let v157 : BitVec 32 := Scalar.addi arg21 c1_i32_103
  let v158 : Index := Scalar.indexCast v157
  ![v158.toNat]
def k0_cond3 (v13 : BitVec 32) (k0_t2 : Fin (k0_t2_loop v13).trips) : BitVec 1 :=
  let c0_i32_19 : BitVec 32 := 0#32
  let c1_i32_22 : BitVec 32 := 1#32
  let arg21 : BitVec 32 := Scf.iv c0_i32_19 c1_i32_22 k0_t2
  let c1_i32_53 : BitVec 32 := 1#32
  let v71 : BitVec 32 := Scalar.addi arg21 c1_i32_53
  let v72 : BitVec 1 := Scalar.cmpi .slt v71 v13
  let v73 : BitVec 32 := Scalar.extui v72
  let c0_i32_54 : BitVec 32 := 0#32
  let v74 : BitVec 1 := Scalar.cmpi .ne v73 c0_i32_54
  v74

def k0_off8 (v13 : BitVec 32) (k0_t2 : Fin (k0_t2_loop v13).trips) : Fin 1 → Nat :=
  let c1_i32_104 : BitVec 32 := 1#32
  let c0_i32_19 : BitVec 32 := 0#32
  let c1_i32_22 : BitVec 32 := 1#32
  let arg21 : BitVec 32 := Scf.iv c0_i32_19 c1_i32_22 k0_t2
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let v160 : BitVec 32 := Scalar.subi c1_i32_104 v68
  ![v160.toNat]
def k0_off9 (v13 : BitVec 32) (k0_t2 : Fin (k0_t2_loop v13).trips) : Fin 3 → Nat :=
  let c1_i32_104 : BitVec 32 := 1#32
  let c0_i32_19 : BitVec 32 := 0#32
  let c1_i32_22 : BitVec 32 := 1#32
  let arg21 : BitVec 32 := Scf.iv c0_i32_19 c1_i32_22 k0_t2
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let v160 : BitVec 32 := Scalar.subi c1_i32_104 v68
  let c0_i32_106 : BitVec 32 := 0#32
  let c0_i32_107 : BitVec 32 := 0#32
  ![v160.toNat, 0, 0]
def k0_off10 (v159 : BitVec 32) : Fin 2 → Nat :=
  let c256_i32_105 : BitVec 32 := 256#32
  let v161 : BitVec 32 := Scalar.muli v159 c256_i32_105
  let c0_i32_108 : BitVec 32 := 0#32
  ![v161.toNat, 0]

def k0_chk5 (v13 : BitVec 32) (k0_t2 : Fin (k0_t2_loop v13).trips) (v159 : BitVec 32) : Prop :=
  (∀ (k0_h3 : k0_cond3 v13 k0_t2 = 1#1), ∀ a, (k0_off10 v159) a + S256x4096.size a ≤ S32000x4096.size a) ∧
  (∀ (k0_h3 : k0_cond3 v13 k0_t2 = 1#1), ∀ (hinb : ∀ a, (k0_off10 v159) a + S256x4096.size a ≤ S32000x4096.size a), (Rect.unit (s := S32000x4096) (k0_off10 v159) S256x4096.size hinb).WholeWords (EltTy.packing .i8))
theorem k0_off10_inb : ∀ (v13 : BitVec 32) (k0_t2 : Fin (k0_t2_loop v13).trips) (v159 : BitVec 32) (k0_hw5 : k0_chk5 v13 k0_t2 v159), ∀ (k0_h3 : k0_cond3 v13 k0_t2 = 1#1), ∀ a, (k0_off10 v159) a + S256x4096.size a ≤ S32000x4096.size a := fun v13 k0_t2 v159 k0_hw5 k0_h3 => k0_hw5.1 k0_h3
theorem k0_off10_wordsi8 : ∀ (v13 : BitVec 32) (k0_t2 : Fin (k0_t2_loop v13).trips) (v159 : BitVec 32) (k0_hw5 : k0_chk5 v13 k0_t2 v159), ∀ (k0_h3 : k0_cond3 v13 k0_t2 = 1#1), (Rect.unit (s := S32000x4096) (k0_off10 v159) S256x4096.size (k0_off10_inb v13 k0_t2 v159 k0_hw5 k0_h3)).WholeWords (EltTy.packing .i8) := fun v13 k0_t2 v159 k0_hw5 k0_h3 => k0_hw5.2 k0_h3 (k0_off10_inb v13 k0_t2 v159 k0_hw5 k0_h3)

def k0_off11 (v13 : BitVec 32) (k0_t2 : Fin (k0_t2_loop v13).trips) : Fin 1 → Nat :=
  let c0_i32_19 : BitVec 32 := 0#32
  let c1_i32_22 : BitVec 32 := 1#32
  let arg21 : BitVec 32 := Scf.iv c0_i32_19 c1_i32_22 k0_t2
  let c1_i32_109 : BitVec 32 := 1#32
  let v167 : BitVec 32 := Scalar.addi arg21 c1_i32_109
  let v168 : Index := Scalar.indexCast v167
  ![v168.toNat]
def k0_off12 (v13 : BitVec 32) (k0_t2 : Fin (k0_t2_loop v13).trips) : Fin 1 → Nat :=
  let c1_i32_110 : BitVec 32 := 1#32
  let c0_i32_19 : BitVec 32 := 0#32
  let c1_i32_22 : BitVec 32 := 1#32
  let arg21 : BitVec 32 := Scf.iv c0_i32_19 c1_i32_22 k0_t2
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let v170 : BitVec 32 := Scalar.subi c1_i32_110 v68
  ![v170.toNat]
def k0_off13 (v13 : BitVec 32) (k0_t2 : Fin (k0_t2_loop v13).trips) : Fin 5 → Nat :=
  let c1_i32_110 : BitVec 32 := 1#32
  let c0_i32_19 : BitVec 32 := 0#32
  let c1_i32_22 : BitVec 32 := 1#32
  let arg21 : BitVec 32 := Scf.iv c0_i32_19 c1_i32_22 k0_t2
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let v170 : BitVec 32 := Scalar.subi c1_i32_110 v68
  let c0_i32_111 : BitVec 32 := 0#32
  let c0_i32_112 : BitVec 32 := 0#32
  let c0_i32_113 : BitVec 32 := 0#32
  let c0_i32_114 : BitVec 32 := 0#32
  ![v170.toNat, 0, 0, 0, 0]
def k0_off14 (v169 : BitVec 32) : Fin 5 → Nat :=
  let c0_i32_115 : BitVec 32 := 0#32
  let c0_i32_116 : BitVec 32 := 0#32
  let c0_i32_117 : BitVec 32 := 0#32
  let c0_i32_118 : BitVec 32 := 0#32
  ![0, v169.toNat, 0, 0, 0]

def k0_chk6 (v13 : BitVec 32) (k0_t2 : Fin (k0_t2_loop v13).trips) (v169 : BitVec 32) : Prop :=
  (∀ (k0_h3 : k0_cond3 v13 k0_t2 = 1#1), ∀ a, (k0_off14 v169) a + S4x1x5x8x128.size a ≤ S4x125x5x8x128.size a)
theorem k0_off14_inb : ∀ (v13 : BitVec 32) (k0_t2 : Fin (k0_t2_loop v13).trips) (v169 : BitVec 32) (k0_hw6 : k0_chk6 v13 k0_t2 v169), ∀ (k0_h3 : k0_cond3 v13 k0_t2 = 1#1), ∀ a, (k0_off14 v169) a + S4x1x5x8x128.size a ≤ S4x125x5x8x128.size a := fun v13 k0_t2 v169 k0_hw6 k0_h3 => k0_hw6 k0_h3

def k0_off15 (v13 : BitVec 32) (k0_t2 : Fin (k0_t2_loop v13).trips) : Fin 1 → Nat :=
  let c0_i32_19 : BitVec 32 := 0#32
  let c1_i32_22 : BitVec 32 := 1#32
  let arg21 : BitVec 32 := Scf.iv c0_i32_19 c1_i32_22 k0_t2
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  ![v68.toNat]
def k0_off16 (v13 : BitVec 32) (k0_t2 : Fin (k0_t2_loop v13).trips) : Fin 3 → Nat :=
  let c0_i32_19 : BitVec 32 := 0#32
  let c1_i32_22 : BitVec 32 := 1#32
  let arg21 : BitVec 32 := Scf.iv c0_i32_19 c1_i32_22 k0_t2
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let c0_i32_55 : BitVec 32 := 0#32
  let c0_i32_56 : BitVec 32 := 0#32
  ![v68.toNat, 0, 0]
def k0_off17 (v70 : BitVec 32) : Fin 2 → Nat :=
  let c256_i32 : BitVec 32 := 256#32
  let v75 : BitVec 32 := Scalar.muli v70 c256_i32
  let c0_i32_57 : BitVec 32 := 0#32
  ![v75.toNat, 0]

def k0_off18 (v13 : BitVec 32) (k0_t2 : Fin (k0_t2_loop v13).trips) : Fin 1 → Nat :=
  let c0_i32_19 : BitVec 32 := 0#32
  let c1_i32_22 : BitVec 32 := 1#32
  let arg21 : BitVec 32 := Scf.iv c0_i32_19 c1_i32_22 k0_t2
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  ![v68.toNat]
def k0_off19 (v13 : BitVec 32) (k0_t2 : Fin (k0_t2_loop v13).trips) : Fin 5 → Nat :=
  let c0_i32_19 : BitVec 32 := 0#32
  let c1_i32_22 : BitVec 32 := 1#32
  let arg21 : BitVec 32 := Scf.iv c0_i32_19 c1_i32_22 k0_t2
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let c0_i32_58 : BitVec 32 := 0#32
  let c0_i32_59 : BitVec 32 := 0#32
  let c0_i32_60 : BitVec 32 := 0#32
  let c0_i32_61 : BitVec 32 := 0#32
  ![v68.toNat, 0, 0, 0, 0]
def k0_off20 (v70 : BitVec 32) : Fin 5 → Nat :=
  let c0_i32_62 : BitVec 32 := 0#32
  let c0_i32_63 : BitVec 32 := 0#32
  let c0_i32_64 : BitVec 32 := 0#32
  let c0_i32_65 : BitVec 32 := 0#32
  ![0, v70.toNat, 0, 0, 0]
def k0_off21 (v70 : BitVec 32) (c0_i32_67 : BitVec 32) : Fin 2 → Nat :=
  let c2_i32_66 : BitVec 32 := 2#32
  let v87 : BitVec 32 := Scalar.muli v70 c2_i32_66
  let v88 : BitVec 32 := Scalar.addi v87 c0_i32_67
  let v89 : Index := Scalar.indexCast v88
  let c0_68 : Index := 0#32
  ![v89.toNat, 0]
@[reducible] def k0_t3_loop : Scf.Loop 32 :=
  let c0_i32_76 : BitVec 32 := 0#32
  let c20_i32 : BitVec 32 := 20#32
  let v109 : BitVec 32 := Scalar.addi c0_i32_76 c20_i32
  let c1_i32_77 : BitVec 32 := 1#32
  ⟨c0_i32_76, v109, c1_i32_77⟩
def k0_off22 (v13 : BitVec 32) (k0_t2 : Fin (k0_t2_loop v13).trips) : Fin 3 → Nat :=
  let c0_i32_19 : BitVec 32 := 0#32
  let c1_i32_22 : BitVec 32 := 1#32
  let arg21 : BitVec 32 := Scf.iv c0_i32_19 c1_i32_22 k0_t2
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let v157 : Index := Scalar.indexCast v68
  let c0_103 : Index := 0#32
  let c0_104 : Index := 0#32
  ![v157.toNat, 0, 0]
def k0_off23 (k0_t3 : Fin k0_t3_loop.trips) : Fin 3 → Nat :=
  let c0_i32_76 : BitVec 32 := 0#32
  let c1_i32_77 : BitVec 32 := 1#32
  let arg23 : BitVec 32 := Scf.iv c0_i32_76 c1_i32_77 k0_t3
  let v161 : Index := Scalar.indexCast arg23
  let c0_105 : Index := 0#32
  let c0_106 : Index := 0#32
  ![v161.toNat, 0, 0]
def k0_off24 (k0_t3 : Fin k0_t3_loop.trips) : Fin 2 → Nat :=
  let c0_i32_76 : BitVec 32 := 0#32
  let c1_i32_77 : BitVec 32 := 1#32
  let arg23 : BitVec 32 := Scf.iv c0_i32_76 c1_i32_77 k0_t3
  let v193 : Index := Scalar.indexCast arg23
  let c0_120 : Index := 0#32
  ![v193.toNat, 0]
def k0_off25 (v13 : BitVec 32) (k0_t2 : Fin (k0_t2_loop v13).trips) (k0_t3 : Fin k0_t3_loop.trips) : Fin 5 → Nat :=
  let c0_i32_19 : BitVec 32 := 0#32
  let c1_i32_22 : BitVec 32 := 1#32
  let arg21 : BitVec 32 := Scf.iv c0_i32_19 c1_i32_22 k0_t2
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let v207 : Index := Scalar.indexCast v68
  let c0_i32_76 : BitVec 32 := 0#32
  let c1_i32_77 : BitVec 32 := 1#32
  let arg23 : BitVec 32 := Scf.iv c0_i32_76 c1_i32_77 k0_t3
  let c4_i32_114 : BitVec 32 := 4#32
  let c0_i32_115 : BitVec 32 := 0#32
  let v183 : BitVec 1 := Scalar.cmpi .eq c4_i32_114 c0_i32_115
  let c1_i32_116 : BitVec 32 := 1#32
  let v184 : BitVec 32 := Scalar.select v183 c1_i32_116 c4_i32_114
  let v185 : BitVec 32 := Scalar.remsi arg23 v184
  let c0_i32_118 : BitVec 32 := 0#32
  let v187 : BitVec 1 := Scalar.cmpi .slt v185 c0_i32_118
  let c0_i32_119 : BitVec 32 := 0#32
  let v188 : BitVec 1 := Scalar.cmpi .slt v184 c0_i32_119
  let v189 : BitVec 1 := Scalar.xori v187 v188
  let c0_i32_117 : BitVec 32 := 0#32
  let v186 : BitVec 1 := Scalar.cmpi .ne v185 c0_i32_117
  let v190 : BitVec 1 := Scalar.andi v189 v186
  let v191 : BitVec 32 := Scalar.addi v185 v184
  let v192 : BitVec 32 := Scalar.select v190 v191 v185
  let v208 : Index := Scalar.indexCast v192
  let c0_i32_108 : BitVec 32 := 0#32
  let v167 : BitVec 1 := Scalar.cmpi .sgt arg23 c0_i32_108
  let v168 : BitVec 32 := Scalar.extui v167
  let c0_i32_109 : BitVec 32 := 0#32
  let v169 : BitVec 1 := Scalar.cmpi .slt arg23 c0_i32_109
  let v170 : BitVec 32 := Scalar.extui v169
  let v171 : BitVec 32 := Scalar.subi v168 v170
  let c4_i32 : BitVec 32 := 4#32
  let c0_i32_110 : BitVec 32 := 0#32
  let v172 : BitVec 1 := Scalar.cmpi .sgt c4_i32 c0_i32_110
  let v173 : BitVec 32 := Scalar.extui v172
  let c0_i32_111 : BitVec 32 := 0#32
  let v174 : BitVec 1 := Scalar.cmpi .slt c4_i32 c0_i32_111
  let v175 : BitVec 32 := Scalar.extui v174
  let v176 : BitVec 32 := Scalar.subi v173 v175
  let v177 : BitVec 1 := Scalar.cmpi .ne v171 v176
  let v178 : BitVec 32 := Scalar.remsi arg23 c4_i32
  let c0_i32_112 : BitVec 32 := 0#32
  let v179 : BitVec 1 := Scalar.cmpi .ne v178 c0_i32_112
  let v180 : BitVec 1 := Scalar.andi v177 v179
  let v166 : BitVec 32 := Scalar.divsi arg23 c4_i32
  let c1_i32_113 : BitVec 32 := 1#32
  let v181 : BitVec 32 := Scalar.subi v166 c1_i32_113
  let v182 : BitVec 32 := Scalar.select v180 v181 v166
  let v209 : Index := Scalar.indexCast v182
  let c0_125 : Index := 0#32
  let c0_126 : Index := 0#32
  ![v207.toNat, v208.toNat, v209.toNat, 0, 0]
def k0_off26 (v13 : BitVec 32) (k0_t2 : Fin (k0_t2_loop v13).trips) (k0_t3 : Fin k0_t3_loop.trips) : Fin 5 → Nat :=
  let c0_i32_19 : BitVec 32 := 0#32
  let c1_i32_22 : BitVec 32 := 1#32
  let arg21 : BitVec 32 := Scf.iv c0_i32_19 c1_i32_22 k0_t2
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let v224 : Index := Scalar.indexCast v68
  let c0_i32_76 : BitVec 32 := 0#32
  let c1_i32_77 : BitVec 32 := 1#32
  let arg23 : BitVec 32 := Scf.iv c0_i32_76 c1_i32_77 k0_t3
  let c4_i32_114 : BitVec 32 := 4#32
  let c0_i32_115 : BitVec 32 := 0#32
  let v183 : BitVec 1 := Scalar.cmpi .eq c4_i32_114 c0_i32_115
  let c1_i32_116 : BitVec 32 := 1#32
  let v184 : BitVec 32 := Scalar.select v183 c1_i32_116 c4_i32_114
  let v185 : BitVec 32 := Scalar.remsi arg23 v184
  let c0_i32_118 : BitVec 32 := 0#32
  let v187 : BitVec 1 := Scalar.cmpi .slt v185 c0_i32_118
  let c0_i32_119 : BitVec 32 := 0#32
  let v188 : BitVec 1 := Scalar.cmpi .slt v184 c0_i32_119
  let v189 : BitVec 1 := Scalar.xori v187 v188
  let c0_i32_117 : BitVec 32 := 0#32
  let v186 : BitVec 1 := Scalar.cmpi .ne v185 c0_i32_117
  let v190 : BitVec 1 := Scalar.andi v189 v186
  let v191 : BitVec 32 := Scalar.addi v185 v184
  let v192 : BitVec 32 := Scalar.select v190 v191 v185
  let v225 : Index := Scalar.indexCast v192
  let c0_i32_108 : BitVec 32 := 0#32
  let v167 : BitVec 1 := Scalar.cmpi .sgt arg23 c0_i32_108
  let v168 : BitVec 32 := Scalar.extui v167
  let c0_i32_109 : BitVec 32 := 0#32
  let v169 : BitVec 1 := Scalar.cmpi .slt arg23 c0_i32_109
  let v170 : BitVec 32 := Scalar.extui v169
  let v171 : BitVec 32 := Scalar.subi v168 v170
  let c4_i32 : BitVec 32 := 4#32
  let c0_i32_110 : BitVec 32 := 0#32
  let v172 : BitVec 1 := Scalar.cmpi .sgt c4_i32 c0_i32_110
  let v173 : BitVec 32 := Scalar.extui v172
  let c0_i32_111 : BitVec 32 := 0#32
  let v174 : BitVec 1 := Scalar.cmpi .slt c4_i32 c0_i32_111
  let v175 : BitVec 32 := Scalar.extui v174
  let v176 : BitVec 32 := Scalar.subi v173 v175
  let v177 : BitVec 1 := Scalar.cmpi .ne v171 v176
  let v178 : BitVec 32 := Scalar.remsi arg23 c4_i32
  let c0_i32_112 : BitVec 32 := 0#32
  let v179 : BitVec 1 := Scalar.cmpi .ne v178 c0_i32_112
  let v180 : BitVec 1 := Scalar.andi v177 v179
  let v166 : BitVec 32 := Scalar.divsi arg23 c4_i32
  let c1_i32_113 : BitVec 32 := 1#32
  let v181 : BitVec 32 := Scalar.subi v166 c1_i32_113
  let v182 : BitVec 32 := Scalar.select v180 v181 v166
  let v226 : Index := Scalar.indexCast v182
  let c1 : Index := 1#32
  let c0_131 : Index := 0#32
  ![v224.toNat, v225.toNat, v226.toNat, 1, 0]
def k0_off27 (v13 : BitVec 32) (k0_t2 : Fin (k0_t2_loop v13).trips) (k0_t3 : Fin k0_t3_loop.trips) : Fin 5 → Nat :=
  let c0_i32_19 : BitVec 32 := 0#32
  let c1_i32_22 : BitVec 32 := 1#32
  let arg21 : BitVec 32 := Scf.iv c0_i32_19 c1_i32_22 k0_t2
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let v242 : Index := Scalar.indexCast v68
  let c0_i32_76 : BitVec 32 := 0#32
  let c1_i32_77 : BitVec 32 := 1#32
  let arg23 : BitVec 32 := Scf.iv c0_i32_76 c1_i32_77 k0_t3
  let c4_i32_114 : BitVec 32 := 4#32
  let c0_i32_115 : BitVec 32 := 0#32
  let v183 : BitVec 1 := Scalar.cmpi .eq c4_i32_114 c0_i32_115
  let c1_i32_116 : BitVec 32 := 1#32
  let v184 : BitVec 32 := Scalar.select v183 c1_i32_116 c4_i32_114
  let v185 : BitVec 32 := Scalar.remsi arg23 v184
  let c0_i32_118 : BitVec 32 := 0#32
  let v187 : BitVec 1 := Scalar.cmpi .slt v185 c0_i32_118
  let c0_i32_119 : BitVec 32 := 0#32
  let v188 : BitVec 1 := Scalar.cmpi .slt v184 c0_i32_119
  let v189 : BitVec 1 := Scalar.xori v187 v188
  let c0_i32_117 : BitVec 32 := 0#32
  let v186 : BitVec 1 := Scalar.cmpi .ne v185 c0_i32_117
  let v190 : BitVec 1 := Scalar.andi v189 v186
  let v191 : BitVec 32 := Scalar.addi v185 v184
  let v192 : BitVec 32 := Scalar.select v190 v191 v185
  let v243 : Index := Scalar.indexCast v192
  let c0_i32_108 : BitVec 32 := 0#32
  let v167 : BitVec 1 := Scalar.cmpi .sgt arg23 c0_i32_108
  let v168 : BitVec 32 := Scalar.extui v167
  let c0_i32_109 : BitVec 32 := 0#32
  let v169 : BitVec 1 := Scalar.cmpi .slt arg23 c0_i32_109
  let v170 : BitVec 32 := Scalar.extui v169
  let v171 : BitVec 32 := Scalar.subi v168 v170
  let c4_i32 : BitVec 32 := 4#32
  let c0_i32_110 : BitVec 32 := 0#32
  let v172 : BitVec 1 := Scalar.cmpi .sgt c4_i32 c0_i32_110
  let v173 : BitVec 32 := Scalar.extui v172
  let c0_i32_111 : BitVec 32 := 0#32
  let v174 : BitVec 1 := Scalar.cmpi .slt c4_i32 c0_i32_111
  let v175 : BitVec 32 := Scalar.extui v174
  let v176 : BitVec 32 := Scalar.subi v173 v175
  let v177 : BitVec 1 := Scalar.cmpi .ne v171 v176
  let v178 : BitVec 32 := Scalar.remsi arg23 c4_i32
  let c0_i32_112 : BitVec 32 := 0#32
  let v179 : BitVec 1 := Scalar.cmpi .ne v178 c0_i32_112
  let v180 : BitVec 1 := Scalar.andi v177 v179
  let v166 : BitVec 32 := Scalar.divsi arg23 c4_i32
  let c1_i32_113 : BitVec 32 := 1#32
  let v181 : BitVec 32 := Scalar.subi v166 c1_i32_113
  let v182 : BitVec 32 := Scalar.select v180 v181 v166
  let v244 : Index := Scalar.indexCast v182
  let c2 : Index := 2#32
  let c0_135 : Index := 0#32
  ![v242.toNat, v243.toNat, v244.toNat, 2, 0]
def k0_off28 (v13 : BitVec 32) (k0_t2 : Fin (k0_t2_loop v13).trips) (k0_t3 : Fin k0_t3_loop.trips) : Fin 5 → Nat :=
  let c0_i32_19 : BitVec 32 := 0#32
  let c1_i32_22 : BitVec 32 := 1#32
  let arg21 : BitVec 32 := Scf.iv c0_i32_19 c1_i32_22 k0_t2
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let v260 : Index := Scalar.indexCast v68
  let c0_i32_76 : BitVec 32 := 0#32
  let c1_i32_77 : BitVec 32 := 1#32
  let arg23 : BitVec 32 := Scf.iv c0_i32_76 c1_i32_77 k0_t3
  let c4_i32_114 : BitVec 32 := 4#32
  let c0_i32_115 : BitVec 32 := 0#32
  let v183 : BitVec 1 := Scalar.cmpi .eq c4_i32_114 c0_i32_115
  let c1_i32_116 : BitVec 32 := 1#32
  let v184 : BitVec 32 := Scalar.select v183 c1_i32_116 c4_i32_114
  let v185 : BitVec 32 := Scalar.remsi arg23 v184
  let c0_i32_118 : BitVec 32 := 0#32
  let v187 : BitVec 1 := Scalar.cmpi .slt v185 c0_i32_118
  let c0_i32_119 : BitVec 32 := 0#32
  let v188 : BitVec 1 := Scalar.cmpi .slt v184 c0_i32_119
  let v189 : BitVec 1 := Scalar.xori v187 v188
  let c0_i32_117 : BitVec 32 := 0#32
  let v186 : BitVec 1 := Scalar.cmpi .ne v185 c0_i32_117
  let v190 : BitVec 1 := Scalar.andi v189 v186
  let v191 : BitVec 32 := Scalar.addi v185 v184
  let v192 : BitVec 32 := Scalar.select v190 v191 v185
  let v261 : Index := Scalar.indexCast v192
  let c0_i32_108 : BitVec 32 := 0#32
  let v167 : BitVec 1 := Scalar.cmpi .sgt arg23 c0_i32_108
  let v168 : BitVec 32 := Scalar.extui v167
  let c0_i32_109 : BitVec 32 := 0#32
  let v169 : BitVec 1 := Scalar.cmpi .slt arg23 c0_i32_109
  let v170 : BitVec 32 := Scalar.extui v169
  let v171 : BitVec 32 := Scalar.subi v168 v170
  let c4_i32 : BitVec 32 := 4#32
  let c0_i32_110 : BitVec 32 := 0#32
  let v172 : BitVec 1 := Scalar.cmpi .sgt c4_i32 c0_i32_110
  let v173 : BitVec 32 := Scalar.extui v172
  let c0_i32_111 : BitVec 32 := 0#32
  let v174 : BitVec 1 := Scalar.cmpi .slt c4_i32 c0_i32_111
  let v175 : BitVec 32 := Scalar.extui v174
  let v176 : BitVec 32 := Scalar.subi v173 v175
  let v177 : BitVec 1 := Scalar.cmpi .ne v171 v176
  let v178 : BitVec 32 := Scalar.remsi arg23 c4_i32
  let c0_i32_112 : BitVec 32 := 0#32
  let v179 : BitVec 1 := Scalar.cmpi .ne v178 c0_i32_112
  let v180 : BitVec 1 := Scalar.andi v177 v179
  let v166 : BitVec 32 := Scalar.divsi arg23 c4_i32
  let c1_i32_113 : BitVec 32 := 1#32
  let v181 : BitVec 32 := Scalar.subi v166 c1_i32_113
  let v182 : BitVec 32 := Scalar.select v180 v181 v166
  let v262 : Index := Scalar.indexCast v182
  let c3 : Index := 3#32
  let c0_139 : Index := 0#32
  ![v260.toNat, v261.toNat, v262.toNat, 3, 0]
def k0_off29 (v13 : BitVec 32) (k0_t2 : Fin (k0_t2_loop v13).trips) (k0_t3 : Fin k0_t3_loop.trips) : Fin 5 → Nat :=
  let c0_i32_19 : BitVec 32 := 0#32
  let c1_i32_22 : BitVec 32 := 1#32
  let arg21 : BitVec 32 := Scf.iv c0_i32_19 c1_i32_22 k0_t2
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let v278 : Index := Scalar.indexCast v68
  let c0_i32_76 : BitVec 32 := 0#32
  let c1_i32_77 : BitVec 32 := 1#32
  let arg23 : BitVec 32 := Scf.iv c0_i32_76 c1_i32_77 k0_t3
  let c4_i32_114 : BitVec 32 := 4#32
  let c0_i32_115 : BitVec 32 := 0#32
  let v183 : BitVec 1 := Scalar.cmpi .eq c4_i32_114 c0_i32_115
  let c1_i32_116 : BitVec 32 := 1#32
  let v184 : BitVec 32 := Scalar.select v183 c1_i32_116 c4_i32_114
  let v185 : BitVec 32 := Scalar.remsi arg23 v184
  let c0_i32_118 : BitVec 32 := 0#32
  let v187 : BitVec 1 := Scalar.cmpi .slt v185 c0_i32_118
  let c0_i32_119 : BitVec 32 := 0#32
  let v188 : BitVec 1 := Scalar.cmpi .slt v184 c0_i32_119
  let v189 : BitVec 1 := Scalar.xori v187 v188
  let c0_i32_117 : BitVec 32 := 0#32
  let v186 : BitVec 1 := Scalar.cmpi .ne v185 c0_i32_117
  let v190 : BitVec 1 := Scalar.andi v189 v186
  let v191 : BitVec 32 := Scalar.addi v185 v184
  let v192 : BitVec 32 := Scalar.select v190 v191 v185
  let v279 : Index := Scalar.indexCast v192
  let c0_i32_108 : BitVec 32 := 0#32
  let v167 : BitVec 1 := Scalar.cmpi .sgt arg23 c0_i32_108
  let v168 : BitVec 32 := Scalar.extui v167
  let c0_i32_109 : BitVec 32 := 0#32
  let v169 : BitVec 1 := Scalar.cmpi .slt arg23 c0_i32_109
  let v170 : BitVec 32 := Scalar.extui v169
  let v171 : BitVec 32 := Scalar.subi v168 v170
  let c4_i32 : BitVec 32 := 4#32
  let c0_i32_110 : BitVec 32 := 0#32
  let v172 : BitVec 1 := Scalar.cmpi .sgt c4_i32 c0_i32_110
  let v173 : BitVec 32 := Scalar.extui v172
  let c0_i32_111 : BitVec 32 := 0#32
  let v174 : BitVec 1 := Scalar.cmpi .slt c4_i32 c0_i32_111
  let v175 : BitVec 32 := Scalar.extui v174
  let v176 : BitVec 32 := Scalar.subi v173 v175
  let v177 : BitVec 1 := Scalar.cmpi .ne v171 v176
  let v178 : BitVec 32 := Scalar.remsi arg23 c4_i32
  let c0_i32_112 : BitVec 32 := 0#32
  let v179 : BitVec 1 := Scalar.cmpi .ne v178 c0_i32_112
  let v180 : BitVec 1 := Scalar.andi v177 v179
  let v166 : BitVec 32 := Scalar.divsi arg23 c4_i32
  let c1_i32_113 : BitVec 32 := 1#32
  let v181 : BitVec 32 := Scalar.subi v166 c1_i32_113
  let v182 : BitVec 32 := Scalar.select v180 v181 v166
  let v280 : Index := Scalar.indexCast v182
  let c4 : Index := 4#32
  let c0_143 : Index := 0#32
  ![v278.toNat, v279.toNat, v280.toNat, 4, 0]
def k0_off30 (v13 : BitVec 32) (k0_t2 : Fin (k0_t2_loop v13).trips) (k0_t3 : Fin k0_t3_loop.trips) : Fin 5 → Nat :=
  let c0_i32_19 : BitVec 32 := 0#32
  let c1_i32_22 : BitVec 32 := 1#32
  let arg21 : BitVec 32 := Scf.iv c0_i32_19 c1_i32_22 k0_t2
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let v296 : Index := Scalar.indexCast v68
  let c0_i32_76 : BitVec 32 := 0#32
  let c1_i32_77 : BitVec 32 := 1#32
  let arg23 : BitVec 32 := Scf.iv c0_i32_76 c1_i32_77 k0_t3
  let c4_i32_114 : BitVec 32 := 4#32
  let c0_i32_115 : BitVec 32 := 0#32
  let v183 : BitVec 1 := Scalar.cmpi .eq c4_i32_114 c0_i32_115
  let c1_i32_116 : BitVec 32 := 1#32
  let v184 : BitVec 32 := Scalar.select v183 c1_i32_116 c4_i32_114
  let v185 : BitVec 32 := Scalar.remsi arg23 v184
  let c0_i32_118 : BitVec 32 := 0#32
  let v187 : BitVec 1 := Scalar.cmpi .slt v185 c0_i32_118
  let c0_i32_119 : BitVec 32 := 0#32
  let v188 : BitVec 1 := Scalar.cmpi .slt v184 c0_i32_119
  let v189 : BitVec 1 := Scalar.xori v187 v188
  let c0_i32_117 : BitVec 32 := 0#32
  let v186 : BitVec 1 := Scalar.cmpi .ne v185 c0_i32_117
  let v190 : BitVec 1 := Scalar.andi v189 v186
  let v191 : BitVec 32 := Scalar.addi v185 v184
  let v192 : BitVec 32 := Scalar.select v190 v191 v185
  let v297 : Index := Scalar.indexCast v192
  let c0_i32_108 : BitVec 32 := 0#32
  let v167 : BitVec 1 := Scalar.cmpi .sgt arg23 c0_i32_108
  let v168 : BitVec 32 := Scalar.extui v167
  let c0_i32_109 : BitVec 32 := 0#32
  let v169 : BitVec 1 := Scalar.cmpi .slt arg23 c0_i32_109
  let v170 : BitVec 32 := Scalar.extui v169
  let v171 : BitVec 32 := Scalar.subi v168 v170
  let c4_i32 : BitVec 32 := 4#32
  let c0_i32_110 : BitVec 32 := 0#32
  let v172 : BitVec 1 := Scalar.cmpi .sgt c4_i32 c0_i32_110
  let v173 : BitVec 32 := Scalar.extui v172
  let c0_i32_111 : BitVec 32 := 0#32
  let v174 : BitVec 1 := Scalar.cmpi .slt c4_i32 c0_i32_111
  let v175 : BitVec 32 := Scalar.extui v174
  let v176 : BitVec 32 := Scalar.subi v173 v175
  let v177 : BitVec 1 := Scalar.cmpi .ne v171 v176
  let v178 : BitVec 32 := Scalar.remsi arg23 c4_i32
  let c0_i32_112 : BitVec 32 := 0#32
  let v179 : BitVec 1 := Scalar.cmpi .ne v178 c0_i32_112
  let v180 : BitVec 1 := Scalar.andi v177 v179
  let v166 : BitVec 32 := Scalar.divsi arg23 c4_i32
  let c1_i32_113 : BitVec 32 := 1#32
  let v181 : BitVec 32 := Scalar.subi v166 c1_i32_113
  let v182 : BitVec 32 := Scalar.select v180 v181 v166
  let v298 : Index := Scalar.indexCast v182
  let c5 : Index := 5#32
  let c0_148 : Index := 0#32
  ![v296.toNat, v297.toNat, v298.toNat, 5, 0]
def k0_off31 (v13 : BitVec 32) (k0_t2 : Fin (k0_t2_loop v13).trips) (k0_t3 : Fin k0_t3_loop.trips) : Fin 5 → Nat :=
  let c0_i32_19 : BitVec 32 := 0#32
  let c1_i32_22 : BitVec 32 := 1#32
  let arg21 : BitVec 32 := Scf.iv c0_i32_19 c1_i32_22 k0_t2
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let v314 : Index := Scalar.indexCast v68
  let c0_i32_76 : BitVec 32 := 0#32
  let c1_i32_77 : BitVec 32 := 1#32
  let arg23 : BitVec 32 := Scf.iv c0_i32_76 c1_i32_77 k0_t3
  let c4_i32_114 : BitVec 32 := 4#32
  let c0_i32_115 : BitVec 32 := 0#32
  let v183 : BitVec 1 := Scalar.cmpi .eq c4_i32_114 c0_i32_115
  let c1_i32_116 : BitVec 32 := 1#32
  let v184 : BitVec 32 := Scalar.select v183 c1_i32_116 c4_i32_114
  let v185 : BitVec 32 := Scalar.remsi arg23 v184
  let c0_i32_118 : BitVec 32 := 0#32
  let v187 : BitVec 1 := Scalar.cmpi .slt v185 c0_i32_118
  let c0_i32_119 : BitVec 32 := 0#32
  let v188 : BitVec 1 := Scalar.cmpi .slt v184 c0_i32_119
  let v189 : BitVec 1 := Scalar.xori v187 v188
  let c0_i32_117 : BitVec 32 := 0#32
  let v186 : BitVec 1 := Scalar.cmpi .ne v185 c0_i32_117
  let v190 : BitVec 1 := Scalar.andi v189 v186
  let v191 : BitVec 32 := Scalar.addi v185 v184
  let v192 : BitVec 32 := Scalar.select v190 v191 v185
  let v315 : Index := Scalar.indexCast v192
  let c0_i32_108 : BitVec 32 := 0#32
  let v167 : BitVec 1 := Scalar.cmpi .sgt arg23 c0_i32_108
  let v168 : BitVec 32 := Scalar.extui v167
  let c0_i32_109 : BitVec 32 := 0#32
  let v169 : BitVec 1 := Scalar.cmpi .slt arg23 c0_i32_109
  let v170 : BitVec 32 := Scalar.extui v169
  let v171 : BitVec 32 := Scalar.subi v168 v170
  let c4_i32 : BitVec 32 := 4#32
  let c0_i32_110 : BitVec 32 := 0#32
  let v172 : BitVec 1 := Scalar.cmpi .sgt c4_i32 c0_i32_110
  let v173 : BitVec 32 := Scalar.extui v172
  let c0_i32_111 : BitVec 32 := 0#32
  let v174 : BitVec 1 := Scalar.cmpi .slt c4_i32 c0_i32_111
  let v175 : BitVec 32 := Scalar.extui v174
  let v176 : BitVec 32 := Scalar.subi v173 v175
  let v177 : BitVec 1 := Scalar.cmpi .ne v171 v176
  let v178 : BitVec 32 := Scalar.remsi arg23 c4_i32
  let c0_i32_112 : BitVec 32 := 0#32
  let v179 : BitVec 1 := Scalar.cmpi .ne v178 c0_i32_112
  let v180 : BitVec 1 := Scalar.andi v177 v179
  let v166 : BitVec 32 := Scalar.divsi arg23 c4_i32
  let c1_i32_113 : BitVec 32 := 1#32
  let v181 : BitVec 32 := Scalar.subi v166 c1_i32_113
  let v182 : BitVec 32 := Scalar.select v180 v181 v166
  let v316 : Index := Scalar.indexCast v182
  let c6 : Index := 6#32
  let c0_152 : Index := 0#32
  ![v314.toNat, v315.toNat, v316.toNat, 6, 0]
def k0_off32 (v13 : BitVec 32) (k0_t2 : Fin (k0_t2_loop v13).trips) (k0_t3 : Fin k0_t3_loop.trips) : Fin 5 → Nat :=
  let c0_i32_19 : BitVec 32 := 0#32
  let c1_i32_22 : BitVec 32 := 1#32
  let arg21 : BitVec 32 := Scf.iv c0_i32_19 c1_i32_22 k0_t2
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let v332 : Index := Scalar.indexCast v68
  let c0_i32_76 : BitVec 32 := 0#32
  let c1_i32_77 : BitVec 32 := 1#32
  let arg23 : BitVec 32 := Scf.iv c0_i32_76 c1_i32_77 k0_t3
  let c4_i32_114 : BitVec 32 := 4#32
  let c0_i32_115 : BitVec 32 := 0#32
  let v183 : BitVec 1 := Scalar.cmpi .eq c4_i32_114 c0_i32_115
  let c1_i32_116 : BitVec 32 := 1#32
  let v184 : BitVec 32 := Scalar.select v183 c1_i32_116 c4_i32_114
  let v185 : BitVec 32 := Scalar.remsi arg23 v184
  let c0_i32_118 : BitVec 32 := 0#32
  let v187 : BitVec 1 := Scalar.cmpi .slt v185 c0_i32_118
  let c0_i32_119 : BitVec 32 := 0#32
  let v188 : BitVec 1 := Scalar.cmpi .slt v184 c0_i32_119
  let v189 : BitVec 1 := Scalar.xori v187 v188
  let c0_i32_117 : BitVec 32 := 0#32
  let v186 : BitVec 1 := Scalar.cmpi .ne v185 c0_i32_117
  let v190 : BitVec 1 := Scalar.andi v189 v186
  let v191 : BitVec 32 := Scalar.addi v185 v184
  let v192 : BitVec 32 := Scalar.select v190 v191 v185
  let v333 : Index := Scalar.indexCast v192
  let c0_i32_108 : BitVec 32 := 0#32
  let v167 : BitVec 1 := Scalar.cmpi .sgt arg23 c0_i32_108
  let v168 : BitVec 32 := Scalar.extui v167
  let c0_i32_109 : BitVec 32 := 0#32
  let v169 : BitVec 1 := Scalar.cmpi .slt arg23 c0_i32_109
  let v170 : BitVec 32 := Scalar.extui v169
  let v171 : BitVec 32 := Scalar.subi v168 v170
  let c4_i32 : BitVec 32 := 4#32
  let c0_i32_110 : BitVec 32 := 0#32
  let v172 : BitVec 1 := Scalar.cmpi .sgt c4_i32 c0_i32_110
  let v173 : BitVec 32 := Scalar.extui v172
  let c0_i32_111 : BitVec 32 := 0#32
  let v174 : BitVec 1 := Scalar.cmpi .slt c4_i32 c0_i32_111
  let v175 : BitVec 32 := Scalar.extui v174
  let v176 : BitVec 32 := Scalar.subi v173 v175
  let v177 : BitVec 1 := Scalar.cmpi .ne v171 v176
  let v178 : BitVec 32 := Scalar.remsi arg23 c4_i32
  let c0_i32_112 : BitVec 32 := 0#32
  let v179 : BitVec 1 := Scalar.cmpi .ne v178 c0_i32_112
  let v180 : BitVec 1 := Scalar.andi v177 v179
  let v166 : BitVec 32 := Scalar.divsi arg23 c4_i32
  let c1_i32_113 : BitVec 32 := 1#32
  let v181 : BitVec 32 := Scalar.subi v166 c1_i32_113
  let v182 : BitVec 32 := Scalar.select v180 v181 v166
  let v334 : Index := Scalar.indexCast v182
  let c7 : Index := 7#32
  let c0_156 : Index := 0#32
  ![v332.toNat, v333.toNat, v334.toNat, 7, 0]
def k0_off33 (k0_t3 : Fin k0_t3_loop.trips) : Fin 2 → Nat :=
  let c0_i32_76 : BitVec 32 := 0#32
  let c1_i32_77 : BitVec 32 := 1#32
  let arg23 : BitVec 32 := Scf.iv c0_i32_76 c1_i32_77 k0_t3
  let v446 : Index := Scalar.indexCast arg23
  let c0_174 : Index := 0#32
  ![v446.toNat, 0]
def k0_off34 (v70 : BitVec 32) : Fin 3 → Nat :=
  let c0_i32_80 : BitVec 32 := 0#32
  let v112 : BitVec 1 := Scalar.cmpi .sgt v70 c0_i32_80
  let v113 : BitVec 32 := Scalar.extui v112
  let c0_i32_81 : BitVec 32 := 0#32
  let v114 : BitVec 1 := Scalar.cmpi .slt v70 c0_i32_81
  let v115 : BitVec 32 := Scalar.extui v114
  let v116 : BitVec 32 := Scalar.subi v113 v115
  let c2_i32_79 : BitVec 32 := 2#32
  let c0_i32_82 : BitVec 32 := 0#32
  let v117 : BitVec 1 := Scalar.cmpi .sgt c2_i32_79 c0_i32_82
  let v118 : BitVec 32 := Scalar.extui v117
  let c0_i32_83 : BitVec 32 := 0#32
  let v119 : BitVec 1 := Scalar.cmpi .slt c2_i32_79 c0_i32_83
  let v120 : BitVec 32 := Scalar.extui v119
  let v121 : BitVec 32 := Scalar.subi v118 v120
  let v122 : BitVec 1 := Scalar.cmpi .ne v116 v121
  let v123 : BitVec 32 := Scalar.remsi v70 c2_i32_79
  let c0_i32_84 : BitVec 32 := 0#32
  let v124 : BitVec 1 := Scalar.cmpi .ne v123 c0_i32_84
  let v125 : BitVec 1 := Scalar.andi v122 v124
  let v111 : BitVec 32 := Scalar.divsi v70 c2_i32_79
  let c1_i32_85 : BitVec 32 := 1#32
  let v126 : BitVec 32 := Scalar.subi v111 c1_i32_85
  let v127 : BitVec 32 := Scalar.select v125 v126 v111
  let v128 : Index := Scalar.indexCast v127
  let c0_86 : Index := 0#32
  let c0_87 : Index := 0#32
  ![v128.toNat, 0, 0]

def k0_chk7 (v70 : BitVec 32) : Prop :=
  (∀ a, (k0_off17 v70) a + S256x4096.size a ≤ S32000x4096.size a) ∧
  (∀ (hinb : ∀ a, (k0_off17 v70) a + S256x4096.size a ≤ S32000x4096.size a), (Rect.unit (s := S32000x4096) (k0_off17 v70) S256x4096.size hinb).WholeWords (EltTy.packing .i8)) ∧
  (∀ a, (k0_off20 v70) a + S4x1x5x8x128.size a ≤ S4x125x5x8x128.size a) ∧
  (∀ (r : Fin 2), ∀ a, (k0_off21 v70 (BitVec.ofNat 32 r.val)) a + S1x128.size a ≤ S250x128.size a) ∧
  (∀ a, (k0_off34 v70) a + S1x24x128.size a ≤ S63x24x128.size a)
theorem k0_off17_inb : ∀ (v70 : BitVec 32) (k0_hw7 : k0_chk7 v70), ∀ a, (k0_off17 v70) a + S256x4096.size a ≤ S32000x4096.size a := fun v70 k0_hw7 => k0_hw7.1
theorem k0_off17_wordsi8 : ∀ (v70 : BitVec 32) (k0_hw7 : k0_chk7 v70), (Rect.unit (s := S32000x4096) (k0_off17 v70) S256x4096.size (k0_off17_inb v70 k0_hw7)).WholeWords (EltTy.packing .i8) := fun v70 k0_hw7 => k0_hw7.2.1 (k0_off17_inb v70 k0_hw7)
theorem k0_off20_inb : ∀ (v70 : BitVec 32) (k0_hw7 : k0_chk7 v70), ∀ a, (k0_off20 v70) a + S4x1x5x8x128.size a ≤ S4x125x5x8x128.size a := fun v70 k0_hw7 => k0_hw7.2.2.1
theorem k0_off21_inb : ∀ (v70 : BitVec 32) (k0_hw7 : k0_chk7 v70), ∀ (r : Fin 2), ∀ a, (k0_off21 v70 (BitVec.ofNat 32 r.val)) a + S1x128.size a ≤ S250x128.size a := fun v70 k0_hw7 r => k0_hw7.2.2.2.1 r
theorem k0_off34_inb : ∀ (v70 : BitVec 32) (k0_hw7 : k0_chk7 v70), ∀ a, (k0_off34 v70) a + S1x24x128.size a ≤ S63x24x128.size a := fun v70 k0_hw7 => k0_hw7.2.2.2.2

@[reducible] def k0_t4_loop (v13 : BitVec 32) : Scf.Loop 32 :=
  let c0_i32_19 : BitVec 32 := 0#32
  let v25 : BitVec 32 := Scalar.subi v13 c0_i32_19
  let c1_i32_21 : BitVec 32 := 1#32
  let v27 : BitVec 32 := Scalar.divsi v25 c1_i32_21
  let v28 : BitVec 32 := Scalar.muli v27 c1_i32_21
  let v29 : BitVec 32 := Scalar.addi c0_i32_19 v28
  let v26 : BitVec 32 := Scalar.addi c0_i32_19 v25
  let c1_i32_23 : BitVec 32 := 1#32
  ⟨v29, v26, c1_i32_23⟩
def k0_off35 (v13 : BitVec 32) (k0_t4 : Fin (k0_t4_loop v13).trips) : Fin 1 → Nat :=
  let c0_i32_19 : BitVec 32 := 0#32
  let v25 : BitVec 32 := Scalar.subi v13 c0_i32_19
  let c1_i32_21 : BitVec 32 := 1#32
  let v27 : BitVec 32 := Scalar.divsi v25 c1_i32_21
  let v28 : BitVec 32 := Scalar.muli v27 c1_i32_21
  let v29 : BitVec 32 := Scalar.addi c0_i32_19 v28
  let c1_i32_23 : BitVec 32 := 1#32
  let arg21 : BitVec 32 := Scf.iv v29 c1_i32_23 k0_t4
  let v69 : Index := Scalar.indexCast arg21
  ![v69.toNat]
def k0_off36 (v13 : BitVec 32) (k0_t4 : Fin (k0_t4_loop v13).trips) : Fin 1 → Nat :=
  let c0_i32_19 : BitVec 32 := 0#32
  let v25 : BitVec 32 := Scalar.subi v13 c0_i32_19
  let c1_i32_21 : BitVec 32 := 1#32
  let v27 : BitVec 32 := Scalar.divsi v25 c1_i32_21
  let v28 : BitVec 32 := Scalar.muli v27 c1_i32_21
  let v29 : BitVec 32 := Scalar.addi c0_i32_19 v28
  let c1_i32_23 : BitVec 32 := 1#32
  let arg21 : BitVec 32 := Scf.iv v29 c1_i32_23 k0_t4
  let c1_i32_103 : BitVec 32 := 1#32
  let v157 : BitVec 32 := Scalar.addi arg21 c1_i32_103
  let v158 : Index := Scalar.indexCast v157
  ![v158.toNat]
def k0_cond4 (v13 : BitVec 32) (k0_t4 : Fin (k0_t4_loop v13).trips) : BitVec 1 :=
  let c0_i32_19 : BitVec 32 := 0#32
  let v25 : BitVec 32 := Scalar.subi v13 c0_i32_19
  let c1_i32_21 : BitVec 32 := 1#32
  let v27 : BitVec 32 := Scalar.divsi v25 c1_i32_21
  let v28 : BitVec 32 := Scalar.muli v27 c1_i32_21
  let v29 : BitVec 32 := Scalar.addi c0_i32_19 v28
  let c1_i32_23 : BitVec 32 := 1#32
  let arg21 : BitVec 32 := Scf.iv v29 c1_i32_23 k0_t4
  let c1_i32_53 : BitVec 32 := 1#32
  let v71 : BitVec 32 := Scalar.addi arg21 c1_i32_53
  let v72 : BitVec 1 := Scalar.cmpi .slt v71 v13
  let v73 : BitVec 32 := Scalar.extui v72
  let c0_i32_54 : BitVec 32 := 0#32
  let v74 : BitVec 1 := Scalar.cmpi .ne v73 c0_i32_54
  v74

def k0_off37 (v13 : BitVec 32) (k0_t4 : Fin (k0_t4_loop v13).trips) : Fin 1 → Nat :=
  let c1_i32_104 : BitVec 32 := 1#32
  let c0_i32_19 : BitVec 32 := 0#32
  let v25 : BitVec 32 := Scalar.subi v13 c0_i32_19
  let c1_i32_21 : BitVec 32 := 1#32
  let v27 : BitVec 32 := Scalar.divsi v25 c1_i32_21
  let v28 : BitVec 32 := Scalar.muli v27 c1_i32_21
  let v29 : BitVec 32 := Scalar.addi c0_i32_19 v28
  let c1_i32_23 : BitVec 32 := 1#32
  let arg21 : BitVec 32 := Scf.iv v29 c1_i32_23 k0_t4
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let v160 : BitVec 32 := Scalar.subi c1_i32_104 v68
  ![v160.toNat]
def k0_off38 (v13 : BitVec 32) (k0_t4 : Fin (k0_t4_loop v13).trips) : Fin 3 → Nat :=
  let c1_i32_104 : BitVec 32 := 1#32
  let c0_i32_19 : BitVec 32 := 0#32
  let v25 : BitVec 32 := Scalar.subi v13 c0_i32_19
  let c1_i32_21 : BitVec 32 := 1#32
  let v27 : BitVec 32 := Scalar.divsi v25 c1_i32_21
  let v28 : BitVec 32 := Scalar.muli v27 c1_i32_21
  let v29 : BitVec 32 := Scalar.addi c0_i32_19 v28
  let c1_i32_23 : BitVec 32 := 1#32
  let arg21 : BitVec 32 := Scf.iv v29 c1_i32_23 k0_t4
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let v160 : BitVec 32 := Scalar.subi c1_i32_104 v68
  let c0_i32_106 : BitVec 32 := 0#32
  let c0_i32_107 : BitVec 32 := 0#32
  ![v160.toNat, 0, 0]
def k0_off39 (v159 : BitVec 32) : Fin 2 → Nat :=
  let c256_i32_105 : BitVec 32 := 256#32
  let v161 : BitVec 32 := Scalar.muli v159 c256_i32_105
  let c0_i32_108 : BitVec 32 := 0#32
  ![v161.toNat, 0]

def k0_chk8 (v13 : BitVec 32) (k0_t4 : Fin (k0_t4_loop v13).trips) (v159 : BitVec 32) : Prop :=
  (∀ (k0_h4 : k0_cond4 v13 k0_t4 = 1#1), ∀ a, (k0_off39 v159) a + S256x4096.size a ≤ S32000x4096.size a) ∧
  (∀ (k0_h4 : k0_cond4 v13 k0_t4 = 1#1), ∀ (hinb : ∀ a, (k0_off39 v159) a + S256x4096.size a ≤ S32000x4096.size a), (Rect.unit (s := S32000x4096) (k0_off39 v159) S256x4096.size hinb).WholeWords (EltTy.packing .i8))
theorem k0_off39_inb : ∀ (v13 : BitVec 32) (k0_t4 : Fin (k0_t4_loop v13).trips) (v159 : BitVec 32) (k0_hw8 : k0_chk8 v13 k0_t4 v159), ∀ (k0_h4 : k0_cond4 v13 k0_t4 = 1#1), ∀ a, (k0_off39 v159) a + S256x4096.size a ≤ S32000x4096.size a := fun v13 k0_t4 v159 k0_hw8 k0_h4 => k0_hw8.1 k0_h4
theorem k0_off39_wordsi8 : ∀ (v13 : BitVec 32) (k0_t4 : Fin (k0_t4_loop v13).trips) (v159 : BitVec 32) (k0_hw8 : k0_chk8 v13 k0_t4 v159), ∀ (k0_h4 : k0_cond4 v13 k0_t4 = 1#1), (Rect.unit (s := S32000x4096) (k0_off39 v159) S256x4096.size (k0_off39_inb v13 k0_t4 v159 k0_hw8 k0_h4)).WholeWords (EltTy.packing .i8) := fun v13 k0_t4 v159 k0_hw8 k0_h4 => k0_hw8.2 k0_h4 (k0_off39_inb v13 k0_t4 v159 k0_hw8 k0_h4)

def k0_off40 (v13 : BitVec 32) (k0_t4 : Fin (k0_t4_loop v13).trips) : Fin 1 → Nat :=
  let c0_i32_19 : BitVec 32 := 0#32
  let v25 : BitVec 32 := Scalar.subi v13 c0_i32_19
  let c1_i32_21 : BitVec 32 := 1#32
  let v27 : BitVec 32 := Scalar.divsi v25 c1_i32_21
  let v28 : BitVec 32 := Scalar.muli v27 c1_i32_21
  let v29 : BitVec 32 := Scalar.addi c0_i32_19 v28
  let c1_i32_23 : BitVec 32 := 1#32
  let arg21 : BitVec 32 := Scf.iv v29 c1_i32_23 k0_t4
  let c1_i32_109 : BitVec 32 := 1#32
  let v167 : BitVec 32 := Scalar.addi arg21 c1_i32_109
  let v168 : Index := Scalar.indexCast v167
  ![v168.toNat]
def k0_off41 (v13 : BitVec 32) (k0_t4 : Fin (k0_t4_loop v13).trips) : Fin 1 → Nat :=
  let c1_i32_110 : BitVec 32 := 1#32
  let c0_i32_19 : BitVec 32 := 0#32
  let v25 : BitVec 32 := Scalar.subi v13 c0_i32_19
  let c1_i32_21 : BitVec 32 := 1#32
  let v27 : BitVec 32 := Scalar.divsi v25 c1_i32_21
  let v28 : BitVec 32 := Scalar.muli v27 c1_i32_21
  let v29 : BitVec 32 := Scalar.addi c0_i32_19 v28
  let c1_i32_23 : BitVec 32 := 1#32
  let arg21 : BitVec 32 := Scf.iv v29 c1_i32_23 k0_t4
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let v170 : BitVec 32 := Scalar.subi c1_i32_110 v68
  ![v170.toNat]
def k0_off42 (v13 : BitVec 32) (k0_t4 : Fin (k0_t4_loop v13).trips) : Fin 5 → Nat :=
  let c1_i32_110 : BitVec 32 := 1#32
  let c0_i32_19 : BitVec 32 := 0#32
  let v25 : BitVec 32 := Scalar.subi v13 c0_i32_19
  let c1_i32_21 : BitVec 32 := 1#32
  let v27 : BitVec 32 := Scalar.divsi v25 c1_i32_21
  let v28 : BitVec 32 := Scalar.muli v27 c1_i32_21
  let v29 : BitVec 32 := Scalar.addi c0_i32_19 v28
  let c1_i32_23 : BitVec 32 := 1#32
  let arg21 : BitVec 32 := Scf.iv v29 c1_i32_23 k0_t4
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let v170 : BitVec 32 := Scalar.subi c1_i32_110 v68
  let c0_i32_111 : BitVec 32 := 0#32
  let c0_i32_112 : BitVec 32 := 0#32
  let c0_i32_113 : BitVec 32 := 0#32
  let c0_i32_114 : BitVec 32 := 0#32
  ![v170.toNat, 0, 0, 0, 0]
def k0_off43 (v169 : BitVec 32) : Fin 5 → Nat :=
  let c0_i32_115 : BitVec 32 := 0#32
  let c0_i32_116 : BitVec 32 := 0#32
  let c0_i32_117 : BitVec 32 := 0#32
  let c0_i32_118 : BitVec 32 := 0#32
  ![0, v169.toNat, 0, 0, 0]

def k0_chk9 (v13 : BitVec 32) (k0_t4 : Fin (k0_t4_loop v13).trips) (v169 : BitVec 32) : Prop :=
  (∀ (k0_h4 : k0_cond4 v13 k0_t4 = 1#1), ∀ a, (k0_off43 v169) a + S4x1x5x8x128.size a ≤ S4x125x5x8x128.size a)
theorem k0_off43_inb : ∀ (v13 : BitVec 32) (k0_t4 : Fin (k0_t4_loop v13).trips) (v169 : BitVec 32) (k0_hw9 : k0_chk9 v13 k0_t4 v169), ∀ (k0_h4 : k0_cond4 v13 k0_t4 = 1#1), ∀ a, (k0_off43 v169) a + S4x1x5x8x128.size a ≤ S4x125x5x8x128.size a := fun v13 k0_t4 v169 k0_hw9 k0_h4 => k0_hw9 k0_h4

def k0_off44 (v13 : BitVec 32) (k0_t4 : Fin (k0_t4_loop v13).trips) : Fin 1 → Nat :=
  let c0_i32_19 : BitVec 32 := 0#32
  let v25 : BitVec 32 := Scalar.subi v13 c0_i32_19
  let c1_i32_21 : BitVec 32 := 1#32
  let v27 : BitVec 32 := Scalar.divsi v25 c1_i32_21
  let v28 : BitVec 32 := Scalar.muli v27 c1_i32_21
  let v29 : BitVec 32 := Scalar.addi c0_i32_19 v28
  let c1_i32_23 : BitVec 32 := 1#32
  let arg21 : BitVec 32 := Scf.iv v29 c1_i32_23 k0_t4
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  ![v68.toNat]
def k0_off45 (v13 : BitVec 32) (k0_t4 : Fin (k0_t4_loop v13).trips) : Fin 3 → Nat :=
  let c0_i32_19 : BitVec 32 := 0#32
  let v25 : BitVec 32 := Scalar.subi v13 c0_i32_19
  let c1_i32_21 : BitVec 32 := 1#32
  let v27 : BitVec 32 := Scalar.divsi v25 c1_i32_21
  let v28 : BitVec 32 := Scalar.muli v27 c1_i32_21
  let v29 : BitVec 32 := Scalar.addi c0_i32_19 v28
  let c1_i32_23 : BitVec 32 := 1#32
  let arg21 : BitVec 32 := Scf.iv v29 c1_i32_23 k0_t4
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let c0_i32_55 : BitVec 32 := 0#32
  let c0_i32_56 : BitVec 32 := 0#32
  ![v68.toNat, 0, 0]
def k0_off46 (v70 : BitVec 32) : Fin 2 → Nat :=
  let c256_i32 : BitVec 32 := 256#32
  let v75 : BitVec 32 := Scalar.muli v70 c256_i32
  let c0_i32_57 : BitVec 32 := 0#32
  ![v75.toNat, 0]

def k0_off47 (v13 : BitVec 32) (k0_t4 : Fin (k0_t4_loop v13).trips) : Fin 1 → Nat :=
  let c0_i32_19 : BitVec 32 := 0#32
  let v25 : BitVec 32 := Scalar.subi v13 c0_i32_19
  let c1_i32_21 : BitVec 32 := 1#32
  let v27 : BitVec 32 := Scalar.divsi v25 c1_i32_21
  let v28 : BitVec 32 := Scalar.muli v27 c1_i32_21
  let v29 : BitVec 32 := Scalar.addi c0_i32_19 v28
  let c1_i32_23 : BitVec 32 := 1#32
  let arg21 : BitVec 32 := Scf.iv v29 c1_i32_23 k0_t4
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  ![v68.toNat]
def k0_off48 (v13 : BitVec 32) (k0_t4 : Fin (k0_t4_loop v13).trips) : Fin 5 → Nat :=
  let c0_i32_19 : BitVec 32 := 0#32
  let v25 : BitVec 32 := Scalar.subi v13 c0_i32_19
  let c1_i32_21 : BitVec 32 := 1#32
  let v27 : BitVec 32 := Scalar.divsi v25 c1_i32_21
  let v28 : BitVec 32 := Scalar.muli v27 c1_i32_21
  let v29 : BitVec 32 := Scalar.addi c0_i32_19 v28
  let c1_i32_23 : BitVec 32 := 1#32
  let arg21 : BitVec 32 := Scf.iv v29 c1_i32_23 k0_t4
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let c0_i32_58 : BitVec 32 := 0#32
  let c0_i32_59 : BitVec 32 := 0#32
  let c0_i32_60 : BitVec 32 := 0#32
  let c0_i32_61 : BitVec 32 := 0#32
  ![v68.toNat, 0, 0, 0, 0]
def k0_off49 (v70 : BitVec 32) : Fin 5 → Nat :=
  let c0_i32_62 : BitVec 32 := 0#32
  let c0_i32_63 : BitVec 32 := 0#32
  let c0_i32_64 : BitVec 32 := 0#32
  let c0_i32_65 : BitVec 32 := 0#32
  ![0, v70.toNat, 0, 0, 0]
def k0_off50 (v70 : BitVec 32) (c0_i32_67 : BitVec 32) : Fin 2 → Nat :=
  let c2_i32_66 : BitVec 32 := 2#32
  let v87 : BitVec 32 := Scalar.muli v70 c2_i32_66
  let v88 : BitVec 32 := Scalar.addi v87 c0_i32_67
  let v89 : Index := Scalar.indexCast v88
  let c0_68 : Index := 0#32
  ![v89.toNat, 0]
@[reducible] def k0_t5_loop : Scf.Loop 32 :=
  let c0_i32_76 : BitVec 32 := 0#32
  let c20_i32 : BitVec 32 := 20#32
  let v109 : BitVec 32 := Scalar.addi c0_i32_76 c20_i32
  let c1_i32_77 : BitVec 32 := 1#32
  ⟨c0_i32_76, v109, c1_i32_77⟩
def k0_off51 (v13 : BitVec 32) (k0_t4 : Fin (k0_t4_loop v13).trips) : Fin 3 → Nat :=
  let c0_i32_19 : BitVec 32 := 0#32
  let v25 : BitVec 32 := Scalar.subi v13 c0_i32_19
  let c1_i32_21 : BitVec 32 := 1#32
  let v27 : BitVec 32 := Scalar.divsi v25 c1_i32_21
  let v28 : BitVec 32 := Scalar.muli v27 c1_i32_21
  let v29 : BitVec 32 := Scalar.addi c0_i32_19 v28
  let c1_i32_23 : BitVec 32 := 1#32
  let arg21 : BitVec 32 := Scf.iv v29 c1_i32_23 k0_t4
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let v157 : Index := Scalar.indexCast v68
  let c0_103 : Index := 0#32
  let c0_104 : Index := 0#32
  ![v157.toNat, 0, 0]
def k0_off52 (k0_t5 : Fin k0_t5_loop.trips) : Fin 3 → Nat :=
  let c0_i32_76 : BitVec 32 := 0#32
  let c1_i32_77 : BitVec 32 := 1#32
  let arg23 : BitVec 32 := Scf.iv c0_i32_76 c1_i32_77 k0_t5
  let v161 : Index := Scalar.indexCast arg23
  let c0_105 : Index := 0#32
  let c0_106 : Index := 0#32
  ![v161.toNat, 0, 0]
def k0_off53 (k0_t5 : Fin k0_t5_loop.trips) : Fin 2 → Nat :=
  let c0_i32_76 : BitVec 32 := 0#32
  let c1_i32_77 : BitVec 32 := 1#32
  let arg23 : BitVec 32 := Scf.iv c0_i32_76 c1_i32_77 k0_t5
  let v193 : Index := Scalar.indexCast arg23
  let c0_120 : Index := 0#32
  ![v193.toNat, 0]
def k0_off54 (v13 : BitVec 32) (k0_t4 : Fin (k0_t4_loop v13).trips) (k0_t5 : Fin k0_t5_loop.trips) : Fin 5 → Nat :=
  let c0_i32_19 : BitVec 32 := 0#32
  let v25 : BitVec 32 := Scalar.subi v13 c0_i32_19
  let c1_i32_21 : BitVec 32 := 1#32
  let v27 : BitVec 32 := Scalar.divsi v25 c1_i32_21
  let v28 : BitVec 32 := Scalar.muli v27 c1_i32_21
  let v29 : BitVec 32 := Scalar.addi c0_i32_19 v28
  let c1_i32_23 : BitVec 32 := 1#32
  let arg21 : BitVec 32 := Scf.iv v29 c1_i32_23 k0_t4
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let v207 : Index := Scalar.indexCast v68
  let c0_i32_76 : BitVec 32 := 0#32
  let c1_i32_77 : BitVec 32 := 1#32
  let arg23 : BitVec 32 := Scf.iv c0_i32_76 c1_i32_77 k0_t5
  let c4_i32_114 : BitVec 32 := 4#32
  let c0_i32_115 : BitVec 32 := 0#32
  let v183 : BitVec 1 := Scalar.cmpi .eq c4_i32_114 c0_i32_115
  let c1_i32_116 : BitVec 32 := 1#32
  let v184 : BitVec 32 := Scalar.select v183 c1_i32_116 c4_i32_114
  let v185 : BitVec 32 := Scalar.remsi arg23 v184
  let c0_i32_118 : BitVec 32 := 0#32
  let v187 : BitVec 1 := Scalar.cmpi .slt v185 c0_i32_118
  let c0_i32_119 : BitVec 32 := 0#32
  let v188 : BitVec 1 := Scalar.cmpi .slt v184 c0_i32_119
  let v189 : BitVec 1 := Scalar.xori v187 v188
  let c0_i32_117 : BitVec 32 := 0#32
  let v186 : BitVec 1 := Scalar.cmpi .ne v185 c0_i32_117
  let v190 : BitVec 1 := Scalar.andi v189 v186
  let v191 : BitVec 32 := Scalar.addi v185 v184
  let v192 : BitVec 32 := Scalar.select v190 v191 v185
  let v208 : Index := Scalar.indexCast v192
  let c0_i32_108 : BitVec 32 := 0#32
  let v167 : BitVec 1 := Scalar.cmpi .sgt arg23 c0_i32_108
  let v168 : BitVec 32 := Scalar.extui v167
  let c0_i32_109 : BitVec 32 := 0#32
  let v169 : BitVec 1 := Scalar.cmpi .slt arg23 c0_i32_109
  let v170 : BitVec 32 := Scalar.extui v169
  let v171 : BitVec 32 := Scalar.subi v168 v170
  let c4_i32 : BitVec 32 := 4#32
  let c0_i32_110 : BitVec 32 := 0#32
  let v172 : BitVec 1 := Scalar.cmpi .sgt c4_i32 c0_i32_110
  let v173 : BitVec 32 := Scalar.extui v172
  let c0_i32_111 : BitVec 32 := 0#32
  let v174 : BitVec 1 := Scalar.cmpi .slt c4_i32 c0_i32_111
  let v175 : BitVec 32 := Scalar.extui v174
  let v176 : BitVec 32 := Scalar.subi v173 v175
  let v177 : BitVec 1 := Scalar.cmpi .ne v171 v176
  let v178 : BitVec 32 := Scalar.remsi arg23 c4_i32
  let c0_i32_112 : BitVec 32 := 0#32
  let v179 : BitVec 1 := Scalar.cmpi .ne v178 c0_i32_112
  let v180 : BitVec 1 := Scalar.andi v177 v179
  let v166 : BitVec 32 := Scalar.divsi arg23 c4_i32
  let c1_i32_113 : BitVec 32 := 1#32
  let v181 : BitVec 32 := Scalar.subi v166 c1_i32_113
  let v182 : BitVec 32 := Scalar.select v180 v181 v166
  let v209 : Index := Scalar.indexCast v182
  let c0_125 : Index := 0#32
  let c0_126 : Index := 0#32
  ![v207.toNat, v208.toNat, v209.toNat, 0, 0]
def k0_off55 (v13 : BitVec 32) (k0_t4 : Fin (k0_t4_loop v13).trips) (k0_t5 : Fin k0_t5_loop.trips) : Fin 5 → Nat :=
  let c0_i32_19 : BitVec 32 := 0#32
  let v25 : BitVec 32 := Scalar.subi v13 c0_i32_19
  let c1_i32_21 : BitVec 32 := 1#32
  let v27 : BitVec 32 := Scalar.divsi v25 c1_i32_21
  let v28 : BitVec 32 := Scalar.muli v27 c1_i32_21
  let v29 : BitVec 32 := Scalar.addi c0_i32_19 v28
  let c1_i32_23 : BitVec 32 := 1#32
  let arg21 : BitVec 32 := Scf.iv v29 c1_i32_23 k0_t4
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let v224 : Index := Scalar.indexCast v68
  let c0_i32_76 : BitVec 32 := 0#32
  let c1_i32_77 : BitVec 32 := 1#32
  let arg23 : BitVec 32 := Scf.iv c0_i32_76 c1_i32_77 k0_t5
  let c4_i32_114 : BitVec 32 := 4#32
  let c0_i32_115 : BitVec 32 := 0#32
  let v183 : BitVec 1 := Scalar.cmpi .eq c4_i32_114 c0_i32_115
  let c1_i32_116 : BitVec 32 := 1#32
  let v184 : BitVec 32 := Scalar.select v183 c1_i32_116 c4_i32_114
  let v185 : BitVec 32 := Scalar.remsi arg23 v184
  let c0_i32_118 : BitVec 32 := 0#32
  let v187 : BitVec 1 := Scalar.cmpi .slt v185 c0_i32_118
  let c0_i32_119 : BitVec 32 := 0#32
  let v188 : BitVec 1 := Scalar.cmpi .slt v184 c0_i32_119
  let v189 : BitVec 1 := Scalar.xori v187 v188
  let c0_i32_117 : BitVec 32 := 0#32
  let v186 : BitVec 1 := Scalar.cmpi .ne v185 c0_i32_117
  let v190 : BitVec 1 := Scalar.andi v189 v186
  let v191 : BitVec 32 := Scalar.addi v185 v184
  let v192 : BitVec 32 := Scalar.select v190 v191 v185
  let v225 : Index := Scalar.indexCast v192
  let c0_i32_108 : BitVec 32 := 0#32
  let v167 : BitVec 1 := Scalar.cmpi .sgt arg23 c0_i32_108
  let v168 : BitVec 32 := Scalar.extui v167
  let c0_i32_109 : BitVec 32 := 0#32
  let v169 : BitVec 1 := Scalar.cmpi .slt arg23 c0_i32_109
  let v170 : BitVec 32 := Scalar.extui v169
  let v171 : BitVec 32 := Scalar.subi v168 v170
  let c4_i32 : BitVec 32 := 4#32
  let c0_i32_110 : BitVec 32 := 0#32
  let v172 : BitVec 1 := Scalar.cmpi .sgt c4_i32 c0_i32_110
  let v173 : BitVec 32 := Scalar.extui v172
  let c0_i32_111 : BitVec 32 := 0#32
  let v174 : BitVec 1 := Scalar.cmpi .slt c4_i32 c0_i32_111
  let v175 : BitVec 32 := Scalar.extui v174
  let v176 : BitVec 32 := Scalar.subi v173 v175
  let v177 : BitVec 1 := Scalar.cmpi .ne v171 v176
  let v178 : BitVec 32 := Scalar.remsi arg23 c4_i32
  let c0_i32_112 : BitVec 32 := 0#32
  let v179 : BitVec 1 := Scalar.cmpi .ne v178 c0_i32_112
  let v180 : BitVec 1 := Scalar.andi v177 v179
  let v166 : BitVec 32 := Scalar.divsi arg23 c4_i32
  let c1_i32_113 : BitVec 32 := 1#32
  let v181 : BitVec 32 := Scalar.subi v166 c1_i32_113
  let v182 : BitVec 32 := Scalar.select v180 v181 v166
  let v226 : Index := Scalar.indexCast v182
  let c1 : Index := 1#32
  let c0_131 : Index := 0#32
  ![v224.toNat, v225.toNat, v226.toNat, 1, 0]
def k0_off56 (v13 : BitVec 32) (k0_t4 : Fin (k0_t4_loop v13).trips) (k0_t5 : Fin k0_t5_loop.trips) : Fin 5 → Nat :=
  let c0_i32_19 : BitVec 32 := 0#32
  let v25 : BitVec 32 := Scalar.subi v13 c0_i32_19
  let c1_i32_21 : BitVec 32 := 1#32
  let v27 : BitVec 32 := Scalar.divsi v25 c1_i32_21
  let v28 : BitVec 32 := Scalar.muli v27 c1_i32_21
  let v29 : BitVec 32 := Scalar.addi c0_i32_19 v28
  let c1_i32_23 : BitVec 32 := 1#32
  let arg21 : BitVec 32 := Scf.iv v29 c1_i32_23 k0_t4
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let v242 : Index := Scalar.indexCast v68
  let c0_i32_76 : BitVec 32 := 0#32
  let c1_i32_77 : BitVec 32 := 1#32
  let arg23 : BitVec 32 := Scf.iv c0_i32_76 c1_i32_77 k0_t5
  let c4_i32_114 : BitVec 32 := 4#32
  let c0_i32_115 : BitVec 32 := 0#32
  let v183 : BitVec 1 := Scalar.cmpi .eq c4_i32_114 c0_i32_115
  let c1_i32_116 : BitVec 32 := 1#32
  let v184 : BitVec 32 := Scalar.select v183 c1_i32_116 c4_i32_114
  let v185 : BitVec 32 := Scalar.remsi arg23 v184
  let c0_i32_118 : BitVec 32 := 0#32
  let v187 : BitVec 1 := Scalar.cmpi .slt v185 c0_i32_118
  let c0_i32_119 : BitVec 32 := 0#32
  let v188 : BitVec 1 := Scalar.cmpi .slt v184 c0_i32_119
  let v189 : BitVec 1 := Scalar.xori v187 v188
  let c0_i32_117 : BitVec 32 := 0#32
  let v186 : BitVec 1 := Scalar.cmpi .ne v185 c0_i32_117
  let v190 : BitVec 1 := Scalar.andi v189 v186
  let v191 : BitVec 32 := Scalar.addi v185 v184
  let v192 : BitVec 32 := Scalar.select v190 v191 v185
  let v243 : Index := Scalar.indexCast v192
  let c0_i32_108 : BitVec 32 := 0#32
  let v167 : BitVec 1 := Scalar.cmpi .sgt arg23 c0_i32_108
  let v168 : BitVec 32 := Scalar.extui v167
  let c0_i32_109 : BitVec 32 := 0#32
  let v169 : BitVec 1 := Scalar.cmpi .slt arg23 c0_i32_109
  let v170 : BitVec 32 := Scalar.extui v169
  let v171 : BitVec 32 := Scalar.subi v168 v170
  let c4_i32 : BitVec 32 := 4#32
  let c0_i32_110 : BitVec 32 := 0#32
  let v172 : BitVec 1 := Scalar.cmpi .sgt c4_i32 c0_i32_110
  let v173 : BitVec 32 := Scalar.extui v172
  let c0_i32_111 : BitVec 32 := 0#32
  let v174 : BitVec 1 := Scalar.cmpi .slt c4_i32 c0_i32_111
  let v175 : BitVec 32 := Scalar.extui v174
  let v176 : BitVec 32 := Scalar.subi v173 v175
  let v177 : BitVec 1 := Scalar.cmpi .ne v171 v176
  let v178 : BitVec 32 := Scalar.remsi arg23 c4_i32
  let c0_i32_112 : BitVec 32 := 0#32
  let v179 : BitVec 1 := Scalar.cmpi .ne v178 c0_i32_112
  let v180 : BitVec 1 := Scalar.andi v177 v179
  let v166 : BitVec 32 := Scalar.divsi arg23 c4_i32
  let c1_i32_113 : BitVec 32 := 1#32
  let v181 : BitVec 32 := Scalar.subi v166 c1_i32_113
  let v182 : BitVec 32 := Scalar.select v180 v181 v166
  let v244 : Index := Scalar.indexCast v182
  let c2 : Index := 2#32
  let c0_135 : Index := 0#32
  ![v242.toNat, v243.toNat, v244.toNat, 2, 0]
def k0_off57 (v13 : BitVec 32) (k0_t4 : Fin (k0_t4_loop v13).trips) (k0_t5 : Fin k0_t5_loop.trips) : Fin 5 → Nat :=
  let c0_i32_19 : BitVec 32 := 0#32
  let v25 : BitVec 32 := Scalar.subi v13 c0_i32_19
  let c1_i32_21 : BitVec 32 := 1#32
  let v27 : BitVec 32 := Scalar.divsi v25 c1_i32_21
  let v28 : BitVec 32 := Scalar.muli v27 c1_i32_21
  let v29 : BitVec 32 := Scalar.addi c0_i32_19 v28
  let c1_i32_23 : BitVec 32 := 1#32
  let arg21 : BitVec 32 := Scf.iv v29 c1_i32_23 k0_t4
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let v260 : Index := Scalar.indexCast v68
  let c0_i32_76 : BitVec 32 := 0#32
  let c1_i32_77 : BitVec 32 := 1#32
  let arg23 : BitVec 32 := Scf.iv c0_i32_76 c1_i32_77 k0_t5
  let c4_i32_114 : BitVec 32 := 4#32
  let c0_i32_115 : BitVec 32 := 0#32
  let v183 : BitVec 1 := Scalar.cmpi .eq c4_i32_114 c0_i32_115
  let c1_i32_116 : BitVec 32 := 1#32
  let v184 : BitVec 32 := Scalar.select v183 c1_i32_116 c4_i32_114
  let v185 : BitVec 32 := Scalar.remsi arg23 v184
  let c0_i32_118 : BitVec 32 := 0#32
  let v187 : BitVec 1 := Scalar.cmpi .slt v185 c0_i32_118
  let c0_i32_119 : BitVec 32 := 0#32
  let v188 : BitVec 1 := Scalar.cmpi .slt v184 c0_i32_119
  let v189 : BitVec 1 := Scalar.xori v187 v188
  let c0_i32_117 : BitVec 32 := 0#32
  let v186 : BitVec 1 := Scalar.cmpi .ne v185 c0_i32_117
  let v190 : BitVec 1 := Scalar.andi v189 v186
  let v191 : BitVec 32 := Scalar.addi v185 v184
  let v192 : BitVec 32 := Scalar.select v190 v191 v185
  let v261 : Index := Scalar.indexCast v192
  let c0_i32_108 : BitVec 32 := 0#32
  let v167 : BitVec 1 := Scalar.cmpi .sgt arg23 c0_i32_108
  let v168 : BitVec 32 := Scalar.extui v167
  let c0_i32_109 : BitVec 32 := 0#32
  let v169 : BitVec 1 := Scalar.cmpi .slt arg23 c0_i32_109
  let v170 : BitVec 32 := Scalar.extui v169
  let v171 : BitVec 32 := Scalar.subi v168 v170
  let c4_i32 : BitVec 32 := 4#32
  let c0_i32_110 : BitVec 32 := 0#32
  let v172 : BitVec 1 := Scalar.cmpi .sgt c4_i32 c0_i32_110
  let v173 : BitVec 32 := Scalar.extui v172
  let c0_i32_111 : BitVec 32 := 0#32
  let v174 : BitVec 1 := Scalar.cmpi .slt c4_i32 c0_i32_111
  let v175 : BitVec 32 := Scalar.extui v174
  let v176 : BitVec 32 := Scalar.subi v173 v175
  let v177 : BitVec 1 := Scalar.cmpi .ne v171 v176
  let v178 : BitVec 32 := Scalar.remsi arg23 c4_i32
  let c0_i32_112 : BitVec 32 := 0#32
  let v179 : BitVec 1 := Scalar.cmpi .ne v178 c0_i32_112
  let v180 : BitVec 1 := Scalar.andi v177 v179
  let v166 : BitVec 32 := Scalar.divsi arg23 c4_i32
  let c1_i32_113 : BitVec 32 := 1#32
  let v181 : BitVec 32 := Scalar.subi v166 c1_i32_113
  let v182 : BitVec 32 := Scalar.select v180 v181 v166
  let v262 : Index := Scalar.indexCast v182
  let c3 : Index := 3#32
  let c0_139 : Index := 0#32
  ![v260.toNat, v261.toNat, v262.toNat, 3, 0]
def k0_off58 (v13 : BitVec 32) (k0_t4 : Fin (k0_t4_loop v13).trips) (k0_t5 : Fin k0_t5_loop.trips) : Fin 5 → Nat :=
  let c0_i32_19 : BitVec 32 := 0#32
  let v25 : BitVec 32 := Scalar.subi v13 c0_i32_19
  let c1_i32_21 : BitVec 32 := 1#32
  let v27 : BitVec 32 := Scalar.divsi v25 c1_i32_21
  let v28 : BitVec 32 := Scalar.muli v27 c1_i32_21
  let v29 : BitVec 32 := Scalar.addi c0_i32_19 v28
  let c1_i32_23 : BitVec 32 := 1#32
  let arg21 : BitVec 32 := Scf.iv v29 c1_i32_23 k0_t4
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let v278 : Index := Scalar.indexCast v68
  let c0_i32_76 : BitVec 32 := 0#32
  let c1_i32_77 : BitVec 32 := 1#32
  let arg23 : BitVec 32 := Scf.iv c0_i32_76 c1_i32_77 k0_t5
  let c4_i32_114 : BitVec 32 := 4#32
  let c0_i32_115 : BitVec 32 := 0#32
  let v183 : BitVec 1 := Scalar.cmpi .eq c4_i32_114 c0_i32_115
  let c1_i32_116 : BitVec 32 := 1#32
  let v184 : BitVec 32 := Scalar.select v183 c1_i32_116 c4_i32_114
  let v185 : BitVec 32 := Scalar.remsi arg23 v184
  let c0_i32_118 : BitVec 32 := 0#32
  let v187 : BitVec 1 := Scalar.cmpi .slt v185 c0_i32_118
  let c0_i32_119 : BitVec 32 := 0#32
  let v188 : BitVec 1 := Scalar.cmpi .slt v184 c0_i32_119
  let v189 : BitVec 1 := Scalar.xori v187 v188
  let c0_i32_117 : BitVec 32 := 0#32
  let v186 : BitVec 1 := Scalar.cmpi .ne v185 c0_i32_117
  let v190 : BitVec 1 := Scalar.andi v189 v186
  let v191 : BitVec 32 := Scalar.addi v185 v184
  let v192 : BitVec 32 := Scalar.select v190 v191 v185
  let v279 : Index := Scalar.indexCast v192
  let c0_i32_108 : BitVec 32 := 0#32
  let v167 : BitVec 1 := Scalar.cmpi .sgt arg23 c0_i32_108
  let v168 : BitVec 32 := Scalar.extui v167
  let c0_i32_109 : BitVec 32 := 0#32
  let v169 : BitVec 1 := Scalar.cmpi .slt arg23 c0_i32_109
  let v170 : BitVec 32 := Scalar.extui v169
  let v171 : BitVec 32 := Scalar.subi v168 v170
  let c4_i32 : BitVec 32 := 4#32
  let c0_i32_110 : BitVec 32 := 0#32
  let v172 : BitVec 1 := Scalar.cmpi .sgt c4_i32 c0_i32_110
  let v173 : BitVec 32 := Scalar.extui v172
  let c0_i32_111 : BitVec 32 := 0#32
  let v174 : BitVec 1 := Scalar.cmpi .slt c4_i32 c0_i32_111
  let v175 : BitVec 32 := Scalar.extui v174
  let v176 : BitVec 32 := Scalar.subi v173 v175
  let v177 : BitVec 1 := Scalar.cmpi .ne v171 v176
  let v178 : BitVec 32 := Scalar.remsi arg23 c4_i32
  let c0_i32_112 : BitVec 32 := 0#32
  let v179 : BitVec 1 := Scalar.cmpi .ne v178 c0_i32_112
  let v180 : BitVec 1 := Scalar.andi v177 v179
  let v166 : BitVec 32 := Scalar.divsi arg23 c4_i32
  let c1_i32_113 : BitVec 32 := 1#32
  let v181 : BitVec 32 := Scalar.subi v166 c1_i32_113
  let v182 : BitVec 32 := Scalar.select v180 v181 v166
  let v280 : Index := Scalar.indexCast v182
  let c4 : Index := 4#32
  let c0_143 : Index := 0#32
  ![v278.toNat, v279.toNat, v280.toNat, 4, 0]
def k0_off59 (v13 : BitVec 32) (k0_t4 : Fin (k0_t4_loop v13).trips) (k0_t5 : Fin k0_t5_loop.trips) : Fin 5 → Nat :=
  let c0_i32_19 : BitVec 32 := 0#32
  let v25 : BitVec 32 := Scalar.subi v13 c0_i32_19
  let c1_i32_21 : BitVec 32 := 1#32
  let v27 : BitVec 32 := Scalar.divsi v25 c1_i32_21
  let v28 : BitVec 32 := Scalar.muli v27 c1_i32_21
  let v29 : BitVec 32 := Scalar.addi c0_i32_19 v28
  let c1_i32_23 : BitVec 32 := 1#32
  let arg21 : BitVec 32 := Scf.iv v29 c1_i32_23 k0_t4
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let v296 : Index := Scalar.indexCast v68
  let c0_i32_76 : BitVec 32 := 0#32
  let c1_i32_77 : BitVec 32 := 1#32
  let arg23 : BitVec 32 := Scf.iv c0_i32_76 c1_i32_77 k0_t5
  let c4_i32_114 : BitVec 32 := 4#32
  let c0_i32_115 : BitVec 32 := 0#32
  let v183 : BitVec 1 := Scalar.cmpi .eq c4_i32_114 c0_i32_115
  let c1_i32_116 : BitVec 32 := 1#32
  let v184 : BitVec 32 := Scalar.select v183 c1_i32_116 c4_i32_114
  let v185 : BitVec 32 := Scalar.remsi arg23 v184
  let c0_i32_118 : BitVec 32 := 0#32
  let v187 : BitVec 1 := Scalar.cmpi .slt v185 c0_i32_118
  let c0_i32_119 : BitVec 32 := 0#32
  let v188 : BitVec 1 := Scalar.cmpi .slt v184 c0_i32_119
  let v189 : BitVec 1 := Scalar.xori v187 v188
  let c0_i32_117 : BitVec 32 := 0#32
  let v186 : BitVec 1 := Scalar.cmpi .ne v185 c0_i32_117
  let v190 : BitVec 1 := Scalar.andi v189 v186
  let v191 : BitVec 32 := Scalar.addi v185 v184
  let v192 : BitVec 32 := Scalar.select v190 v191 v185
  let v297 : Index := Scalar.indexCast v192
  let c0_i32_108 : BitVec 32 := 0#32
  let v167 : BitVec 1 := Scalar.cmpi .sgt arg23 c0_i32_108
  let v168 : BitVec 32 := Scalar.extui v167
  let c0_i32_109 : BitVec 32 := 0#32
  let v169 : BitVec 1 := Scalar.cmpi .slt arg23 c0_i32_109
  let v170 : BitVec 32 := Scalar.extui v169
  let v171 : BitVec 32 := Scalar.subi v168 v170
  let c4_i32 : BitVec 32 := 4#32
  let c0_i32_110 : BitVec 32 := 0#32
  let v172 : BitVec 1 := Scalar.cmpi .sgt c4_i32 c0_i32_110
  let v173 : BitVec 32 := Scalar.extui v172
  let c0_i32_111 : BitVec 32 := 0#32
  let v174 : BitVec 1 := Scalar.cmpi .slt c4_i32 c0_i32_111
  let v175 : BitVec 32 := Scalar.extui v174
  let v176 : BitVec 32 := Scalar.subi v173 v175
  let v177 : BitVec 1 := Scalar.cmpi .ne v171 v176
  let v178 : BitVec 32 := Scalar.remsi arg23 c4_i32
  let c0_i32_112 : BitVec 32 := 0#32
  let v179 : BitVec 1 := Scalar.cmpi .ne v178 c0_i32_112
  let v180 : BitVec 1 := Scalar.andi v177 v179
  let v166 : BitVec 32 := Scalar.divsi arg23 c4_i32
  let c1_i32_113 : BitVec 32 := 1#32
  let v181 : BitVec 32 := Scalar.subi v166 c1_i32_113
  let v182 : BitVec 32 := Scalar.select v180 v181 v166
  let v298 : Index := Scalar.indexCast v182
  let c5 : Index := 5#32
  let c0_148 : Index := 0#32
  ![v296.toNat, v297.toNat, v298.toNat, 5, 0]
def k0_off60 (v13 : BitVec 32) (k0_t4 : Fin (k0_t4_loop v13).trips) (k0_t5 : Fin k0_t5_loop.trips) : Fin 5 → Nat :=
  let c0_i32_19 : BitVec 32 := 0#32
  let v25 : BitVec 32 := Scalar.subi v13 c0_i32_19
  let c1_i32_21 : BitVec 32 := 1#32
  let v27 : BitVec 32 := Scalar.divsi v25 c1_i32_21
  let v28 : BitVec 32 := Scalar.muli v27 c1_i32_21
  let v29 : BitVec 32 := Scalar.addi c0_i32_19 v28
  let c1_i32_23 : BitVec 32 := 1#32
  let arg21 : BitVec 32 := Scf.iv v29 c1_i32_23 k0_t4
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let v314 : Index := Scalar.indexCast v68
  let c0_i32_76 : BitVec 32 := 0#32
  let c1_i32_77 : BitVec 32 := 1#32
  let arg23 : BitVec 32 := Scf.iv c0_i32_76 c1_i32_77 k0_t5
  let c4_i32_114 : BitVec 32 := 4#32
  let c0_i32_115 : BitVec 32 := 0#32
  let v183 : BitVec 1 := Scalar.cmpi .eq c4_i32_114 c0_i32_115
  let c1_i32_116 : BitVec 32 := 1#32
  let v184 : BitVec 32 := Scalar.select v183 c1_i32_116 c4_i32_114
  let v185 : BitVec 32 := Scalar.remsi arg23 v184
  let c0_i32_118 : BitVec 32 := 0#32
  let v187 : BitVec 1 := Scalar.cmpi .slt v185 c0_i32_118
  let c0_i32_119 : BitVec 32 := 0#32
  let v188 : BitVec 1 := Scalar.cmpi .slt v184 c0_i32_119
  let v189 : BitVec 1 := Scalar.xori v187 v188
  let c0_i32_117 : BitVec 32 := 0#32
  let v186 : BitVec 1 := Scalar.cmpi .ne v185 c0_i32_117
  let v190 : BitVec 1 := Scalar.andi v189 v186
  let v191 : BitVec 32 := Scalar.addi v185 v184
  let v192 : BitVec 32 := Scalar.select v190 v191 v185
  let v315 : Index := Scalar.indexCast v192
  let c0_i32_108 : BitVec 32 := 0#32
  let v167 : BitVec 1 := Scalar.cmpi .sgt arg23 c0_i32_108
  let v168 : BitVec 32 := Scalar.extui v167
  let c0_i32_109 : BitVec 32 := 0#32
  let v169 : BitVec 1 := Scalar.cmpi .slt arg23 c0_i32_109
  let v170 : BitVec 32 := Scalar.extui v169
  let v171 : BitVec 32 := Scalar.subi v168 v170
  let c4_i32 : BitVec 32 := 4#32
  let c0_i32_110 : BitVec 32 := 0#32
  let v172 : BitVec 1 := Scalar.cmpi .sgt c4_i32 c0_i32_110
  let v173 : BitVec 32 := Scalar.extui v172
  let c0_i32_111 : BitVec 32 := 0#32
  let v174 : BitVec 1 := Scalar.cmpi .slt c4_i32 c0_i32_111
  let v175 : BitVec 32 := Scalar.extui v174
  let v176 : BitVec 32 := Scalar.subi v173 v175
  let v177 : BitVec 1 := Scalar.cmpi .ne v171 v176
  let v178 : BitVec 32 := Scalar.remsi arg23 c4_i32
  let c0_i32_112 : BitVec 32 := 0#32
  let v179 : BitVec 1 := Scalar.cmpi .ne v178 c0_i32_112
  let v180 : BitVec 1 := Scalar.andi v177 v179
  let v166 : BitVec 32 := Scalar.divsi arg23 c4_i32
  let c1_i32_113 : BitVec 32 := 1#32
  let v181 : BitVec 32 := Scalar.subi v166 c1_i32_113
  let v182 : BitVec 32 := Scalar.select v180 v181 v166
  let v316 : Index := Scalar.indexCast v182
  let c6 : Index := 6#32
  let c0_152 : Index := 0#32
  ![v314.toNat, v315.toNat, v316.toNat, 6, 0]
def k0_off61 (v13 : BitVec 32) (k0_t4 : Fin (k0_t4_loop v13).trips) (k0_t5 : Fin k0_t5_loop.trips) : Fin 5 → Nat :=
  let c0_i32_19 : BitVec 32 := 0#32
  let v25 : BitVec 32 := Scalar.subi v13 c0_i32_19
  let c1_i32_21 : BitVec 32 := 1#32
  let v27 : BitVec 32 := Scalar.divsi v25 c1_i32_21
  let v28 : BitVec 32 := Scalar.muli v27 c1_i32_21
  let v29 : BitVec 32 := Scalar.addi c0_i32_19 v28
  let c1_i32_23 : BitVec 32 := 1#32
  let arg21 : BitVec 32 := Scf.iv v29 c1_i32_23 k0_t4
  let c2_i32 : BitVec 32 := 2#32
  let c0_i32_48 : BitVec 32 := 0#32
  let v59 : BitVec 1 := Scalar.cmpi .eq c2_i32 c0_i32_48
  let c1_i32_49 : BitVec 32 := 1#32
  let v60 : BitVec 32 := Scalar.select v59 c1_i32_49 c2_i32
  let v61 : BitVec 32 := Scalar.remsi arg21 v60
  let c0_i32_51 : BitVec 32 := 0#32
  let v63 : BitVec 1 := Scalar.cmpi .slt v61 c0_i32_51
  let c0_i32_52 : BitVec 32 := 0#32
  let v64 : BitVec 1 := Scalar.cmpi .slt v60 c0_i32_52
  let v65 : BitVec 1 := Scalar.xori v63 v64
  let c0_i32_50 : BitVec 32 := 0#32
  let v62 : BitVec 1 := Scalar.cmpi .ne v61 c0_i32_50
  let v66 : BitVec 1 := Scalar.andi v65 v62
  let v67 : BitVec 32 := Scalar.addi v61 v60
  let v68 : BitVec 32 := Scalar.select v66 v67 v61
  let v332 : Index := Scalar.indexCast v68
  let c0_i32_76 : BitVec 32 := 0#32
  let c1_i32_77 : BitVec 32 := 1#32
  let arg23 : BitVec 32 := Scf.iv c0_i32_76 c1_i32_77 k0_t5
  let c4_i32_114 : BitVec 32 := 4#32
  let c0_i32_115 : BitVec 32 := 0#32
  let v183 : BitVec 1 := Scalar.cmpi .eq c4_i32_114 c0_i32_115
  let c1_i32_116 : BitVec 32 := 1#32
  let v184 : BitVec 32 := Scalar.select v183 c1_i32_116 c4_i32_114
  let v185 : BitVec 32 := Scalar.remsi arg23 v184
  let c0_i32_118 : BitVec 32 := 0#32
  let v187 : BitVec 1 := Scalar.cmpi .slt v185 c0_i32_118
  let c0_i32_119 : BitVec 32 := 0#32
  let v188 : BitVec 1 := Scalar.cmpi .slt v184 c0_i32_119
  let v189 : BitVec 1 := Scalar.xori v187 v188
  let c0_i32_117 : BitVec 32 := 0#32
  let v186 : BitVec 1 := Scalar.cmpi .ne v185 c0_i32_117
  let v190 : BitVec 1 := Scalar.andi v189 v186
  let v191 : BitVec 32 := Scalar.addi v185 v184
  let v192 : BitVec 32 := Scalar.select v190 v191 v185
  let v333 : Index := Scalar.indexCast v192
  let c0_i32_108 : BitVec 32 := 0#32
  let v167 : BitVec 1 := Scalar.cmpi .sgt arg23 c0_i32_108
  let v168 : BitVec 32 := Scalar.extui v167
  let c0_i32_109 : BitVec 32 := 0#32
  let v169 : BitVec 1 := Scalar.cmpi .slt arg23 c0_i32_109
  let v170 : BitVec 32 := Scalar.extui v169
  let v171 : BitVec 32 := Scalar.subi v168 v170
  let c4_i32 : BitVec 32 := 4#32
  let c0_i32_110 : BitVec 32 := 0#32
  let v172 : BitVec 1 := Scalar.cmpi .sgt c4_i32 c0_i32_110
  let v173 : BitVec 32 := Scalar.extui v172
  let c0_i32_111 : BitVec 32 := 0#32
  let v174 : BitVec 1 := Scalar.cmpi .slt c4_i32 c0_i32_111
  let v175 : BitVec 32 := Scalar.extui v174
  let v176 : BitVec 32 := Scalar.subi v173 v175
  let v177 : BitVec 1 := Scalar.cmpi .ne v171 v176
  let v178 : BitVec 32 := Scalar.remsi arg23 c4_i32
  let c0_i32_112 : BitVec 32 := 0#32
  let v179 : BitVec 1 := Scalar.cmpi .ne v178 c0_i32_112
  let v180 : BitVec 1 := Scalar.andi v177 v179
  let v166 : BitVec 32 := Scalar.divsi arg23 c4_i32
  let c1_i32_113 : BitVec 32 := 1#32
  let v181 : BitVec 32 := Scalar.subi v166 c1_i32_113
  let v182 : BitVec 32 := Scalar.select v180 v181 v166
  let v334 : Index := Scalar.indexCast v182
  let c7 : Index := 7#32
  let c0_156 : Index := 0#32
  ![v332.toNat, v333.toNat, v334.toNat, 7, 0]

def k0_chk4_0 (v13 : BitVec 32) : Prop :=
  ((k0_t2_loop v13).OK) ∧
  (∀ k0_t2 : Fin (k0_t2_loop v13).trips, ∀ a, (k0_off6 v13 k0_t2) a + S1.size a ≤ S128.size a) ∧
  (∀ k0_t2 : Fin (k0_t2_loop v13).trips, ∀ (k0_h3 : k0_cond3 v13 k0_t2 = 1#1), ∀ a, (k0_off7 v13 k0_t2) a + S1.size a ≤ S128.size a) ∧
  (∀ k0_t2 : Fin (k0_t2_loop v13).trips, ∀ (k0_h3 : k0_cond3 v13 k0_t2 = 1#1), ∀ a, (k0_off8 v13 k0_t2) a + S1.size a ≤ S2.size a) ∧
  (∀ k0_t2 : Fin (k0_t2_loop v13).trips, ∀ (k0_h3 : k0_cond3 v13 k0_t2 = 1#1), ∀ a, (k0_off9 v13 k0_t2) a + S1x256x4096.size a ≤ S2x256x4096.size a) ∧
  (∀ k0_t2 : Fin (k0_t2_loop v13).trips, ∀ (k0_h3 : k0_cond3 v13 k0_t2 = 1#1), ∀ (hinb : ∀ a, (k0_off9 v13 k0_t2) a + S1x256x4096.size a ≤ S2x256x4096.size a), (Rect.unit (s := S2x256x4096) (k0_off9 v13 k0_t2) S1x256x4096.size hinb).WholeWords (EltTy.packing .i8)) ∧
  (∀ k0_t2 : Fin (k0_t2_loop v13).trips, ∀ (k0_h3 : k0_cond3 v13 k0_t2 = 1#1), ∀ a, (k0_off11 v13 k0_t2) a + S1.size a ≤ S128.size a) ∧
  (∀ k0_t2 : Fin (k0_t2_loop v13).trips, ∀ (k0_h3 : k0_cond3 v13 k0_t2 = 1#1), ∀ a, (k0_off12 v13 k0_t2) a + S1.size a ≤ S2.size a) ∧
  (∀ k0_t2 : Fin (k0_t2_loop v13).trips, ∀ (k0_h3 : k0_cond3 v13 k0_t2 = 1#1), ∀ a, (k0_off13 v13 k0_t2) a + S1x4x5x8x128.size a ≤ S2x4x5x8x128.size a) ∧
  (∀ k0_t2 : Fin (k0_t2_loop v13).trips, ∀ a, (k0_off15 v13 k0_t2) a + S1.size a ≤ S2.size a) ∧
  (∀ k0_t2 : Fin (k0_t2_loop v13).trips, ∀ a, (k0_off16 v13 k0_t2) a + S1x256x4096.size a ≤ S2x256x4096.size a) ∧
  (∀ k0_t2 : Fin (k0_t2_loop v13).trips, ∀ (hinb : ∀ a, (k0_off16 v13 k0_t2) a + S1x256x4096.size a ≤ S2x256x4096.size a), (Rect.unit (s := S2x256x4096) (k0_off16 v13 k0_t2) S1x256x4096.size hinb).WholeWords (EltTy.packing .i8)) ∧
  (∀ k0_t2 : Fin (k0_t2_loop v13).trips, ∀ a, (k0_off18 v13 k0_t2) a + S1.size a ≤ S2.size a) ∧
  (∀ k0_t2 : Fin (k0_t2_loop v13).trips, ∀ a, (k0_off19 v13 k0_t2) a + S1x4x5x8x128.size a ≤ S2x4x5x8x128.size a) ∧
  (∀ k0_t2 : Fin (k0_t2_loop v13).trips, ∀ a, (k0_off22 v13 k0_t2) a + S1x256x4096.size a ≤ S2x256x4096.size a) ∧
  (∀ (k0_t2 : Fin (k0_t2_loop v13).trips) (k0_t3 : Fin k0_t3_loop.trips), ∀ a, (k0_off25 v13 k0_t2 k0_t3) a + S1x1x1x1x128.size a ≤ S2x4x5x8x128.size a) ∧
  (∀ (k0_t2 : Fin (k0_t2_loop v13).trips) (k0_t3 : Fin k0_t3_loop.trips), ∀ a, (k0_off26 v13 k0_t2 k0_t3) a + S1x1x1x1x128.size a ≤ S2x4x5x8x128.size a) ∧
  (∀ (k0_t2 : Fin (k0_t2_loop v13).trips) (k0_t3 : Fin k0_t3_loop.trips), ∀ a, (k0_off27 v13 k0_t2 k0_t3) a + S1x1x1x1x128.size a ≤ S2x4x5x8x128.size a) ∧
  (∀ (k0_t2 : Fin (k0_t2_loop v13).trips) (k0_t3 : Fin k0_t3_loop.trips), ∀ a, (k0_off28 v13 k0_t2 k0_t3) a + S1x1x1x1x128.size a ≤ S2x4x5x8x128.size a) ∧
  (∀ (k0_t2 : Fin (k0_t2_loop v13).trips) (k0_t3 : Fin k0_t3_loop.trips), ∀ a, (k0_off29 v13 k0_t2 k0_t3) a + S1x1x1x1x128.size a ≤ S2x4x5x8x128.size a) ∧
  (∀ (k0_t2 : Fin (k0_t2_loop v13).trips) (k0_t3 : Fin k0_t3_loop.trips), ∀ a, (k0_off30 v13 k0_t2 k0_t3) a + S1x1x1x1x128.size a ≤ S2x4x5x8x128.size a) ∧
  (∀ (k0_t2 : Fin (k0_t2_loop v13).trips) (k0_t3 : Fin k0_t3_loop.trips), ∀ a, (k0_off31 v13 k0_t2 k0_t3) a + S1x1x1x1x128.size a ≤ S2x4x5x8x128.size a) ∧
  (∀ (k0_t2 : Fin (k0_t2_loop v13).trips) (k0_t3 : Fin k0_t3_loop.trips), ∀ a, (k0_off32 v13 k0_t2 k0_t3) a + S1x1x1x1x128.size a ≤ S2x4x5x8x128.size a) ∧
  ((k0_t4_loop v13).OK) ∧
  (∀ k0_t4 : Fin (k0_t4_loop v13).trips, ∀ a, (k0_off35 v13 k0_t4) a + S1.size a ≤ S128.size a) ∧
  (∀ k0_t4 : Fin (k0_t4_loop v13).trips, ∀ (k0_h4 : k0_cond4 v13 k0_t4 = 1#1), ∀ a, (k0_off36 v13 k0_t4) a + S1.size a ≤ S128.size a) ∧
  (∀ k0_t4 : Fin (k0_t4_loop v13).trips, ∀ (k0_h4 : k0_cond4 v13 k0_t4 = 1#1), ∀ a, (k0_off37 v13 k0_t4) a + S1.size a ≤ S2.size a) ∧
  (∀ k0_t4 : Fin (k0_t4_loop v13).trips, ∀ (k0_h4 : k0_cond4 v13 k0_t4 = 1#1), ∀ a, (k0_off38 v13 k0_t4) a + S1x256x4096.size a ≤ S2x256x4096.size a) ∧
  (∀ k0_t4 : Fin (k0_t4_loop v13).trips, ∀ (k0_h4 : k0_cond4 v13 k0_t4 = 1#1), ∀ (hinb : ∀ a, (k0_off38 v13 k0_t4) a + S1x256x4096.size a ≤ S2x256x4096.size a), (Rect.unit (s := S2x256x4096) (k0_off38 v13 k0_t4) S1x256x4096.size hinb).WholeWords (EltTy.packing .i8)) ∧
  (∀ k0_t4 : Fin (k0_t4_loop v13).trips, ∀ (k0_h4 : k0_cond4 v13 k0_t4 = 1#1), ∀ a, (k0_off40 v13 k0_t4) a + S1.size a ≤ S128.size a) ∧
  (∀ k0_t4 : Fin (k0_t4_loop v13).trips, ∀ (k0_h4 : k0_cond4 v13 k0_t4 = 1#1), ∀ a, (k0_off41 v13 k0_t4) a + S1.size a ≤ S2.size a) ∧
  (∀ k0_t4 : Fin (k0_t4_loop v13).trips, ∀ (k0_h4 : k0_cond4 v13 k0_t4 = 1#1), ∀ a, (k0_off42 v13 k0_t4) a + S1x4x5x8x128.size a ≤ S2x4x5x8x128.size a)
def k0_chk4_1 (v13 : BitVec 32) : Prop :=
  (∀ k0_t4 : Fin (k0_t4_loop v13).trips, ∀ a, (k0_off44 v13 k0_t4) a + S1.size a ≤ S2.size a) ∧
  (∀ k0_t4 : Fin (k0_t4_loop v13).trips, ∀ a, (k0_off45 v13 k0_t4) a + S1x256x4096.size a ≤ S2x256x4096.size a) ∧
  (∀ k0_t4 : Fin (k0_t4_loop v13).trips, ∀ (hinb : ∀ a, (k0_off45 v13 k0_t4) a + S1x256x4096.size a ≤ S2x256x4096.size a), (Rect.unit (s := S2x256x4096) (k0_off45 v13 k0_t4) S1x256x4096.size hinb).WholeWords (EltTy.packing .i8)) ∧
  (∀ k0_t4 : Fin (k0_t4_loop v13).trips, ∀ a, (k0_off47 v13 k0_t4) a + S1.size a ≤ S2.size a) ∧
  (∀ k0_t4 : Fin (k0_t4_loop v13).trips, ∀ a, (k0_off48 v13 k0_t4) a + S1x4x5x8x128.size a ≤ S2x4x5x8x128.size a) ∧
  (∀ k0_t4 : Fin (k0_t4_loop v13).trips, ∀ a, (k0_off51 v13 k0_t4) a + S1x256x4096.size a ≤ S2x256x4096.size a) ∧
  (∀ (k0_t4 : Fin (k0_t4_loop v13).trips) (k0_t5 : Fin k0_t5_loop.trips), ∀ a, (k0_off54 v13 k0_t4 k0_t5) a + S1x1x1x1x128.size a ≤ S2x4x5x8x128.size a) ∧
  (∀ (k0_t4 : Fin (k0_t4_loop v13).trips) (k0_t5 : Fin k0_t5_loop.trips), ∀ a, (k0_off55 v13 k0_t4 k0_t5) a + S1x1x1x1x128.size a ≤ S2x4x5x8x128.size a) ∧
  (∀ (k0_t4 : Fin (k0_t4_loop v13).trips) (k0_t5 : Fin k0_t5_loop.trips), ∀ a, (k0_off56 v13 k0_t4 k0_t5) a + S1x1x1x1x128.size a ≤ S2x4x5x8x128.size a) ∧
  (∀ (k0_t4 : Fin (k0_t4_loop v13).trips) (k0_t5 : Fin k0_t5_loop.trips), ∀ a, (k0_off57 v13 k0_t4 k0_t5) a + S1x1x1x1x128.size a ≤ S2x4x5x8x128.size a) ∧
  (∀ (k0_t4 : Fin (k0_t4_loop v13).trips) (k0_t5 : Fin k0_t5_loop.trips), ∀ a, (k0_off58 v13 k0_t4 k0_t5) a + S1x1x1x1x128.size a ≤ S2x4x5x8x128.size a) ∧
  (∀ (k0_t4 : Fin (k0_t4_loop v13).trips) (k0_t5 : Fin k0_t5_loop.trips), ∀ a, (k0_off59 v13 k0_t4 k0_t5) a + S1x1x1x1x128.size a ≤ S2x4x5x8x128.size a) ∧
  (∀ (k0_t4 : Fin (k0_t4_loop v13).trips) (k0_t5 : Fin k0_t5_loop.trips), ∀ a, (k0_off60 v13 k0_t4 k0_t5) a + S1x1x1x1x128.size a ≤ S2x4x5x8x128.size a) ∧
  (∀ (k0_t4 : Fin (k0_t4_loop v13).trips) (k0_t5 : Fin k0_t5_loop.trips), ∀ a, (k0_off61 v13 k0_t4 k0_t5) a + S1x1x1x1x128.size a ≤ S2x4x5x8x128.size a)
def k0_chk4 (v13 : BitVec 32) : Prop :=
  k0_chk4_0 v13 ∧
  k0_chk4_1 v13
theorem k0_t2_ok : ∀ (v13 : BitVec 32) (k0_hw4 : k0_chk4 v13), (k0_t2_loop v13).OK := fun v13 k0_hw4 => k0_hw4.1.1
theorem k0_off6_inb : ∀ (v13 : BitVec 32) (k0_hw4 : k0_chk4 v13) (k0_t2 : Fin (k0_t2_loop v13).trips), ∀ a, (k0_off6 v13 k0_t2) a + S1.size a ≤ S128.size a := fun v13 k0_hw4 k0_t2 => k0_hw4.1.2.1 k0_t2
theorem k0_off7_inb : ∀ (v13 : BitVec 32) (k0_hw4 : k0_chk4 v13) (k0_t2 : Fin (k0_t2_loop v13).trips), ∀ (k0_h3 : k0_cond3 v13 k0_t2 = 1#1), ∀ a, (k0_off7 v13 k0_t2) a + S1.size a ≤ S128.size a := fun v13 k0_hw4 k0_t2 k0_h3 => k0_hw4.1.2.2.1 k0_t2 k0_h3
theorem k0_off8_inb : ∀ (v13 : BitVec 32) (k0_hw4 : k0_chk4 v13) (k0_t2 : Fin (k0_t2_loop v13).trips), ∀ (k0_h3 : k0_cond3 v13 k0_t2 = 1#1), ∀ a, (k0_off8 v13 k0_t2) a + S1.size a ≤ S2.size a := fun v13 k0_hw4 k0_t2 k0_h3 => k0_hw4.1.2.2.2.1 k0_t2 k0_h3
theorem k0_off9_inb : ∀ (v13 : BitVec 32) (k0_hw4 : k0_chk4 v13) (k0_t2 : Fin (k0_t2_loop v13).trips), ∀ (k0_h3 : k0_cond3 v13 k0_t2 = 1#1), ∀ a, (k0_off9 v13 k0_t2) a + S1x256x4096.size a ≤ S2x256x4096.size a := fun v13 k0_hw4 k0_t2 k0_h3 => k0_hw4.1.2.2.2.2.1 k0_t2 k0_h3
theorem k0_off9_wordsi8 : ∀ (v13 : BitVec 32) (k0_hw4 : k0_chk4 v13) (k0_t2 : Fin (k0_t2_loop v13).trips), ∀ (k0_h3 : k0_cond3 v13 k0_t2 = 1#1), (Rect.unit (s := S2x256x4096) (k0_off9 v13 k0_t2) S1x256x4096.size (k0_off9_inb v13 k0_hw4 k0_t2 k0_h3)).WholeWords (EltTy.packing .i8) := fun v13 k0_hw4 k0_t2 k0_h3 => k0_hw4.1.2.2.2.2.2.1 k0_t2 k0_h3 (k0_off9_inb v13 k0_hw4 k0_t2 k0_h3)
theorem k0_off11_inb : ∀ (v13 : BitVec 32) (k0_hw4 : k0_chk4 v13) (k0_t2 : Fin (k0_t2_loop v13).trips), ∀ (k0_h3 : k0_cond3 v13 k0_t2 = 1#1), ∀ a, (k0_off11 v13 k0_t2) a + S1.size a ≤ S128.size a := fun v13 k0_hw4 k0_t2 k0_h3 => k0_hw4.1.2.2.2.2.2.2.1 k0_t2 k0_h3
theorem k0_off12_inb : ∀ (v13 : BitVec 32) (k0_hw4 : k0_chk4 v13) (k0_t2 : Fin (k0_t2_loop v13).trips), ∀ (k0_h3 : k0_cond3 v13 k0_t2 = 1#1), ∀ a, (k0_off12 v13 k0_t2) a + S1.size a ≤ S2.size a := fun v13 k0_hw4 k0_t2 k0_h3 => k0_hw4.1.2.2.2.2.2.2.2.1 k0_t2 k0_h3
theorem k0_off13_inb : ∀ (v13 : BitVec 32) (k0_hw4 : k0_chk4 v13) (k0_t2 : Fin (k0_t2_loop v13).trips), ∀ (k0_h3 : k0_cond3 v13 k0_t2 = 1#1), ∀ a, (k0_off13 v13 k0_t2) a + S1x4x5x8x128.size a ≤ S2x4x5x8x128.size a := fun v13 k0_hw4 k0_t2 k0_h3 => k0_hw4.1.2.2.2.2.2.2.2.2.1 k0_t2 k0_h3
theorem k0_off15_inb : ∀ (v13 : BitVec 32) (k0_hw4 : k0_chk4 v13) (k0_t2 : Fin (k0_t2_loop v13).trips), ∀ a, (k0_off15 v13 k0_t2) a + S1.size a ≤ S2.size a := fun v13 k0_hw4 k0_t2 => k0_hw4.1.2.2.2.2.2.2.2.2.2.1 k0_t2
theorem k0_off16_inb : ∀ (v13 : BitVec 32) (k0_hw4 : k0_chk4 v13) (k0_t2 : Fin (k0_t2_loop v13).trips), ∀ a, (k0_off16 v13 k0_t2) a + S1x256x4096.size a ≤ S2x256x4096.size a := fun v13 k0_hw4 k0_t2 => k0_hw4.1.2.2.2.2.2.2.2.2.2.2.1 k0_t2
theorem k0_off16_wordsi8 : ∀ (v13 : BitVec 32) (k0_hw4 : k0_chk4 v13) (k0_t2 : Fin (k0_t2_loop v13).trips), (Rect.unit (s := S2x256x4096) (k0_off16 v13 k0_t2) S1x256x4096.size (k0_off16_inb v13 k0_hw4 k0_t2)).WholeWords (EltTy.packing .i8) := fun v13 k0_hw4 k0_t2 => k0_hw4.1.2.2.2.2.2.2.2.2.2.2.2.1 k0_t2 (k0_off16_inb v13 k0_hw4 k0_t2)
theorem k0_off18_inb : ∀ (v13 : BitVec 32) (k0_hw4 : k0_chk4 v13) (k0_t2 : Fin (k0_t2_loop v13).trips), ∀ a, (k0_off18 v13 k0_t2) a + S1.size a ≤ S2.size a := fun v13 k0_hw4 k0_t2 => k0_hw4.1.2.2.2.2.2.2.2.2.2.2.2.2.1 k0_t2
theorem k0_off19_inb : ∀ (v13 : BitVec 32) (k0_hw4 : k0_chk4 v13) (k0_t2 : Fin (k0_t2_loop v13).trips), ∀ a, (k0_off19 v13 k0_t2) a + S1x4x5x8x128.size a ≤ S2x4x5x8x128.size a := fun v13 k0_hw4 k0_t2 => k0_hw4.1.2.2.2.2.2.2.2.2.2.2.2.2.2.1 k0_t2
theorem k0_off22_inb : ∀ (v13 : BitVec 32) (k0_hw4 : k0_chk4 v13) (k0_t2 : Fin (k0_t2_loop v13).trips), ∀ a, (k0_off22 v13 k0_t2) a + S1x256x4096.size a ≤ S2x256x4096.size a := fun v13 k0_hw4 k0_t2 => k0_hw4.1.2.2.2.2.2.2.2.2.2.2.2.2.2.2.1 k0_t2
theorem k0_off25_inb : ∀ (v13 : BitVec 32) (k0_hw4 : k0_chk4 v13) (k0_t2 : Fin (k0_t2_loop v13).trips) (k0_t3 : Fin k0_t3_loop.trips), ∀ a, (k0_off25 v13 k0_t2 k0_t3) a + S1x1x1x1x128.size a ≤ S2x4x5x8x128.size a := fun v13 k0_hw4 k0_t2 k0_t3 => k0_hw4.1.2.2.2.2.2.2.2.2.2.2.2.2.2.2.2.1 k0_t2 k0_t3
theorem k0_off26_inb : ∀ (v13 : BitVec 32) (k0_hw4 : k0_chk4 v13) (k0_t2 : Fin (k0_t2_loop v13).trips) (k0_t3 : Fin k0_t3_loop.trips), ∀ a, (k0_off26 v13 k0_t2 k0_t3) a + S1x1x1x1x128.size a ≤ S2x4x5x8x128.size a := fun v13 k0_hw4 k0_t2 k0_t3 => k0_hw4.1.2.2.2.2.2.2.2.2.2.2.2.2.2.2.2.2.1 k0_t2 k0_t3
theorem k0_off27_inb : ∀ (v13 : BitVec 32) (k0_hw4 : k0_chk4 v13) (k0_t2 : Fin (k0_t2_loop v13).trips) (k0_t3 : Fin k0_t3_loop.trips), ∀ a, (k0_off27 v13 k0_t2 k0_t3) a + S1x1x1x1x128.size a ≤ S2x4x5x8x128.size a := fun v13 k0_hw4 k0_t2 k0_t3 => k0_hw4.1.2.2.2.2.2.2.2.2.2.2.2.2.2.2.2.2.2.1 k0_t2 k0_t3
theorem k0_off28_inb : ∀ (v13 : BitVec 32) (k0_hw4 : k0_chk4 v13) (k0_t2 : Fin (k0_t2_loop v13).trips) (k0_t3 : Fin k0_t3_loop.trips), ∀ a, (k0_off28 v13 k0_t2 k0_t3) a + S1x1x1x1x128.size a ≤ S2x4x5x8x128.size a := fun v13 k0_hw4 k0_t2 k0_t3 => k0_hw4.1.2.2.2.2.2.2.2.2.2.2.2.2.2.2.2.2.2.2.1 k0_t2 k0_t3
theorem k0_off29_inb : ∀ (v13 : BitVec 32) (k0_hw4 : k0_chk4 v13) (k0_t2 : Fin (k0_t2_loop v13).trips) (k0_t3 : Fin k0_t3_loop.trips), ∀ a, (k0_off29 v13 k0_t2 k0_t3) a + S1x1x1x1x128.size a ≤ S2x4x5x8x128.size a := fun v13 k0_hw4 k0_t2 k0_t3 => k0_hw4.1.2.2.2.2.2.2.2.2.2.2.2.2.2.2.2.2.2.2.2.1 k0_t2 k0_t3
theorem k0_off30_inb : ∀ (v13 : BitVec 32) (k0_hw4 : k0_chk4 v13) (k0_t2 : Fin (k0_t2_loop v13).trips) (k0_t3 : Fin k0_t3_loop.trips), ∀ a, (k0_off30 v13 k0_t2 k0_t3) a + S1x1x1x1x128.size a ≤ S2x4x5x8x128.size a := fun v13 k0_hw4 k0_t2 k0_t3 => k0_hw4.1.2.2.2.2.2.2.2.2.2.2.2.2.2.2.2.2.2.2.2.2.1 k0_t2 k0_t3
theorem k0_off31_inb : ∀ (v13 : BitVec 32) (k0_hw4 : k0_chk4 v13) (k0_t2 : Fin (k0_t2_loop v13).trips) (k0_t3 : Fin k0_t3_loop.trips), ∀ a, (k0_off31 v13 k0_t2 k0_t3) a + S1x1x1x1x128.size a ≤ S2x4x5x8x128.size a := fun v13 k0_hw4 k0_t2 k0_t3 => k0_hw4.1.2.2.2.2.2.2.2.2.2.2.2.2.2.2.2.2.2.2.2.2.2.1 k0_t2 k0_t3
theorem k0_off32_inb : ∀ (v13 : BitVec 32) (k0_hw4 : k0_chk4 v13) (k0_t2 : Fin (k0_t2_loop v13).trips) (k0_t3 : Fin k0_t3_loop.trips), ∀ a, (k0_off32 v13 k0_t2 k0_t3) a + S1x1x1x1x128.size a ≤ S2x4x5x8x128.size a := fun v13 k0_hw4 k0_t2 k0_t3 => k0_hw4.1.2.2.2.2.2.2.2.2.2.2.2.2.2.2.2.2.2.2.2.2.2.2.1 k0_t2 k0_t3
theorem k0_t4_ok : ∀ (v13 : BitVec 32) (k0_hw4 : k0_chk4 v13), (k0_t4_loop v13).OK := fun v13 k0_hw4 => k0_hw4.1.2.2.2.2.2.2.2.2.2.2.2.2.2.2.2.2.2.2.2.2.2.2.2.1
theorem k0_off35_inb : ∀ (v13 : BitVec 32) (k0_hw4 : k0_chk4 v13) (k0_t4 : Fin (k0_t4_loop v13).trips), ∀ a, (k0_off35 v13 k0_t4) a + S1.size a ≤ S128.size a := fun v13 k0_hw4 k0_t4 => k0_hw4.1.2.2.2.2.2.2.2.2.2.2.2.2.2.2.2.2.2.2.2.2.2.2.2.2.1 k0_t4
theorem k0_off36_inb : ∀ (v13 : BitVec 32) (k0_hw4 : k0_chk4 v13) (k0_t4 : Fin (k0_t4_loop v13).trips), ∀ (k0_h4 : k0_cond4 v13 k0_t4 = 1#1), ∀ a, (k0_off36 v13 k0_t4) a + S1.size a ≤ S128.size a := fun v13 k0_hw4 k0_t4 k0_h4 => k0_hw4.1.2.2.2.2.2.2.2.2.2.2.2.2.2.2.2.2.2.2.2.2.2.2.2.2.2.1 k0_t4 k0_h4
theorem k0_off37_inb : ∀ (v13 : BitVec 32) (k0_hw4 : k0_chk4 v13) (k0_t4 : Fin (k0_t4_loop v13).trips), ∀ (k0_h4 : k0_cond4 v13 k0_t4 = 1#1), ∀ a, (k0_off37 v13 k0_t4) a + S1.size a ≤ S2.size a := fun v13 k0_hw4 k0_t4 k0_h4 => k0_hw4.1.2.2.2.2.2.2.2.2.2.2.2.2.2.2.2.2.2.2.2.2.2.2.2.2.2.2.1 k0_t4 k0_h4
theorem k0_off38_inb : ∀ (v13 : BitVec 32) (k0_hw4 : k0_chk4 v13) (k0_t4 : Fin (k0_t4_loop v13).trips), ∀ (k0_h4 : k0_cond4 v13 k0_t4 = 1#1), ∀ a, (k0_off38 v13 k0_t4) a + S1x256x4096.size a ≤ S2x256x4096.size a := fun v13 k0_hw4 k0_t4 k0_h4 => k0_hw4.1.2.2.2.2.2.2.2.2.2.2.2.2.2.2.2.2.2.2.2.2.2.2.2.2.2.2.2.1 k0_t4 k0_h4
theorem k0_off38_wordsi8 : ∀ (v13 : BitVec 32) (k0_hw4 : k0_chk4 v13) (k0_t4 : Fin (k0_t4_loop v13).trips), ∀ (k0_h4 : k0_cond4 v13 k0_t4 = 1#1), (Rect.unit (s := S2x256x4096) (k0_off38 v13 k0_t4) S1x256x4096.size (k0_off38_inb v13 k0_hw4 k0_t4 k0_h4)).WholeWords (EltTy.packing .i8) := fun v13 k0_hw4 k0_t4 k0_h4 => k0_hw4.1.2.2.2.2.2.2.2.2.2.2.2.2.2.2.2.2.2.2.2.2.2.2.2.2.2.2.2.2.1 k0_t4 k0_h4 (k0_off38_inb v13 k0_hw4 k0_t4 k0_h4)
theorem k0_off40_inb : ∀ (v13 : BitVec 32) (k0_hw4 : k0_chk4 v13) (k0_t4 : Fin (k0_t4_loop v13).trips), ∀ (k0_h4 : k0_cond4 v13 k0_t4 = 1#1), ∀ a, (k0_off40 v13 k0_t4) a + S1.size a ≤ S128.size a := fun v13 k0_hw4 k0_t4 k0_h4 => k0_hw4.1.2.2.2.2.2.2.2.2.2.2.2.2.2.2.2.2.2.2.2.2.2.2.2.2.2.2.2.2.2.1 k0_t4 k0_h4
theorem k0_off41_inb : ∀ (v13 : BitVec 32) (k0_hw4 : k0_chk4 v13) (k0_t4 : Fin (k0_t4_loop v13).trips), ∀ (k0_h4 : k0_cond4 v13 k0_t4 = 1#1), ∀ a, (k0_off41 v13 k0_t4) a + S1.size a ≤ S2.size a := fun v13 k0_hw4 k0_t4 k0_h4 => k0_hw4.1.2.2.2.2.2.2.2.2.2.2.2.2.2.2.2.2.2.2.2.2.2.2.2.2.2.2.2.2.2.2.1 k0_t4 k0_h4
theorem k0_off42_inb : ∀ (v13 : BitVec 32) (k0_hw4 : k0_chk4 v13) (k0_t4 : Fin (k0_t4_loop v13).trips), ∀ (k0_h4 : k0_cond4 v13 k0_t4 = 1#1), ∀ a, (k0_off42 v13 k0_t4) a + S1x4x5x8x128.size a ≤ S2x4x5x8x128.size a := fun v13 k0_hw4 k0_t4 k0_h4 => k0_hw4.1.2.2.2.2.2.2.2.2.2.2.2.2.2.2.2.2.2.2.2.2.2.2.2.2.2.2.2.2.2.2.2 k0_t4 k0_h4
theorem k0_off44_inb : ∀ (v13 : BitVec 32) (k0_hw4 : k0_chk4 v13) (k0_t4 : Fin (k0_t4_loop v13).trips), ∀ a, (k0_off44 v13 k0_t4) a + S1.size a ≤ S2.size a := fun v13 k0_hw4 k0_t4 => k0_hw4.2.1 k0_t4
theorem k0_off45_inb : ∀ (v13 : BitVec 32) (k0_hw4 : k0_chk4 v13) (k0_t4 : Fin (k0_t4_loop v13).trips), ∀ a, (k0_off45 v13 k0_t4) a + S1x256x4096.size a ≤ S2x256x4096.size a := fun v13 k0_hw4 k0_t4 => k0_hw4.2.2.1 k0_t4
theorem k0_off45_wordsi8 : ∀ (v13 : BitVec 32) (k0_hw4 : k0_chk4 v13) (k0_t4 : Fin (k0_t4_loop v13).trips), (Rect.unit (s := S2x256x4096) (k0_off45 v13 k0_t4) S1x256x4096.size (k0_off45_inb v13 k0_hw4 k0_t4)).WholeWords (EltTy.packing .i8) := fun v13 k0_hw4 k0_t4 => k0_hw4.2.2.2.1 k0_t4 (k0_off45_inb v13 k0_hw4 k0_t4)
theorem k0_off47_inb : ∀ (v13 : BitVec 32) (k0_hw4 : k0_chk4 v13) (k0_t4 : Fin (k0_t4_loop v13).trips), ∀ a, (k0_off47 v13 k0_t4) a + S1.size a ≤ S2.size a := fun v13 k0_hw4 k0_t4 => k0_hw4.2.2.2.2.1 k0_t4
theorem k0_off48_inb : ∀ (v13 : BitVec 32) (k0_hw4 : k0_chk4 v13) (k0_t4 : Fin (k0_t4_loop v13).trips), ∀ a, (k0_off48 v13 k0_t4) a + S1x4x5x8x128.size a ≤ S2x4x5x8x128.size a := fun v13 k0_hw4 k0_t4 => k0_hw4.2.2.2.2.2.1 k0_t4
theorem k0_off51_inb : ∀ (v13 : BitVec 32) (k0_hw4 : k0_chk4 v13) (k0_t4 : Fin (k0_t4_loop v13).trips), ∀ a, (k0_off51 v13 k0_t4) a + S1x256x4096.size a ≤ S2x256x4096.size a := fun v13 k0_hw4 k0_t4 => k0_hw4.2.2.2.2.2.2.1 k0_t4
theorem k0_off54_inb : ∀ (v13 : BitVec 32) (k0_hw4 : k0_chk4 v13) (k0_t4 : Fin (k0_t4_loop v13).trips) (k0_t5 : Fin k0_t5_loop.trips), ∀ a, (k0_off54 v13 k0_t4 k0_t5) a + S1x1x1x1x128.size a ≤ S2x4x5x8x128.size a := fun v13 k0_hw4 k0_t4 k0_t5 => k0_hw4.2.2.2.2.2.2.2.1 k0_t4 k0_t5
theorem k0_off55_inb : ∀ (v13 : BitVec 32) (k0_hw4 : k0_chk4 v13) (k0_t4 : Fin (k0_t4_loop v13).trips) (k0_t5 : Fin k0_t5_loop.trips), ∀ a, (k0_off55 v13 k0_t4 k0_t5) a + S1x1x1x1x128.size a ≤ S2x4x5x8x128.size a := fun v13 k0_hw4 k0_t4 k0_t5 => k0_hw4.2.2.2.2.2.2.2.2.1 k0_t4 k0_t5
theorem k0_off56_inb : ∀ (v13 : BitVec 32) (k0_hw4 : k0_chk4 v13) (k0_t4 : Fin (k0_t4_loop v13).trips) (k0_t5 : Fin k0_t5_loop.trips), ∀ a, (k0_off56 v13 k0_t4 k0_t5) a + S1x1x1x1x128.size a ≤ S2x4x5x8x128.size a := fun v13 k0_hw4 k0_t4 k0_t5 => k0_hw4.2.2.2.2.2.2.2.2.2.1 k0_t4 k0_t5
theorem k0_off57_inb : ∀ (v13 : BitVec 32) (k0_hw4 : k0_chk4 v13) (k0_t4 : Fin (k0_t4_loop v13).trips) (k0_t5 : Fin k0_t5_loop.trips), ∀ a, (k0_off57 v13 k0_t4 k0_t5) a + S1x1x1x1x128.size a ≤ S2x4x5x8x128.size a := fun v13 k0_hw4 k0_t4 k0_t5 => k0_hw4.2.2.2.2.2.2.2.2.2.2.1 k0_t4 k0_t5
theorem k0_off58_inb : ∀ (v13 : BitVec 32) (k0_hw4 : k0_chk4 v13) (k0_t4 : Fin (k0_t4_loop v13).trips) (k0_t5 : Fin k0_t5_loop.trips), ∀ a, (k0_off58 v13 k0_t4 k0_t5) a + S1x1x1x1x128.size a ≤ S2x4x5x8x128.size a := fun v13 k0_hw4 k0_t4 k0_t5 => k0_hw4.2.2.2.2.2.2.2.2.2.2.2.1 k0_t4 k0_t5
theorem k0_off59_inb : ∀ (v13 : BitVec 32) (k0_hw4 : k0_chk4 v13) (k0_t4 : Fin (k0_t4_loop v13).trips) (k0_t5 : Fin k0_t5_loop.trips), ∀ a, (k0_off59 v13 k0_t4 k0_t5) a + S1x1x1x1x128.size a ≤ S2x4x5x8x128.size a := fun v13 k0_hw4 k0_t4 k0_t5 => k0_hw4.2.2.2.2.2.2.2.2.2.2.2.2.1 k0_t4 k0_t5
theorem k0_off60_inb : ∀ (v13 : BitVec 32) (k0_hw4 : k0_chk4 v13) (k0_t4 : Fin (k0_t4_loop v13).trips) (k0_t5 : Fin k0_t5_loop.trips), ∀ a, (k0_off60 v13 k0_t4 k0_t5) a + S1x1x1x1x128.size a ≤ S2x4x5x8x128.size a := fun v13 k0_hw4 k0_t4 k0_t5 => k0_hw4.2.2.2.2.2.2.2.2.2.2.2.2.2.1 k0_t4 k0_t5
theorem k0_off61_inb : ∀ (v13 : BitVec 32) (k0_hw4 : k0_chk4 v13) (k0_t4 : Fin (k0_t4_loop v13).trips) (k0_t5 : Fin k0_t5_loop.trips), ∀ a, (k0_off61 v13 k0_t4 k0_t5) a + S1x1x1x1x128.size a ≤ S2x4x5x8x128.size a := fun v13 k0_hw4 k0_t4 k0_t5 => k0_hw4.2.2.2.2.2.2.2.2.2.2.2.2.2.2 k0_t4 k0_t5

def k0_off62 (k0_t5 : Fin k0_t5_loop.trips) : Fin 2 → Nat :=
  let c0_i32_76 : BitVec 32 := 0#32
  let c1_i32_77 : BitVec 32 := 1#32
  let arg23 : BitVec 32 := Scf.iv c0_i32_76 c1_i32_77 k0_t5
  let v446 : Index := Scalar.indexCast arg23
  let c0_174 : Index := 0#32
  ![v446.toNat, 0]
def k0_off63 (v70 : BitVec 32) : Fin 3 → Nat :=
  let c0_i32_80 : BitVec 32 := 0#32
  let v112 : BitVec 1 := Scalar.cmpi .sgt v70 c0_i32_80
  let v113 : BitVec 32 := Scalar.extui v112
  let c0_i32_81 : BitVec 32 := 0#32
  let v114 : BitVec 1 := Scalar.cmpi .slt v70 c0_i32_81
  let v115 : BitVec 32 := Scalar.extui v114
  let v116 : BitVec 32 := Scalar.subi v113 v115
  let c2_i32_79 : BitVec 32 := 2#32
  let c0_i32_82 : BitVec 32 := 0#32
  let v117 : BitVec 1 := Scalar.cmpi .sgt c2_i32_79 c0_i32_82
  let v118 : BitVec 32 := Scalar.extui v117
  let c0_i32_83 : BitVec 32 := 0#32
  let v119 : BitVec 1 := Scalar.cmpi .slt c2_i32_79 c0_i32_83
  let v120 : BitVec 32 := Scalar.extui v119
  let v121 : BitVec 32 := Scalar.subi v118 v120
  let v122 : BitVec 1 := Scalar.cmpi .ne v116 v121
  let v123 : BitVec 32 := Scalar.remsi v70 c2_i32_79
  let c0_i32_84 : BitVec 32 := 0#32
  let v124 : BitVec 1 := Scalar.cmpi .ne v123 c0_i32_84
  let v125 : BitVec 1 := Scalar.andi v122 v124
  let v111 : BitVec 32 := Scalar.divsi v70 c2_i32_79
  let c1_i32_85 : BitVec 32 := 1#32
  let v126 : BitVec 32 := Scalar.subi v111 c1_i32_85
  let v127 : BitVec 32 := Scalar.select v125 v126 v111
  let v128 : Index := Scalar.indexCast v127
  let c0_86 : Index := 0#32
  let c0_87 : Index := 0#32
  ![v128.toNat, 0, 0]

def k0_chk10 (v70 : BitVec 32) : Prop :=
  (∀ a, (k0_off46 v70) a + S256x4096.size a ≤ S32000x4096.size a) ∧
  (∀ (hinb : ∀ a, (k0_off46 v70) a + S256x4096.size a ≤ S32000x4096.size a), (Rect.unit (s := S32000x4096) (k0_off46 v70) S256x4096.size hinb).WholeWords (EltTy.packing .i8)) ∧
  (∀ a, (k0_off49 v70) a + S4x1x5x8x128.size a ≤ S4x125x5x8x128.size a) ∧
  (∀ (r : Fin 2), ∀ a, (k0_off50 v70 (BitVec.ofNat 32 r.val)) a + S1x128.size a ≤ S250x128.size a) ∧
  (∀ a, (k0_off63 v70) a + S1x24x128.size a ≤ S63x24x128.size a)
theorem k0_off46_inb : ∀ (v70 : BitVec 32) (k0_hw10 : k0_chk10 v70), ∀ a, (k0_off46 v70) a + S256x4096.size a ≤ S32000x4096.size a := fun v70 k0_hw10 => k0_hw10.1
theorem k0_off46_wordsi8 : ∀ (v70 : BitVec 32) (k0_hw10 : k0_chk10 v70), (Rect.unit (s := S32000x4096) (k0_off46 v70) S256x4096.size (k0_off46_inb v70 k0_hw10)).WholeWords (EltTy.packing .i8) := fun v70 k0_hw10 => k0_hw10.2.1 (k0_off46_inb v70 k0_hw10)
theorem k0_off49_inb : ∀ (v70 : BitVec 32) (k0_hw10 : k0_chk10 v70), ∀ a, (k0_off49 v70) a + S4x1x5x8x128.size a ≤ S4x125x5x8x128.size a := fun v70 k0_hw10 => k0_hw10.2.2.1
theorem k0_off50_inb : ∀ (v70 : BitVec 32) (k0_hw10 : k0_chk10 v70), ∀ (r : Fin 2), ∀ a, (k0_off50 v70 (BitVec.ofNat 32 r.val)) a + S1x128.size a ≤ S250x128.size a := fun v70 k0_hw10 r => k0_hw10.2.2.2.1 r
theorem k0_off63_inb : ∀ (v70 : BitVec 32) (k0_hw10 : k0_chk10 v70), ∀ a, (k0_off63 v70) a + S1x24x128.size a ≤ S63x24x128.size a := fun v70 k0_hw10 => k0_hw10.2.2.2.2

@[reducible] def k0_t6_loop : Scf.Loop 32 :=
  let c0_i32_25 : BitVec 32 := 0#32
  let c63_i32 : BitVec 32 := 63#32
  let v33 : BitVec 32 := Scalar.addi c0_i32_25 c63_i32
  let c1_i32_26 : BitVec 32 := 1#32
  ⟨c0_i32_25, v33, c1_i32_26⟩
def k0_off64 (k0_t6 : Fin k0_t6_loop.trips) : Fin 3 → Nat :=
  let c0_i32_25 : BitVec 32 := 0#32
  let c1_i32_26 : BitVec 32 := 1#32
  let arg21 : BitVec 32 := Scf.iv c0_i32_25 c1_i32_26 k0_t6
  let v59 : Index := Scalar.indexCast arg21
  let c0_48 : Index := 0#32
  let c0_49 : Index := 0#32
  ![v59.toNat, 0, 0]
@[reducible] def k0_t7_loop : Scf.Loop 32 :=
  let c0_i32_29 : BitVec 32 := 0#32
  let c63_i32_30 : BitVec 32 := 63#32
  let v36 : BitVec 32 := Scalar.addi c0_i32_29 c63_i32_30
  let c1_i32_31 : BitVec 32 := 1#32
  ⟨c0_i32_29, v36, c1_i32_31⟩
def k0_off65 (k0_t7 : Fin k0_t7_loop.trips) : Fin 3 → Nat :=
  let c0_i32_29 : BitVec 32 := 0#32
  let c1_i32_31 : BitVec 32 := 1#32
  let arg21 : BitVec 32 := Scf.iv c0_i32_29 c1_i32_31 k0_t7
  let v59 : Index := Scalar.indexCast arg21
  let c0_48 : Index := 0#32
  let c0_49 : Index := 0#32
  ![v59.toNat, 0, 0]
def k0_off66 (k0_t7 : Fin k0_t7_loop.trips) : Fin 4 → Nat :=
  let c0_i32_29 : BitVec 32 := 0#32
  let c1_i32_31 : BitVec 32 := 1#32
  let arg21 : BitVec 32 := Scf.iv c0_i32_29 c1_i32_31 k0_t7
  let v79 : Index := Scalar.indexCast arg21
  let c0_57 : Index := 0#32
  let c0_58 : Index := 0#32
  let c0_59 : Index := 0#32
  ![v79.toNat, 0, 0, 0]
abbrev stage0_0 : Fin 1 → Memref sig .tc .smem S1x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x4096x128 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S250x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5x4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S63x5x4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S1x128 : Shape := ⟨2, ![1, 128]⟩
abbrev S20x4096x128 : Shape := ⟨3, ![20, 4096, 128]⟩
abbrev S5x4x128 : Shape := ⟨3, ![5, 4, 128]⟩
abbrev S640x4 : Shape := ⟨2, ![640, 4]⟩
abbrev S32000 : Shape := ⟨1, ![32000]⟩
abbrev S32000x4096 : Shape := ⟨2, ![32000, 4096]⟩
abbrev S640x4x1000 : Shape := ⟨3, ![640, 4, 1000]⟩
abbrev S5x4x4096x128 : Shape := ⟨4, ![5, 4, 4096, 128]⟩
abbrev S5x128x4x4096 : Shape := ⟨4, ![5, 128, 4, 4096]⟩
abbrev S2560x4096 : Shape := ⟨2, ![2560, 4096]⟩
abbrev S5x128x4 : Shape := ⟨3, ![5, 128, 4]⟩
abbrev S2560 : Shape := ⟨1, ![2560]⟩
abbrev S2560x32000 : Shape := ⟨2, ![2560, 32000]⟩
abbrev S2560x1 : Shape := ⟨2, ![2560, 1]⟩
abbrev S1x32000 : Shape := ⟨2, ![1, 32000]⟩
abbrev S2560x1000 : Shape := ⟨2, ![2560, 1000]⟩
abbrev S2560x1000x1 : Shape := ⟨3, ![2560, 1000, 1]⟩
abbrev S32 : Shape := ⟨1, ![32]⟩
abbrev S1x1x32 : Shape := ⟨3, ![1, 1, 32]⟩
abbrev S2560x1000x32 : Shape := ⟨3, ![2560, 1000, 32]⟩
abbrev S_ : Shape := ⟨0, ![]⟩
abbrev S2560x31744 : Shape := ⟨2, ![2560, 31744]⟩
abbrev S2560x62x512 : Shape := ⟨3, ![2560, 62, 512]⟩
abbrev S2560x62 : Shape := ⟨2, ![2560, 62]⟩
abbrev S2560x62x1 : Shape := ⟨3, ![2560, 62, 1]⟩
abbrev S2560x256 : Shape := ⟨2, ![2560, 256]⟩
abbrev S2560x1x256 : Shape := ⟨3, ![2560, 1, 256]⟩
abbrev S2560x1x1 : Shape := ⟨3, ![2560, 1, 1]⟩
abbrev S2560x63 : Shape := ⟨2, ![2560, 63]⟩
abbrev S5x128x4x63 : Shape := ⟨4, ![5, 128, 4, 63]⟩
abbrev S63x5x4x128 : Shape := ⟨4, ![63, 5, 4, 128]⟩

abbrev nBuf : Space → Nat
  | .hbm => 99
  | .vmem => 0
  | .smem => 0
  | _ => 0

abbrev bufTy : (tb : Table) → Fin (tcTables nBuf tb) → BufTy
  | .hbm, ⟨0, _⟩ => ⟨S1x128, .i32⟩
  | .hbm, ⟨1, _⟩ => ⟨S20x4096x128, .i8⟩
  | .hbm, ⟨2, _⟩ => ⟨S5x4x128, .f32⟩
  | .hbm, ⟨3, _⟩ => ⟨S640x4, .i32⟩
  | .hbm, ⟨4, _⟩ => ⟨S32000, .f32⟩
  | .hbm, ⟨5, _⟩ => ⟨S32000x4096, .i8⟩
  | .hbm, ⟨6, _⟩ => ⟨S640x4x1000, .i32⟩
  | .hbm, ⟨7, _⟩ => ⟨S5x4x4096x128, .i8⟩
  | .hbm, ⟨8, _⟩ => ⟨S5x128x4x4096, .i8⟩
  | .hbm, ⟨9, _⟩ => ⟨S2560x4096, .i8⟩
  | .hbm, ⟨10, _⟩ => ⟨S5x128x4, .f32⟩
  | .hbm, ⟨11, _⟩ => ⟨S2560, .f32⟩
  | .hbm, ⟨12, _⟩ => ⟨S2560x4096, .i32⟩
  | .hbm, ⟨13, _⟩ => ⟨S2560x4096, .f32⟩
  | .hbm, ⟨14, _⟩ => ⟨S32000x4096, .i32⟩
  | .hbm, ⟨15, _⟩ => ⟨S32000x4096, .f32⟩
  | .hbm, ⟨16, _⟩ => ⟨S2560x32000, .f32⟩
  | .hbm, ⟨17, _⟩ => ⟨S2560x1, .f32⟩
  | .hbm, ⟨18, _⟩ => ⟨S2560x32000, .f32⟩
  | .hbm, ⟨19, _⟩ => ⟨S2560x32000, .f32⟩
  | .hbm, ⟨20, _⟩ => ⟨S1x32000, .f32⟩
  | .hbm, ⟨21, _⟩ => ⟨S2560x32000, .f32⟩
  | .hbm, ⟨22, _⟩ => ⟨S2560x32000, .f32⟩
  | .hbm, ⟨23, _⟩ => ⟨S2560x1000, .i32⟩
  | .hbm, ⟨24, _⟩ => ⟨S2560x1000x1, .i32⟩
  | .hbm, ⟨25, _⟩ => ⟨S32, .i32⟩
  | .hbm, ⟨26, _⟩ => ⟨S1x1x32, .i32⟩
  | .hbm, ⟨27, _⟩ => ⟨S2560x1000x32, .i32⟩
  | .hbm, ⟨28, _⟩ => ⟨S2560x1000x32, .i32⟩
  | .hbm, ⟨29, _⟩ => ⟨S2560x1000x32, .i32⟩
  | .hbm, ⟨30, _⟩ => ⟨S_, .i32⟩
  | .hbm, ⟨31, _⟩ => ⟨S2560x1000x32, .i32⟩
  | .hbm, ⟨32, _⟩ => ⟨S2560x1000x32, .i32⟩
  | .hbm, ⟨33, _⟩ => ⟨S2560x32000, .i32⟩
  | .hbm, ⟨34, _⟩ => ⟨S_, .i32⟩
  | .hbm, ⟨35, _⟩ => ⟨S2560x32000, .i32⟩
  | .hbm, ⟨36, _⟩ => ⟨S2560x32000, .i1⟩
  | .hbm, ⟨37, _⟩ => ⟨S_, .f32⟩
  | .hbm, ⟨38, _⟩ => ⟨S_, .f32⟩
  | .hbm, ⟨39, _⟩ => ⟨S2560x32000, .f32⟩
  | .hbm, ⟨40, _⟩ => ⟨S2560x32000, .f32⟩
  | .hbm, ⟨41, _⟩ => ⟨S2560x31744, .f32⟩
  | .hbm, ⟨42, _⟩ => ⟨S2560x62x512, .f32⟩
  | .hbm, ⟨43, _⟩ => ⟨S_, .f32⟩
  | .hbm, ⟨44, _⟩ => ⟨S2560x62, .f32⟩
  | .hbm, ⟨45, _⟩ => ⟨S_, .f32⟩
  | .hbm, ⟨46, _⟩ => ⟨S2560x62, .f32⟩
  | .hbm, ⟨47, _⟩ => ⟨S2560x62, .i1⟩
  | .hbm, ⟨48, _⟩ => ⟨S_, .f32⟩
  | .hbm, ⟨49, _⟩ => ⟨S_, .f32⟩
  | .hbm, ⟨50, _⟩ => ⟨S2560x62, .f32⟩
  | .hbm, ⟨51, _⟩ => ⟨S2560x62, .f32⟩
  | .hbm, ⟨52, _⟩ => ⟨S2560x62x1, .f32⟩
  | .hbm, ⟨53, _⟩ => ⟨S2560x62x512, .f32⟩
  | .hbm, ⟨54, _⟩ => ⟨S2560x62x512, .f32⟩
  | .hbm, ⟨55, _⟩ => ⟨S2560x62x512, .f32⟩
  | .hbm, ⟨56, _⟩ => ⟨S_, .f32⟩
  | .hbm, ⟨57, _⟩ => ⟨S2560x62, .f32⟩
  | .hbm, ⟨58, _⟩ => ⟨S2560x62, .f32⟩
  | .hbm, ⟨59, _⟩ => ⟨S2560x62, .f32⟩
  | .hbm, ⟨60, _⟩ => ⟨S2560x256, .f32⟩
  | .hbm, ⟨61, _⟩ => ⟨S2560x1x256, .f32⟩
  | .hbm, ⟨62, _⟩ => ⟨S_, .f32⟩
  | .hbm, ⟨63, _⟩ => ⟨S2560x1, .f32⟩
  | .hbm, ⟨64, _⟩ => ⟨S_, .f32⟩
  | .hbm, ⟨65, _⟩ => ⟨S2560x1, .f32⟩
  | .hbm, ⟨66, _⟩ => ⟨S2560x1, .i1⟩
  | .hbm, ⟨67, _⟩ => ⟨S_, .f32⟩
  | .hbm, ⟨68, _⟩ => ⟨S_, .f32⟩
  | .hbm, ⟨69, _⟩ => ⟨S2560x1, .f32⟩
  | .hbm, ⟨70, _⟩ => ⟨S2560x1, .f32⟩
  | .hbm, ⟨71, _⟩ => ⟨S2560x1x1, .f32⟩
  | .hbm, ⟨72, _⟩ => ⟨S2560x1x256, .f32⟩
  | .hbm, ⟨73, _⟩ => ⟨S2560x1x256, .f32⟩
  | .hbm, ⟨74, _⟩ => ⟨S2560x1x256, .f32⟩
  | .hbm, ⟨75, _⟩ => ⟨S_, .f32⟩
  | .hbm, ⟨76, _⟩ => ⟨S2560x1, .f32⟩
  | .hbm, ⟨77, _⟩ => ⟨S2560x1, .f32⟩
  | .hbm, ⟨78, _⟩ => ⟨S2560x1, .f32⟩
  | .hbm, ⟨79, _⟩ => ⟨S2560x63, .f32⟩
  | .hbm, ⟨80, _⟩ => ⟨S2560x63, .i1⟩
  | .hbm, ⟨81, _⟩ => ⟨S_, .f32⟩
  | .hbm, ⟨82, _⟩ => ⟨S2560, .f32⟩
  | .hbm, ⟨83, _⟩ => ⟨S2560x1, .f32⟩
  | .hbm, ⟨84, _⟩ => ⟨S2560x63, .f32⟩
  | .hbm, ⟨85, _⟩ => ⟨S2560x63, .f32⟩
  | .hbm, ⟨86, _⟩ => ⟨S2560x63, .f32⟩
  | .hbm, ⟨87, _⟩ => ⟨S_, .f32⟩
  | .hbm, ⟨88, _⟩ => ⟨S2560, .f32⟩
  | .hbm, ⟨89, _⟩ => ⟨S2560, .f32⟩
  | .hbm, ⟨90, _⟩ => ⟨S2560, .f32⟩
  | .hbm, ⟨91, _⟩ => ⟨S_, .f32⟩
  | .hbm, ⟨92, _⟩ => ⟨S_, .f32⟩
  | .hbm, ⟨93, _⟩ => ⟨S2560x63, .f32⟩
  | .hbm, ⟨94, _⟩ => ⟨S2560x63, .f32⟩
  | .hbm, ⟨95, _⟩ => ⟨S5x128x4, .f32⟩
  | .hbm, ⟨96, _⟩ => ⟨S5x4x128, .f32⟩
  | .hbm, ⟨97, _⟩ => ⟨S5x128x4x63, .f32⟩
  | .hbm, ⟨98, _⟩ => ⟨S63x5x4x128, .f32⟩
  | _, _ => ⟨S1x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_0 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_call0_v0 : Ref sig .tc := ⟨.hbm, 38, rfl⟩
abbrev main_call0_v1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_call1_v0 : Ref sig .tc := ⟨.hbm, 49, rfl⟩
abbrev main_call1_v1 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_5 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_call2_v0 : Ref sig .tc := ⟨.hbm, 68, rfl⟩
abbrev main_call2_v1 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_10 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_call3_v0 : Ref sig .tc := ⟨.hbm, 92, rfl⟩
abbrev main_call3_v1 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]
-- ==== Proof.KScoreChain.lean ====
/-
  The score kernel's addresses in closed form.

  The kernel counts the active vocabulary units into a word `v`, then runs `v` trips; trip `k` works in slot `k % 2`
  of two double buffers (a weight block and a mask block), each slot with its own DMA semaphore, and issues the
  copies of the next unit into the other slot. This module states every offset of that loop as a plain vector, names
  the slices (`wblk`, `mblk`, `wslot`, `mslot`, `wcs`, `mcs`), and proves the bounds the body checks.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Ring
public import Idealize.ShloMosaic.Lib.Affine
public import Idealize.ShloMosaic.Lib.Tactic
public import Idealize.ShloMosaic.Lib.Decide

@[expose] public section

noncomputable section

namespace Cert.Proof.Score

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The buffers -/

abbrev wM : Memref sig .tc .hbm S32000x4096 .i8 := Memref.whole main_arg5
abbrev mM : Memref sig .tc .hbm S4x125x5x8x128 .i32 := Memref.whole main_v2
abbrev wB : Memref sig .tc .vmem S2x256x4096 .i8 := Memref.whole cc0_scratch0
abbrev mB : Memref sig .tc .vmem S2x4x5x8x128 .i32 := Memref.whole cc0_scratch1
abbrev wsB : Memref sig .tc .vmem S256x128 .f32 := Memref.whole cc0_scratch2
abbrev bmB : Memref sig .tc .vmem S63x24x128 .f32 := Memref.whole cc0_scratch3
abbrev bsB : Memref sig .tc .vmem S63x24x128 .f32 := Memref.whole cc0_scratch4
abbrev tlB : Memref sig .tc .vmem S24x128 .f32 := Memref.whole cc0_scratch5
abbrev umB : Memref sig .tc .vmem S24x128 .f32 := Memref.whole cc0_scratch6
abbrev usB : Memref sig .tc .vmem S24x128 .f32 := Memref.whole cc0_scratch7
abbrev ulB : Memref sig .tc .smem S128 .i32 := Memref.whole cc0_scratch8

/-! ## Canonical offsets: unit `u` of the weights and of the mask, slot `s` of each buffer, its semaphore -/

abbrev wOff (u : Fin 125) : Fin 2 → Nat := ![256 * u.val, 0]
theorem wOff_inb : ∀ (u : Fin 125) (a), wOff u a + S256x4096.size a ≤ S32000x4096.size a := by decide +kernel
abbrev mOff (u : Fin 125) : Fin 5 → Nat := ![0, u.val, 0, 0, 0]
theorem mOff_inb : ∀ (u : Fin 125) (a), mOff u a + S4x1x5x8x128.size a ≤ S4x125x5x8x128.size a := by decide +kernel
abbrev wsOff (s : Fin 2) : Fin 3 → Nat := ![s.val, 0, 0]
theorem wsOff_inb : ∀ (s : Fin 2) (a), wsOff s a + S1x256x4096.size a ≤ S2x256x4096.size a := by decide +kernel
abbrev msOff (s : Fin 2) : Fin 5 → Nat := ![s.val, 0, 0, 0, 0]
theorem msOff_inb : ∀ (s : Fin 2) (a), msOff s a + S1x4x5x8x128.size a ≤ S2x4x5x8x128.size a := by decide +kernel
abbrev cOff (s : Fin 2) : Fin 1 → Nat := ![s.val]
theorem cOff_inb : ∀ (s : Fin 2) (a), cOff s a + S1.size a ≤ S2.size a := by decide +kernel

/-- Unit `u` of the weights: 256 rows. -/
def wblk (u : Fin 125) : Memref sig .tc .hbm S256x4096 .i8 :=
  wM.slice (Rect.unit (s := S32000x4096) (wOff u) S256x4096.size (wOff_inb u)) (fun _ => rfl)
/-- Unit `u` of the mask. -/
def mblk (u : Fin 125) : Memref sig .tc .hbm S4x5x8x128 .i32 :=
  (mM.slice (Rect.unit (s := S4x125x5x8x128) (mOff u) S4x1x5x8x128.size (mOff_inb u)) (fun _ => rfl)).squeeze S4x5x8x128 squeezes_S4x1x5x8x128_S4x5x8x128
/-- Slot `s` of the weight buffer. -/
def wslot (s : Fin 2) : Memref sig .tc .vmem S256x4096 .i8 :=
  (wB.slice (Rect.unit (s := S2x256x4096) (wsOff s) S1x256x4096.size (wsOff_inb s)) (fun _ => rfl)).squeeze S256x4096 squeezes_S1x256x4096_S256x4096
/-- Slot `s` of the mask buffer. -/
def mslot (s : Fin 2) : Memref sig .tc .vmem S4x5x8x128 .i32 :=
  (mB.slice (Rect.unit (s := S2x4x5x8x128) (msOff s) S1x4x5x8x128.size (msOff_inb s)) (fun _ => rfl)).squeeze S4x5x8x128 squeezes_S1x4x5x8x128_S4x5x8x128
/-- The semaphores of slot `s`. -/
def wcs (s : Fin 2) : DmaSems sig S_ := (cc0_scratch9.slice (Rect.unit (s := S2) (cOff s) S1.size (cOff_inb s))).squeeze S_ squeezes_S1_S_
def mcs (s : Fin 2) : DmaSems sig S_ := (cc0_scratch10.slice (Rect.unit (s := S2) (cOff s) S1.size (cOff_inb s))).squeeze S_ squeezes_S1_S_

instance (s : Fin 2) : ClosedOff (wsOff s) := ⟨wsOff s, rfl⟩
instance (s : Fin 2) : ClosedOff (msOff s) := ⟨msOff s, rfl⟩
instance (s : Fin 2) : ClosedOff (cOff s) := ⟨cOff s, rfl⟩
instance (u : Fin 125) : ClosedOff (wOff u) := ⟨wOff u, rfl⟩
instance (u : Fin 125) : ClosedOff (mOff u) := ⟨mOff u, rfl⟩

theorem wBlock_words : ∀ u : Fin 125, (Rect.unit (s := S32000x4096) (wOff u) S256x4096.size (wOff_inb u)).WholeWords (EltTy.packing .i8) := by
  decide +kernel
theorem wSlot_words : ∀ s : Fin 2, (Rect.unit (s := S2x256x4096) (wsOff s) S1x256x4096.size (wsOff_inb s)).WholeWords (EltTy.packing .i8) := by
  decide +kernel

/-! ## A unit number read from memory: any word below 125 -/

section Word
theorem ofNat_word {v : BitVec 32} (h : v.toNat < 125) : BitVec.ofNat 32 (Ring.bk 125 v.toNat).val = v := by
  rw [Ring.bk_val h]; simp

theorem off4_all : ∀ u : Fin 125, k0_off4 (BitVec.ofNat 32 u.val) = wOff u := by decide +kernel
theorem off10_all : ∀ u : Fin 125, k0_off10 (BitVec.ofNat 32 u.val) = wOff u := by decide +kernel
theorem off17_all : ∀ u : Fin 125, k0_off17 (BitVec.ofNat 32 u.val) = wOff u := by decide +kernel
theorem off5_all : ∀ u : Fin 125, k0_off5 (BitVec.ofNat 32 u.val) = mOff u := by decide +kernel
theorem off14_all : ∀ u : Fin 125, k0_off14 (BitVec.ofNat 32 u.val) = mOff u := by decide +kernel
theorem off20_all : ∀ u : Fin 125, k0_off20 (BitVec.ofNat 32 u.val) = mOff u := by decide +kernel
theorem off21_all : ∀ (u : Fin 125) (r : Fin 2), k0_off21 (BitVec.ofNat 32 u.val) (BitVec.ofNat 32 r.val) = ![2 * u.val + r.val, 0] := by decide +kernel
theorem off34_all : ∀ u : Fin 125, k0_off34 (BitVec.ofNat 32 u.val) = ![u.val / 2, 0, 0] := by decide +kernel

variable {v : BitVec 32} (h : v.toNat < 125)
include h
theorem off4_eq : k0_off4 v = wOff (Ring.bk 125 v.toNat) := by rw [← off4_all, ofNat_word h]
theorem off10_eq : k0_off10 v = wOff (Ring.bk 125 v.toNat) := by rw [← off10_all, ofNat_word h]
theorem off17_eq : k0_off17 v = wOff (Ring.bk 125 v.toNat) := by rw [← off17_all, ofNat_word h]
theorem off5_eq : k0_off5 v = mOff (Ring.bk 125 v.toNat) := by rw [← off5_all, ofNat_word h]
theorem off14_eq : k0_off14 v = mOff (Ring.bk 125 v.toNat) := by rw [← off14_all, ofNat_word h]
theorem off20_eq : k0_off20 v = mOff (Ring.bk 125 v.toNat) := by rw [← off20_all, ofNat_word h]
theorem off21_eq (r : Fin 2) : k0_off21 v (BitVec.ofNat 32 r.val) = ![2 * v.toNat + r.val, 0] := by
  have := off21_all (Ring.bk 125 v.toNat) r; rwa [ofNat_word h, Ring.bk_val h] at this
theorem off34_eq : k0_off34 v = ![v.toNat / 2, 0, 0] := by
  have := off34_all (Ring.bk 125 v.toNat); rwa [ofNat_word h, Ring.bk_val h] at this
end Word

/-! ## The loops' counts and the slot of a trip -/

section Chain
open Affine

theorem toInt_of_isInt {x : BitVec 32} {e : Int} (h : IsInt x e) : x.toInt = e := by
  delta Affine.IsInt at h; exact h

variable (v : BitVec 32)

theorem isInt_v25 : IsInt (Scalar.subi v 0#32) v.toInt := by
  have hr := word_range v
  exact subi (e := v.toInt) (word v) (ofNat (e := 0) 0 ⟨rfl, by decide⟩) ⟨by omega, by omega, by omega⟩
theorem isInt_v29 : IsInt (Scalar.addi 0#32 (Scalar.muli (Scalar.divsi (Scalar.subi v 0#32) 1#32) 1#32)) v.toInt := by
  have hr := word_range v
  have h17 : IsInt (Scalar.divsi (Scalar.subi v 0#32) 1#32) v.toInt := divsi_one (isInt_v25 v) (ofNat (e := 1) 1 ⟨rfl, by decide⟩) ⟨rfl, rfl⟩
  have h18 : IsInt (Scalar.muli (Scalar.divsi (Scalar.subi v 0#32) 1#32) 1#32) v.toInt :=
    muli (e := v.toInt) h17 (ofNat (e := 1) 1 ⟨rfl, by decide⟩) ⟨by omega, by omega, by omega⟩
  exact addi (e := v.toInt) (ofNat (e := 0) 0 ⟨rfl, by decide⟩) h18 ⟨by omega, by omega, by omega⟩
theorem isInt_v26 : IsInt (Scalar.addi 0#32 (Scalar.subi v 0#32)) v.toInt := by
  have hr := word_range v
  exact addi (e := v.toInt) (ofNat (e := 0) 0 ⟨rfl, by decide⟩) (isInt_v25 v) ⟨by omega, by omega, by omega⟩

/-- The unit loop runs `v` trips, `v` read signed; -/
theorem trips2_eq : (k0_t2_loop v).trips = v.toInt.toNat := by
  show Scf.trips 0#32 (Scalar.addi 0#32 (Scalar.muli (Scalar.divsi (Scalar.subi v 0#32) 1#32) 1#32)) 1#32 = _
  unfold Scf.trips; rw [toInt_of_isInt (isInt_v29 v)]; simp
/-- its remainder loop none. -/
theorem trips4_eq : (k0_t4_loop v).trips = 0 := by
  show Scf.trips (Scalar.addi 0#32 (Scalar.muli (Scalar.divsi (Scalar.subi v 0#32) 1#32) 1#32)) (Scalar.addi 0#32 (Scalar.subi v 0#32)) 1#32 = 0
  unfold Scf.trips; rw [toInt_of_isInt (isInt_v29 v), toInt_of_isInt (isInt_v26 v)]; simp

theorem trips2_lt (k : Fin (k0_t2_loop v).trips) : (k.val : Int) < 2 ^ 31 - 1 := by
  have h := Nat.lt_of_lt_of_eq k.isLt (trips2_eq v); have := word_range v; omega
theorem trips2_toInt (k : Fin (k0_t2_loop v).trips) : (k.val : Int) < v.toInt := by
  have h := Nat.lt_of_lt_of_eq k.isLt (trips2_eq v); omega
theorem isInt_iv (k : Fin (k0_t2_loop v).trips) : IsInt (Scf.iv 0#32 1#32 k.val) k.val :=
  iv (e := k.val) (ofNat (e := 0) 0 ⟨rfl, by decide⟩) (ofNat (e := 1) 1 ⟨rfl, by decide⟩) k.val ⟨by omega, by omega, by have := trips2_lt v k; omega⟩
theorem isInt_iv1 (k : Fin (k0_t2_loop v).trips) : IsInt (Scalar.addi (Scf.iv 0#32 1#32 k.val) 1#32) (k.val + 1 : Nat) :=
  addi (e := (k.val + 1 : Nat)) (isInt_iv v k) (ofNat (e := 1) 1 ⟨rfl, by decide⟩) ⟨by push_cast; omega, by omega, by have := trips2_lt v k; push_cast; omega⟩
theorem isInt_rem (k : Fin (k0_t2_loop v).trips) : IsInt (Scalar.remsi (Scf.iv 0#32 1#32 k.val) 2#32) (k.val % 2 : Nat) :=
  remsi (e := (k.val % 2 : Nat)) (isInt_iv v k) (ofNat (e := 2) 2 ⟨rfl, by decide⟩) ⟨by omega, by omega, by omega⟩

/-- The remainder made non-negative, as the kernel computes the slot. -/
def fixup (r d : BitVec 32) : BitVec 32 :=
  Scalar.select (Scalar.andi (Scalar.xori (Scalar.cmpi .slt r 0#32) (Scalar.cmpi .slt d 0#32)) (Scalar.cmpi .ne r 0#32)) (Scalar.addi r d) r
theorem rem_word (k : Fin (k0_t2_loop v).trips) : Scalar.remsi (Scf.iv 0#32 1#32 k.val) 2#32 = BitVec.ofNat 32 (k.val % 2) := by
  have := toInt_of_isInt (isInt_rem v k)
  apply BitVec.eq_of_toInt_eq
  rw [this]
  rcases Nat.mod_two_eq_zero_or_one k.val with h | h <;> rw [h] <;> rfl
theorem slot_word (k : Fin (k0_t2_loop v).trips) : fixup (Scalar.remsi (Scf.iv 0#32 1#32 k.val) 2#32) 2#32 = BitVec.ofNat 32 (Ring.sl 2 k.val).val := by
  rw [rem_word]
  have : (Ring.sl 2 k.val).val = k.val % 2 := rfl
  rw [this]
  rcases Nat.mod_two_eq_zero_or_one k.val with h | h <;> rw [h] <;> decide
theorem slot_toNat (k : Fin (k0_t2_loop v).trips) : (fixup (Scalar.remsi (Scf.iv 0#32 1#32 k.val) 2#32) 2#32).toNat = (Ring.sl 2 k.val).val := by
  rw [slot_word]; generalize Ring.sl 2 k.val = s; revert s; decide
theorem slot1_toNat (k : Fin (k0_t2_loop v).trips) :
    (Scalar.subi 1#32 (fixup (Scalar.remsi (Scf.iv 0#32 1#32 k.val) 2#32) 2#32)).toNat = (Ring.sl 2 (k.val + 1)).val := by
  rw [slot_word]
  have h0 : (Ring.sl 2 k.val).val = k.val % 2 := rfl
  have h1 : (Ring.sl 2 (k.val + 1)).val = (k.val + 1) % 2 := rfl
  rw [h0, h1]
  rcases Nat.mod_two_eq_zero_or_one k.val with h | h
  · rw [h, show (k.val + 1) % 2 = 1 by omega]; decide
  · rw [h, show (k.val + 1) % 2 = 0 by omega]; decide

variable (k : Fin (k0_t2_loop v).trips)

theorem off6_eq : k0_off6 v k = ![k.val] := vec_cons (indexCast (isInt_iv v k)) rfl vec_nil
theorem off7_eq : k0_off7 v k = ![k.val + 1] := vec_cons (indexCast (isInt_iv1 v k)) rfl vec_nil
theorem off11_eq : k0_off11 v k = ![k.val + 1] := vec_cons (indexCast (isInt_iv1 v k)) rfl vec_nil
theorem off15_eq : k0_off15 v k = cOff (Ring.sl 2 k.val) := congrArg (fun n => ![n]) (slot_toNat v k)
theorem off18_eq : k0_off18 v k = cOff (Ring.sl 2 k.val) := congrArg (fun n => ![n]) (slot_toNat v k)
theorem off16_eq : k0_off16 v k = wsOff (Ring.sl 2 k.val) := congrArg (fun n => ![n, 0, 0]) (slot_toNat v k)
theorem off22_eq : k0_off22 v k = wsOff (Ring.sl 2 k.val) := congrArg (fun n => ![n, 0, 0]) (slot_toNat v k)
theorem off19_eq : k0_off19 v k = msOff (Ring.sl 2 k.val) := congrArg (fun n => ![n, 0, 0, 0, 0]) (slot_toNat v k)
theorem off8_eq : k0_off8 v k = cOff (Ring.sl 2 (k.val + 1)) := congrArg (fun n => ![n]) (slot1_toNat v k)
theorem off12_eq : k0_off12 v k = cOff (Ring.sl 2 (k.val + 1)) := congrArg (fun n => ![n]) (slot1_toNat v k)
theorem off9_eq : k0_off9 v k = wsOff (Ring.sl 2 (k.val + 1)) := congrArg (fun n => ![n, 0, 0]) (slot1_toNat v k)
theorem off13_eq : k0_off13 v k = msOff (Ring.sl 2 (k.val + 1)) := congrArg (fun n => ![n, 0, 0, 0, 0]) (slot1_toNat v k)

/-- The mask row of `i`: the word of sublane `i` in the copied mask block, lane chunk `j % 4`, group `j / 4`. -/
abbrev mkOff (s : Fin 2) (j i : Nat) : Fin 5 → Nat := ![s.val, j % 4, j / 4, i, 0]
/-- `j / 4` as the kernel computes it, rounding towards minus infinity. -/
def floorDiv4 (x : BitVec 32) : BitVec 32 :=
  Scalar.select (Scalar.andi (Scalar.cmpi .ne
      (Scalar.subi (Scalar.extui (Scalar.cmpi .sgt x 0#32)) (Scalar.extui (Scalar.cmpi .slt x 0#32)))
      (Scalar.subi (Scalar.extui (Scalar.cmpi .sgt 4#32 0#32)) (Scalar.extui (Scalar.cmpi .slt 4#32 0#32))))
      (Scalar.cmpi .ne (Scalar.remsi x 4#32) 0#32)) (Scalar.subi (Scalar.divsi x 4#32) 1#32) (Scalar.divsi x 4#32)
theorem div4_all : ∀ j : Fin k0_t3_loop.trips, (floorDiv4 (Scf.iv 0#32 1#32 j.val)).toNat = j.val / 4 := by decide +kernel
theorem mod4_all : ∀ j : Fin k0_t3_loop.trips, (fixup (Scalar.remsi (Scf.iv 0#32 1#32 j.val) 4#32) 4#32).toNat = j.val % 4 := by decide +kernel
theorem mk_vec (j : Fin k0_t3_loop.trips) (i : Nat) :
    (![(fixup (Scalar.remsi (Scf.iv 0#32 1#32 k.val) 2#32) 2#32).toNat, (fixup (Scalar.remsi (Scf.iv 0#32 1#32 j.val) 4#32) 4#32).toNat,
      (floorDiv4 (Scf.iv 0#32 1#32 j.val)).toNat, i, 0] : Fin 5 → Nat) = mkOff (Ring.sl 2 k.val) j.val i := by
  rw [slot_toNat, div4_all, mod4_all]
variable (j : Fin k0_t3_loop.trips)
theorem off25_eq : k0_off25 v k j = mkOff (Ring.sl 2 k.val) j.val 0 := mk_vec v k j 0
theorem off26_eq : k0_off26 v k j = mkOff (Ring.sl 2 k.val) j.val 1 := mk_vec v k j 1
theorem off27_eq : k0_off27 v k j = mkOff (Ring.sl 2 k.val) j.val 2 := mk_vec v k j 2
theorem off28_eq : k0_off28 v k j = mkOff (Ring.sl 2 k.val) j.val 3 := mk_vec v k j 3
theorem off29_eq : k0_off29 v k j = mkOff (Ring.sl 2 k.val) j.val 4 := mk_vec v k j 4
theorem off30_eq : k0_off30 v k j = mkOff (Ring.sl 2 k.val) j.val 5 := mk_vec v k j 5
theorem off31_eq : k0_off31 v k j = mkOff (Ring.sl 2 k.val) j.val 6 := mk_vec v k j 6
theorem off32_eq : k0_off32 v k j = mkOff (Ring.sl 2 k.val) j.val 7 := mk_vec v k j 7

instance : ClosedOff (k0_off22 v k) := ⟨wsOff (Ring.sl 2 k.val), off22_eq v k⟩
instance : ClosedOff (k0_off16 v k) := ⟨wsOff (Ring.sl 2 k.val), off16_eq v k⟩
instance : ClosedOff (k0_off19 v k) := ⟨msOff (Ring.sl 2 k.val), off19_eq v k⟩
instance : ClosedOff (k0_off25 v k j) := ⟨_, off25_eq v k j⟩
instance : ClosedOff (k0_off26 v k j) := ⟨_, off26_eq v k j⟩
instance : ClosedOff (k0_off27 v k j) := ⟨_, off27_eq v k j⟩
instance : ClosedOff (k0_off28 v k j) := ⟨_, off28_eq v k j⟩
instance : ClosedOff (k0_off29 v k j) := ⟨_, off29_eq v k j⟩
instance : ClosedOff (k0_off30 v k j) := ⟨_, off30_eq v k j⟩
instance : ClosedOff (k0_off31 v k j) := ⟨_, off31_eq v k j⟩
instance : ClosedOff (k0_off32 v k j) := ⟨_, off32_eq v k j⟩
end Chain

/-! ## The checks -/

section Checks

theorem inb_ul {off : Fin 1 → Nat} {x : Nat} (e : off = ![x]) (h : x < 128) : ∀ a, off a + S1.size a ≤ S128.size a := by
  subst e; intro a; fin_cases a; show x + 1 ≤ 128; omega
theorem inb_c {off : Fin 1 → Nat} {s : Fin 2} (e : off = cOff s) : ∀ a, off a + S1.size a ≤ S2.size a := by subst e; exact cOff_inb s
theorem inb_ws {off : Fin 3 → Nat} {s : Fin 2} (e : off = wsOff s) : ∀ a, off a + S1x256x4096.size a ≤ S2x256x4096.size a := by subst e; exact wsOff_inb s
theorem inb_ms {off : Fin 5 → Nat} {s : Fin 2} (e : off = msOff s) : ∀ a, off a + S1x4x5x8x128.size a ≤ S2x4x5x8x128.size a := by subst e; exact msOff_inb s
theorem inb_w {off : Fin 2 → Nat} {u : Fin 125} (e : off = wOff u) : ∀ a, off a + S256x4096.size a ≤ S32000x4096.size a := by subst e; exact wOff_inb u
theorem inb_m {off : Fin 5 → Nat} {u : Fin 125} (e : off = mOff u) : ∀ a, off a + S4x1x5x8x128.size a ≤ S4x125x5x8x128.size a := by subst e; exact mOff_inb u
theorem words_ws {off : Fin 3 → Nat} {s : Fin 2} (e : off = wsOff s) (hinb : ∀ a, off a + S1x256x4096.size a ≤ S2x256x4096.size a) :
    (Rect.unit (s := S2x256x4096) off S1x256x4096.size hinb).WholeWords (EltTy.packing .i8) := by subst e; exact wSlot_words s
theorem words_w {off : Fin 2 → Nat} {u : Fin 125} (e : off = wOff u) (hinb : ∀ a, off a + S256x4096.size a ≤ S32000x4096.size a) :
    (Rect.unit (s := S32000x4096) off S256x4096.size hinb).WholeWords (EltTy.packing .i8) := by subst e; exact wBlock_words u
theorem inb_mk {off : Fin 5 → Nat} {s : Fin 2} {j i : Nat} (e : off = mkOff s j i) (hj : j < 20) (hi : i < 8) :
    ∀ a, off a + S1x1x1x1x128.size a ≤ S2x4x5x8x128.size a := by
  subst e; intro a; have := s.isLt; fin_cases a
  · show s.val + 1 ≤ 2; omega
  · show j % 4 + 1 ≤ 4; omega
  · show j / 4 + 1 ≤ 5; omega
  · show i + 1 ≤ 8; omega
  · show 0 + 128 ≤ 128; omega

theorem t3_lt (j : Fin k0_t3_loop.trips) : j.val < 20 := Nat.lt_of_lt_of_le j.isLt k0_t3_abs.2.1

variable (v : BitVec 32)
theorem t2_ok : (k0_t2_loop v).OK := Affine.ok (Affine.ofNat (e := 0) 0 ⟨rfl, by decide⟩) (isInt_v29 v) (Affine.ofNat (e := 1) 1 ⟨rfl, by decide⟩)
  (by have := Affine.word_range v; omega)
theorem t4_ok : (k0_t4_loop v).OK := Affine.ok (isInt_v29 v) (isInt_v26 v) (Affine.ofNat (e := 1) 1 ⟨rfl, by decide⟩)
  (by have := Affine.word_range v; omega)
theorem no_t4 (k : Fin (k0_t4_loop v).trips) : False := Nat.not_lt_zero _ (Nat.lt_of_lt_of_eq k.isLt (trips4_eq v))

theorem cond3_iff (k : Fin (k0_t2_loop v).trips) : k0_cond3 v k = 1#1 ↔ k.val + 1 < (k0_t2_loop v).trips := by
  have h1 := toInt_of_isInt (isInt_iv1 v k)
  have h2 := trips2_toInt v k
  have h3 := trips2_eq v
  have e : k0_cond3 v k = Scalar.cmpi .ne (Scalar.extui (Scalar.cmpi .slt (Scalar.addi (Scf.iv 0#32 1#32 k.val) 1#32) v)) 0#32 := rfl
  have e2 : Scalar.cmpi .slt (Scalar.addi (Scf.iv 0#32 1#32 k.val) 1#32) v = if (Scalar.addi (Scf.iv 0#32 1#32 k.val) 1#32).toInt < v.toInt then 1#1 else 0#1 := by
    simp only [Scalar.cmpi, IntOp.cmpi, BitVec.slt, BitVec.toInt_zero]; split <;> rename_i hc <;> simp only [hc, decide_true, decide_false] <;> rfl
  rw [e, e2, h1]
  by_cases hh : ((k.val + 1 : Nat) : Int) < v.toInt
  · rw [if_pos hh]; exact iff_of_true (by decide) (by omega)
  · rw [if_neg hh]; exact iff_of_false (by decide) (by omega)
theorem cond2_iff : k0_cond2 v = 1#1 ↔ 0 < (k0_t2_loop v).trips := by
  have h3 := trips2_eq v
  have e : k0_cond2 v = Scalar.cmpi .ne (Scalar.extui (Scalar.cmpi .sgt v 0#32)) 0#32 := rfl
  have e2 : Scalar.cmpi .sgt v 0#32 = if (0 : Int) < v.toInt then 1#1 else 0#1 := by
    simp only [Scalar.cmpi, IntOp.cmpi, BitVec.slt, BitVec.toInt_zero]; split <;> rename_i hc <;> simp only [hc, decide_true, decide_false] <;> rfl
  rw [e, e2]
  by_cases hh : (0 : Int) < v.toInt
  · rw [if_pos hh]; exact iff_of_true (by decide) (by omega)
  · rw [if_neg hh]; exact iff_of_false (by decide) (by omega)

/-- The check of the unit count: any count of at most 125 passes. -/
theorem chk4_of (hv : (k0_t2_loop v).trips ≤ 125) : k0_chk4 v := by
  refine ⟨⟨t2_ok v, ?_, ?_, ?_, ?_, ?_, ?_, ?_, ?_, ?_, ?_, ?_, ?_, ?_, ?_, ?_, ?_, ?_, ?_, ?_, ?_, ?_, ?_, t4_ok v, ?_, ?_, ?_, ?_, ?_, ?_, ?_, ?_⟩,
    ⟨?_, ?_, ?_, ?_, ?_, ?_, ?_, ?_, ?_, ?_, ?_, ?_, ?_, ?_⟩⟩
  · exact fun k => inb_ul (off6_eq v k) (by have := k.isLt; omega)
  · exact fun k _ => inb_ul (off7_eq v k) (by have := k.isLt; omega)
  · exact fun k _ => inb_c (off8_eq v k)
  · exact fun k _ => inb_ws (off9_eq v k)
  · exact fun k _ => words_ws (off9_eq v k)
  · exact fun k _ => inb_ul (off11_eq v k) (by have := k.isLt; omega)
  · exact fun k _ => inb_c (off12_eq v k)
  · exact fun k _ => inb_ms (off13_eq v k)
  · exact fun k => inb_c (off15_eq v k)
  · exact fun k => inb_ws (off16_eq v k)
  · exact fun k => words_ws (off16_eq v k)
  · exact fun k => inb_c (off18_eq v k)
  · exact fun k => inb_ms (off19_eq v k)
  · exact fun k => inb_ws (off22_eq v k)
  · exact fun k j => inb_mk (off25_eq v k j) (t3_lt j) (by omega)
  · exact fun k j => inb_mk (off26_eq v k j) (t3_lt j) (by omega)
  · exact fun k j => inb_mk (off27_eq v k j) (t3_lt j) (by omega)
  · exact fun k j => inb_mk (off28_eq v k j) (t3_lt j) (by omega)
  · exact fun k j => inb_mk (off29_eq v k j) (t3_lt j) (by omega)
  · exact fun k j => inb_mk (off30_eq v k j) (t3_lt j) (by omega)
  · exact fun k j => inb_mk (off31_eq v k j) (t3_lt j) (by omega)
  · exact fun k j => inb_mk (off32_eq v k j) (t3_lt j) (by omega)
  all_goals exact fun k => (no_t4 v k).elim

variable {v}
theorem chk2_of {x : BitVec 32} (h : x.toNat < 125) : k0_chk2 v x := ⟨fun _ => inb_w (off4_eq h), fun _ => words_w (off4_eq h)⟩
theorem chk3_of {x : BitVec 32} (h : x.toNat < 125) : k0_chk3 v x := fun _ => inb_m (off5_eq h)
theorem chk5_of {k} {x : BitVec 32} (h : x.toNat < 125) : k0_chk5 v k x := ⟨fun _ => inb_w (off10_eq h), fun _ => words_w (off10_eq h)⟩
theorem chk6_of {k} {x : BitVec 32} (h : x.toNat < 125) : k0_chk6 v k x := fun _ => inb_m (off14_eq h)
theorem chk7_of {x : BitVec 32} (h : x.toNat < 125) : k0_chk7 x := by
  refine ⟨inb_w (off17_eq h), words_w (off17_eq h), inb_m (off20_eq h), fun r a => ?_, fun a => ?_⟩
  · rw [off21_eq h]; have := r.isLt; fin_cases a
    · show 2 * x.toNat + r.val + 1 ≤ 250; omega
    · show 0 + 128 ≤ 128; omega
  · rw [off34_eq h]; fin_cases a
    · show x.toNat / 2 + 1 ≤ 63; omega
    · show 0 + 24 ≤ 24; omega
    · show 0 + 128 ≤ 128; omega
end Checks

/-! ## The canonical-name equations -/

section Canon

theorem wcs_congr {off : Fin 1 → Nat} {s : Fin 2} (e : off = cOff s) (hh) :
    (cc0_scratch9.slice (Rect.unit (s := S2) off S1.size hh)).squeeze S_ squeezes_S1_S_ = wcs s :=
  congrArg (fun A : DmaSems sig S1 => A.squeeze S_ squeezes_S1_S_) (SemArray.slice_unit_congr _ e _ _)
theorem mcs_congr {off : Fin 1 → Nat} {s : Fin 2} (e : off = cOff s) (hh) :
    (cc0_scratch10.slice (Rect.unit (s := S2) off S1.size hh)).squeeze S_ squeezes_S1_S_ = mcs s :=
  congrArg (fun A : DmaSems sig S1 => A.squeeze S_ squeezes_S1_S_) (SemArray.slice_unit_congr _ e _ _)
theorem wslot_congr {off : Fin 3 → Nat} {s : Fin 2} (e : off = wsOff s) (hh hs) :
    (wB.slice (Rect.unit (s := S2x256x4096) off S1x256x4096.size hh) hs).squeeze S256x4096 squeezes_S1x256x4096_S256x4096 = wslot s :=
  congrArg (fun M : Memref sig .tc .vmem S1x256x4096 .i8 => M.squeeze S256x4096 squeezes_S1x256x4096_S256x4096) (Memref.slice_unit_congr _ e _ _ _ _)
theorem mslot_congr {off : Fin 5 → Nat} {s : Fin 2} (e : off = msOff s) (hh hs) :
    (mB.slice (Rect.unit (s := S2x4x5x8x128) off S1x4x5x8x128.size hh) hs).squeeze S4x5x8x128 squeezes_S1x4x5x8x128_S4x5x8x128 = mslot s :=
  congrArg (fun M : Memref sig .tc .vmem S1x4x5x8x128 .i32 => M.squeeze S4x5x8x128 squeezes_S1x4x5x8x128_S4x5x8x128) (Memref.slice_unit_congr _ e _ _ _ _)
theorem wblk_congr {off : Fin 2 → Nat} {u : Fin 125} (e : off = wOff u) (hh hs) :
    wM.slice (Rect.unit (s := S32000x4096) off S256x4096.size hh) hs = wblk u := Memref.slice_unit_congr _ e _ (wOff_inb u) _ (fun _ => rfl)
theorem mblk_congr {off : Fin 5 → Nat} {u : Fin 125} (e : off = mOff u) (hh hs) :
    (mM.slice (Rect.unit (s := S4x125x5x8x128) off S4x1x5x8x128.size hh) hs).squeeze S4x5x8x128 squeezes_S4x1x5x8x128_S4x5x8x128 = mblk u :=
  congrArg (fun M : Memref sig .tc .hbm S4x1x5x8x128 .i32 => M.squeeze S4x5x8x128 squeezes_S4x1x5x8x128_S4x5x8x128) (Memref.slice_unit_congr _ e _ _ _ _)

@[sl_canon] theorem wcsL (hh) : (cc0_scratch9.slice (Rect.unit (s := S2) ![0] S1.size hh)).squeeze S_ squeezes_S1_S_ = wcs 0 := wcs_congr (by decide) _
@[sl_canon] theorem mcsL (hh) : (cc0_scratch10.slice (Rect.unit (s := S2) ![0] S1.size hh)).squeeze S_ squeezes_S1_S_ = mcs 0 := mcs_congr (by decide) _
@[sl_canon] theorem wslotL (hh hs) : (wB.slice (Rect.unit (s := S2x256x4096) ![0, 0, 0] S1x256x4096.size hh) hs).squeeze S256x4096 squeezes_S1x256x4096_S256x4096 = wslot 0 := wslot_congr (by decide) _ _
@[sl_canon] theorem mslotL (hh hs) : (mB.slice (Rect.unit (s := S2x4x5x8x128) ![0, 0, 0, 0, 0] S1x4x5x8x128.size hh) hs).squeeze S4x5x8x128 squeezes_S1x4x5x8x128_S4x5x8x128 = mslot 0 := mslot_congr (by decide) _ _

variable (v : BitVec 32) (k : Fin (k0_t2_loop v).trips)
@[sl_canon] theorem wcsI (hh) : (cc0_scratch9.slice (Rect.unit (s := S2) (k0_off8 v k) S1.size hh)).squeeze S_ squeezes_S1_S_ = wcs (Ring.sl 2 (k.val + 1)) := wcs_congr (off8_eq v k) _
@[sl_canon] theorem mcsI (hh) : (cc0_scratch10.slice (Rect.unit (s := S2) (k0_off12 v k) S1.size hh)).squeeze S_ squeezes_S1_S_ = mcs (Ring.sl 2 (k.val + 1)) := mcs_congr (off12_eq v k) _
@[sl_canon] theorem wcsW (hh) : (cc0_scratch9.slice (Rect.unit (s := S2) (k0_off15 v k) S1.size hh)).squeeze S_ squeezes_S1_S_ = wcs (Ring.sl 2 k.val) := wcs_congr (off15_eq v k) _
@[sl_canon] theorem mcsW (hh) : (cc0_scratch10.slice (Rect.unit (s := S2) (k0_off18 v k) S1.size hh)).squeeze S_ squeezes_S1_S_ = mcs (Ring.sl 2 k.val) := mcs_congr (off18_eq v k) _
@[sl_canon] theorem wslotI (hh hs) : (wB.slice (Rect.unit (s := S2x256x4096) (k0_off9 v k) S1x256x4096.size hh) hs).squeeze S256x4096 squeezes_S1x256x4096_S256x4096 = wslot (Ring.sl 2 (k.val + 1)) := wslot_congr (off9_eq v k) _ _
@[sl_canon] theorem wslotW (hh hs) : (wB.slice (Rect.unit (s := S2x256x4096) (k0_off16 v k) S1x256x4096.size hh) hs).squeeze S256x4096 squeezes_S1x256x4096_S256x4096 = wslot (Ring.sl 2 k.val) := wslot_congr (off16_eq v k) _ _
@[sl_canon] theorem mslotI (hh hs) : (mB.slice (Rect.unit (s := S2x4x5x8x128) (k0_off13 v k) S1x4x5x8x128.size hh) hs).squeeze S4x5x8x128 squeezes_S1x4x5x8x128_S4x5x8x128 = mslot (Ring.sl 2 (k.val + 1)) := mslot_congr (off13_eq v k) _ _
@[sl_canon] theorem mslotW (hh hs) : (mB.slice (Rect.unit (s := S2x4x5x8x128) (k0_off19 v k) S1x4x5x8x128.size hh) hs).squeeze S4x5x8x128 squeezes_S1x4x5x8x128_S4x5x8x128 = mslot (Ring.sl 2 k.val) := mslot_congr (off19_eq v k) _ _

variable (x : BitVec 32) (hx : x.toNat < 125)
include hx
@[sl_canon] theorem wblkL (hh hs) : wM.slice (Rect.unit (s := S32000x4096) (k0_off4 x) S256x4096.size hh) hs = wblk (Ring.bk 125 x.toNat) := wblk_congr (off4_eq hx) _ _
@[sl_canon] theorem wblkI (hh hs) : wM.slice (Rect.unit (s := S32000x4096) (k0_off10 x) S256x4096.size hh) hs = wblk (Ring.bk 125 x.toNat) := wblk_congr (off10_eq hx) _ _
@[sl_canon] theorem wblkW (hh hs) : wM.slice (Rect.unit (s := S32000x4096) (k0_off17 x) S256x4096.size hh) hs = wblk (Ring.bk 125 x.toNat) := wblk_congr (off17_eq hx) _ _
@[sl_canon] theorem mblkL (hh hs) : (mM.slice (Rect.unit (s := S4x125x5x8x128) (k0_off5 x) S4x1x5x8x128.size hh) hs).squeeze S4x5x8x128 squeezes_S4x1x5x8x128_S4x5x8x128 = mblk (Ring.bk 125 x.toNat) := mblk_congr (off5_eq hx) _ _
@[sl_canon] theorem mblkI (hh hs) : (mM.slice (Rect.unit (s := S4x125x5x8x128) (k0_off14 x) S4x1x5x8x128.size hh) hs).squeeze S4x5x8x128 squeezes_S4x1x5x8x128_S4x5x8x128 = mblk (Ring.bk 125 x.toNat) := mblk_congr (off14_eq hx) _ _
@[sl_canon] theorem mblkW (hh hs) : (mM.slice (Rect.unit (s := S4x125x5x8x128) (k0_off20 x) S4x1x5x8x128.size hh) hs).squeeze S4x5x8x128 squeezes_S4x1x5x8x128_S4x5x8x128 = mblk (Ring.bk 125 x.toNat) := mblk_congr (off20_eq hx) _ _
end Canon

end Cert.Proof.Score
-- ==== Proof.KScoreSpec.lean ====
/-
  What the score kernel's loops compute, as functions.

  A tile is one unit (256 vocabulary rows) against one chunk (128 token rows). `TileIn` holds what one tile reads and
  `TileIn.um`, `TileIn.us`, `TileIn.tl` are the three rows it writes: the maximum of the tile's masked logits, the sum
  of their exponentials about it, and the target's logit. `umAt`, `usAt`, `tlAt` are the buffers after `j` chunks.
-/
module

public import proofs.«01_k».proof.Proof.KScoreChain

@[expose] public section

noncomputable section

namespace Cert.Proof.Score

open Cert.Kernel Cert.Kernel.Gen
open Idealize.ShloMosaic
open Idealize.ShloMosaic.TcCoe

variable {F : FTy → Type} [FloatOps F]

/-- The factor `1 / log 2` the kernel moves its logits by. -/
def logE : F .f32 := Scalar.ofBits .f32 0x3FB8AA3B#32

/-- What one tile reads: the unit's weight codes, the chunk's token codes and scales, the unit's number, the chunk's
   target tokens, eight rows of mask words and eight row groups of weight scales. -/
structure TileIn (F : FTy → Type) [FloatOps F] where
  w : Vec F S1x256x4096 .i8
  x : Vec F S1x4096x128 .i8
  xs : Vec F S1x128 .f32
  u : Elt F .i32
  tg : Vec F S1x128 .i32
  mw : Fin 8 → Vec F S1x1x1x1x128 .i32
  ws : Fin 8 → Vec F S32x128 .f32

namespace TileIn
variable (t : TileIn F)

abbrev acc : FVec F S256x128 .f32 := k0_pay1 t.w t.x
abbrev xs1 : FVec F S1x128 .f32 := k0_pay2 t.xs
abbrev xl : FVec F S1x128 .f32 := k0_pay3 t.xs1 logE
abbrev rel : IVec S1x128 32 := k0_pay4 (F := F) t.u t.tg
abbrev row : IVec S32x128 32 := iota .tc S32x128 32 [0] iota_S32x128_d0_w32
/-- The masked logits of rows `32 i ..< 32 (i+1)` of the unit, for `i = 0 … 7`. -/
abbrev l0 : FVec F S32x128 .f32 := k0_pay6 t.acc t.xs1 logE (t.mw 0) (t.ws 0)
abbrev l1 : FVec F S32x128 .f32 := k0_pay7 t.acc t.xs1 logE (t.mw 1) (t.ws 1)
abbrev l2 : FVec F S32x128 .f32 := k0_pay8 t.acc t.xl k0_pay5 (t.mw 2) (t.ws 2)
abbrev l3 : FVec F S32x128 .f32 := k0_pay9 t.acc t.xl k0_pay5 (t.mw 3) (t.ws 3)
abbrev m3 : FVec F S32x128 .f32 := k0_pay10 t.acc t.xl k0_pay5 t.l0 t.l1 (t.mw 2) (t.ws 2) (t.mw 3) (t.ws 3)
abbrev k4 : IVec S32x128 32 := k0_pay11 (F := F) k0_pay5 (t.mw 4)
abbrev l4 : FVec F S32x128 .f32 := k0_pay12 t.acc t.xl t.k4 0#32 (t.ws 4)
abbrev l5 : FVec F S32x128 .f32 := k0_pay13 t.acc t.xl k0_pay5 (t.mw 5) (t.ws 5)
abbrev m5 : FVec F S32x128 .f32 := k0_pay14 t.acc t.xl k0_pay5 t.m3 t.k4 0#32 (t.ws 4) (t.mw 5) (t.ws 5)
abbrev l6 : FVec F S32x128 .f32 := k0_pay15 t.acc t.xl k0_pay5 (t.mw 6) (t.ws 6)
abbrev l7 : FVec F S32x128 .f32 := k0_pay16 t.acc t.xl k0_pay5 (t.mw 7) (t.ws 7)
abbrev mx : FVec F S1x128 .f32 := k0_pay17 t.acc t.xl k0_pay5 t.m5 t.l6 (t.mw 7) (t.ws 7)
abbrev mx0 : FVec F S1x128 .f32 := k0_pay18 t.acc t.xl k0_pay5 t.m5 t.l6 (t.mw 7) (t.ws 7)
abbrev p0 : FVec F S32x128 .f32 := k0_pay19 t.rel row t.l0
abbrev e1 : FVec F S32x128 .f32 := k0_pay20 t.acc t.xl k0_pay5 t.l0 t.l1 t.m5 t.l6 (t.mw 7) (t.ws 7)
abbrev i1 : IVec S32x128 1 := k0_pay21 t.rel row
abbrev p5 : FVec F S32x128 .f32 := k0_pay22 t.rel row t.l1 t.l2 t.l3 t.l4 t.l5 t.p0 t.i1
abbrev e6 : FVec F S32x128 .f32 := k0_pay23 t.l2 t.l3 t.l4 t.l5 t.l6 t.mx0 t.e1

/-- The row of maxima. -/
def um : FVec F S1x128 .f32 := k0_pay26 t.mx
/-- The row of sums of exponentials about the maximum. -/
def us : FVec F S1x128 .f32 := k0_pay27 t.l7 t.mx0 t.e6
/-- The target's logits after the tile, from those before. -/
def tl (old : Vec F S1x128 .f32) : FVec F S1x128 .f32 := k0_pay28 t.rel row t.l6 t.l7 t.p5 old
end TileIn

abbrev chunkR (j : Fin k0_t3_loop.trips) : Rect S24x128 := Rect.unit (s := S24x128) (k0_off33 j) S1x128.size (k0_off33_inb j)

/-- The buffers of maxima, of sums and of target logits after `j` chunks of a unit. -/
def umAt (T : Fin k0_t3_loop.trips → TileIn F) (f0 : BufTy.Contents (Elt F) umB.view.ty) : ℕ → BufTy.Contents (Elt F) umB.view.ty
  | 0 => f0
  | j + 1 => if h : j < k0_t3_loop.trips then umB.view.writes (Elt F) (umAt T f0 j) [⟨chunkR ⟨j, h⟩, (T ⟨j, h⟩).um⟩] else umAt T f0 j
def usAt (T : Fin k0_t3_loop.trips → TileIn F) (f0 : BufTy.Contents (Elt F) usB.view.ty) : ℕ → BufTy.Contents (Elt F) usB.view.ty
  | 0 => f0
  | j + 1 => if h : j < k0_t3_loop.trips then usB.view.writes (Elt F) (usAt T f0 j) [⟨chunkR ⟨j, h⟩, (T ⟨j, h⟩).us⟩] else usAt T f0 j
def tlAt (T : Fin k0_t3_loop.trips → TileIn F) (f0 : BufTy.Contents (Elt F) tlB.view.ty) : ℕ → BufTy.Contents (Elt F) tlB.view.ty
  | 0 => f0
  | j + 1 => if h : j < k0_t3_loop.trips then
      tlB.view.writes (Elt F) (tlAt T f0 j) [⟨chunkR ⟨j, h⟩, (T ⟨j, h⟩).tl (tlB.view.readAt (Elt F) (chunkR ⟨j, h⟩).toLoadRect (tlAt T f0 j))⟩]
    else tlAt T f0 j

theorem umAt_succ (T : Fin k0_t3_loop.trips → TileIn F) (f0) (j : Fin k0_t3_loop.trips) :
    umAt T f0 (j.val + 1) = umB.view.writes (Elt F) (umAt T f0 j.val) [⟨chunkR j, (T j).um⟩] := by
  rw [umAt, dif_pos j.isLt]
theorem usAt_succ (T : Fin k0_t3_loop.trips → TileIn F) (f0) (j : Fin k0_t3_loop.trips) :
    usAt T f0 (j.val + 1) = usB.view.writes (Elt F) (usAt T f0 j.val) [⟨chunkR j, (T j).us⟩] := by
  rw [usAt, dif_pos j.isLt]
theorem tlAt_succ (T : Fin k0_t3_loop.trips → TileIn F) (f0) (j : Fin k0_t3_loop.trips) :
    tlAt T f0 (j.val + 1) = tlB.view.writes (Elt F) (tlAt T f0 j.val)
      [⟨chunkR j, (T j).tl (tlB.view.readAt (Elt F) (chunkR j).toLoadRect (tlAt T f0 j.val))⟩] := by
  rw [tlAt, dif_pos j.isLt]

end Cert.Proof.Score
-- ==== Proof.KScoreUnits.lean ====
/-
  The list of active vocabulary units the score kernel gathers in its first loop.

  `units a k` lists, in order, the units below `k` whose activity word `a u` is not zero. `UL a k acc ul` says that the
  counter `acc` is the list's length and that the scalar buffer holds the list. One trip keeps it: `UL_step`.
-/
module

public import proofs.«01_k».proof.Proof.KScoreSpec
public import Idealize.ShloMosaic.Lib.VecWindow

@[expose] public section

noncomputable section

namespace Cert.Proof.Score

open Cert.Kernel Cert.Kernel.Gen
open Idealize.ShloMosaic
open Idealize.ShloMosaic.TcCoe

variable {F : FTy → Type} [FloatOps F]

/-- The units below `k` whose activity word is not zero, in order. -/
def units (a : ℕ → BitVec 32) (k : ℕ) : List ℕ := (List.range k).filter (fun u => decide (a u ≠ 0#32))

theorem units_succ_of (a : ℕ → BitVec 32) (k : ℕ) (h : a k ≠ 0#32) : units a (k + 1) = units a k ++ [k] := by
  simp [units, List.range_succ, List.filter_append, h]
theorem units_succ_not (a : ℕ → BitVec 32) (k : ℕ) (h : ¬ a k ≠ 0#32) : units a (k + 1) = units a k := by
  have h' : a k = 0#32 := not_not.mp h
  simp [units, List.range_succ, List.filter_append, h']
theorem units_length_le (a : ℕ → BitVec 32) (k : ℕ) : (units a k).length ≤ k :=
  (List.length_filter_le _ _).trans (by simp)
theorem units_lt (a : ℕ → BitVec 32) {k u : ℕ} (h : u ∈ units a k) : u < k :=
  List.mem_range.mp (List.mem_of_mem_filter h)
theorem units_sorted (a : ℕ → BitVec 32) (k : ℕ) : (units a k).Pairwise (· < ·) :=
  List.Pairwise.filter _ List.pairwise_lt_range
theorem units_get_lt (a : ℕ → BitVec 32) (k i j : ℕ) (hj : j < (units a k).length) (hij : i < j) :
    (units a k)[i]'(hij.trans hj) < (units a k)[j] :=
  List.pairwise_iff_getElem.mp (units_sorted a k) i j (hij.trans hj) hj hij

/-- The word of the list buffer at a one-element window. -/
abbrev ulRd (ul : BufTy.Contents (Elt F) ulB.view.ty) (off : Fin 1 → ℕ) (h : ∀ a, off a + S1.size a ≤ S128.size a) : BitVec 32 :=
  ulB.view.readAt (Elt F) (Rect.unit (s := S128) off S1.size h).toLoadRect ul (Shape.Idx.first (show 0 < S1.numel by decide))

theorem ulRd_congr (ul : BufTy.Contents (Elt F) ulB.view.ty) {off off' : Fin 1 → ℕ} (e : off = off') (h h') :
    ulRd ul off h = ulRd ul off' h' := by subst e; rfl

/-- A write of one word is read back in its own place and nowhere else. -/
theorem ulRd_put_same (ul : BufTy.Contents (Elt F) ulB.view.ty) (off : Fin 1 → ℕ) (h : ∀ a, off a + S1.size a ≤ S128.size a) (x : BitVec 32) :
    ulRd (F := F) (ulB.view.writes (Elt F) ul [⟨Rect.unit (s := S128) off S1.size h, fun _ => x⟩]) off h = x := by
  rw [ulRd, View.readAt_unit _ _ h rfl h, View.read_writes_cons_put _ _ h _ _ rfl, VecWindow.window_put_same]

theorem ulRd_put_other (ul : BufTy.Contents (Elt F) ulB.view.ty) (off off' : Fin 1 → ℕ) (h : ∀ a, off a + S1.size a ≤ S128.size a)
    (h' : ∀ a, off' a + S1.size a ≤ S128.size a) (x : BitVec 32) (hne : off 0 ≠ off' 0) :
    ulRd (F := F) (ulB.view.writes (Elt F) ul [⟨Rect.unit (s := S128) off S1.size h, fun _ => x⟩]) off' h' = ulRd ul off' h' := by
  have hd : off 0 + S1.size 0 ≤ off' 0 ∨ off' 0 + S1.size 0 ≤ off 0 := by
    have : S1.size 0 = 1 := rfl
    omega
  rw [ulRd, ulRd, View.readAt_unit _ _ h' rfl h', View.readAt_unit _ _ h' rfl h', View.read_writes_cons_put _ _ h _ _ rfl,
    VecWindow.window_put_of_disjoint _ _ _ _ _ h' _ 0 hd.symm, View.writes_nil]

/-- After `k` units: the counter is the number of active ones and the buffer lists them. -/
def UL (a : ℕ → BitVec 32) (k : ℕ) (acc : BitVec 32) (ul : BufTy.Contents (Elt F) ulB.view.ty) : Prop :=
  acc.toNat = (units a k).length ∧ ∀ (i : ℕ) (hi : i < (units a k).length) (h : ∀ b, (![i] : Fin 1 → ℕ) b + S1.size b ≤ S128.size b),
    ulRd (F := F) ul ![i] h = BitVec.ofNat 32 ((units a k)[i])

theorem UL_zero (a : ℕ → BitVec 32) (ul : BufTy.Contents (Elt F) ulB.view.ty) : UL a 0 0#32 ul :=
  ⟨rfl, fun i hi => absurd hi (by simp [units])⟩

theorem off2_eq (acc : BitVec 32) (h : acc.toNat < 2 ^ 31) : k0_off2 acc = ![acc.toNat] := by
  unfold k0_off2
  rfl

theorem cond1_iff (x : BitVec 32) : k0_cond1 x = 1#1 ↔ x ≠ 0#32 := by
  unfold k0_cond1
  simp only [Scalar.cmpi, IntOp.cmpi, Scalar.extui]
  by_cases h : x = 0#32
  · subst h; decide
  · have : (x != 0#32) = true := by simpa using h
    simp only [this]
    exact ⟨fun _ => h, fun _ => by decide⟩

theorem chk1_of (acc x : BitVec 32) (h : acc.toNat < 125) : k0_chk1 acc x := fun _ => by
  rw [off2_eq acc (by omega)]
  intro a
  have : a = 0 := Subsingleton.elim _ _
  subst this
  show acc.toNat + 1 ≤ 128
  omega

theorem iv_word (j : ℕ) : Scf.iv 0#32 1#32 j = BitVec.ofNat 32 j := by
  unfold Scf.iv
  simp

theorem UL_step_of (a : ℕ → BitVec 32) (k : ℕ) (acc : BitVec 32) (ul : BufTy.Contents (Elt F) ulB.view.ty) (hk : k < 125) (H : UL a k acc ul)
    (ha : a k ≠ 0#32) (h : ∀ b, k0_off2 acc b + S1.size b ≤ S128.size b) :
    UL a (k + 1) (Scalar.addi acc 1#32) (ulB.view.writes (Elt F) ul [⟨Rect.unit (s := S128) (k0_off2 acc) S1.size h, fun _ => Scf.iv 0#32 1#32 k⟩]) := by
  obtain ⟨h1, h2⟩ := H
  have hle := units_length_le a k
  have e2 : k0_off2 acc = ![(units a k).length] := by rw [off2_eq acc (by omega), h1]
  refine ⟨?_, fun i hi hin => ?_⟩
  · rw [units_succ_of a k ha, List.length_append]
    show (acc + 1#32).toNat = _
    rw [BitVec.toNat_add, h1]
    simp
    omega
  · have hl : (units a (k + 1)).length = (units a k).length + 1 := by rw [units_succ_of a k ha]; simp
    by_cases hlt : i < (units a k).length
    · rw [ulRd_put_other _ _ _ h hin _ (by rw [e2]; show (units a k).length ≠ i; omega), h2 i hlt hin]
      congr 1
      simp only [units_succ_of a k ha]
      rw [List.getElem_append_left hlt]
    · have hi' : i = (units a k).length := by omega
      subst hi'
      rw [ulRd_congr _ e2.symm hin h, ulRd_put_same, iv_word]
      congr 1
      simp only [units_succ_of a k ha]
      rw [List.getElem_append_right (le_refl _)]
      simp

theorem UL_step_not (a : ℕ → BitVec 32) (k : ℕ) (acc : BitVec 32) (ul : BufTy.Contents (Elt F) ulB.view.ty) (H : UL a k acc ul)
    (ha : ¬ a k ≠ 0#32) : UL a (k + 1) (Scalar.addi acc 0#32) ul := by
  have e : Scalar.addi acc 0#32 = acc := by show acc + 0#32 = acc; simp
  rw [e]
  unfold UL at *
  simp only [units_succ_not a k ha]
  exact H

/-- The counter's step, as the loop computes it. -/
theorem cnt_of (x acc : BitVec 32) (h : x ≠ 0#32) : Scalar.addi acc (Scalar.select (Scalar.cmpi .ne x 0#32) 1#32 0#32) = Scalar.addi acc 1#32 := by
  have : Scalar.cmpi .ne x 0#32 = 1#1 := by
    have hb : (x != 0#32) = true := by simpa using h
    simp only [Scalar.cmpi, IntOp.cmpi, hb]; rfl
  rw [this]; rfl
theorem cnt_not (x acc : BitVec 32) (h : ¬ x ≠ 0#32) : Scalar.addi acc (Scalar.select (Scalar.cmpi .ne x 0#32) 1#32 0#32) = Scalar.addi acc 0#32 := by
  have h' : x = 0#32 := not_not.mp h
  subst h'; rfl

end Cert.Proof.Score
-- ==== Proof.KScoreLoops.lean ====
/-
  The loops of the score kernel over the chunks of a unit and over the block rows, one trip at a time.
-/
module

public import proofs.«01_k».proof.Proof.KScoreUnits
public import Idealize.ShloMosaic.Lib.Pipeline.FrameBody

@[expose] public section

noncomputable section

namespace Cert.Proof.Score

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

abbrev 𝒱₀ : Variants := Variants.none
abbrev UU := Pipeline.UD sig nD τ

variable (c : Dev nD)

/-- Slot `s` of the weight buffer, of the mask buffer, at contents `f`. -/
abbrev wslotP (s : Fin 2) (f : BufTy.Contents (Elt F) wB.view.ty) : sProp 𝕄 :=
  ((wslot s).view.loc (c : Thread nD τ) ↦[(wslot s).view.set]{fullShare} f)
abbrev mslotP (s : Fin 2) (f : BufTy.Contents (Elt F) mB.view.ty) : sProp 𝕄 :=
  ((mslot s).view.loc (c : Thread nD τ) ↦[(mslot s).view.set]{fullShare} f)

section Args
variable (arg0 : Memref sig .tc .smem S1x128 .i32) (harg0 : arg0.IsWhole) (arg1 : Memref sig .tc .vmem S20x4096x128 .i8) (harg1 : arg1.IsWhole) (arg2 : Memref sig .tc .vmem S20x128 .f32) (harg2 : arg2.IsWhole) (arg3 : Memref sig .tc .vmem S20x128 .i32) (harg3 : arg3.IsWhole) (arg4 : Memref sig .tc .vmem S250x128 .f32) (harg4 : arg4.IsWhole) (arg7 : Memref sig .tc .vmem S5x4x128 .f32) (harg7 : arg7.IsWhole) (arg8 : Memref sig .tc .vmem S5x4x128 .f32) (harg8 : arg8.IsWhole) (arg9 : Memref sig .tc .vmem S63x5x4x128 .f32) (harg9 : arg9.IsWhole)
  (harg5 : wM.IsWhole) (harg6 : mM.IsWhole) (harg10 : wB.IsWhole) (harg11 : mB.IsWhole) (harg12 : wsB.IsWhole) (harg13 : bmB.IsWhole) (harg14 : bsB.IsWhole) (harg15 : tlB.IsWhole) (harg16 : umB.IsWhole) (harg17 : usB.IsWhole) (harg18 : ulB.IsWhole)

section T3
variable (v13 : BitVec 32) (k0_hw4 : k0_chk4 v13) (k0_t2 : Fin (k0_t2_loop v13).trips) (v68 : BitVec 32) (v70 : Elt F .i32) (k0_hw7 : k0_chk7 v70) (v90 : Vec F S1x128 .f32)
variable (X1 : BufTy.Contents (Elt F) arg1.view.ty) (X2 : BufTy.Contents (Elt F) arg2.view.ty) (X3 : BufTy.Contents (Elt F) arg3.view.ty)
  (fW : BufTy.Contents (Elt F) wB.view.ty) (fM : BufTy.Contents (Elt F) mB.view.ty) (fS : BufTy.Contents (Elt F) wsB.view.ty)

/-- What tile `j` of the unit in slot `k0_t2 % 2` reads. -/
def tileRd (j : Fin k0_t3_loop.trips) : TileIn F where
  w := wB.view.readAt (Elt F) (Rect.unit (s := S2x256x4096) (k0_off22 v13 k0_t2) S1x256x4096.size (k0_off22_inb v13 k0_hw4 k0_t2)).toLoadRect fW
  x := arg1.view.readAt (Elt F) (Rect.unit (s := S20x4096x128) (k0_off23 j) S1x4096x128.size (k0_off23_inb j)).toLoadRect X1
  xs := arg2.view.readAt (Elt F) (Rect.unit (s := S20x128) (k0_off24 j) S1x128.size (k0_off24_inb j)).toLoadRect X2
  u := v70
  tg := arg3.view.readAt (Elt F) (Rect.unit (s := S20x128) (k0_off24 j) S1x128.size (k0_off24_inb j)).toLoadRect X3
  mw := ![mB.view.readAt (Elt F) (Rect.unit (s := S2x4x5x8x128) (k0_off25 v13 k0_t2 j) S1x1x1x1x128.size (k0_off25_inb v13 k0_hw4 k0_t2 j)).toLoadRect fM, mB.view.readAt (Elt F) (Rect.unit (s := S2x4x5x8x128) (k0_off26 v13 k0_t2 j) S1x1x1x1x128.size (k0_off26_inb v13 k0_hw4 k0_t2 j)).toLoadRect fM, mB.view.readAt (Elt F) (Rect.unit (s := S2x4x5x8x128) (k0_off27 v13 k0_t2 j) S1x1x1x1x128.size (k0_off27_inb v13 k0_hw4 k0_t2 j)).toLoadRect fM, mB.view.readAt (Elt F) (Rect.unit (s := S2x4x5x8x128) (k0_off28 v13 k0_t2 j) S1x1x1x1x128.size (k0_off28_inb v13 k0_hw4 k0_t2 j)).toLoadRect fM, mB.view.readAt (Elt F) (Rect.unit (s := S2x4x5x8x128) (k0_off29 v13 k0_t2 j) S1x1x1x1x128.size (k0_off29_inb v13 k0_hw4 k0_t2 j)).toLoadRect fM, mB.view.readAt (Elt F) (Rect.unit (s := S2x4x5x8x128) (k0_off30 v13 k0_t2 j) S1x1x1x1x128.size (k0_off30_inb v13 k0_hw4 k0_t2 j)).toLoadRect fM, mB.view.readAt (Elt F) (Rect.unit (s := S2x4x5x8x128) (k0_off31 v13 k0_t2 j) S1x1x1x1x128.size (k0_off31_inb v13 k0_hw4 k0_t2 j)).toLoadRect fM, mB.view.readAt (Elt F) (Rect.unit (s := S2x4x5x8x128) (k0_off32 v13 k0_t2 j) S1x1x1x1x128.size (k0_off32_inb v13 k0_hw4 k0_t2 j)).toLoadRect fM]
  ws := ![wsB.view.readAt (Elt F) (Rect.unit (s := S256x128) ![0, 0] S32x128.size inb_S256x128_S32x128_0_0).toLoadRect fS, wsB.view.readAt (Elt F) (Rect.unit (s := S256x128) ![32, 0] S32x128.size inb_S256x128_S32x128_32_0).toLoadRect fS, wsB.view.readAt (Elt F) (Rect.unit (s := S256x128) ![64, 0] S32x128.size inb_S256x128_S32x128_64_0).toLoadRect fS, wsB.view.readAt (Elt F) (Rect.unit (s := S256x128) ![96, 0] S32x128.size inb_S256x128_S32x128_96_0).toLoadRect fS, wsB.view.readAt (Elt F) (Rect.unit (s := S256x128) ![128, 0] S32x128.size inb_S256x128_S32x128_128_0).toLoadRect fS, wsB.view.readAt (Elt F) (Rect.unit (s := S256x128) ![160, 0] S32x128.size inb_S256x128_S32x128_160_0).toLoadRect fS, wsB.view.readAt (Elt F) (Rect.unit (s := S256x128) ![192, 0] S32x128.size inb_S256x128_S32x128_192_0).toLoadRect fS, wsB.view.readAt (Elt F) (Rect.unit (s := S256x128) ![224, 0] S32x128.size inb_S256x128_S32x128_224_0).toLoadRect fS]

/-- What the chunk loop holds: the staged tokens, scales and targets, the two slots of the unit, the expanded weight
   scales, and its three result buffers. -/
def t3Inv (tl : BufTy.Contents (Elt F) tlB.view.ty) (um : BufTy.Contents (Elt F) umB.view.ty) (us : BufTy.Contents (Elt F) usB.view.ty) : sProp 𝕄 :=
  iprop((arg1.view.loc (c : Thread nD τ) ↦[arg1.view.set]{fullShare} X1) ∗ (arg2.view.loc (c : Thread nD τ) ↦[arg2.view.set]{fullShare} X2)
    ∗ (arg3.view.loc (c : Thread nD τ) ↦[arg3.view.set]{fullShare} X3)
    ∗ wslotP c (Ring.sl 2 k0_t2.val) fW ∗ mslotP c (Ring.sl 2 k0_t2.val) fM
    ∗ (wsB.view.loc (c : Thread nD τ) ↦[wsB.view.set]{fullShare} fS)
    ∗ (tlB.view.loc (c : Thread nD τ) ↦[tlB.view.set]{fullShare} tl) ∗ (umB.view.loc (c : Thread nD τ) ↦[umB.view.set]{fullShare} um)
    ∗ (usB.view.loc (c : Thread nD τ) ↦[usB.view.set]{fullShare} us))

theorem trip3 (j : Fin k0_t3_loop.trips) (acc : BitVec 32) (tl : BufTy.Contents (Elt F) tlB.view.ty) (um : BufTy.Contents (Elt F) umB.view.ty) (us : BufTy.Contents (Elt F) usB.view.ty) :
    t3Inv (F := F) c arg1 arg2 arg3 v13 k0_t2 X1 X2 X3 fW fM fS tl um us
      ⊢ wp frame (wpE (defs₀ (F := F)) 𝒱₀ (c : Thread nD τ) none) Set.univ
          (k0_t3_body (F := F) arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10 v13 k0_hw4 k0_t2 v68 v70 k0_hw7 v90 j acc)
          (fun _ => t3Inv (F := F) c arg1 arg2 arg3 v13 k0_t2 X1 X2 X3 fW fM fS
            (tlB.view.writes (Elt F) tl [⟨chunkR j, (tileRd arg1 arg2 arg3 v13 k0_hw4 k0_t2 v70 X1 X2 X3 fW fM fS j).tl (tlB.view.readAt (Elt F) (chunkR j).toLoadRect tl)⟩])
            (umB.view.writes (Elt F) um [⟨chunkR j, (tileRd arg1 arg2 arg3 v13 k0_hw4 k0_t2 v70 X1 X2 X3 fW fM fS j).um⟩])
            (usB.view.writes (Elt F) us [⟨chunkR j, (tileRd arg1 arg2 arg3 v13 k0_hw4 k0_t2 v70 X1 X2 X3 fW fM fS j).us⟩])) := by
  have hk : j.val < 20 := t3_lt j
  unfold t3Inv
  iintro ⟨H1, H2, H3, HW, HM, HS, HT, HUM, HUS⟩
  unfold k0_t3_body
  sl_exec
  sl_step
  isplitl [H1]; · iexact H1
  isplitl [H2]; · iexact H2
  isplitl [H3]; · iexact H3
  isplitl [HW]; · iexact HW
  isplitl [HM]; · iexact HM
  isplitl [HS]; · iexact HS
  isplitl [HT]; · iexact HT
  isplitl [HUM]; · iexact HUM
  iexact HUS
set_option warn.classDefReducibility false in
/-- The chunk loop: after `j` chunks the three buffers hold `tlAt`, `umAt`, `usAt`. -/
@[sl_loop] def loopInv3 (tl0 : BufTy.Contents (Elt F) tlB.view.ty) (um0 : BufTy.Contents (Elt F) umB.view.ty) (us0 : BufTy.Contents (Elt F) usB.view.ty) (init : BitVec 32) :
    LoopInvTy_k0_t3 (F := F) Unit ℕ (Pipeline.UD sig nD τ) ℕ 𝒱₀ c none Set.univ arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10 v13 k0_hw4 k0_t2 v68 v70 k0_hw7 v90 init where
  inv j _ := t3Inv (F := F) c arg1 arg2 arg3 v13 k0_t2 X1 X2 X3 fW fM fS
    (tlAt (tileRd arg1 arg2 arg3 v13 k0_hw4 k0_t2 v70 X1 X2 X3 fW fM fS) tl0 j)
    (umAt (tileRd arg1 arg2 arg3 v13 k0_hw4 k0_t2 v70 X1 X2 X3 fW fM fS) um0 j)
    (usAt (tileRd arg1 arg2 arg3 v13 k0_hw4 k0_t2 v70 X1 X2 X3 fW fM fS) us0 j)
  step j acc := by
    rw [tlAt_succ, umAt_succ, usAt_succ]
    exact trip3 c arg0 harg0 arg1 harg1 arg2 harg2 arg3 harg3 arg4 harg4 arg7 harg7 arg8 harg8 arg9 harg9 harg5 harg6 harg10 harg11 harg12 harg13 harg14 harg15 harg16 harg17 harg18 v13 k0_hw4 k0_t2 v68 v70 k0_hw7 v90 X1 X2 X3 fW fM fS j acc _ _ _
end T3

section T1
variable (X0 : BufTy.Contents (Elt F) arg0.view.ty)

/-- The activity word of unit `u`. -/
def anyW (u : ℕ) : BitVec 32 := if h : u < k0_t1_loop.trips then
    arg0.view.readAt (Elt F) (Rect.unit (s := S1x128) (k0_off1 ⟨u, h⟩) S1x1.size (k0_off1_inb ⟨u, h⟩)).toLoadRect X0 (Shape.Idx.first (show 0 < S1x1.numel by decide))
  else 0#32

theorem anyW_eq (k : Fin k0_t1_loop.trips) : anyW arg0 X0 k.val =
    arg0.view.readAt (Elt F) (Rect.unit (s := S1x128) (k0_off1 k) S1x1.size (k0_off1_inb k)).toLoadRect X0 (Shape.Idx.first (show 0 < S1x1.numel by decide)) := by
  rw [anyW, dif_pos k.isLt]

theorem t1_lt (k : Fin k0_t1_loop.trips) : k.val < 125 := Nat.lt_of_lt_of_le k.isLt k0_t1_abs.2.1

def t1Inv (k : ℕ) (acc : BitVec 32) : sProp 𝕄 :=
  iprop((arg0.view.loc (c : Thread nD τ) ↦[arg0.view.set]{fullShare} X0)
    ∗ ∃ ul, ⌜UL (F := F) (anyW arg0 X0) k acc ul⌝ ∗ (ulB.view.loc (c : Thread nD τ) ↦[ulB.view.set]{fullShare} ul))

theorem trip1 (k : Fin k0_t1_loop.trips) (acc : BitVec 32) :
    t1Inv (F := F) c arg0 X0 k.val acc
      ⊢ wp frame (wpE (defs₀ (F := F)) 𝒱₀ (c : Thread nD τ) none) Set.univ
          (k0_t1_body (F := F) arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10 k acc)
          (fun acc' => t1Inv (F := F) c arg0 X0 (k.val + 1) acc') := by
  have hk : k.val < 125 := t1_lt k
  unfold t1Inv
  iintro ⟨H0, %ul, %hul, HU⟩
  have hacc : acc.toNat < 125 := by
    have := units_length_le (anyW arg0 X0) k.val
    rw [hul.1]; omega
  unfold k0_t1_body
  sl_exec
  have hR : trip1.sl.r (F := F) arg0 X0 k = anyW arg0 X0 k.val := (anyW_eq arg0 X0 k).symm
  have hchk : k0_chk1 acc (trip1.sl.r (F := F) arg0 X0 k) := chk1_of acc _ hacc
  by_cases hA : anyW arg0 X0 k.val ≠ 0#32
  · have hC : k0_cond1 (trip1.sl.r (F := F) arg0 X0 k) = 1#1 := (cond1_iff _).mpr (by rw [hR]; exact hA)
    sl_exec
    sl_step
    isplitl [H0]; · iexact H0
    iexists _
    isplitr
    rotate_left
    · iexact HU
    · ipureintro
      have e : trip1.sl.v68 (F := F) arg0 X0 k acc = Scalar.addi acc 1#32 := cnt_of _ acc (show trip1.sl.r (F := F) arg0 X0 k ≠ 0#32 by rw [hR]; exact hA)
      rw [e]; exact UL_step_of (F := F) (anyW arg0 X0) k.val acc ul hk hul hA _
  · have hC : ¬ k0_cond1 (trip1.sl.r (F := F) arg0 X0 k) = 1#1 := fun h => hA (by rw [← hR]; exact (cond1_iff _).mp h)
    sl_exec
    sl_step
    isplitl [H0]; · iexact H0
    iexists _
    isplitr
    rotate_left
    · iexact HU
    · ipureintro
      have e : trip1.sl.v68_1 (F := F) arg0 X0 k acc = Scalar.addi acc 0#32 := cnt_not _ acc (show ¬ trip1.sl.r (F := F) arg0 X0 k ≠ 0#32 by rw [hR]; exact hA)
      rw [e]; exact UL_step_not (F := F) (anyW arg0 X0) k.val acc ul hul hA

set_option warn.classDefReducibility false in
/-- The loop that lists the active units. -/
@[sl_loop] def loopInv1 (init : BitVec 32) :
    LoopInvTy_k0_t1 (F := F) Unit ℕ (Pipeline.UD sig nD τ) ℕ 𝒱₀ c none Set.univ arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10 init where
  inv k acc := t1Inv (F := F) c arg0 X0 k acc
  step k acc := trip1 c arg0 harg0 arg1 harg1 arg2 harg2 arg3 harg3 arg4 harg4 arg7 harg7 arg8 harg8 arg9 harg9 harg5 harg6 harg10 harg11 harg12 harg13 harg14 harg15 harg16 harg17 harg18 X0 k acc
end T1

section T67
variable (v13 : BitVec 32) (k0_hw4 : k0_chk4 v13) (a19 a20 v25 : BitVec 32)
variable (fBm : BufTy.Contents (Elt F) bmB.view.ty) (fBs : BufTy.Contents (Elt F) bsB.view.ty)

/-- Block row `k` of the block maxima and of the block sums. -/
def bmRow (k : Fin k0_t6_loop.trips) : Vec F S1x24x128 .f32 := bmB.view.readAt (Elt F) (Rect.unit (s := S63x24x128) (k0_off64 k) S1x24x128.size (k0_off64_inb k)).toLoadRect fBm
def bsRow (k : Fin k0_t6_loop.trips) : Vec F S1x24x128 .f32 := bsB.view.readAt (Elt F) (Rect.unit (s := S63x24x128) (k0_off64 k) S1x24x128.size (k0_off64_inb k)).toLoadRect fBs
def bmRow' (k : Fin k0_t7_loop.trips) : Vec F S1x24x128 .f32 := bmB.view.readAt (Elt F) (Rect.unit (s := S63x24x128) (k0_off65 k) S1x24x128.size (k0_off65_inb k)).toLoadRect fBm
def bsRow' (k : Fin k0_t7_loop.trips) : Vec F S1x24x128 .f32 := bsB.view.readAt (Elt F) (Rect.unit (s := S63x24x128) (k0_off65 k) S1x24x128.size (k0_off65_inb k)).toLoadRect fBs

/-- The running maximum over the first `k` blocks. -/
def mAt (m0 : FVec F S24x128 .f32) : ℕ → FVec F S24x128 .f32
  | 0 => m0
  | k + 1 => if h : k < k0_t6_loop.trips then k0_pay71 (mAt m0 k) (bmRow fBm ⟨k, h⟩) (bsRow fBs ⟨k, h⟩) else mAt m0 k
theorem mAt_succ (m0) (k : Fin k0_t6_loop.trips) : mAt fBm fBs m0 (k.val + 1) = k0_pay71 (mAt fBm fBs m0 k.val) (bmRow fBm k) (bsRow fBs k) := by
  rw [mAt, dif_pos k.isLt]

set_option warn.classDefReducibility false in
/-- The loop that takes the maximum over the blocks. -/
@[sl_loop] def loopInv6 (init : FVec F S24x128 .f32) :
    LoopInvTy_k0_t6 (F := F) Unit ℕ (Pipeline.UD sig nD τ) ℕ 𝒱₀ c none Set.univ arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10 v13 k0_hw4 a19 a20 v25 init where
  inv k acc := iprop(⌜acc = mAt fBm fBs init k⌝ ∗ (bmB.view.loc (c : Thread nD τ) ↦[bmB.view.set]{fullShare} fBm) ∗ (bsB.view.loc (c : Thread nD τ) ↦[bsB.view.set]{fullShare} fBs))
  step k acc := by
    have hk : k.val < 63 := Nat.lt_of_lt_of_le k.isLt k0_t6_abs.2.1
    iintro ⟨%ha, HM, HS⟩
    unfold k0_t6_body
    sl_exec
    sl_step
    isplitr; · ipureintro; rw [mAt_succ, ← ha]; rfl
    isplitl [HM]; · iexact HM
    iexact HS

/-- The running sum over the first `k` blocks, and the blocks' log-sum-exps written so far. -/
def sAt (v34 s0 : FVec F S24x128 .f32) : ℕ → FVec F S24x128 .f32
  | 0 => s0
  | k + 1 => if h : k < k0_t7_loop.trips then k0_pay77 v34 (sAt v34 s0 k) (bmRow' fBm ⟨k, h⟩) (bsRow' fBs ⟨k, h⟩) else sAt v34 s0 k
theorem sAt_succ (v34 s0) (k : Fin k0_t7_loop.trips) : sAt fBm fBs v34 s0 (k.val + 1) = k0_pay77 v34 (sAt fBm fBs v34 s0 k.val) (bmRow' fBm k) (bsRow' fBs k) := by
  rw [sAt, dif_pos k.isLt]
def oAt (o0 : BufTy.Contents (Elt F) arg9.view.ty) : ℕ → BufTy.Contents (Elt F) arg9.view.ty
  | 0 => o0
  | k + 1 => if h : k < k0_t7_loop.trips then
      arg9.view.writes (Elt F) (oAt o0 k) [⟨Rect.unit (s := S63x5x4x128) (k0_off66 ⟨k, h⟩) S1x5x4x128.size (k0_off66_inb ⟨k, h⟩), k0_pay76 (bmRow' fBm ⟨k, h⟩) (bsRow' fBs ⟨k, h⟩)⟩]
    else oAt o0 k
theorem oAt_succ (o0) (k : Fin k0_t7_loop.trips) : oAt arg9 fBm fBs o0 (k.val + 1) =
    arg9.view.writes (Elt F) (oAt arg9 fBm fBs o0 k.val) [⟨Rect.unit (s := S63x5x4x128) (k0_off66 k) S1x5x4x128.size (k0_off66_inb k), k0_pay76 (bmRow' fBm k) (bsRow' fBs k)⟩] := by
  rw [oAt, dif_pos k.isLt]

set_option warn.classDefReducibility false in
/-- The loop that sums over the blocks and writes each block's log-sum-exp. -/
@[sl_loop] def loopInv7 (v34 : FVec F S24x128 .f32) (o0 : BufTy.Contents (Elt F) arg9.view.ty) (init : FVec F S24x128 .f32) :
    LoopInvTy_k0_t7 (F := F) Unit ℕ (Pipeline.UD sig nD τ) ℕ 𝒱₀ c none Set.univ arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10 v13 k0_hw4 a19 a20 v25 v34 init where
  inv k acc := iprop(⌜acc = sAt fBm fBs v34 init k⌝ ∗ (bmB.view.loc (c : Thread nD τ) ↦[bmB.view.set]{fullShare} fBm) ∗ (bsB.view.loc (c : Thread nD τ) ↦[bsB.view.set]{fullShare} fBs)
    ∗ (arg9.view.loc (c : Thread nD τ) ↦[arg9.view.set]{fullShare} oAt arg9 fBm fBs o0 k))
  step k acc := by
    have hk : k.val < 63 := Nat.lt_of_lt_of_le k.isLt k0_t7_abs.2.1
    rw [oAt_succ]
    iintro ⟨%ha, HM, HS, HO⟩
    unfold k0_t7_body
    sl_exec
    sl_step
    isplitr; · ipureintro; rw [sAt_succ, ← ha]; rfl
    isplitl [HM]; · iexact HM
    isplitl [HS]; · iexact HS
    iexact HO
end T67
end Args

end Cert.Proof.Score
-- ==== Proof.KScoreUnit.lean ====
/-
  What one unit does to the buffers of the score kernel, as a function of the unit alone: the tile it reads for each
  chunk (`unitTile`), the state of the five result buffers after it (`stNext`), and after the first `k` active units (`stAt`).
-/
module

public import proofs.«01_k».proof.Proof.KScoreLoops
public import Idealize.ShloMosaic.Lib.VecWindow
public import Idealize.ShloMosaic.Lib.ValueLayout

@[expose] public section

noncomputable section

namespace Cert.Proof.Score

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

variable (XW : BufTy.Contents (Elt F) wM.view.ty) (XM : BufTy.Contents (Elt F) mM.view.ty)

/-- What the copy of unit `u`'s weights (mask words) leaves in slot `s` over contents `f`. -/
abbrev landedW (s : Fin 2) (u : Fin 125) (f : BufTy.Contents (Elt F) wB.view.ty) : BufTy.Contents (Elt F) wB.view.ty :=
  (wslot s).view.writes (Elt F) f [⟨Rect.whole S256x4096, ReadAs.same.apply ((wblk u).view.read (Elt F) XW)⟩]
abbrev landedM (s : Fin 2) (u : Fin 125) (f : BufTy.Contents (Elt F) mB.view.ty) : BufTy.Contents (Elt F) mB.view.ty :=
  (mslot s).view.writes (Elt F) f [⟨Rect.whole S4x5x8x128, ReadAs.same.apply ((mblk u).view.read (Elt F) XM)⟩]

/-- A row of the landed weights is the row of the unit. -/
theorem wRead (s : Fin 2) (u : Fin 125) (f) {off : Fin 3 → ℕ} (inb) (e : off = wsOff s) :
    wB.view.readAt (Elt F) (Rect.unit (s := S2x256x4096) off S1x256x4096.size inb).toLoadRect (landedW XW s u f)
      = fun y => (wblk u).view.read (Elt F) XW (ix2 (y 1) (y 2)) := by
  subst e
  funext y
  have h := congrFun (View.read_writes_whole (Val := Elt F) (wslot s).view f (ReadAs.same.apply ((wblk u).view.read (Elt F) XW))) (ix2 (y 1) (y 2))
  have hy : Shape.reshapeEquiv (squeezes_S1x256x4096_S256x4096).numel_eq (ix2 (y 1) (y 2)) = y := by
    refine (reshapeEquiv_ix2_1ab (a := 256) (b := 4096) _ _ _).trans (funext fun a => ?_)
    fin_cases a
    · exact (Subsingleton.elim (α := Fin 1) _ _)
    · rfl
    · rfl
  refine Eq.trans ?_ h
  show _ = wB.view.read (Elt F) _ ((Rect.unit (s := S2x256x4096) (wsOff s) S1x256x4096.size (wsOff_inb s)).emb
    (Shape.reshapeEquiv (squeezes_S1x256x4096_S256x4096).numel_eq (ix2 (y 1) (y 2))))
  rw [hy]; rfl

/-- The mask word row `i` of chunk `j`, landed, is that row of the unit. -/
theorem mRead (s : Fin 2) (u : Fin 125) (f) {off : Fin 5 → ℕ} (inb) {j i : ℕ} (e : off = mkOff s j i) (hj : j < 20) (hi : i < 8) :
    mB.view.readAt (Elt F) (Rect.unit (s := S2x4x5x8x128) off S1x1x1x1x128.size inb).toLoadRect (landedM XM s u f)
      = fun y => (mblk u).view.read (Elt F) XM (ix4 (⟨j % 4, by omega⟩ : Fin 4) (⟨j / 4, by omega⟩ : Fin 5) (⟨i, hi⟩ : Fin 8) (y 4)) := by
  subst e
  funext y
  have h := congrFun (View.read_writes_whole (Val := Elt F) (mslot s).view f (ReadAs.same.apply ((mblk u).view.read (Elt F) XM)))
    (ix4 (⟨j % 4, by omega⟩ : Fin 4) (⟨j / 4, by omega⟩ : Fin 5) (⟨i, hi⟩ : Fin 8) (y 4))
  refine Eq.trans ?_ h
  show mB.view.read (Elt F) _ ((Rect.unit (s := S2x4x5x8x128) (mkOff s j i) S1x1x1x1x128.size inb).emb y) = mB.view.read (Elt F) _ ((Rect.unit (s := S2x4x5x8x128) (msOff s) S1x4x5x8x128.size (msOff_inb s)).emb
    (Shape.reshapeEquiv (squeezes_S1x4x5x8x128_S4x5x8x128).numel_eq _))
  refine congrArg _ ?_
  rw [show ∀ x : S4x5x8x128.Idx, Shape.reshapeEquiv (squeezes_S1x4x5x8x128_S4x5x8x128).numel_eq x = Fin.cons ⟨0, Nat.one_pos⟩ x from Shape.reshapeEquiv_cons_one _]
  have z0 : (y 0).val = 0 := Nat.lt_one_iff.mp (y 0).isLt
  have z1 : (y 1).val = 0 := Nat.lt_one_iff.mp (y 1).isLt
  have z2 : (y 2).val = 0 := Nat.lt_one_iff.mp (y 2).isLt
  have z3 : (y 3).val = 0 := Nat.lt_one_iff.mp (y 3).isLt
  funext a; apply Fin.ext; fin_cases a
  · show s.val + 1 * (y 0).val = s.val + 1 * 0; omega
  · show j % 4 + 1 * (y 1).val = 0 + 1 * (j % 4); omega
  · show j / 4 + 1 * (y 2).val = 0 + 1 * (j / 4); omega
  · show i + 1 * (y 3).val = 0 + 1 * i; omega
  · show 0 + 1 * (y 4).val = 0 + 1 * (y 4).val; rfl

section Args
variable (arg0 : Memref sig .tc .smem S1x128 .i32) (harg0 : arg0.IsWhole) (arg1 : Memref sig .tc .vmem S20x4096x128 .i8) (harg1 : arg1.IsWhole) (arg2 : Memref sig .tc .vmem S20x128 .f32) (harg2 : arg2.IsWhole) (arg3 : Memref sig .tc .vmem S20x128 .i32) (harg3 : arg3.IsWhole) (arg4 : Memref sig .tc .vmem S250x128 .f32) (harg4 : arg4.IsWhole) (arg7 : Memref sig .tc .vmem S5x4x128 .f32) (harg7 : arg7.IsWhole) (arg8 : Memref sig .tc .vmem S5x4x128 .f32) (harg8 : arg8.IsWhole) (arg9 : Memref sig .tc .vmem S63x5x4x128 .f32) (harg9 : arg9.IsWhole)
  (harg5 : wM.IsWhole) (harg6 : mM.IsWhole) (harg10 : wB.IsWhole) (harg11 : mB.IsWhole) (harg12 : wsB.IsWhole) (harg13 : bmB.IsWhole) (harg14 : bsB.IsWhole) (harg15 : tlB.IsWhole) (harg16 : umB.IsWhole) (harg17 : usB.IsWhole) (harg18 : ulB.IsWhole)
variable (X1 : BufTy.Contents (Elt F) arg1.view.ty) (X2 : BufTy.Contents (Elt F) arg2.view.ty) (X3 : BufTy.Contents (Elt F) arg3.view.ty) (X4 : BufTy.Contents (Elt F) arg4.view.ty)

theorem chk7_all (u : Fin 125) : k0_chk7 (BitVec.ofNat 32 u.val) := chk7_of (by rw [BitVec.toNat_ofNat]; omega)

/-- Row `r` of unit `u`'s weight scales: of 128 vocabulary rows. -/
def wsRow (u : Fin 125) (r : Fin 2) : Vec F S1x128 .f32 :=
  arg4.view.readAt (Elt F) (Rect.unit (s := S250x128) (k0_off21 (BitVec.ofNat 32 u.val) (BitVec.ofNat 32 r.val)) S1x128.size (k0_off21_inb (BitVec.ofNat 32 u.val) (chk7_all u) r)).toLoadRect X4
/-- The expanded weight scales of unit `u`: the two stores into the scale buffer. -/
def wsFill (u : Fin 125) (f : BufTy.Contents (Elt F) wsB.view.ty) : BufTy.Contents (Elt F) wsB.view.ty :=
  wsB.view.writes (Elt F) f [⟨Rect.unit (s := S256x128) ![128, 0] S128x128.size inb_S256x128_S128x128_128_0, k0_pay25 (wsRow arg4 X4 u 1)⟩,
    ⟨Rect.unit (s := S256x128) ![0, 0] S128x128.size inb_S256x128_S128x128_0_0, k0_pay24 (wsRow arg4 X4 u 0)⟩]
theorem wsFill_eq (u : Fin 125) (f f') : wsFill arg4 X4 u f = wsFill arg4 X4 u f' := by
  have h := View.read_writes_of_cover (Val := Elt F) wsB.view f wsB.view f'
    [⟨Rect.unit (s := S256x128) ![128, 0] S128x128.size inb_S256x128_S128x128_128_0, k0_pay25 (wsRow arg4 X4 u 1)⟩,
      ⟨Rect.unit (s := S256x128) ![0, 0] S128x128.size inb_S256x128_S128x128_0_0, k0_pay24 (wsRow arg4 X4 u 0)⟩] (fun y => by
    have h1 : (y 1).val < 128 := (y 1).isLt
    have h0 : (y 0).val < 256 := (y 0).isLt
    by_cases hy : (y 0).val < 128
    · refine ⟨_, List.mem_cons_of_mem _ (List.mem_singleton.mpr rfl), (Rect.mem_set_unit (inb := inb_S256x128_S128x128_0_0)).mpr fun a => ?_⟩
      fin_cases a
      · exact ⟨Nat.zero_le _, show (y 0).val < 0 + 128 by omega⟩
      · exact ⟨Nat.zero_le _, show (y 1).val < 0 + 128 by omega⟩
    · refine ⟨_, List.mem_cons_self, (Rect.mem_set_unit (inb := inb_S256x128_S128x128_128_0)).mpr fun a => ?_⟩
      fin_cases a
      · exact ⟨show 128 ≤ (y 0).val by omega, show (y 0).val < 128 + 128 by omega⟩
      · exact ⟨Nat.zero_le _, show (y 1).val < 0 + 128 by omega⟩)
  exact h

/-- What tile `j` of unit `u` reads. -/
def unitTile (u : Fin 125) (j : Fin k0_t3_loop.trips) : TileIn F where
  w := fun y => (wblk u).view.read (Elt F) XW (ix2 (y 1) (y 2))
  x := arg1.view.readAt (Elt F) (Rect.unit (s := S20x4096x128) (k0_off23 j) S1x4096x128.size (k0_off23_inb j)).toLoadRect X1
  xs := arg2.view.readAt (Elt F) (Rect.unit (s := S20x128) (k0_off24 j) S1x128.size (k0_off24_inb j)).toLoadRect X2
  u := BitVec.ofNat 32 u.val
  tg := arg3.view.readAt (Elt F) (Rect.unit (s := S20x128) (k0_off24 j) S1x128.size (k0_off24_inb j)).toLoadRect X3
  mw := fun i y => (mblk u).view.read (Elt F) XM (ix4 (⟨j.val % 4, by omega⟩ : Fin 4) (⟨j.val / 4, by have := t3_lt j; omega⟩ : Fin 5) i (y 4))
  ws := ![wsB.view.readAt (Elt F) (Rect.unit (s := S256x128) ![0, 0] S32x128.size inb_S256x128_S32x128_0_0).toLoadRect (wsFill arg4 X4 u wsB.view.junk), wsB.view.readAt (Elt F) (Rect.unit (s := S256x128) ![32, 0] S32x128.size inb_S256x128_S32x128_32_0).toLoadRect (wsFill arg4 X4 u wsB.view.junk), wsB.view.readAt (Elt F) (Rect.unit (s := S256x128) ![64, 0] S32x128.size inb_S256x128_S32x128_64_0).toLoadRect (wsFill arg4 X4 u wsB.view.junk), wsB.view.readAt (Elt F) (Rect.unit (s := S256x128) ![96, 0] S32x128.size inb_S256x128_S32x128_96_0).toLoadRect (wsFill arg4 X4 u wsB.view.junk), wsB.view.readAt (Elt F) (Rect.unit (s := S256x128) ![128, 0] S32x128.size inb_S256x128_S32x128_128_0).toLoadRect (wsFill arg4 X4 u wsB.view.junk), wsB.view.readAt (Elt F) (Rect.unit (s := S256x128) ![160, 0] S32x128.size inb_S256x128_S32x128_160_0).toLoadRect (wsFill arg4 X4 u wsB.view.junk), wsB.view.readAt (Elt F) (Rect.unit (s := S256x128) ![192, 0] S32x128.size inb_S256x128_S32x128_192_0).toLoadRect (wsFill arg4 X4 u wsB.view.junk), wsB.view.readAt (Elt F) (Rect.unit (s := S256x128) ![224, 0] S32x128.size inb_S256x128_S32x128_224_0).toLoadRect (wsFill arg4 X4 u wsB.view.junk)]

theorem TileIn.ext' (a b : TileIn F) (hw : a.w = b.w) (hx : a.x = b.x) (hxs : a.xs = b.xs) (hu : a.u = b.u) (ht : a.tg = b.tg)
    (hm : ∀ i, a.mw i = b.mw i) (hs : a.ws = b.ws) : a = b := by
  cases a; cases b; simp only at hw hx hxs hu ht hm hs
  subst hw hx hxs hu ht hs; rw [funext hm]
theorem vec8 {α : Type} {b0 b1 b2 b3 b4 b5 b6 b7 : α} {a : Fin 8 → α} (h0 : b0 = a 0) (h1 : b1 = a 1) (h2 : b2 = a 2) (h3 : b3 = a 3) (h4 : b4 = a 4)
    (h5 : b5 = a 5) (h6 : b6 = a 6) (h7 : b7 = a 7) : ∀ i, (![b0, b1, b2, b3, b4, b5, b6, b7] : Fin 8 → α) i = a i := by
  intro i; fin_cases i <;> assumption

/-- The tile read from the two slots the unit was copied to, and the filled scale buffer, is the unit's. -/
theorem tileRd_eq (v13 : BitVec 32) (k0_hw4 : k0_chk4 v13) (k0_t2 : Fin (k0_t2_loop v13).trips) (u : Fin 125) (f g h) (s s' : Fin 2) (hs : s = Ring.sl 2 k0_t2.val) (hs' : s' = Ring.sl 2 k0_t2.val) :
    tileRd arg1 arg2 arg3 v13 k0_hw4 k0_t2 (BitVec.ofNat 32 u.val) X1 X2 X3 (landedW XW s u f) (landedM XM s' u g) (wsFill arg4 X4 u h)
      = unitTile XW XM arg1 arg2 arg3 arg4 X1 X2 X3 X4 u := by
  subst hs hs'
  funext j
  refine TileIn.ext' _ _ ?_ rfl rfl rfl rfl ?_ ?_
  · unfold tileRd unitTile; dsimp only; exact wRead XW (Ring.sl 2 k0_t2.val) u f (k0_off22_inb v13 k0_hw4 k0_t2) (off22_eq v13 k0_t2)
  · have H (i : Fin 8) (off : Fin 5 → ℕ) (inb) (e : off = mkOff (Ring.sl 2 k0_t2.val) j.val i.val) :
        mB.view.readAt (Elt F) (Rect.unit (s := S2x4x5x8x128) off S1x1x1x1x128.size inb).toLoadRect (landedM XM (Ring.sl 2 k0_t2.val) u g)
          = (unitTile XW XM arg1 arg2 arg3 arg4 X1 X2 X3 X4 u j).mw i := mRead XM (Ring.sl 2 k0_t2.val) u g inb e (t3_lt j) i.isLt
    unfold tileRd; dsimp only
    refine vec8 ?_ ?_ ?_ ?_ ?_ ?_ ?_ ?_
    · exact H 0 _ _ (off25_eq v13 k0_t2 j)
    · exact H 1 _ _ (off26_eq v13 k0_t2 j)
    · exact H 2 _ _ (off27_eq v13 k0_t2 j)
    · exact H 3 _ _ (off28_eq v13 k0_t2 j)
    · exact H 4 _ _ (off29_eq v13 k0_t2 j)
    · exact H 5 _ _ (off30_eq v13 k0_t2 j)
    · exact H 6 _ _ (off31_eq v13 k0_t2 j)
    · exact H 7 _ _ (off32_eq v13 k0_t2 j)
  · unfold tileRd; rw [wsFill_eq arg4 X4 u h wsB.view.junk]; rfl

/-- The five result buffers. -/
structure St (F : FTy → Type) where
  bm : BufTy.Contents (Elt F) bmB.view.ty
  bs : BufTy.Contents (Elt F) bsB.view.ty
  tl : BufTy.Contents (Elt F) tlB.view.ty
  um : BufTy.Contents (Elt F) umB.view.ty
  us : BufTy.Contents (Elt F) usB.view.ty

/-- The block row of unit `u`, and the whole of a unit's rows. -/
abbrev blockR (u : Fin 125) : Rect S63x24x128 := Rect.unit (s := S63x24x128) (k0_off34 (BitVec.ofNat 32 u.val)) S1x24x128.size (k0_off34_inb (BitVec.ofNat 32 u.val) (chk7_all u))
abbrev fullR : Rect S24x128 := Rect.unit (s := S24x128) ![0, 0] S24x128.size inb_S24x128_S24x128_0_0

variable (T : Fin 125 → Fin k0_t3_loop.trips → TileIn F)
/-- The unit's maxima, sums and target logits after its chunks. -/
def St.um' (st : St F) (u : Fin 125) := umAt (T u) st.um k0_t3_loop.trips
def St.us' (st : St F) (u : Fin 125) := usAt (T u) st.us k0_t3_loop.trips
def St.tl' (st : St F) (u : Fin 125) := tlAt (T u) st.tl k0_t3_loop.trips
/-- The five buffers after unit `u`: its own three, and its block's row merged. -/
def St.next (st : St F) (u : Fin 125) : St F where
  bm := bmB.view.writes (Elt F) st.bm [⟨blockR u, k0_pay65 (bmB.view.readAt (Elt F) (blockR u).toLoadRect st.bm) (umB.view.readAt (Elt F) fullR.toLoadRect (st.um' T u))⟩]
  bs := bsB.view.writes (Elt F) st.bs [⟨blockR u, k0_pay64 (bmB.view.readAt (Elt F) (blockR u).toLoadRect st.bm) (umB.view.readAt (Elt F) fullR.toLoadRect (st.um' T u))
    (bsB.view.readAt (Elt F) (blockR u).toLoadRect st.bs) (usB.view.readAt (Elt F) fullR.toLoadRect (st.us' T u)) (umB.view.readAt (Elt F) fullR.toLoadRect (st.um' T u))⟩]
  tl := st.tl' T u
  um := st.um' T u
  us := st.us' T u
/-- The five buffers after the first `k` of the units `U`. -/
def St.at (U : ℕ → Fin 125) (st : St F) : ℕ → St F
  | 0 => st
  | k + 1 => (St.at U st k).next T (U k)
end Args

end Cert.Proof.Score
-- ==== Proof.KScoreRing.lean ====
/-
  The loop of the score kernel over the active units: the next unit is copied into one of two slots while the unit in the
  other is worked on.
-/
module

public import proofs.«01_k».proof.Proof.KScoreUnit
public import Idealize.ShloMosaic.Lib.VecWindow

@[expose] public section

noncomputable section

namespace Cert.Proof.Score

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD)

/-! ## The copies of a unit whose number is known -/

theorem u_lt (u : Fin 125) : (BitVec.ofNat 32 u.val).toNat < 125 := by rw [BitVec.toNat_ofNat]; omega
theorem bk_u (u : Fin 125) : Ring.bk 125 (BitVec.ofNat 32 u.val).toNat = u := by
  apply Fin.ext; rw [Ring.bk_val (u_lt u), BitVec.toNat_ofNat]; omega
@[sl_canon] theorem wblkLu (u : Fin 125) (hh hs) : wM.slice (Rect.unit (s := S32000x4096) (k0_off4 (BitVec.ofNat 32 u.val)) S256x4096.size hh) hs = wblk u := by
  rw [wblkL _ (u_lt u), bk_u]
@[sl_canon] theorem wblkIu (u : Fin 125) (hh hs) : wM.slice (Rect.unit (s := S32000x4096) (k0_off10 (BitVec.ofNat 32 u.val)) S256x4096.size hh) hs = wblk u := by
  rw [wblkI _ (u_lt u), bk_u]
@[sl_canon] theorem wblkWu (u : Fin 125) (hh hs) : wM.slice (Rect.unit (s := S32000x4096) (k0_off17 (BitVec.ofNat 32 u.val)) S256x4096.size hh) hs = wblk u := by
  rw [wblkW _ (u_lt u), bk_u]
@[sl_canon] theorem mblkLu (u : Fin 125) (hh hs) : (mM.slice (Rect.unit (s := S4x125x5x8x128) (k0_off5 (BitVec.ofNat 32 u.val)) S4x1x5x8x128.size hh) hs).squeeze S4x5x8x128 squeezes_S4x1x5x8x128_S4x5x8x128 = mblk u := by
  rw [mblkL _ (u_lt u), bk_u]
@[sl_canon] theorem mblkIu (u : Fin 125) (hh hs) : (mM.slice (Rect.unit (s := S4x125x5x8x128) (k0_off14 (BitVec.ofNat 32 u.val)) S4x1x5x8x128.size hh) hs).squeeze S4x5x8x128 squeezes_S4x1x5x8x128_S4x5x8x128 = mblk u := by
  rw [mblkI _ (u_lt u), bk_u]
@[sl_canon] theorem mblkWu (u : Fin 125) (hh hs) : (mM.slice (Rect.unit (s := S4x125x5x8x128) (k0_off20 (BitVec.ofNat 32 u.val)) S4x1x5x8x128.size hh) hs).squeeze S4x5x8x128 squeezes_S4x1x5x8x128_S4x5x8x128 = mblk u := by
  rw [mblkW _ (u_lt u), bk_u]
theorem chk7u (u : Fin 125) : k0_chk7 (BitVec.ofNat 32 u.val) := chk7_of (u_lt u)
theorem chk5u {v : BitVec 32} {k} (u : Fin 125) : k0_chk5 v k (BitVec.ofNat 32 u.val) := chk5_of (u_lt u)
theorem chk6u {v : BitVec 32} {k} (u : Fin 125) : k0_chk6 v k (BitVec.ofNat 32 u.val) := chk6_of (u_lt u)
theorem chk2u {v : BitVec 32} (u : Fin 125) : k0_chk2 v (BitVec.ofNat 32 u.val) := chk2_of (u_lt u)
theorem chk3u {v : BitVec 32} (u : Fin 125) : k0_chk3 v (BitVec.ofNat 32 u.val) := chk3_of (u_lt u)

/-! ## The `i`-th active unit -/

section List
variable (a : ℕ → BitVec 32)

def unitAt (N i : ℕ) : Fin 125 := Ring.bk 125 ((units a N).getD i 0)

variable {a} {N : ℕ} {v : BitVec 32} {ul : BufTy.Contents (Elt F) ulB.view.ty}
theorem UL_trips (hN : N ≤ 125) (H : UL a N v ul) : (k0_t2_loop v).trips = (units a N).length := by
  have := units_length_le a N
  have hc := BitVec.toInt_eq_toNat_cond v
  have h1 := H.1
  rw [trips2_eq]; split at hc <;> omega
theorem UL_le (hN : N ≤ 125) (H : UL a N v ul) : (k0_t2_loop v).trips ≤ 125 := by
  rw [UL_trips hN H]; exact (units_length_le a N).trans hN
theorem unitAt_val (hN : N ≤ 125) {i : ℕ} (hi : i < (units a N).length) : (unitAt a N i).val = (units a N)[i] := by
  have h : (units a N)[i] < 125 := (units_lt a (List.getElem_mem hi)).trans_le hN
  unfold unitAt
  rw [List.getD_eq_getElem?_getD, List.getElem?_eq_getElem hi, Option.getD_some, Ring.bk_val h]
theorem unitAt_lt (hN : N ≤ 125) {i j : ℕ} (hj : j < (units a N).length) (hij : i < j) : (unitAt a N i).val < (unitAt a N j).val := by
  rw [unitAt_val hN hj, unitAt_val hN (hij.trans hj)]; exact units_get_lt a N i j hj hij
theorem UL_word (hN : N ≤ 125) (H : UL a N v ul) {i : ℕ} (hi : i < (k0_t2_loop v).trips) {off : Fin 1 → ℕ} (e : off = ![i]) (h) :
    ulRd (F := F) ul off h = BitVec.ofNat 32 (unitAt a N i).val := by
  subst e
  rw [UL_trips hN H] at hi
  rw [H.2 i hi h, unitAt_val hN hi]
end List

/-! ## The pieces of memory -/

variable (XW : BufTy.Contents (Elt F) wM.view.ty) (XM : BufTy.Contents (Elt F) mM.view.ty)

abbrev wcellP (s : Fin 2) : sProp 𝕄 := semVal ((c : Thread nD τ), SemLoc.dma (wcs s).sem) 0
abbrev mcellP (s : Fin 2) : sProp 𝕄 := semVal ((c : Thread nD τ), SemLoc.dma (mcs s).sem) 0
/-- Unit `u` of the weights, of the mask, not in flight. -/
abbrev whomeP (u : Fin 125) : sProp 𝕄 := ((wblk u).view.loc (c : Thread nD τ) ↦[(wblk u).view.set]{fullShare} XW)
abbrev mhomeP (u : Fin 125) : sProp 𝕄 := ((mblk u).view.loc (c : Thread nD τ) ↦[(mblk u).view.set]{fullShare} XM)
/-- Unit `u` in flight to slot `s`. -/
abbrev wflightP (s : Fin 2) (u : Fin 125) (f : BufTy.Contents (Elt F) wB.view.ty) : sProp 𝕄 :=
  Transfers.Flight countersEmb (c : Thread nD τ) (SemLoc.dma (wcs s).sem) () 32768 iprop(wslotP c s (landedW XW s u f) ∗ whomeP c XW u)
abbrev mflightP (s : Fin 2) (u : Fin 125) (f : BufTy.Contents (Elt F) mB.view.ty) : sProp 𝕄 :=
  Transfers.Flight countersEmb (c : Thread nD τ) (SemLoc.dma (mcs s).sem) () 2560 iprop(mslotP c s (landedM XM s u f) ∗ mhomeP c XM u)

/-- Before trip `k < n`: the `k`-th unit in flight to slot `k % 2`, the other slot free. -/
def ringOn (U : ℕ → Fin 125) (k : ℕ) : sProp 𝕄 :=
  iprop((∃ f, wflightP c XW (Ring.sl 2 k) (U k) f) ∗ (∃ f, mflightP c XM (Ring.sl 2 k) (U k) f)
    ∗ (∃ f, wslotP c (Ring.sl 2 (k + 1)) f) ∗ (∃ f, mslotP c (Ring.sl 2 (k + 1)) f)
    ∗ wcellP c (Ring.sl 2 (k + 1)) ∗ mcellP c (Ring.sl 2 (k + 1))
    ∗ bigSep (Finset.univ.erase (U k)) (whomeP c XW) ∗ bigSep (Finset.univ.erase (U k)) (mhomeP c XM))
/-- After the last trip: both slots free. -/
def ringOff (k : ℕ) : sProp 𝕄 :=
  iprop((∃ f, wslotP c (Ring.sl 2 k) f) ∗ (∃ f, mslotP c (Ring.sl 2 k) f) ∗ (∃ f, wslotP c (Ring.sl 2 (k + 1)) f) ∗ (∃ f, mslotP c (Ring.sl 2 (k + 1)) f)
    ∗ wcellP c (Ring.sl 2 k) ∗ mcellP c (Ring.sl 2 k) ∗ wcellP c (Ring.sl 2 (k + 1)) ∗ mcellP c (Ring.sl 2 (k + 1))
    ∗ bigSep Finset.univ (whomeP c XW) ∗ bigSep Finset.univ (mhomeP c XM))
def ringP (n : ℕ) (U : ℕ → Fin 125) (k : ℕ) : sProp 𝕄 := if k < n then ringOn c XW XM U k else ringOff c XW XM k

theorem erase_take {P : Fin 125 → sProp 𝕄} {a b : Fin 125} (h : b ≠ a) :
    bigSep (Finset.univ.erase a) P = iprop(P b ∗ bigSep ((Finset.univ.erase a).erase b) P) :=
  bigSep_erase (Finset.mem_erase.mpr ⟨h, Finset.mem_univ _⟩)
theorem univ_take {P : Fin 125 → sProp 𝕄} (a : Fin 125) : bigSep Finset.univ P = iprop(P a ∗ bigSep (Finset.univ.erase a) P) :=
  bigSep_erase (Finset.mem_univ _)
theorem sl2_add2 (k : ℕ) : Ring.sl 2 (k + 1 + 1) = Ring.sl 2 k := by rw [show k + 1 + 1 = k + 2 from rfl, Ring.sl_add]

section Args
variable (arg0 : Memref sig .tc .smem S1x128 .i32) (harg0 : arg0.IsWhole) (arg1 : Memref sig .tc .vmem S20x4096x128 .i8) (harg1 : arg1.IsWhole) (arg2 : Memref sig .tc .vmem S20x128 .f32) (harg2 : arg2.IsWhole) (arg3 : Memref sig .tc .vmem S20x128 .i32) (harg3 : arg3.IsWhole) (arg4 : Memref sig .tc .vmem S250x128 .f32) (harg4 : arg4.IsWhole) (arg7 : Memref sig .tc .vmem S5x4x128 .f32) (harg7 : arg7.IsWhole) (arg8 : Memref sig .tc .vmem S5x4x128 .f32) (harg8 : arg8.IsWhole) (arg9 : Memref sig .tc .vmem S63x5x4x128 .f32) (harg9 : arg9.IsWhole)
  (harg5 : wM.IsWhole) (harg6 : mM.IsWhole) (harg10 : wB.IsWhole) (harg11 : mB.IsWhole) (harg12 : wsB.IsWhole) (harg13 : bmB.IsWhole) (harg14 : bsB.IsWhole) (harg15 : tlB.IsWhole) (harg16 : umB.IsWhole) (harg17 : usB.IsWhole) (harg18 : ulB.IsWhole)
variable (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty)

section T2
variable (st : St F) (v13 : BitVec 32) (k0_hw4 : k0_chk4 v13) (v25 : BitVec 32)

abbrev UN (i : ℕ) : Fin 125 := unitAt (anyW arg0 X0) k0_t1_loop.trips i
abbrev TU := unitTile XW XM arg1 arg2 arg3 arg4 X1 X2 X3 X4
/-- The five result buffers after `k` active units. -/
def stK (k : ℕ) : St F := St.at (unitTile XW XM arg1 arg2 arg3 arg4 X1 X2 X3 X4) (UN arg0 X0) st k

/-- The five buffers held at the state `s`. -/
def stP (s : St F) : sProp 𝕄 :=
  iprop((bmB.view.loc (c : Thread nD τ) ↦[bmB.view.set]{fullShare} s.bm) ∗ (bsB.view.loc (c : Thread nD τ) ↦[bsB.view.set]{fullShare} s.bs)
    ∗ (tlB.view.loc (c : Thread nD τ) ↦[tlB.view.set]{fullShare} s.tl) ∗ (umB.view.loc (c : Thread nD τ) ↦[umB.view.set]{fullShare} s.um)
    ∗ (usB.view.loc (c : Thread nD τ) ↦[usB.view.set]{fullShare} s.us))

/-- What the unit loop holds before trip `k`. -/
def t2Inv (k : ℕ) : sProp 𝕄 :=
  iprop((arg0.view.loc (c : Thread nD τ) ↦[arg0.view.set]{fullShare} X0) ∗ (arg1.view.loc (c : Thread nD τ) ↦[arg1.view.set]{fullShare} X1)
    ∗ (arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4)
    ∗ (∃ ul, ⌜UL (F := F) (anyW arg0 X0) k0_t1_loop.trips v13 ul⌝ ∗ (ulB.view.loc (c : Thread nD τ) ↦[ulB.view.set]{fullShare} ul))
    ∗ (∃ W, owes (c : Thread nD τ) 0 W)
    ∗ (∃ f, (wsB.view.loc (c : Thread nD τ) ↦[wsB.view.set]{fullShare} f))
    ∗ stP c (stK XW XM arg0 arg1 arg2 arg3 arg4 X0 X1 X2 X3 X4 st k)
    ∗ ringP c XW XM (k0_t2_loop v13).trips (UN arg0 X0) k)

set_option maxHeartbeats 4000000 in
/-- A trip with a next unit. -/
theorem trip2a (k : Fin (k0_t2_loop v13).trips) (acc : BitVec 32) (hc : k.val + 1 < (k0_t2_loop v13).trips) :
    t2Inv c XW XM arg0 arg1 arg2 arg3 arg4 X0 X1 X2 X3 X4 st v13 k.val
      ⊢ wp frame (wpE (defs₀ (F := F)) 𝒱₀ (c : Thread nD τ) none) Set.univ
          (k0_t2_body (F := F) arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10 v13 k0_hw4 0#32 0#32 v25 k acc)
          (fun _ => t2Inv c XW XM arg0 arg1 arg2 arg3 arg4 X0 X1 X2 X3 X4 st v13 (k.val + 1)) := by
  have hN : k0_t1_loop.trips ≤ 125 := k0_t1_abs.2.1
  have hk := k.isLt
  unfold t2Inv ringP
  rw [if_pos hk]
  unfold stP ringOn
  have hC : k0_cond3 v13 k = 1#1 := (cond3_iff v13 k).mpr hc
  by_cases hul' : ∃ ul, UL (F := F) (anyW arg0 X0) k0_t1_loop.trips v13 ul
  swap
  · iintro ⟨H0, H1, H2, H3, H4, ⟨%ul, %hul, HU⟩, HX⟩
    exact absurd ⟨ul, hul⟩ hul'
  have hne : UN arg0 X0 (k.val + 1) ≠ UN arg0 X0 k.val := by
    obtain ⟨ul, hul⟩ := hul'
    have h := unitAt_lt (a := anyW arg0 X0) hN (i := k.val) (j := k.val + 1) (by rw [← UL_trips hN hul]; exact hc) (by omega)
    intro e; rw [UN, UN] at e; rw [e] at h; omega
  rw [erase_take (P := whomeP c XW) hne, erase_take (P := mhomeP c XM) hne]
  iintro ⟨H0, H1, H2, H3, H4, ⟨%ul, %hul, HU⟩, ⟨%W, HW⟩, ⟨%fS, HS⟩, ⟨HBM, HBS, HTL, HUM, HUS⟩, ⟨%fw, HFW⟩, ⟨%fm, HFM⟩, ⟨%gw, HGW⟩, ⟨%gm, HGM⟩, HCW, HCM, ⟨HWN, HHW⟩, ⟨HMN, HHM⟩⟩
  unfold k0_t2_body
  sl_exec
  have hr : trip2a.sl.r (F := F) v13 k0_hw4 k ul = BitVec.ofNat 32 (UN arg0 X0 k.val).val := UL_word hN hul hk (off6_eq v13 k) _
  rw [hr]
  have h7 := chk7u (UN arg0 X0 k.val)
  sl_exec
  have hr1 : trip2a.sl.r_1 (F := F) v13 k0_hw4 k hC ul = BitVec.ofNat 32 (UN arg0 X0 (k.val + 1)).val := UL_word hN hul hc (off7_eq v13 k) _
  rw [hr1]
  have h5 := chk5u (v := v13) (k := k) (UN arg0 X0 (k.val + 1))
  sl_exec
  have hr2 : trip2a.sl.r_2 (F := F) v13 k0_hw4 k hC ul = BitVec.ofNat 32 (UN arg0 X0 (k.val + 1)).val := UL_word hN hul hc (off11_eq v13 k) _
  rw [hr2]
  have h6 := chk6u (v := v13) (k := k) (UN arg0 X0 (k.val + 1))
  sl_exec
  have hT : tileRd arg1 arg2 arg3 v13 k0_hw4 k (BitVec.ofNat 32 (UN arg0 X0 k.val).val) X1 X2 X3 (landedW XW (Ring.sl 2 k.val) (UN arg0 X0 k.val) (wslot (Ring.sl 2 k.val)).view.junk)
      (landedM XM (Ring.sl 2 k.val) (UN arg0 X0 k.val) (mslot (Ring.sl 2 k.val)).view.junk) (wsB.view.writes (Elt F) wsB.view.junk (trip2a.sl.HS_2 (F := F) arg0 arg4 X0 X4 v13 k h7))
        = unitTile XW XM arg1 arg2 arg3 arg4 X1 X2 X3 X4 (UN arg0 X0 k.val) :=
    tileRd_eq XW XM arg1 arg2 arg3 arg4 X1 X2 X3 X4 v13 k0_hw4 k (UN arg0 X0 k.val) _ _ wsB.view.junk _ _ rfl rfl
  have e131 : trip2a.sl.v131 (F := F) XW XM arg0 arg1 arg2 arg3 arg4 X0 X1 X2 X3 X4 st v13 k0_hw4 k h7
      = umB.view.readAt (Elt F) fullR.toLoadRect ((stK XW XM arg0 arg1 arg2 arg3 arg4 X0 X1 X2 X3 X4 st k.val).um' (unitTile XW XM arg1 arg2 arg3 arg4 X1 X2 X3 X4) (UN arg0 X0 k.val)) := by unfold St.um'; rw [← hT]; rfl
  have e143 : trip2a.sl.v143 (F := F) XW XM arg0 arg1 arg2 arg3 arg4 X0 X1 X2 X3 X4 st v13 k0_hw4 k h7
      = usB.view.readAt (Elt F) fullR.toLoadRect ((stK XW XM arg0 arg1 arg2 arg3 arg4 X0 X1 X2 X3 X4 st k.val).us' (unitTile XW XM arg1 arg2 arg3 arg4 X1 X2 X3 X4) (UN arg0 X0 k.val)) := by unfold St.us'; rw [← hT]; rfl
  rw [hT, e131, e143]
  rw [if_pos hc, erase_take (P := whomeP c XW) hne.symm, erase_take (P := mhomeP c XM) hne.symm, Finset.erase_right_comm, sl2_add2]
  sl_step
  isplitl [H0]; · iexact H0
  isplitl [H1]; · iexact H1
  isplitl [H2]; · iexact H2
  isplitl [H3]; · iexact H3
  isplitl [H4]; · iexact H4
  isplitl [HU]
  · iexists ul
    isplitr; · ipureintro; exact hul
    iexact HU
  isplitl [HW]; · iexists _; iexact HW
  isplitl [HS]; · iexists _; iexact HS
  isplitl [HBM HBS HTL HUM HUS]
  · isplitl [HBM]; · iexact HBM
    isplitl [HBS]; · iexact HBS
    isplitl [HTL]; · iexact HTL
    isplitl [HUM]; · iexact HUM
    iexact HUS
  isplitl [HCW]; · iexists gw; iexact HCW
  isplitl [HCM]; · iexists gm; iexact HCM
  isplitl [HFW_dst]; · iexists _; iexact HFW_dst
  isplitl [HFM_dst]; · iexists _; iexact HFM_dst
  isplitl [HFW]; · iexact HFW
  isplitl [HFM]; · iexact HFM
  isplitl [HFW_src HHW]
  · isplitl [HFW_src]; · iexact HFW_src
    iexact HHW
  isplitl [HFM_src]; · iexact HFM_src
  iexact HHM

set_option maxHeartbeats 4000000 in
/-- The last trip. -/
theorem trip2b (k : Fin (k0_t2_loop v13).trips) (acc : BitVec 32) (hc : ¬ k.val + 1 < (k0_t2_loop v13).trips) :
    t2Inv c XW XM arg0 arg1 arg2 arg3 arg4 X0 X1 X2 X3 X4 st v13 k.val
      ⊢ wp frame (wpE (defs₀ (F := F)) 𝒱₀ (c : Thread nD τ) none) Set.univ
          (k0_t2_body (F := F) arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10 v13 k0_hw4 0#32 0#32 v25 k acc)
          (fun _ => t2Inv c XW XM arg0 arg1 arg2 arg3 arg4 X0 X1 X2 X3 X4 st v13 (k.val + 1)) := by
  have hN : k0_t1_loop.trips ≤ 125 := k0_t1_abs.2.1
  have hk := k.isLt
  unfold t2Inv ringP
  rw [if_pos hk]
  unfold stP ringOn
  have hC : ¬ k0_cond3 v13 k = 1#1 := fun h => hc ((cond3_iff v13 k).mp h)
  iintro ⟨H0, H1, H2, H3, H4, ⟨%ul, %hul, HU⟩, ⟨%W, HW⟩, ⟨%fS, HS⟩, ⟨HBM, HBS, HTL, HUM, HUS⟩, ⟨%fw, HFW⟩, ⟨%fm, HFM⟩, ⟨%gw, HGW⟩, ⟨%gm, HGM⟩, HCW, HCM, HHW, HHM⟩
  unfold k0_t2_body
  sl_exec
  have hr : trip2b.sl.r (F := F) v13 k0_hw4 k ul = BitVec.ofNat 32 (UN arg0 X0 k.val).val := UL_word hN hul hk (off6_eq v13 k) _
  rw [hr]
  have h7 := chk7u (UN arg0 X0 k.val)
  sl_exec

  have hT : tileRd arg1 arg2 arg3 v13 k0_hw4 k (BitVec.ofNat 32 (UN arg0 X0 k.val).val) X1 X2 X3 (landedW XW (Ring.sl 2 k.val) (UN arg0 X0 k.val) (wslot (Ring.sl 2 k.val)).view.junk)
      (landedM XM (Ring.sl 2 k.val) (UN arg0 X0 k.val) (mslot (Ring.sl 2 k.val)).view.junk) (wsB.view.writes (Elt F) wsB.view.junk (trip2b.sl.HS_2 (F := F) arg0 arg4 X0 X4 v13 k h7))
        = unitTile XW XM arg1 arg2 arg3 arg4 X1 X2 X3 X4 (UN arg0 X0 k.val) :=
    tileRd_eq XW XM arg1 arg2 arg3 arg4 X1 X2 X3 X4 v13 k0_hw4 k (UN arg0 X0 k.val) _ _ wsB.view.junk _ _ rfl rfl
  have e131 : trip2b.sl.v131 (F := F) XW XM arg0 arg1 arg2 arg3 arg4 X0 X1 X2 X3 X4 st v13 k0_hw4 k h7
      = umB.view.readAt (Elt F) fullR.toLoadRect ((stK XW XM arg0 arg1 arg2 arg3 arg4 X0 X1 X2 X3 X4 st k.val).um' (unitTile XW XM arg1 arg2 arg3 arg4 X1 X2 X3 X4) (UN arg0 X0 k.val)) := by unfold St.um'; rw [← hT]; rfl
  have e143 : trip2b.sl.v143 (F := F) XW XM arg0 arg1 arg2 arg3 arg4 X0 X1 X2 X3 X4 st v13 k0_hw4 k h7
      = usB.view.readAt (Elt F) fullR.toLoadRect ((stK XW XM arg0 arg1 arg2 arg3 arg4 X0 X1 X2 X3 X4 st k.val).us' (unitTile XW XM arg1 arg2 arg3 arg4 X1 X2 X3 X4) (UN arg0 X0 k.val)) := by unfold St.us'; rw [← hT]; rfl
  rw [hT, e131, e143]
  rw [if_neg hc]
  unfold ringOff
  rw [sl2_add2, univ_take (P := whomeP c XW) (UN arg0 X0 k.val), univ_take (P := mhomeP c XM) (UN arg0 X0 k.val)]
  sl_step
  isplitl [H0]; · iexact H0
  isplitl [H1]; · iexact H1
  isplitl [H2]; · iexact H2
  isplitl [H3]; · iexact H3
  isplitl [H4]; · iexact H4
  isplitl [HU]
  · iexists ul
    isplitr; · ipureintro; exact hul
    iexact HU
  isplitl [HW]; · iexists _; iexact HW
  isplitl [HS]; · iexists _; iexact HS
  isplitl [HBM HBS HTL HUM HUS]
  · isplitl [HBM]; · iexact HBM
    isplitl [HBS]; · iexact HBS
    isplitl [HTL]; · iexact HTL
    isplitl [HUM]; · iexact HUM
    iexact HUS
  isplitl [HGW]; · iexists _; iexact HGW
  isplitl [HGM]; · iexists _; iexact HGM
  isplitl [HFW_dst]; · iexists _; iexact HFW_dst
  isplitl [HFM_dst]; · iexists _; iexact HFM_dst
  isplitl [HCW]; · iexact HCW
  isplitl [HCM]; · iexact HCM
  isplitl [HFW]; · iexact HFW
  isplitl [HFM]; · iexact HFM
  isplitl [HFW_src HHW]
  · isplitl [HFW_src]; · iexact HFW_src
    iexact HHW
  isplitl [HFM_src]; · iexact HFM_src
  iexact HHM

set_option warn.classDefReducibility false in
/-- The loop over the active units: after `k` of them the five buffers hold `stK … k`. -/
@[sl_loop] def loopInv2 (bm0 : BufTy.Contents (Elt F) bmB.view.ty) (bs0 : BufTy.Contents (Elt F) bsB.view.ty) (tl0 : BufTy.Contents (Elt F) tlB.view.ty)
    (um0 : BufTy.Contents (Elt F) umB.view.ty) (us0 : BufTy.Contents (Elt F) usB.view.ty) (init : BitVec 32) :
    LoopInvTy_k0_t2 (F := F) Unit ℕ (Pipeline.UD sig nD τ) ℕ 𝒱₀ c none Set.univ arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10 v13 k0_hw4 0#32 0#32 v25 init where
  inv k _ := t2Inv c XW XM arg0 arg1 arg2 arg3 arg4 X0 X1 X2 X3 X4 ⟨bm0, bs0, tl0, um0, us0⟩ v13 k
  step k acc := by
    by_cases hc : k.val + 1 < (k0_t2_loop v13).trips
    · exact trip2a c XW XM arg0 harg0 arg1 harg1 arg2 harg2 arg3 harg3 arg4 harg4 arg7 harg7 arg8 harg8 arg9 harg9 harg5 harg6 harg10 harg11 harg12 harg13 harg14 harg15 harg16 harg17 harg18 X0 X1 X2 X3 X4 _ v13 k0_hw4 v25 k acc hc
    · exact trip2b c XW XM arg0 harg0 arg1 harg1 arg2 harg2 arg3 harg3 arg4 harg4 arg7 harg7 arg8 harg8 arg9 harg9 harg5 harg6 harg10 harg11 harg12 harg13 harg14 harg15 harg16 harg17 harg18 X0 X1 X2 X3 X4 _ v13 k0_hw4 v25 k acc hc

set_option warn.classDefReducibility false in
/-- The unit loop's remainder never runs. -/
@[sl_loop] def loopInv4 (a19 a20 v29 init : BitVec 32) :
    LoopInvTy_k0_t4 (F := F) Unit ℕ (Pipeline.UD sig nD τ) ℕ 𝒱₀ c none Set.univ arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10 v13 k0_hw4 a19 a20 v25 v29 init where
  inv _ _ := iprop(emp)
  step k _ := (no_t4 v13 k).elim
end T2
end Args

end Cert.Proof.Score
-- ==== Proof.KScoreTail.lean ====
/-
  The score kernel after its first copies are under way: the unit loop, then the reduction over the blocks.
-/
module

public import proofs.«01_k».proof.Proof.KScoreRing
public import Idealize.ShloMosaic.Lib.VecWindow

@[expose] public section

noncomputable section

namespace Cert.Proof.Score

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD)

variable (XW : BufTy.Contents (Elt F) wM.view.ty) (XM : BufTy.Contents (Elt F) mM.view.ty)

section Args
variable (arg0 : Memref sig .tc .smem S1x128 .i32) (harg0 : arg0.IsWhole) (arg1 : Memref sig .tc .vmem S20x4096x128 .i8) (harg1 : arg1.IsWhole) (arg2 : Memref sig .tc .vmem S20x128 .f32) (harg2 : arg2.IsWhole) (arg3 : Memref sig .tc .vmem S20x128 .i32) (harg3 : arg3.IsWhole) (arg4 : Memref sig .tc .vmem S250x128 .f32) (harg4 : arg4.IsWhole) (arg7 : Memref sig .tc .vmem S5x4x128 .f32) (harg7 : arg7.IsWhole) (arg8 : Memref sig .tc .vmem S5x4x128 .f32) (harg8 : arg8.IsWhole) (arg9 : Memref sig .tc .vmem S63x5x4x128 .f32) (harg9 : arg9.IsWhole)
  (harg5 : wM.IsWhole) (harg6 : mM.IsWhole) (harg10 : wB.IsWhole) (harg11 : mB.IsWhole) (harg12 : wsB.IsWhole) (harg13 : bmB.IsWhole) (harg14 : bsB.IsWhole) (harg15 : tlB.IsWhole) (harg16 : umB.IsWhole) (harg17 : usB.IsWhole) (harg18 : ulB.IsWhole)
variable (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty)
variable (g7 : BufTy.Contents (Elt F) arg7.view.ty) (g8 : BufTy.Contents (Elt F) arg8.view.ty) (g9 : BufTy.Contents (Elt F) arg9.view.ty)

/-- The five buffers before the first unit: maxima at minus infinity, sums at zero. -/
def st0 : St F where
  bm := bmB.view.writes (Elt F) bmB.view.junk [⟨Rect.unit (s := S63x24x128) ![0, 0, 0] S63x24x128.size inb_S63x24x128_S63x24x128_0_0_0, k0_pay57⟩]
  bs := bsB.view.writes (Elt F) bsB.view.junk [⟨Rect.unit (s := S63x24x128) ![0, 0, 0] S63x24x128.size inb_S63x24x128_S63x24x128_0_0_0, k0_pay58⟩]
  tl := tlB.view.writes (Elt F) tlB.view.junk [⟨Rect.unit (s := S24x128) ![0, 0] S24x128.size inb_S24x128_S24x128_0_0, k0_pay59⟩]
  um := umB.view.writes (Elt F) umB.view.junk [⟨Rect.unit (s := S24x128) ![0, 0] S24x128.size inb_S24x128_S24x128_0_0, k0_pay60⟩]
  us := usB.view.writes (Elt F) usB.view.junk [⟨Rect.unit (s := S24x128) ![0, 0] S24x128.size inb_S24x128_S24x128_0_0, k0_pay61⟩]

/-- The five buffers after `n` active units, the maximum and the sum over all blocks, the target's logit. -/
abbrev stN (n : ℕ) : St F := stK XW XM arg0 arg1 arg2 arg3 arg4 X0 X1 X2 X3 X4 st0 n
def mFin (n : ℕ) : FVec F S24x128 .f32 := mAt (stN XW XM arg0 arg1 arg2 arg3 arg4 X0 X1 X2 X3 X4 n).bm (stN XW XM arg0 arg1 arg2 arg3 arg4 X0 X1 X2 X3 X4 n).bs k0_pay70 k0_t6_loop.trips
def sFin (n : ℕ) : FVec F S24x128 .f32 := sAt (stN XW XM arg0 arg1 arg2 arg3 arg4 X0 X1 X2 X3 X4 n).bm (stN XW XM arg0 arg1 arg2 arg3 arg4 X0 X1 X2 X3 X4 n).bs (mFin XW XM arg0 arg1 arg2 arg3 arg4 X0 X1 X2 X3 X4 n) k0_pay72 k0_t7_loop.trips
def tFin (n : ℕ) : Vec F S24x128 .f32 := tlB.view.readAt (Elt F) fullR.toLoadRect (stN XW XM arg0 arg1 arg2 arg3 arg4 X0 X1 X2 X3 X4 n).tl
/-- What the three results hold. -/
def out7 (g7 : BufTy.Contents (Elt F) arg7.view.ty) (n : ℕ) : BufTy.Contents (Elt F) arg7.view.ty :=
  arg7.view.writes (Elt F) g7 [⟨Rect.unit (s := S5x4x128) ![0, 0, 0] S5x4x128.size inb_S5x4x128_S5x4x128_0_0_0, k0_pay79 (mFin XW XM arg0 arg1 arg2 arg3 arg4 X0 X1 X2 X3 X4 n) (sFin XW XM arg0 arg1 arg2 arg3 arg4 X0 X1 X2 X3 X4 n)⟩]
def out8v (n : ℕ) : FVec F S5x4x128 .f32 := k0_pay80 (mFin XW XM arg0 arg1 arg2 arg3 arg4 X0 X1 X2 X3 X4 n) (sFin XW XM arg0 arg1 arg2 arg3 arg4 X0 X1 X2 X3 X4 n) (tFin XW XM arg0 arg1 arg2 arg3 arg4 X0 X1 X2 X3 X4 n) (tFin XW XM arg0 arg1 arg2 arg3 arg4 X0 X1 X2 X3 X4 n)
def out8 (g8 : BufTy.Contents (Elt F) arg8.view.ty) (n : ℕ) : BufTy.Contents (Elt F) arg8.view.ty :=
  arg8.view.writes (Elt F) g8 [⟨Rect.unit (s := S5x4x128) ![0, 0, 0] S5x4x128.size inb_S5x4x128_S5x4x128_0_0_0, out8v XW XM arg0 arg1 arg2 arg3 arg4 X0 X1 X2 X3 X4 n⟩]
def out9 (n : ℕ) : BufTy.Contents (Elt F) arg9.view.ty := oAt arg9 (stN XW XM arg0 arg1 arg2 arg3 arg4 X0 X1 X2 X3 X4 n).bm (stN XW XM arg0 arg1 arg2 arg3 arg4 X0 X1 X2 X3 X4 n).bs g9 k0_t7_loop.trips

/-- What is held after the body, but for the second result. -/
def tailPost (n : ℕ) : sProp 𝕄 :=
  iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (arg7.view.loc (c : Thread nD τ) ↦[arg7.view.set]{fullShare} (out7 XW XM arg0 arg1 arg2 arg3 arg4 arg7 X0 X1 X2 X3 X4 g7 n)) ∗ (arg9.view.loc (c : Thread nD τ) ↦[arg9.view.set]{fullShare} (out9 XW XM arg0 arg1 arg2 arg3 arg4 arg9 X0 X1 X2 X3 X4 g9 n))
    ∗ (∃ f, (wsB.view.loc (c : Thread nD τ) ↦[wsB.view.set]{fullShare} f)) ∗ (∃ f, (bmB.view.loc (c : Thread nD τ) ↦[bmB.view.set]{fullShare} f)) ∗ (∃ f, (bsB.view.loc (c : Thread nD τ) ↦[bsB.view.set]{fullShare} f)) ∗ (∃ f, (tlB.view.loc (c : Thread nD τ) ↦[tlB.view.set]{fullShare} f)) ∗ (∃ f, (umB.view.loc (c : Thread nD τ) ↦[umB.view.set]{fullShare} f)) ∗ (∃ f, (usB.view.loc (c : Thread nD τ) ↦[usB.view.set]{fullShare} f)) ∗ (∃ f, (ulB.view.loc (c : Thread nD τ) ↦[ulB.view.set]{fullShare} f))
    ∗ ringOff c XW XM n ∗ (∃ W, owes (c : Thread nD τ) 0 W))

/-- The unit loop's invariant at its end, opened. -/
def t2Post (st : St F) (v13 : BitVec 32) (n : ℕ) : sProp 𝕄 :=
  iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (∃ ul, ⌜UL (F := F) (anyW arg0 X0) k0_t1_loop.trips v13 ul⌝ ∗ (ulB.view.loc (c : Thread nD τ) ↦[ulB.view.set]{fullShare} ul))
    ∗ (∃ W, owes (c : Thread nD τ) 0 W)
    ∗ (∃ f, (wsB.view.loc (c : Thread nD τ) ↦[wsB.view.set]{fullShare} f))
    ∗ (bmB.view.loc (c : Thread nD τ) ↦[bmB.view.set]{fullShare} (stK XW XM arg0 arg1 arg2 arg3 arg4 X0 X1 X2 X3 X4 st n).bm) ∗ (bsB.view.loc (c : Thread nD τ) ↦[bsB.view.set]{fullShare} (stK XW XM arg0 arg1 arg2 arg3 arg4 X0 X1 X2 X3 X4 st n).bs) ∗ (tlB.view.loc (c : Thread nD τ) ↦[tlB.view.set]{fullShare} (stK XW XM arg0 arg1 arg2 arg3 arg4 X0 X1 X2 X3 X4 st n).tl) ∗ (umB.view.loc (c : Thread nD τ) ↦[umB.view.set]{fullShare} (stK XW XM arg0 arg1 arg2 arg3 arg4 X0 X1 X2 X3 X4 st n).um) ∗ (usB.view.loc (c : Thread nD τ) ↦[usB.view.set]{fullShare} (stK XW XM arg0 arg1 arg2 arg3 arg4 X0 X1 X2 X3 X4 st n).us)
    ∗ ringOff c XW XM n)
theorem t2Exit (st : St F) (v13 : BitVec 32) : t2Inv c XW XM arg0 arg1 arg2 arg3 arg4 X0 X1 X2 X3 X4 st v13 (k0_t2_loop v13).trips ⊢ t2Post c XW XM arg0 arg1 arg2 arg3 arg4 X0 X1 X2 X3 X4 st v13 (k0_t2_loop v13).trips := by
  unfold t2Inv t2Post ringP stP
  rw [if_neg (Nat.lt_irrefl _)]
  iintro ⟨H0, H1, H2, H3, H4, HU, HW, HS, ⟨HBM, HBS, HTL, HUM, HUS⟩, HR⟩
  isplitl [H0]; · iexact H0
  isplitl [H1]; · iexact H1
  isplitl [H2]; · iexact H2
  isplitl [H3]; · iexact H3
  isplitl [H4]; · iexact H4
  isplitl [HU]; · iexact HU
  isplitl [HW]; · iexact HW
  isplitl [HS]; · iexact HS
  isplitl [HBM]; · iexact HBM
  isplitl [HBS]; · iexact HBS
  isplitl [HTL]; · iexact HTL
  isplitl [HUM]; · iexact HUM
  isplitl [HUS]; · iexact HUS
  iexact HR
instance exit2 (v13 : BitVec 32) (h4 : k0_chk4 v13) (v25 : BitVec 32) (bm0 bs0 tl0 um0 us0 init) :
    LoopExit (loopInv2 (F := F) c XW XM arg0 harg0 arg1 harg1 arg2 harg2 arg3 harg3 arg4 harg4 arg7 harg7 arg8 harg8 arg9 harg9 harg5 harg6 harg10 harg11 harg12 harg13 harg14 harg15 harg16 harg17 harg18 X0 X1 X2 X3 X4 v13 h4 v25 bm0 bs0 tl0 um0 us0 init) where
  post _ := t2Post c XW XM arg0 arg1 arg2 arg3 arg4 X0 X1 X2 X3 X4 ⟨bm0, bs0, tl0, um0, us0⟩ v13 (k0_t2_loop v13).trips
  exit _ := t2Exit c XW XM arg0 arg1 arg2 arg3 arg4 X0 X1 X2 X3 X4 _ v13

attribute [local irreducible] t2Inv
set_option maxHeartbeats 4000000 in
theorem tailRun (v13 : BitVec 32) (h4 : k0_chk4 v13) (v25 : BitVec 32) (Q : FVec F S5x4x128 .f32 → sProp 𝕄) :
    iprop(t2Inv c XW XM arg0 arg1 arg2 arg3 arg4 X0 X1 X2 X3 X4 st0 v13 0 ∗ (arg7.view.loc (c : Thread nD τ) ↦[arg7.view.set]{fullShare} g7) ∗ (arg9.view.loc (c : Thread nD τ) ↦[arg9.view.set]{fullShare} g9)
      ∗ (∀ v, (⌜v = out8v XW XM arg0 arg1 arg2 arg3 arg4 X0 X1 X2 X3 X4 (k0_t2_loop v13).trips⌝ ∗ tailPost c XW XM arg0 arg1 arg2 arg3 arg4 arg7 arg9 X0 X1 X2 X3 X4 g7 g9 (k0_t2_loop v13).trips) -∗ Q v))
      ⊢ wp frame (wpE (defs₀ (F := F)) 𝒱₀ (c : Thread nD τ) none) Set.univ (k0_part18 (F := F) arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10 v13 h4 0#32 0#32 v25) Q := by
  let L2 := loopInv2 (F := F) c XW XM arg0 harg0 arg1 harg1 arg2 harg2 arg3 harg3 arg4 harg4 arg7 harg7 arg8 harg8 arg9 harg9 harg5 harg6 harg10 harg11 harg12 harg13 harg14 harg15 harg16 harg17 harg18 X0 X1 X2 X3 X4 v13 h4 v25 st0.bm st0.bs st0.tl st0.um st0.us 0#32
  iintro ⟨HT, H7, H9, HQ⟩
  have htr : (k0_t4_loop v13).trips = 0 := trips4_eq v13
  unfold k0_part18
  let L6 := loopInv6 (F := F) c arg0 harg0 arg1 harg1 arg2 harg2 arg3 harg3 arg4 harg4 arg7 harg7 arg8 harg8 arg9 harg9 harg5 harg6 harg10 harg11 harg12 harg13 harg14 harg15 harg16 harg17 harg18 v13 h4 0#32 0#32 v25 (stK XW XM arg0 arg1 arg2 arg3 arg4 X0 X1 X2 X3 X4 ⟨st0.bm, st0.bs, st0.tl, st0.um, st0.us⟩ (k0_t2_loop v13).trips).bm (stK XW XM arg0 arg1 arg2 arg3 arg4 X0 X1 X2 X3 X4 ⟨st0.bm, st0.bs, st0.tl, st0.um, st0.us⟩ (k0_t2_loop v13).trips).bs k0_pay70
  let L7 := loopInv7 (F := F) c arg0 harg0 arg1 harg1 arg2 harg2 arg3 harg3 arg4 harg4 arg7 harg7 arg8 harg8 arg9 harg9 harg5 harg6 harg10 harg11 harg12 harg13 harg14 harg15 harg16 harg17 harg18 v13 h4 0#32 0#32 v25 (stK XW XM arg0 arg1 arg2 arg3 arg4 X0 X1 X2 X3 X4 ⟨st0.bm, st0.bs, st0.tl, st0.um, st0.us⟩ (k0_t2_loop v13).trips).bm (stK XW XM arg0 arg1 arg2 arg3 arg4 X0 X1 X2 X3 X4 ⟨st0.bm, st0.bs, st0.tl, st0.um, st0.us⟩ (k0_t2_loop v13).trips).bs
    (mAt (stK XW XM arg0 arg1 arg2 arg3 arg4 X0 X1 X2 X3 X4 ⟨st0.bm, st0.bs, st0.tl, st0.um, st0.us⟩ (k0_t2_loop v13).trips).bm (stK XW XM arg0 arg1 arg2 arg3 arg4 X0 X1 X2 X3 X4 ⟨st0.bm, st0.bs, st0.tl, st0.um, st0.us⟩ (k0_t2_loop v13).trips).bs k0_pay70 (Scf.trips k0_t6_loop.lb k0_t6_loop.ub k0_t6_loop.st)) g9 k0_pay72
  sl_exec
  sl_step
  iapply HQ
  isplitr; · ipureintro; rfl
  unfold tailPost ringOff
  isplitl [HL0]; · iexact HL0
  isplitl [HL1]; · iexact HL1
  isplitl [HL2]; · iexact HL2
  isplitl [HL3]; · iexact HL3
  isplitl [HL4]; · iexact HL4
  isplitl [H7]; · iexact H7
  isplitl [H9]; · iexact H9
  isplitl [HL8]; · iexists _; iexact HL8
  isplitl [HL9]; · iexists _; iexact HL9
  isplitl [HL10]; · iexists _; iexact HL10
  isplitl [HL11]; · iexists _; iexact HL11
  isplitl [HL12]; · iexists _; iexact HL12
  isplitl [HL13]; · iexists _; iexact HL13
  isplitl [HL6]; · iexists _; iexact HL6
  isplitl [HL14 HL15 HL16 HL17 HL18 HL19 HL20 HL21 HL22 HL23]
  · isplitl [HL14]; · iexists _; iexact HL14
    isplitl [HL15]; · iexists _; iexact HL15
    isplitl [HL16]; · iexists _; iexact HL16
    isplitl [HL17]; · iexists _; iexact HL17
    isplitl [HL18]; · iexact HL18
    isplitl [HL19]; · iexact HL19
    isplitl [HL20]; · iexact HL20
    isplitl [HL21]; · iexact HL21
    isplitl [HL22]; · iexact HL22
    iexact HL23
  iexists _; iexact HL7

end Args

end Cert.Proof.Score
-- ==== Proof.KScoreBody.lean ====
/-
  The whole body of the score kernel, run once: what it leaves in its three results, as functions of what it reads.
-/
module

public import proofs.«01_k».proof.Proof.KScoreTail
public import Idealize.ShloMosaic.Lib.VecWindow

@[expose] public section

noncomputable section

namespace Cert.Proof.Score

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD)

variable (XW : BufTy.Contents (Elt F) wM.view.ty) (XM : BufTy.Contents (Elt F) mM.view.ty)

section Args
variable (arg0 : Memref sig .tc .smem S1x128 .i32) (harg0 : arg0.IsWhole) (arg1 : Memref sig .tc .vmem S20x4096x128 .i8) (harg1 : arg1.IsWhole) (arg2 : Memref sig .tc .vmem S20x128 .f32) (harg2 : arg2.IsWhole) (arg3 : Memref sig .tc .vmem S20x128 .i32) (harg3 : arg3.IsWhole) (arg4 : Memref sig .tc .vmem S250x128 .f32) (harg4 : arg4.IsWhole) (arg7 : Memref sig .tc .vmem S5x4x128 .f32) (harg7 : arg7.IsWhole) (arg8 : Memref sig .tc .vmem S5x4x128 .f32) (harg8 : arg8.IsWhole) (arg9 : Memref sig .tc .vmem S63x5x4x128 .f32) (harg9 : arg9.IsWhole)
  (harg5 : wM.IsWhole) (harg6 : mM.IsWhole) (harg10 : wB.IsWhole) (harg11 : mB.IsWhole) (harg12 : wsB.IsWhole) (harg13 : bmB.IsWhole) (harg14 : bsB.IsWhole) (harg15 : tlB.IsWhole) (harg16 : umB.IsWhole) (harg17 : usB.IsWhole) (harg18 : ulB.IsWhole)
variable (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty)
variable (g7 : BufTy.Contents (Elt F) arg7.view.ty) (g8 : BufTy.Contents (Elt F) arg8.view.ty) (g9 : BufTy.Contents (Elt F) arg9.view.ty)

/-- What is held before the unit loop. -/
theorem t2Start (v13 : BitVec 32) (ul : BufTy.Contents (Elt F) ulB.view.ty) (hul : UL (F := F) (anyW arg0 X0) k0_t1_loop.trips v13 ul) (W) (fS : BufTy.Contents (Elt F) wsB.view.ty) :
    iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
      ∗ (ulB.view.loc (c : Thread nD τ) ↦[ulB.view.set]{fullShare} ul) ∗ owes (c : Thread nD τ) 0 W ∗ (wsB.view.loc (c : Thread nD τ) ↦[wsB.view.set]{fullShare} fS)
      ∗ (bmB.view.loc (c : Thread nD τ) ↦[bmB.view.set]{fullShare} (st0 (F := F)).bm) ∗ (bsB.view.loc (c : Thread nD τ) ↦[bsB.view.set]{fullShare} (st0 (F := F)).bs) ∗ (tlB.view.loc (c : Thread nD τ) ↦[tlB.view.set]{fullShare} (st0 (F := F)).tl) ∗ (umB.view.loc (c : Thread nD τ) ↦[umB.view.set]{fullShare} (st0 (F := F)).um) ∗ (usB.view.loc (c : Thread nD τ) ↦[usB.view.set]{fullShare} (st0 (F := F)).us)
      ∗ ringP c XW XM (k0_t2_loop v13).trips (UN arg0 X0) 0) ⊢ t2Inv c XW XM arg0 arg1 arg2 arg3 arg4 X0 X1 X2 X3 X4 st0 v13 0 := by
  unfold t2Inv stP
  iintro ⟨H0, H1, H2, H3, H4, HUL, HW, HS, HBM, HBS, HTL, HUM, HUS, HR⟩
  isplitl [H0]; · iexact H0
  isplitl [H1]; · iexact H1
  isplitl [H2]; · iexact H2
  isplitl [H3]; · iexact H3
  isplitl [H4]; · iexact H4
  isplitl [HUL]
  · iexists ul
    isplitr; · ipureintro; exact hul
    iexact HUL
  isplitl [HW]; · iexists _; iexact HW
  isplitl [HS]; · iexists _; iexact HS
  isplitl [HBM HBS HTL HUM HUS]
  · isplitl [HBM]; · iexact HBM
    isplitl [HBS]; · iexact HBS
    isplitl [HTL]; · iexact HTL
    isplitl [HUM]; · iexact HUM
    iexact HUS
  iexact HR

/-- What is held after the body. -/
def bodyPost : sProp 𝕄 :=
  iprop(tailPost c XW XM arg0 arg1 arg2 arg3 arg4 arg7 arg9 X0 X1 X2 X3 X4 g7 g9 (units (anyW arg0 X0) k0_t1_loop.trips).length ∗ (arg8.view.loc (c : Thread nD τ) ↦[arg8.view.set]{fullShare} (out8 XW XM arg0 arg1 arg2 arg3 arg4 arg8 X0 X1 X2 X3 X4 g8 (units (anyW arg0 X0) k0_t1_loop.trips).length)))

set_option maxHeartbeats 4000000 in
/-- The body from the unit loop on. -/
theorem restRun (v13 : BitVec 32) (h4 : k0_chk4 v13) (v25 : BitVec 32) (ul : BufTy.Contents (Elt F) ulB.view.ty) (hul : UL (F := F) (anyW arg0 X0) k0_t1_loop.trips v13 ul) (W) (fS : BufTy.Contents (Elt F) wsB.view.ty) (Q : PUnit → sProp 𝕄) :
    iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
      ∗ (ulB.view.loc (c : Thread nD τ) ↦[ulB.view.set]{fullShare} ul) ∗ owes (c : Thread nD τ) 0 W ∗ (wsB.view.loc (c : Thread nD τ) ↦[wsB.view.set]{fullShare} fS)
      ∗ (bmB.view.loc (c : Thread nD τ) ↦[bmB.view.set]{fullShare} (st0 (F := F)).bm) ∗ (bsB.view.loc (c : Thread nD τ) ↦[bsB.view.set]{fullShare} (st0 (F := F)).bs) ∗ (tlB.view.loc (c : Thread nD τ) ↦[tlB.view.set]{fullShare} (st0 (F := F)).tl) ∗ (umB.view.loc (c : Thread nD τ) ↦[umB.view.set]{fullShare} (st0 (F := F)).um) ∗ (usB.view.loc (c : Thread nD τ) ↦[usB.view.set]{fullShare} (st0 (F := F)).us)
      ∗ ringP c XW XM (k0_t2_loop v13).trips (UN arg0 X0) 0
      ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9)
      ∗ (bodyPost c XW XM arg0 arg1 arg2 arg3 arg4 arg7 arg8 arg9 X0 X1 X2 X3 X4 g7 g8 g9 -∗ Q ⟨⟩))
      ⊢ wp frame (wpE (defs₀ (F := F)) 𝒱₀ (c : Thread nD τ) none) Set.univ (k0_part18 (F := F) arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10 v13 h4 0#32 0#32 v25)
          (fun v57 => wp frame (wpE (defs₀ (F := F)) 𝒱₀ (c : Thread nD τ) none) Set.univ (do
              let v58 : Vec F S5x4x128 .f32 ← Prog.lift (.load arg8 (Rect.unit (s := S5x4x128) ![0, 0, 0] S5x4x128.size inb_S5x4x128_S5x4x128_0_0_0).toLoadRect (View.loadsAt_vmem h_S5x4x128))
              Prog.lift (.store arg8 (Rect.unit (s := S5x4x128) ![0, 0, 0] S5x4x128.size inb_S5x4x128_S5x4x128_0_0_0) v57 Finset.univ (View.stores_vmem_bits_univ h_S5x4x128 rfl) (.inl rfl))
              pure ⟨⟩ : Prog (TpuEff nD τ sig (Elt F) Λ₀ .tc) PUnit) Q) := by
  have hN : k0_t1_loop.trips ≤ 125 := k0_t1_abs.2.1
  iintro ⟨H0, H1, H2, H3, H4, HUL, HW, HS, HBM, HBS, HTL, HUM, HUS, HR, H7, H8, H9, HQ⟩
  iapply (tailRun c XW XM arg0 harg0 arg1 harg1 arg2 harg2 arg3 harg3 arg4 harg4 arg7 harg7 arg8 harg8 arg9 harg9 harg5 harg6 harg10 harg11 harg12 harg13 harg14 harg15 harg16 harg17 harg18 X0 X1 X2 X3 X4 g7 g9 v13 h4 v25 _)
  isplitl [H0 H1 H2 H3 H4 HUL HW HS HBM HBS HTL HUM HUS HR]
  · iapply (t2Start c XW XM arg0 arg1 arg2 arg3 arg4 X0 X1 X2 X3 X4 v13 ul hul W fS)
    isplitl [H0]; · iexact H0
    isplitl [H1]; · iexact H1
    isplitl [H2]; · iexact H2
    isplitl [H3]; · iexact H3
    isplitl [H4]; · iexact H4
    isplitl [HUL]; · iexact HUL
    isplitl [HW]; · iexact HW
    isplitl [HS]; · iexact HS
    isplitl [HBM]; · iexact HBM
    isplitl [HBS]; · iexact HBS
    isplitl [HTL]; · iexact HTL
    isplitl [HUM]; · iexact HUM
    isplitl [HUS]; · iexact HUS
    iexact HR
  isplitl [H7]; · iexact H7
  isplitl [H9]; · iexact H9
  iintro %w ⟨%hw, HP⟩
  sl_exec
  sl_step
  iapply HQ
  unfold bodyPost out8
  rw [← UL_trips hN hul, ← hw]
  isplitl [HP]; · iexact HP
  iexact H8

set_option maxHeartbeats 4000000 in
/-- The body when some unit is active: the first one's copies are started before the unit loop. -/
theorem bodyRunA (hpos : 0 < (units (anyW arg0 X0) k0_t1_loop.trips).length) (Q : PUnit → sProp 𝕄) :
    iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
      ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9)
      ∗ (∃ f, (wsB.view.loc (c : Thread nD τ) ↦[wsB.view.set]{fullShare} f)) ∗ (∃ f, (bmB.view.loc (c : Thread nD τ) ↦[bmB.view.set]{fullShare} f)) ∗ (∃ f, (bsB.view.loc (c : Thread nD τ) ↦[bsB.view.set]{fullShare} f)) ∗ (∃ f, (tlB.view.loc (c : Thread nD τ) ↦[tlB.view.set]{fullShare} f)) ∗ (∃ f, (umB.view.loc (c : Thread nD τ) ↦[umB.view.set]{fullShare} f)) ∗ (∃ f, (usB.view.loc (c : Thread nD τ) ↦[usB.view.set]{fullShare} f)) ∗ (∃ f, (ulB.view.loc (c : Thread nD τ) ↦[ulB.view.set]{fullShare} f))
      ∗ ringOff c XW XM 0 ∗ (∃ W, owes (c : Thread nD τ) 0 W)
      ∗ (bodyPost c XW XM arg0 arg1 arg2 arg3 arg4 arg7 arg8 arg9 X0 X1 X2 X3 X4 g7 g8 g9 -∗ Q ⟨⟩))
      ⊢ wp frame (wpE (defs₀ (F := F)) 𝒱₀ (c : Thread nD τ) none) Set.univ (cc0_score (F := F) arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10) Q := by
  iintro ⟨H0, H1, H2, H3, H4, H7, H8, H9, ⟨%fS, HS⟩, ⟨%fBM, HBM⟩, ⟨%fBS, HBS⟩, ⟨%fTL, HTL⟩, ⟨%fUM, HUM⟩, ⟨%fUS, HUS⟩, ⟨%fUL, HUL⟩, HR, ⟨%W, HW⟩, HQ⟩
  have hUL : UL (F := F) (anyW arg0 X0) 0 0#32 fUL := UL_zero _ _
  have hN : k0_t1_loop.trips ≤ 125 := k0_t1_abs.2.1
  let L1 := loopInv1 (F := F) c arg0 harg0 arg1 harg1 arg2 harg2 arg3 harg3 arg4 harg4 arg7 harg7 arg8 harg8 arg9 harg9 harg5 harg6 harg10 harg11 harg12 harg13 harg14 harg15 harg16 harg17 harg18 X0 0#32
  unfold cc0_score
  sl_exec
  rename_i v13
  have hul : UL (F := F) (anyW arg0 X0) k0_t1_loop.trips v13 ulL0 := hL1
  have h4 := chk4_of v13 (UL_le hN hul)
  have hk : 0 < (k0_t2_loop v13).trips := by rw [UL_trips hN hul]; exact hpos
  have hC : k0_cond2 v13 = 1#1 := (cond2_iff v13).mpr hk
  unfold ringOff
  rw [univ_take (P := whomeP c XW) (UN arg0 X0 0), univ_take (P := mhomeP c XM) (UN arg0 X0 0)]
  icases HR with ⟨⟨%gw, HGW⟩, ⟨%gm, HGM⟩, HR1, HR2, HCW, HCM, HC1, HC2, ⟨HWN, HHW⟩, ⟨HMN, HHM⟩⟩
  sl_exec
  have hr : bodyRunA.sl.r (F := F) ulL0 = BitVec.ofNat 32 (UN arg0 X0 0).val := UL_word hN hul hk rfl _
  rw [hr]
  have h2 := chk2u (v := v13) (UN arg0 X0 0)
  sl_exec
  have hr1 : bodyRunA.sl.r_1 (F := F) ulL0 = BitVec.ofNat 32 (UN arg0 X0 0).val := UL_word hN hul hk rfl _
  rw [hr1]
  have h3 := chk3u (v := v13) (UN arg0 X0 0)
  sl_exec
  ihave HR : (ringP c XW XM (k0_t2_loop v13).trips (UN arg0 X0) 0) $$ [HR1 HR2 HC1 HC2 HHW HHM HCW HCM]
  · unfold ringP
    rw [if_pos hk]
    unfold ringOn
    isplitl [HCW]; · iexists gw; iexact HCW
    isplitl [HCM]; · iexists gm; iexact HCM
    isplitl [HR1]; · iexact HR1
    isplitl [HR2]; · iexact HR2
    isplitl [HC1]; · iexact HC1
    isplitl [HC2]; · iexact HC2
    isplitl [HHW]; · iexact HHW
    iexact HHM
  iapply (restRun c XW XM arg0 harg0 arg1 harg1 arg2 harg2 arg3 harg3 arg4 harg4 arg7 harg7 arg8 harg8 arg9 harg9 harg5 harg6 harg10 harg11 harg12 harg13 harg14 harg15 harg16 harg17 harg18 X0 X1 X2 X3 X4 g7 g8 g9 v13 h4 (bodyRunA.sl.v25 v13) ulL0 hul W fS Q)
  isplitl [H0]; · iexact H0
  isplitl [H1]; · iexact H1
  isplitl [H2]; · iexact H2
  isplitl [H3]; · iexact H3
  isplitl [H4]; · iexact H4
  isplitl [HUL]; · iexact HUL
  isplitl [HW]; · iexact HW
  isplitl [HS]; · iexact HS
  isplitl [HBM]; · iexact HBM
  isplitl [HBS]; · iexact HBS
  isplitl [HTL]; · iexact HTL
  isplitl [HUM]; · iexact HUM
  isplitl [HUS]; · iexact HUS
  isplitl [HR]; · iexact HR
  isplitl [H7]; · iexact H7
  isplitl [H8]; · iexact H8
  isplitl [H9]; · iexact H9
  iexact HQ

set_option maxHeartbeats 4000000 in
/-- The body when no unit is active. -/
theorem bodyRunB (h0 : ¬ 0 < (units (anyW arg0 X0) k0_t1_loop.trips).length) (Q : PUnit → sProp 𝕄) :
    iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
      ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9)
      ∗ (∃ f, (wsB.view.loc (c : Thread nD τ) ↦[wsB.view.set]{fullShare} f)) ∗ (∃ f, (bmB.view.loc (c : Thread nD τ) ↦[bmB.view.set]{fullShare} f)) ∗ (∃ f, (bsB.view.loc (c : Thread nD τ) ↦[bsB.view.set]{fullShare} f)) ∗ (∃ f, (tlB.view.loc (c : Thread nD τ) ↦[tlB.view.set]{fullShare} f)) ∗ (∃ f, (umB.view.loc (c : Thread nD τ) ↦[umB.view.set]{fullShare} f)) ∗ (∃ f, (usB.view.loc (c : Thread nD τ) ↦[usB.view.set]{fullShare} f)) ∗ (∃ f, (ulB.view.loc (c : Thread nD τ) ↦[ulB.view.set]{fullShare} f))
      ∗ ringOff c XW XM 0 ∗ (∃ W, owes (c : Thread nD τ) 0 W)
      ∗ (bodyPost c XW XM arg0 arg1 arg2 arg3 arg4 arg7 arg8 arg9 X0 X1 X2 X3 X4 g7 g8 g9 -∗ Q ⟨⟩))
      ⊢ wp frame (wpE (defs₀ (F := F)) 𝒱₀ (c : Thread nD τ) none) Set.univ (cc0_score (F := F) arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10) Q := by
  iintro ⟨H0, H1, H2, H3, H4, H7, H8, H9, ⟨%fS, HS⟩, ⟨%fBM, HBM⟩, ⟨%fBS, HBS⟩, ⟨%fTL, HTL⟩, ⟨%fUM, HUM⟩, ⟨%fUS, HUS⟩, ⟨%fUL, HUL⟩, HR, ⟨%W, HW⟩, HQ⟩
  have hUL : UL (F := F) (anyW arg0 X0) 0 0#32 fUL := UL_zero _ _
  have hN : k0_t1_loop.trips ≤ 125 := k0_t1_abs.2.1
  let L1 := loopInv1 (F := F) c arg0 harg0 arg1 harg1 arg2 harg2 arg3 harg3 arg4 harg4 arg7 harg7 arg8 harg8 arg9 harg9 harg5 harg6 harg10 harg11 harg12 harg13 harg14 harg15 harg16 harg17 harg18 X0 0#32
  unfold cc0_score
  sl_exec
  rename_i v13
  have hul : UL (F := F) (anyW arg0 X0) k0_t1_loop.trips v13 ulL0 := hL1
  have h4 := chk4_of v13 (UL_le hN hul)
  have hk : ¬ 0 < (k0_t2_loop v13).trips := by rw [UL_trips hN hul]; exact h0
  have hC : ¬ k0_cond2 v13 = 1#1 := fun h => hk ((cond2_iff v13).mp h)
  ihave HR : (ringP c XW XM (k0_t2_loop v13).trips (UN arg0 X0) 0) $$ [HR]
  · unfold ringP
    rw [if_neg hk]
    iexact HR
  sl_exec
  iapply (restRun c XW XM arg0 harg0 arg1 harg1 arg2 harg2 arg3 harg3 arg4 harg4 arg7 harg7 arg8 harg8 arg9 harg9 harg5 harg6 harg10 harg11 harg12 harg13 harg14 harg15 harg16 harg17 harg18 X0 X1 X2 X3 X4 g7 g8 g9 v13 h4 (bodyRunB.sl.v25 v13) ulL0 hul W fS Q)
  isplitl [H0]; · iexact H0
  isplitl [H1]; · iexact H1
  isplitl [H2]; · iexact H2
  isplitl [H3]; · iexact H3
  isplitl [H4]; · iexact H4
  isplitl [HUL]; · iexact HUL
  isplitl [HW]; · iexact HW
  isplitl [HS]; · iexact HS
  isplitl [HBM]; · iexact HBM
  isplitl [HBS]; · iexact HBS
  isplitl [HTL]; · iexact HTL
  isplitl [HUM]; · iexact HUM
  isplitl [HUS]; · iexact HUS
  isplitl [HR]; · iexact HR
  isplitl [H7]; · iexact H7
  isplitl [H8]; · iexact H8
  isplitl [H9]; · iexact H9
  iexact HQ

/-- The body, run once. -/
theorem bodyRun (Q : PUnit → sProp 𝕄) :
    iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
      ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9)
      ∗ (∃ f, (wsB.view.loc (c : Thread nD τ) ↦[wsB.view.set]{fullShare} f)) ∗ (∃ f, (bmB.view.loc (c : Thread nD τ) ↦[bmB.view.set]{fullShare} f)) ∗ (∃ f, (bsB.view.loc (c : Thread nD τ) ↦[bsB.view.set]{fullShare} f)) ∗ (∃ f, (tlB.view.loc (c : Thread nD τ) ↦[tlB.view.set]{fullShare} f)) ∗ (∃ f, (umB.view.loc (c : Thread nD τ) ↦[umB.view.set]{fullShare} f)) ∗ (∃ f, (usB.view.loc (c : Thread nD τ) ↦[usB.view.set]{fullShare} f)) ∗ (∃ f, (ulB.view.loc (c : Thread nD τ) ↦[ulB.view.set]{fullShare} f))
      ∗ ringOff c XW XM 0 ∗ (∃ W, owes (c : Thread nD τ) 0 W)
      ∗ (bodyPost c XW XM arg0 arg1 arg2 arg3 arg4 arg7 arg8 arg9 X0 X1 X2 X3 X4 g7 g8 g9 -∗ Q ⟨⟩))
      ⊢ wp frame (wpE (defs₀ (F := F)) 𝒱₀ (c : Thread nD τ) none) Set.univ (cc0_score (F := F) arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10) Q := by
  by_cases h : 0 < (units (anyW arg0 X0) k0_t1_loop.trips).length
  · exact bodyRunA c XW XM arg0 harg0 arg1 harg1 arg2 harg2 arg3 harg3 arg4 harg4 arg7 harg7 arg8 harg8 arg9 harg9 harg5 harg6 harg10 harg11 harg12 harg13 harg14 harg15 harg16 harg17 harg18 X0 X1 X2 X3 X4 g7 g8 g9 h Q
  · exact bodyRunB c XW XM arg0 harg0 arg1 harg1 arg2 harg2 arg3 harg3 arg4 harg4 arg7 harg7 arg8 harg8 arg9 harg9 harg5 harg6 harg10 harg11 harg12 harg13 harg14 harg15 harg16 harg17 harg18 X0 X1 X2 X3 X4 g7 g8 g9 h Q
end Args

end Cert.Proof.Score
-- ==== Proof.KScoreFrame.lean ====
/-
  The launch of the score kernel: its buffers and semaphores handed to the body, the run of the whole program, and the frame.
-/
module

public import proofs.«01_k».proof.Proof.KScoreBody
public import proofs.«01_k».proof.Proof.Gen.Kernel.Launch
public import proofs.«01_k».proof.Proof.Gen.Kernel.Points
public import proofs.«01_k».proof.Proof.Gen.Kernel.Frame
public import Idealize.ShloMosaic.Lib.VecWindow
public import Idealize.ShloMosaic.Lib.Pipeline.FrameBody
public import Idealize.ShloMosaic.Lib.Ring

@[expose] public section

noncomputable section

namespace Cert.Proof.Score

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)

/-! ## What the results' staging buffers read after the body -/

variable (XW : BufTy.Contents (Elt F) wM.view.ty) (XM : BufTy.Contents (Elt F) mM.view.ty)

theorem t7_trips : k0_t7_loop.trips = 63 := by decide +kernel
theorem off66_eq : ∀ k : Fin k0_t7_loop.trips, k0_off66 k = ![k.val, 0, 0, 0] := by decide +kernel

section Out
variable (arg9 : Memref sig .tc .vmem S63x5x4x128 .f32) (fBm : BufTy.Contents (Elt F) bmB.view.ty) (fBs : BufTy.Contents (Elt F) bsB.view.ty)

/-- A block's position within its row. -/
def o9Ix (y : S63x5x4x128.Idx) : S1x5x4x128.Idx := ix4 (0 : Fin 1) (⟨(y 1).val, (y 1).isLt⟩ : Fin 5) (⟨(y 2).val, (y 2).isLt⟩ : Fin 4) (⟨(y 3).val, (y 3).isLt⟩ : Fin 128)
/-- Block `y 0` of the third result. -/
def o9v (y : S63x5x4x128.Idx) : F .f32 :=
  k0_pay76 (bmRow' fBm ⟨(y 0).val, by rw [t7_trips]; exact (y 0).isLt⟩) (bsRow' fBs ⟨(y 0).val, by rw [t7_trips]; exact (y 0).isLt⟩) (o9Ix y)
theorem o9Ix_val (y : S63x5x4x128.Idx) (a : Fin 4) : (y a).val = (![(y 0).val, 0, 0, 0] : Fin 4 → ℕ) a + (o9Ix y a).val := by
  fin_cases a
  · exact (Nat.add_zero _).symm
  · exact (Nat.zero_add _).symm
  · exact (Nat.zero_add _).symm
  · exact (Nat.zero_add _).symm
theorem read_row_mem (o : BufTy.Contents (Elt F) arg9.view.ty) (off : Fin 4 → ℕ) (inb : ∀ a, off a + S1x5x4x128.size a ≤ S63x5x4x128.size a) (p : Vec F S1x5x4x128 .f32) (y : S63x5x4x128.Idx) (h : off = ![(y 0).val, 0, 0, 0]) :
    arg9.view.read (Elt F) (arg9.view.writes (Elt F) o [⟨Rect.unit (s := S63x5x4x128) off S1x5x4x128.size inb, p⟩]) y = p (o9Ix y) :=
  View.read_writes_cons_unit_of_mem arg9.view o inb p [] y (o9Ix y) h (o9Ix_val y)
theorem read_row_not_mem (o : BufTy.Contents (Elt F) arg9.view.ty) (off : Fin 4 → ℕ) (inb : ∀ a, off a + S1x5x4x128.size a ≤ S63x5x4x128.size a) (p : Vec F S1x5x4x128 .f32) (y : S63x5x4x128.Idx) (k : ℕ) (h : off = ![k, 0, 0, 0]) (hk : (y 0).val < k) :
    arg9.view.read (Elt F) (arg9.view.writes (Elt F) o [⟨Rect.unit (s := S63x5x4x128) off S1x5x4x128.size inb, p⟩]) y = arg9.view.read (Elt F) o y :=
  View.read_writes_cons_unit_of_not_mem arg9.view o inb p [] y h 0 (.inl hk)

theorem read_oAt (o0) (y : S63x5x4x128.Idx) (k : ℕ) (hk : k ≤ k0_t7_loop.trips) (h : (y 0).val < k) : arg9.view.read (Elt F) (oAt arg9 fBm fBs o0 k) y = o9v fBm fBs y := by
  induction k with
  | zero => exact absurd h (Nat.not_lt_zero _)
  | succ k ih =>
    refine (congrArg (fun o => arg9.view.read (Elt F) o y) (oAt_succ arg9 fBm fBs o0 ⟨k, hk⟩)).trans ?_
    by_cases hy : (y 0).val = k
    · subst hy
      exact read_row_mem arg9 _ _ _ _ y (off66_eq _)
    · exact (read_row_not_mem arg9 _ _ _ _ y k (off66_eq ⟨k, hk⟩) (by omega)).trans (ih (by omega) (by omega))
end Out

/-! ## The parts of memory the body's own copies use -/

theorem entails_of_eq {P Q : sProp 𝕄} (e : P = Q) : P ⊢ Q := e ▸ .rfl
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

abbrev GW (b : Fin 125) : Finset S32000x4096.Idx := (Rect.unit (s := S32000x4096) (wOff b) S256x4096.size (wOff_inb b)).set
theorem mem_GW (b : Fin 125) (y : S32000x4096.Idx) : y ∈ GW b ↔ (y 0).val / 256 = b.val := by
  rw [Rect.mem_set_unit]
  have h0 : (y 0).val < 32000 := (y 0).isLt
  have h1 : (y 1).val < 4096 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 4096; omega
theorem GW_disjoint : ∀ b b' : Fin 125, b ≠ b' → Disjoint (GW b) (GW b') := by
  intro b b' hne; rw [Finset.disjoint_left]; intro y hy hy'; rw [mem_GW] at hy hy'; exact hne (Fin.ext (hy.symm.trans hy'))
theorem GW_cover : (Finset.univ : Finset (Fin 125)).biUnion GW = Finset.univ := by
  ext y; simp only [Finset.mem_biUnion, Finset.mem_univ, true_and, iff_true]; exact ⟨⟨(y 0).val / 256, by have := (y 0).isLt; have : (y 0).val < 32000 := this; omega⟩, by rw [mem_GW]⟩
theorem wblk_set (b : Fin 125) : (wblk b).view.set = GW b := View.set_slice_whole _ _

abbrev GM (b : Fin 125) : Finset S4x125x5x8x128.Idx := (Rect.unit (s := S4x125x5x8x128) (mOff b) S4x1x5x8x128.size (mOff_inb b)).set
theorem mem_GM (b : Fin 125) (y : S4x125x5x8x128.Idx) : y ∈ GM b ↔ (y 1).val = b.val := by
  rw [Rect.mem_set_unit]
  have h0 : (y 0).val < 4 := (y 0).isLt
  have h1 : (y 1).val < 125 := (y 1).isLt
  have h2 : (y 2).val < 5 := (y 2).isLt
  have h3 : (y 3).val < 8 := (y 3).isLt
  have h4 : (y 4).val < 128 := (y 4).isLt
  constructor
  · intro H; have a0 : b.val ≤ (y 1).val ∧ (y 1).val < b.val + 1 := H 1; omega
  · intro H i; fin_cases i
    · show 0 ≤ (y 0).val ∧ (y 0).val < 0 + 4; omega
    · show b.val ≤ (y 1).val ∧ (y 1).val < b.val + 1; omega
    · show 0 ≤ (y 2).val ∧ (y 2).val < 0 + 5; omega
    · show 0 ≤ (y 3).val ∧ (y 3).val < 0 + 8; omega
    · show 0 ≤ (y 4).val ∧ (y 4).val < 0 + 128; omega
theorem GM_disjoint : ∀ b b' : Fin 125, b ≠ b' → Disjoint (GM b) (GM b') := by
  intro b b' hne; rw [Finset.disjoint_left]; intro y hy hy'; rw [mem_GM] at hy hy'; exact hne (Fin.ext (hy.symm.trans hy'))
theorem GM_cover : (Finset.univ : Finset (Fin 125)).biUnion GM = Finset.univ := by
  ext y; simp only [Finset.mem_biUnion, Finset.mem_univ, true_and, iff_true]; exact ⟨⟨(y 1).val, (y 1).isLt⟩, by rw [mem_GM]⟩
theorem mblk_set (b : Fin 125) : (mblk b).view.set = GM b := (View.set_reshape _ _).trans (View.set_slice_whole _ _)

abbrev SW (b : Fin 2) : Finset S2x256x4096.Idx := (Rect.unit (s := S2x256x4096) (wsOff b) S1x256x4096.size (wsOff_inb b)).set
theorem mem_SW (b : Fin 2) (y : S2x256x4096.Idx) : y ∈ SW b ↔ (y 0).val = b.val := by
  rw [Rect.mem_set_unit]
  have h0 : (y 0).val < 2 := (y 0).isLt
  have h1 : (y 1).val < 256 := (y 1).isLt
  have h2 : (y 2).val < 4096 := (y 2).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 256; omega
    · show 0 ≤ (y 2).val ∧ (y 2).val < 0 + 4096; omega
theorem SW_disjoint : ∀ b b' : Fin 2, b ≠ b' → Disjoint (SW b) (SW b') := by
  intro b b' hne; rw [Finset.disjoint_left]; intro y hy hy'; rw [mem_SW] at hy hy'; exact hne (Fin.ext (hy.symm.trans hy'))
theorem SW_cover : (Finset.univ : Finset (Fin 2)).biUnion SW = Finset.univ := by
  ext y; simp only [Finset.mem_biUnion, Finset.mem_univ, true_and, iff_true]; exact ⟨⟨(y 0).val, (y 0).isLt⟩, by rw [mem_SW]⟩
theorem wslot_set (b : Fin 2) : (wslot b).view.set = SW b := (View.set_reshape _ _).trans (View.set_slice_whole _ _)

abbrev SM (b : Fin 2) : Finset S2x4x5x8x128.Idx := (Rect.unit (s := S2x4x5x8x128) (msOff b) S1x4x5x8x128.size (msOff_inb b)).set
theorem mem_SM (b : Fin 2) (y : S2x4x5x8x128.Idx) : y ∈ SM b ↔ (y 0).val = b.val := by
  rw [Rect.mem_set_unit]
  have h0 : (y 0).val < 2 := (y 0).isLt
  have h1 : (y 1).val < 4 := (y 1).isLt
  have h2 : (y 2).val < 5 := (y 2).isLt
  have h3 : (y 3).val < 8 := (y 3).isLt
  have h4 : (y 4).val < 128 := (y 4).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 4; omega
    · show 0 ≤ (y 2).val ∧ (y 2).val < 0 + 5; omega
    · show 0 ≤ (y 3).val ∧ (y 3).val < 0 + 8; omega
    · show 0 ≤ (y 4).val ∧ (y 4).val < 0 + 128; omega
theorem SM_disjoint : ∀ b b' : Fin 2, b ≠ b' → Disjoint (SM b) (SM b') := by
  intro b b' hne; rw [Finset.disjoint_left]; intro y hy hy'; rw [mem_SM] at hy hy'; exact hne (Fin.ext (hy.symm.trans hy'))
theorem SM_cover : (Finset.univ : Finset (Fin 2)).biUnion SM = Finset.univ := by
  ext y; simp only [Finset.mem_biUnion, Finset.mem_univ, true_and, iff_true]; exact ⟨⟨(y 0).val, (y 0).isLt⟩, by rw [mem_SM]⟩
theorem mslot_set (b : Fin 2) : (mslot b).view.set = SM b := (View.set_reshape _ _).trans (View.set_slice_whole _ _)

theorem wslotP_eq (s : Fin 2) (f) : wslotP c s f = (((c : Thread nD τ).loc cc0_scratch0) ↦[SW s]{fullShare} f : sProp 𝕄) :=
  by rw [← wslot_set]; rfl
theorem wslotP_split : iprop(∃ f : Buf (Elt F) ((c : Thread nD τ).loc cc0_scratch0), ((c : Thread nD τ).loc cc0_scratch0) ↦{fullShare} f)
      ⊢ (iprop((∃ f, wslotP c 0 f) ∗ ∃ f, wslotP c 1 f) : sProp 𝕄) := by
  iintro ⟨%f, H⟩
  ihave H2 := (entails_of_eq ((Ring.pointsTo_blocks (Ix := Unit) (Name := ℕ) (U := Pipeline.UD sig nD τ) (Lvl := ℕ) (q := fullShare) (ℓ := (c : Thread nD τ).loc cc0_scratch0) SW SW_disjoint SW_cover f).trans (bigSep_fin2 _))) $$ H
  icases H2 with ⟨H0, H1⟩
  isplitl [H0]
  · iexists f; iapply (entails_of_eq (wslotP_eq c 0 f).symm); iexact H0
  · iexists f; iapply (entails_of_eq (wslotP_eq c 1 f).symm); iexact H1
theorem wslotP_join : iprop((∃ f, wslotP c 0 f) ∗ ∃ f, wslotP c 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) SW SW_disjoint SW_cover f0)
  irw [bigSep_fin2]
  isplitl [H0]
  · iexists f0; iapply (entails_of_eq (wslotP_eq c 0 f0)); iexact H0
  · iexists f1; iapply (entails_of_eq (wslotP_eq c 1 f1)); iexact H1

theorem mslotP_eq (s : Fin 2) (f) : mslotP c s f = (((c : Thread nD τ).loc cc0_scratch1) ↦[SM s]{fullShare} f : sProp 𝕄) :=
  by rw [← mslot_set]; rfl
theorem mslotP_split : iprop(∃ f : Buf (Elt F) ((c : Thread nD τ).loc cc0_scratch1), ((c : Thread nD τ).loc cc0_scratch1) ↦{fullShare} f)
      ⊢ (iprop((∃ f, mslotP c 0 f) ∗ ∃ f, mslotP c 1 f) : sProp 𝕄) := by
  iintro ⟨%f, H⟩
  ihave H2 := (entails_of_eq ((Ring.pointsTo_blocks (Ix := Unit) (Name := ℕ) (U := Pipeline.UD sig nD τ) (Lvl := ℕ) (q := fullShare) (ℓ := (c : Thread nD τ).loc cc0_scratch1) SM SM_disjoint SM_cover f).trans (bigSep_fin2 _))) $$ H
  icases H2 with ⟨H0, H1⟩
  isplitl [H0]
  · iexists f; iapply (entails_of_eq (mslotP_eq c 0 f).symm); iexact H0
  · iexists f; iapply (entails_of_eq (mslotP_eq c 1 f).symm); iexact H1
theorem mslotP_join : iprop((∃ f, mslotP c 0 f) ∗ ∃ f, mslotP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) SM SM_disjoint SM_cover f0)
  irw [bigSep_fin2]
  isplitl [H0]
  · iexists f0; iapply (entails_of_eq (mslotP_eq c 0 f0)); iexact H0
  · iexists f1; iapply (entails_of_eq (mslotP_eq c 1 f1)); iexact H1

theorem whomeP_all (X : Buf (Elt F) ((c : Thread nD τ).loc main_arg5)) :
    (((c : Thread nD τ).loc main_arg5) ↦{fullShare} X : sProp 𝕄) = bigSep Finset.univ (whomeP c X) := by
  rw [Ring.pointsTo_blocks (ℓ := (c : Thread nD τ).loc main_arg5) GW GW_disjoint GW_cover]
  exact bigSep_congr fun b _ => by rw [← wblk_set]; rfl

theorem mhomeP_all (X : Buf (Elt F) ((c : Thread nD τ).loc main_v2)) :
    (((c : Thread nD τ).loc main_v2) ↦{fullShare} X : sProp 𝕄) = bigSep Finset.univ (mhomeP c X) := by
  rw [Ring.pointsTo_blocks (ℓ := (c : Thread nD τ).loc main_v2) GM GM_disjoint GM_cover]
  exact bigSep_congr fun b _ => by rw [← mblk_set]; rfl

/-- The copies' memory with both slots free, whichever slot is next. -/
def ringFree : sProp 𝕄 :=
  iprop(iprop((∃ f, wslotP c 0 f) ∗ (∃ f, wslotP c 1 f)) ∗ iprop((∃ f, mslotP c 0 f) ∗ (∃ f, mslotP c 1 f))
    ∗ iprop(wcellP c 0 ∗ wcellP c 1 ∗ mcellP c 0 ∗ mcellP c 1)
    ∗ iprop(bigSep Finset.univ (whomeP c XW) ∗ bigSep Finset.univ (mhomeP c XM)))
theorem ringOff_free (k : ℕ) : ringOff c XW XM k ⊢ ringFree c XW XM := by
  unfold ringOff ringFree
  rcases Nat.mod_two_eq_zero_or_one k with h | h
  · rw [show Ring.sl 2 k = (0 : Fin 2) from Fin.ext h, show Ring.sl 2 (k + 1) = (1 : Fin 2) from Fin.ext (by show (k + 1) % 2 = 1; omega)]
    iintro ⟨A0, B0, A1, B1, C0, D0, C1, D1, HW, HM⟩
    isplitl [A0 A1]; · isplitl [A0]; · iexact A0
                       iexact A1
    isplitl [B0 B1]; · isplitl [B0]; · iexact B0
                       iexact B1
    isplitl [C0 C1 D0 D1]
    · isplitl [C0]; · iexact C0
      isplitl [C1]; · iexact C1
      isplitl [D0]; · iexact D0
      iexact D1
    isplitl [HW]; · iexact HW
    iexact HM
  · rw [show Ring.sl 2 k = (1 : Fin 2) from Fin.ext h, show Ring.sl 2 (k + 1) = (0 : Fin 2) from Fin.ext (by show (k + 1) % 2 = 0; omega)]
    iintro ⟨A1, B1, A0, B0, C1, D1, C0, D0, HW, HM⟩
    isplitl [A0 A1]; · isplitl [A0]; · iexact A0
                       iexact A1
    isplitl [B0 B1]; · isplitl [B0]; · iexact B0
                       iexact B1
    isplitl [C0 C1 D0 D1]
    · isplitl [C0]; · iexact C0
      isplitl [C1]; · iexact C1
      isplitl [D0]; · iexact D0
      iexact D1
    isplitl [HW]; · iexact HW
    iexact HM
theorem ringFree_off : ringFree c XW XM ⊢ ringOff c XW XM 0 := by
  unfold ringOff ringFree
  rw [show Ring.sl 2 0 = (0 : Fin 2) from rfl, show Ring.sl 2 (0 + 1) = (1 : Fin 2) from rfl]
  iintro ⟨⟨A0, A1⟩, ⟨B0, B1⟩, ⟨C0, C1, D0, D1⟩, HW, HM⟩
  isplitl [A0]; · iexact A0
  isplitl [B0]; · iexact B0
  isplitl [A1]; · iexact A1
  isplitl [B1]; · iexact B1
  isplitl [C0]; · iexact C0
  isplitl [D0]; · iexact D0
  isplitl [C1]; · iexact C1
  isplitl [D1]; · iexact D1
  isplitl [HW]; · iexact HW
  iexact HM

/-! ## The launch's data -/

variable (m : (ℓ : Loc nD τ sig) → Buf (Elt F) ℓ) (ρ : Dev nD → PrngReg)

/-- The semaphores of the body's own copies. -/
abbrev osem0 : Fin 4 → SemLoc sig := fun j => (![SemLoc.dma (wcs 0).sem, SemLoc.dma (wcs 1).sem, SemLoc.dma (mcs 0).sem, SemLoc.dma (mcs 1).sem] : Fin 4 → SemLoc sig) j
theorem ownSemFacts0 : Pipeline.OwnSemFacts spec0 osem0 := by decide
theorem ownSems00_eq :
    (Pipeline.ownSems0 (Ix := Unit) (Name := ℕ) (U := Pipeline.UD sig nD τ) (Lvl := ℕ) (Val := Elt F) (τ := τ) osem0 c : sProp 𝕄)
      = iprop(wcellP c 0 ∗ wcellP c 1 ∗ mcellP c 0 ∗ mcellP c 1) := by
  rw [Pipeline.ownSems0_eq_of_list c osem0 [0, 1, 2, 3] (by decide) (by decide)]; rfl
/-- The arrays the body's copies read. -/
def H0 : Finset (Ref sig .tc) := {main_arg5, main_v2}
theorem H0_sub : H0 ⊆ Pipeline.restRefs sig spec0 := by decide
theorem hbmPts0_eq :
    (bigSep H0 (fun b => ((c : Thread nD τ).loc b) ↦{fullShare} V m c b) : sProp 𝕄)
      = iprop(bigSep Finset.univ (whomeP c (V m c main_arg5)) ∗ bigSep Finset.univ (mhomeP c (V m c main_v2))) := by
  rw [BI.bigSep_eq_bigSepL_of_eq [main_arg5, main_v2] (by decide) (by decide), ← whomeP_all, ← mhomeP_all]; rfl

/-- What the body leaves in the results' staging buffers. -/
def aft5 (t : Fin cfg0.N) : S5x4x128.Idx → F .f32 := k0_pay79 (mFin (V m c main_arg5) (V m c main_v2) (st0_0 t) (st0_1 t) (st0_2 t) (st0_3 t) (st0_4 t) ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) ((units (anyW (st0_0 t) ((st0_0 t).view.rep (iblk m c 0 t))) k0_t1_loop.trips).length)) (sFin (V m c main_arg5) (V m c main_v2) (st0_0 t) (st0_1 t) (st0_2 t) (st0_3 t) (st0_4 t) ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) ((units (anyW (st0_0 t) ((st0_0 t).view.rep (iblk m c 0 t))) k0_t1_loop.trips).length))
def aft6 (t : Fin cfg0.N) : S5x4x128.Idx → F .f32 := out8v (V m c main_arg5) (V m c main_v2) (st0_0 t) (st0_1 t) (st0_2 t) (st0_3 t) (st0_4 t) ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) ((units (anyW (st0_0 t) ((st0_0 t).view.rep (iblk m c 0 t))) k0_t1_loop.trips).length)
def aft7 (t : Fin cfg0.N) : S63x5x4x128.Idx → F .f32 := o9v (stN (V m c main_arg5) (V m c main_v2) (st0_0 t) (st0_1 t) (st0_2 t) (st0_3 t) (st0_4 t) ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) ((units (anyW (st0_0 t) ((st0_0 t).view.rep (iblk m c 0 t))) k0_t1_loop.trips).length)).bm (stN (V m c main_arg5) (V m c main_v2) (st0_0 t) (st0_1 t) (st0_2 t) (st0_3 t) (st0_4 t) ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) ((units (anyW (st0_0 t) ((st0_0 t).view.rep (iblk m c 0 t))) k0_t1_loop.trips).length)).bs

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => aft5 c m t
    | ⟨6, _⟩ => aft6 c m t
    | ⟨7, _⟩ => aft7 c m t
  Φ _ := Pipeline.ΦD osem0 spec0 H0 (V m) c
  q _ := fullShare
  owed _ := 0
theorem A_eq (c : Dev nD) (w : Fin cfg0.W) : (dats m 0 c).A w = V m c (Pipeline.arrRef spec0 w) := by dsimp only [dats]
theorem after_0 (t : Fin cfg0.N) : (dats m 0 c).after 0 t = iblk m c 0 t := by dsimp only [dats]
theorem before_0 (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (t : Fin cfg0.N) : (dats m 0 c).after 1 t = iblk m c 1 t := by dsimp only [dats]
theorem before_1 (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (t : Fin cfg0.N) : (dats m 0 c).after 2 t = iblk m c 2 t := by dsimp only [dats]
theorem before_2 (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (t : Fin cfg0.N) : (dats m 0 c).after 3 t = iblk m c 3 t := by dsimp only [dats]
theorem before_3 (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem after_4 (t : Fin cfg0.N) : (dats m 0 c).after 4 t = iblk m c 4 t := by dsimp only [dats]
theorem before_4 (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem after_5 (t : Fin cfg0.N) : (dats m 0 c).after 5 t = aft5 c m t := by dsimp only [dats]
theorem after_6 (t : Fin cfg0.N) : (dats m 0 c).after 6 t = aft6 c m t := by dsimp only [dats]
theorem after_7 (t : Fin cfg0.N) : (dats m 0 c).after 7 t = aft7 c m t := by dsimp only [dats]

theorem defs₀_row (t : Fin cfg0.N) : defs₀ (F := F) .tc cfg0.body (cfg0.bodyArgs t (cfg0.slots t)) = bodyAt0 t := by
  unfold defs₀; rw [Defs.onTc_tc]

theorem ΦD0_eq : (Pipeline.ΦD osem0 spec0 H0 (V m) c : sProp 𝕄)
    = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f))
        ∗ (∃ r, prngReg c r) ∗ iprop(wcellP c 0 ∗ wcellP c 1 ∗ mcellP c 0 ∗ mcellP c 1)
        ∗ iprop(bigSep Finset.univ (whomeP c (V m c main_arg5)) ∗ bigSep Finset.univ (mhomeP c (V m c main_v2)))) := by
  rw [Pipeline.ΦD_eq, scopedRest0_eq, ownSems00_eq, hbmPts0_eq]
theorem wsP_eq : (iprop(∃ f, (wsB.view.loc (c : Thread nD τ) ↦[wsB.view.set]{fullShare} f)) : sProp 𝕄) = iprop(∃ f : Buf (Elt F) ((c : Thread nD τ).loc cc0_scratch2), ((c : Thread nD τ).loc cc0_scratch2) ↦{fullShare} f) := by
  rw [show wsB.view.set = Finset.univ from View.set_whole _]
theorem bmP_eq : (iprop(∃ f, (bmB.view.loc (c : Thread nD τ) ↦[bmB.view.set]{fullShare} f)) : sProp 𝕄) = iprop(∃ f : Buf (Elt F) ((c : Thread nD τ).loc cc0_scratch3), ((c : Thread nD τ).loc cc0_scratch3) ↦{fullShare} f) := by
  rw [show bmB.view.set = Finset.univ from View.set_whole _]
theorem bsP_eq : (iprop(∃ f, (bsB.view.loc (c : Thread nD τ) ↦[bsB.view.set]{fullShare} f)) : sProp 𝕄) = iprop(∃ f : Buf (Elt F) ((c : Thread nD τ).loc cc0_scratch4), ((c : Thread nD τ).loc cc0_scratch4) ↦{fullShare} f) := by
  rw [show bsB.view.set = Finset.univ from View.set_whole _]
theorem tlP_eq : (iprop(∃ f, (tlB.view.loc (c : Thread nD τ) ↦[tlB.view.set]{fullShare} f)) : sProp 𝕄) = iprop(∃ f : Buf (Elt F) ((c : Thread nD τ).loc cc0_scratch5), ((c : Thread nD τ).loc cc0_scratch5) ↦{fullShare} f) := by
  rw [show tlB.view.set = Finset.univ from View.set_whole _]
theorem umP_eq : (iprop(∃ f, (umB.view.loc (c : Thread nD τ) ↦[umB.view.set]{fullShare} f)) : sProp 𝕄) = iprop(∃ f : Buf (Elt F) ((c : Thread nD τ).loc cc0_scratch6), ((c : Thread nD τ).loc cc0_scratch6) ↦{fullShare} f) := by
  rw [show umB.view.set = Finset.univ from View.set_whole _]
theorem usP_eq : (iprop(∃ f, (usB.view.loc (c : Thread nD τ) ↦[usB.view.set]{fullShare} f)) : sProp 𝕄) = iprop(∃ f : Buf (Elt F) ((c : Thread nD τ).loc cc0_scratch7), ((c : Thread nD τ).loc cc0_scratch7) ↦{fullShare} f) := by
  rw [show usB.view.set = Finset.univ from View.set_whole _]
theorem ulP_eq : (iprop(∃ f, (ulB.view.loc (c : Thread nD τ) ↦[ulB.view.set]{fullShare} f)) : sProp 𝕄) = iprop(∃ f : Buf (Elt F) ((c : Thread nD τ).loc cc0_scratch8), ((c : Thread nD τ).loc cc0_scratch8) ↦{fullShare} f) := by
  rw [show ulB.view.set = Finset.univ from View.set_whole _]
set_option maxHeartbeats 1000000 in
/-- What the launch holds, as the body takes it; -/
theorem Φ_in : (Pipeline.ΦD osem0 spec0 H0 (V m) c : sProp 𝕄) ⊢ iprop(((∃ f, (wsB.view.loc (c : Thread nD τ) ↦[wsB.view.set]{fullShare} f)) ∗ (∃ f, (bmB.view.loc (c : Thread nD τ) ↦[bmB.view.set]{fullShare} f)) ∗ (∃ f, (bsB.view.loc (c : Thread nD τ) ↦[bsB.view.set]{fullShare} f)) ∗ (∃ f, (tlB.view.loc (c : Thread nD τ) ↦[tlB.view.set]{fullShare} f)) ∗ (∃ f, (umB.view.loc (c : Thread nD τ) ↦[umB.view.set]{fullShare} f)) ∗ (∃ f, (usB.view.loc (c : Thread nD τ) ↦[usB.view.set]{fullShare} f)) ∗ (∃ f, (ulB.view.loc (c : Thread nD τ) ↦[ulB.view.set]{fullShare} f))) ∗ ringOff c (V m c main_arg5) (V m c main_v2) 0 ∗ (∃ r, prngReg c r)) := by
  rw [ΦD0_eq]
  iintro ⟨⟨HS0, HS1, HS2, HS3, HS4, HS5, HS6, HS7, HS8⟩, Hg, HC, HH⟩
  ihave HS0 := (wslotP_split c) $$ HS0
  ihave HS1 := (mslotP_split c) $$ HS1
  ihave HS2 := (entails_of_eq (wsP_eq c).symm) $$ HS2
  ihave HS3 := (entails_of_eq (bmP_eq c).symm) $$ HS3
  ihave HS4 := (entails_of_eq (bsP_eq c).symm) $$ HS4
  ihave HS5 := (entails_of_eq (tlP_eq c).symm) $$ HS5
  ihave HS6 := (entails_of_eq (umP_eq c).symm) $$ HS6
  ihave HS7 := (entails_of_eq (usP_eq c).symm) $$ HS7
  ihave HS8 := (entails_of_eq (ulP_eq c).symm) $$ HS8
  isplitl [HS2 HS3 HS4 HS5 HS6 HS7 HS8]
  · isplitl [HS2]; · iexact HS2
    isplitl [HS3]; · iexact HS3
    isplitl [HS4]; · iexact HS4
    isplitl [HS5]; · iexact HS5
    isplitl [HS6]; · iexact HS6
    isplitl [HS7]; · iexact HS7
    iexact HS8
  isplitr [Hg]
  swap; · iexact Hg
  iapply (ringFree_off c (V m c main_arg5) (V m c main_v2))
  unfold ringFree
  isplitl [HS0]; · iexact HS0
  isplitl [HS1]; · iexact HS1
  isplitl [HC]; · iexact HC
  iexact HH
set_option maxHeartbeats 1000000 in
/-- and back. -/
theorem Φ_out (k : ℕ) : iprop(((∃ f, (wsB.view.loc (c : Thread nD τ) ↦[wsB.view.set]{fullShare} f)) ∗ (∃ f, (bmB.view.loc (c : Thread nD τ) ↦[bmB.view.set]{fullShare} f)) ∗ (∃ f, (bsB.view.loc (c : Thread nD τ) ↦[bsB.view.set]{fullShare} f)) ∗ (∃ f, (tlB.view.loc (c : Thread nD τ) ↦[tlB.view.set]{fullShare} f)) ∗ (∃ f, (umB.view.loc (c : Thread nD τ) ↦[umB.view.set]{fullShare} f)) ∗ (∃ f, (usB.view.loc (c : Thread nD τ) ↦[usB.view.set]{fullShare} f)) ∗ (∃ f, (ulB.view.loc (c : Thread nD τ) ↦[ulB.view.set]{fullShare} f))) ∗ ringOff c (V m c main_arg5) (V m c main_v2) k ∗ (∃ r, prngReg c r)) ⊢ (Pipeline.ΦD osem0 spec0 H0 (V m) c : sProp 𝕄) := by
  rw [ΦD0_eq]
  iintro ⟨HS, HR, Hg⟩
  ihave HR := (ringOff_free c (V m c main_arg5) (V m c main_v2) k) $$ HR
  unfold ringFree
  icases HR with ⟨HA, HB, HC, HH⟩
  ihave HA := (wslotP_join c) $$ HA
  ihave HB := (mslotP_join c) $$ HB
  icases HS with ⟨HS2, HS3, HS4, HS5, HS6, HS7, HS8⟩
  ihave HS2 := (entails_of_eq (wsP_eq c)) $$ HS2
  ihave HS3 := (entails_of_eq (bmP_eq c)) $$ HS3
  ihave HS4 := (entails_of_eq (bsP_eq c)) $$ HS4
  ihave HS5 := (entails_of_eq (tlP_eq c)) $$ HS5
  ihave HS6 := (entails_of_eq (umP_eq c)) $$ HS6
  ihave HS7 := (entails_of_eq (usP_eq c)) $$ HS7
  ihave HS8 := (entails_of_eq (ulP_eq c)) $$ HS8
  isplitl [HA HB HS2 HS3 HS4 HS5 HS6 HS7 HS8]
  · isplitl [HA]; · iexact HA
    isplitl [HB]; · iexact HB
    isplitl [HS2]; · iexact HS2
    isplitl [HS3]; · iexact HS3
    isplitl [HS4]; · iexact HS4
    isplitl [HS5]; · iexact HS5
    isplitl [HS6]; · iexact HS6
    isplitl [HS7]; · iexact HS7
    iexact HS8
  isplitl [Hg]; · iexact Hg
  isplitl [HC]; · iexact HC
  iexact HH

set_option maxHeartbeats 4000000 in
set_option backward.isDefEq.respectTransparency.types false in
theorem body_obligation : BodyObligation (dats (F := F) m 0 c) (defs₀ (F := F)) 𝒱₀ () Set.univ := fun t => by
  rw [bigSep_W0, bigSep_W0]
  dsimp only
  simp only [before_0, before_1, before_2, before_3, before_4, after_0, after_1, after_2, after_3, after_4, after_5, after_6, after_7]
  rw [show (dats m 0 c).Φ t.castSucc = Pipeline.ΦD osem0 spec0 H0 (V m) c from rfl, show (dats m 0 c).Φ t.succ = Pipeline.ΦD osem0 spec0 H0 (V m) c from rfl]
  unfold Dat.owesAt Pipeline.owesWithin
  rw [show (dats m 0 c).owed t.castSucc = 0 from rfl, show (dats m 0 c).owed t.succ = 0 from rfl]
  unfold owns
  iintro ⟨HΦ, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d7, %g7, -, H7⟩, ⟨%d8, %g8, -, H8⟩, ⟨%d9, %g9, -, H9⟩⟩
  ihave HΦ' := (Φ_in c m) $$ HΦ
  icases HΦ' with ⟨⟨HS2, HS3, HS4, HS5, HS6, HS7, HS8⟩, HR, Hg⟩
  ihave H0' := (pointsTo_rep_entails (c : Thread nD τ) (st0_0 t) g0 fullShare) $$ H0
  ihave H1' := (pointsTo_rep_entails (c : Thread nD τ) (st0_1 t) g1 fullShare) $$ H1
  ihave H2' := (pointsTo_rep_entails (c : Thread nD τ) (st0_2 t) g2 fullShare) $$ H2
  ihave H3' := (pointsTo_rep_entails (c : Thread nD τ) (st0_3 t) g3 fullShare) $$ H3
  ihave H4' := (pointsTo_rep_entails (c : Thread nD τ) (st0_4 t) g4 fullShare) $$ H4
  rw [hg0, hg1, hg2, hg3, hg4]
  sl_rw [defs₀_row t]
  iapply (bodyRun c (V m c main_arg5) (V m c main_v2) (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) g7 g8 g9 _)
  isplitl [H0']; · iexact H0'
  isplitl [H1']; · iexact H1'
  isplitl [H2']; · iexact H2'
  isplitl [H3']; · iexact H3'
  isplitl [H4']; · iexact H4'
  isplitl [H7]; · iexact H7
  isplitl [H8]; · iexact H8
  isplitl [H9]; · iexact H9
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HR]; · iexact HR
  isplitl [HW]; · iexists W; iexact HW
  unfold bodyPost tailPost
  iintro ⟨⟨H0, H1, H2, H3, H4, H7, H9, HS2, HS3, HS4, HS5, HS6, HS7, HS8, HR, ⟨%W', HW⟩⟩, H8⟩
  isplitl [HS2 HS3 HS4 HS5 HS6 HS7 HS8 HR Hg]
  · iapply (Φ_out c m ((units (anyW (st0_0 t) ((st0_0 t).view.rep (iblk m c 0 t))) k0_t1_loop.trips).length))
    isplitl [HS2 HS3 HS4 HS5 HS6 HS7 HS8]
    · isplitl [HS2]; · iexact HS2
      isplitl [HS3]; · iexact HS3
      isplitl [HS4]; · iexact HS4
      isplitl [HS5]; · iexact HS5
      isplitl [HS6]; · iexact HS6
      isplitl [HS7]; · iexact HS7
      iexact HS8
    isplitl [HR]; · iexact HR
    iexact Hg
  isplitl [HW]
  · iexists W'; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  isplitl [H2]
  · iexists _; isplitr; · ipureintro; exact View.read_rep _ _
    iexact H2
  isplitl [H3]
  · iexists _; isplitr; · ipureintro; exact View.read_rep _ _
    iexact H3
  isplitl [H4]
  · iexists _; isplitr; · ipureintro; exact View.read_rep _ _
    iexact H4
  isplitl [H7]
  · iexists _; isplitr
    swap; · iexact H7
    ipureintro; exact View.read_writes_full _ _ _ _ _
  isplitl [H8]
  · iexists _; isplitr
    swap; · iexact H8
    ipureintro; exact View.read_writes_full _ _ _ _ _
  iexists _; isplitr
  swap; · iexact H9
  ipureintro; exact funext fun y => read_oAt _ _ _ _ y _ le_rfl (by rw [t7_trips]; exact (y 0).isLt)

/-! ## The run and the frame -/

theorem hmain : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ 𝒱₀ ownSemFacts0 H0 H0_sub m ρ main
    (hbody := fun c => (body_obligation c m).loose) (hshare := fun c => (dats m 0 c).share_full fun _ => rfl)
    (howed := fun _ _ => rfl) (V := V m) (hmain := hmain m) (hA := A_eq m)
    (hin := fun _ => .rfl) (hout := fun _ => .rfl)

/-- The arguments end as they were, whatever else is known of the final memory. -/
theorem args_of {r : PUnit × MemSt nD τ sig (Elt F)} (h : Pipeline.FramePost cfgs (dats m) 0 (V m) r) (c : Dev nD) :
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) :=
  ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c), ((h c).2 main_arg3 (Pipeline.mem_restRefs_of main_arg3 (by decide) (by decide))).trans (V_main_arg3 m c), ((h c).2 main_arg4 (Pipeline.mem_restRefs_of main_arg4 (by decide) (by decide))).trans (V_main_arg4 m c), ((h c).2 main_arg5 (Pipeline.mem_restRefs_of main_arg5 (by decide) (by decide))).trans (V_main_arg5 m c), ((h c).2 main_arg6 (Pipeline.mem_restRefs_of main_arg6 (by decide) (by decide))).trans (V_main_arg6 m c)⟩
/-- The program terminates with its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0) :=
  (θ_run defs _ _).mono (fun _ h => ⟨fun c => args_of m h.1 c, h.2⟩) (run_main m ρ)

end Cert.Proof.Score
-- ==== Proof.ScoreChain.lean ====
/-
  The score kernel's addresses in closed form.

  The kernel counts the active vocabulary units into a word `v`, then runs `v` trips; trip `k` works in slot `k % 2`
  of two double buffers (a weight block and a mask block), each slot with its own DMA semaphore, and issues the
  copies of the next unit into the other slot. This module states every offset of that loop as a plain vector, names
  the slices (`wblk`, `mblk`, `wslot`, `mslot`, `wcs`, `mcs`), and proves the bounds the body checks.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.Affine
public import Idealize.ShloMosaic.Lib.Tactic
public import Idealize.ShloMosaic.Lib.Decide

@[expose] public section

noncomputable section

namespace Cert.Proof.ScoreIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The buffers -/

abbrev wM : Memref sig .tc .hbm S32000x4096 .i8 := Memref.whole main_arg5
abbrev mM : Memref sig .tc .hbm S4x125x5x8x128 .i32 := Memref.whole main_v2
abbrev wB : Memref sig .tc .vmem S2x256x4096 .i8 := Memref.whole cc0_scratch0
abbrev mB : Memref sig .tc .vmem S2x4x5x8x128 .i32 := Memref.whole cc0_scratch1
abbrev wsB : Memref sig .tc .vmem S256x128 .f32 := Memref.whole cc0_scratch2
abbrev bmB : Memref sig .tc .vmem S63x24x128 .f32 := Memref.whole cc0_scratch3
abbrev bsB : Memref sig .tc .vmem S63x24x128 .f32 := Memref.whole cc0_scratch4
abbrev tlB : Memref sig .tc .vmem S24x128 .f32 := Memref.whole cc0_scratch5
abbrev umB : Memref sig .tc .vmem S24x128 .f32 := Memref.whole cc0_scratch6
abbrev usB : Memref sig .tc .vmem S24x128 .f32 := Memref.whole cc0_scratch7
abbrev ulB : Memref sig .tc .smem S128 .i32 := Memref.whole cc0_scratch8

/-! ## Canonical offsets: unit `u` of the weights and of the mask, slot `s` of each buffer, its semaphore -/

abbrev wOff (u : Fin 125) : Fin 2 → Nat := ![256 * u.val, 0]
theorem wOff_inb : ∀ (u : Fin 125) (a), wOff u a + S256x4096.size a ≤ S32000x4096.size a := by decide +kernel
abbrev mOff (u : Fin 125) : Fin 5 → Nat := ![0, u.val, 0, 0, 0]
theorem mOff_inb : ∀ (u : Fin 125) (a), mOff u a + S4x1x5x8x128.size a ≤ S4x125x5x8x128.size a := by decide +kernel
abbrev wsOff (s : Fin 2) : Fin 3 → Nat := ![s.val, 0, 0]
theorem wsOff_inb : ∀ (s : Fin 2) (a), wsOff s a + S1x256x4096.size a ≤ S2x256x4096.size a := by decide +kernel
abbrev msOff (s : Fin 2) : Fin 5 → Nat := ![s.val, 0, 0, 0, 0]
theorem msOff_inb : ∀ (s : Fin 2) (a), msOff s a + S1x4x5x8x128.size a ≤ S2x4x5x8x128.size a := by decide +kernel
abbrev cOff (s : Fin 2) : Fin 1 → Nat := ![s.val]
theorem cOff_inb : ∀ (s : Fin 2) (a), cOff s a + S1.size a ≤ S2.size a := by decide +kernel

/-- Unit `u` of the weights: 256 rows. -/
def wblk (u : Fin 125) : Memref sig .tc .hbm S256x4096 .i8 :=
  wM.slice (Rect.unit (s := S32000x4096) (wOff u) S256x4096.size (wOff_inb u)) (fun _ => rfl)
/-- Unit `u` of the mask. -/
def mblk (u : Fin 125) : Memref sig .tc .hbm S4x5x8x128 .i32 :=
  (mM.slice (Rect.unit (s := S4x125x5x8x128) (mOff u) S4x1x5x8x128.size (mOff_inb u)) (fun _ => rfl)).squeeze S4x5x8x128 squeezes_S4x1x5x8x128_S4x5x8x128
/-- Slot `s` of the weight buffer. -/
def wslot (s : Fin 2) : Memref sig .tc .vmem S256x4096 .i8 :=
  (wB.slice (Rect.unit (s := S2x256x4096) (wsOff s) S1x256x4096.size (wsOff_inb s)) (fun _ => rfl)).squeeze S256x4096 squeezes_S1x256x4096_S256x4096
/-- Slot `s` of the mask buffer. -/
def mslot (s : Fin 2) : Memref sig .tc .vmem S4x5x8x128 .i32 :=
  (mB.slice (Rect.unit (s := S2x4x5x8x128) (msOff s) S1x4x5x8x128.size (msOff_inb s)) (fun _ => rfl)).squeeze S4x5x8x128 squeezes_S1x4x5x8x128_S4x5x8x128
/-- The semaphores of slot `s`. -/
def wcs (s : Fin 2) : DmaSems sig S_ := (cc0_scratch9.slice (Rect.unit (s := S2) (cOff s) S1.size (cOff_inb s))).squeeze S_ squeezes_S1_S_
def mcs (s : Fin 2) : DmaSems sig S_ := (cc0_scratch10.slice (Rect.unit (s := S2) (cOff s) S1.size (cOff_inb s))).squeeze S_ squeezes_S1_S_

instance (s : Fin 2) : ClosedOff (wsOff s) := ⟨wsOff s, rfl⟩
instance (s : Fin 2) : ClosedOff (msOff s) := ⟨msOff s, rfl⟩
instance (s : Fin 2) : ClosedOff (cOff s) := ⟨cOff s, rfl⟩
instance (u : Fin 125) : ClosedOff (wOff u) := ⟨wOff u, rfl⟩
instance (u : Fin 125) : ClosedOff (mOff u) := ⟨mOff u, rfl⟩

theorem wBlock_words : ∀ u : Fin 125, (Rect.unit (s := S32000x4096) (wOff u) S256x4096.size (wOff_inb u)).WholeWords (EltTy.packing .i8) := by
  decide +kernel
theorem wSlot_words : ∀ s : Fin 2, (Rect.unit (s := S2x256x4096) (wsOff s) S1x256x4096.size (wsOff_inb s)).WholeWords (EltTy.packing .i8) := by
  decide +kernel

/-! ## A unit number read from memory: any word below 125 -/

section Word
theorem ofNat_word {v : BitVec 32} (h : v.toNat < 125) : BitVec.ofNat 32 (Ring.bk 125 v.toNat).val = v := by
  rw [Ring.bk_val h]; simp

theorem off4_all : ∀ u : Fin 125, k0_off4 (BitVec.ofNat 32 u.val) = wOff u := by decide +kernel
theorem off10_all : ∀ u : Fin 125, k0_off10 (BitVec.ofNat 32 u.val) = wOff u := by decide +kernel
theorem off17_all : ∀ u : Fin 125, k0_off17 (BitVec.ofNat 32 u.val) = wOff u := by decide +kernel
theorem off5_all : ∀ u : Fin 125, k0_off5 (BitVec.ofNat 32 u.val) = mOff u := by decide +kernel
theorem off14_all : ∀ u : Fin 125, k0_off14 (BitVec.ofNat 32 u.val) = mOff u := by decide +kernel
theorem off20_all : ∀ u : Fin 125, k0_off20 (BitVec.ofNat 32 u.val) = mOff u := by decide +kernel
theorem off21_all : ∀ (u : Fin 125) (r : Fin 2), k0_off21 (BitVec.ofNat 32 u.val) (BitVec.ofNat 32 r.val) = ![2 * u.val + r.val, 0] := by decide +kernel
theorem off34_all : ∀ u : Fin 125, k0_off34 (BitVec.ofNat 32 u.val) = ![u.val / 2, 0, 0] := by decide +kernel

variable {v : BitVec 32} (h : v.toNat < 125)
include h
theorem off4_eq : k0_off4 v = wOff (Ring.bk 125 v.toNat) := by rw [← off4_all, ofNat_word h]
theorem off10_eq : k0_off10 v = wOff (Ring.bk 125 v.toNat) := by rw [← off10_all, ofNat_word h]
theorem off17_eq : k0_off17 v = wOff (Ring.bk 125 v.toNat) := by rw [← off17_all, ofNat_word h]
theorem off5_eq : k0_off5 v = mOff (Ring.bk 125 v.toNat) := by rw [← off5_all, ofNat_word h]
theorem off14_eq : k0_off14 v = mOff (Ring.bk 125 v.toNat) := by rw [← off14_all, ofNat_word h]
theorem off20_eq : k0_off20 v = mOff (Ring.bk 125 v.toNat) := by rw [← off20_all, ofNat_word h]
theorem off21_eq (r : Fin 2) : k0_off21 v (BitVec.ofNat 32 r.val) = ![2 * v.toNat + r.val, 0] := by
  have := off21_all (Ring.bk 125 v.toNat) r; rwa [ofNat_word h, Ring.bk_val h] at this
theorem off34_eq : k0_off34 v = ![v.toNat / 2, 0, 0] := by
  have := off34_all (Ring.bk 125 v.toNat); rwa [ofNat_word h, Ring.bk_val h] at this
end Word

/-! ## The loops' counts and the slot of a trip -/

section Chain
open Affine

theorem toInt_of_isInt {x : BitVec 32} {e : Int} (h : IsInt x e) : x.toInt = e := by
  delta Affine.IsInt at h; exact h

variable (v : BitVec 32)

theorem isInt_v25 : IsInt (Scalar.subi v 0#32) v.toInt := by
  have hr := word_range v
  exact subi (e := v.toInt) (word v) (ofNat (e := 0) 0 ⟨rfl, by decide⟩) ⟨by omega, by omega, by omega⟩
theorem isInt_v29 : IsInt (Scalar.addi 0#32 (Scalar.muli (Scalar.divsi (Scalar.subi v 0#32) 1#32) 1#32)) v.toInt := by
  have hr := word_range v
  have h17 : IsInt (Scalar.divsi (Scalar.subi v 0#32) 1#32) v.toInt := divsi_one (isInt_v25 v) (ofNat (e := 1) 1 ⟨rfl, by decide⟩) ⟨rfl, rfl⟩
  have h18 : IsInt (Scalar.muli (Scalar.divsi (Scalar.subi v 0#32) 1#32) 1#32) v.toInt :=
    muli (e := v.toInt) h17 (ofNat (e := 1) 1 ⟨rfl, by decide⟩) ⟨by omega, by omega, by omega⟩
  exact addi (e := v.toInt) (ofNat (e := 0) 0 ⟨rfl, by decide⟩) h18 ⟨by omega, by omega, by omega⟩
theorem isInt_v26 : IsInt (Scalar.addi 0#32 (Scalar.subi v 0#32)) v.toInt := by
  have hr := word_range v
  exact addi (e := v.toInt) (ofNat (e := 0) 0 ⟨rfl, by decide⟩) (isInt_v25 v) ⟨by omega, by omega, by omega⟩

/-- The unit loop runs `v` trips, `v` read signed; -/
theorem trips2_eq : (k0_t2_loop v).trips = v.toInt.toNat := by
  show Scf.trips 0#32 (Scalar.addi 0#32 (Scalar.muli (Scalar.divsi (Scalar.subi v 0#32) 1#32) 1#32)) 1#32 = _
  unfold Scf.trips; rw [toInt_of_isInt (isInt_v29 v)]; simp
/-- its remainder loop none. -/
theorem trips4_eq : (k0_t4_loop v).trips = 0 := by
  show Scf.trips (Scalar.addi 0#32 (Scalar.muli (Scalar.divsi (Scalar.subi v 0#32) 1#32) 1#32)) (Scalar.addi 0#32 (Scalar.subi v 0#32)) 1#32 = 0
  unfold Scf.trips; rw [toInt_of_isInt (isInt_v29 v), toInt_of_isInt (isInt_v26 v)]; simp

theorem trips2_lt (k : Fin (k0_t2_loop v).trips) : (k.val : Int) < 2 ^ 31 - 1 := by
  have h := Nat.lt_of_lt_of_eq k.isLt (trips2_eq v); have := word_range v; omega
theorem trips2_toInt (k : Fin (k0_t2_loop v).trips) : (k.val : Int) < v.toInt := by
  have h := Nat.lt_of_lt_of_eq k.isLt (trips2_eq v); omega
theorem isInt_iv (k : Fin (k0_t2_loop v).trips) : IsInt (Scf.iv 0#32 1#32 k.val) k.val :=
  iv (e := k.val) (ofNat (e := 0) 0 ⟨rfl, by decide⟩) (ofNat (e := 1) 1 ⟨rfl, by decide⟩) k.val ⟨by omega, by omega, by have := trips2_lt v k; omega⟩
theorem isInt_iv1 (k : Fin (k0_t2_loop v).trips) : IsInt (Scalar.addi (Scf.iv 0#32 1#32 k.val) 1#32) (k.val + 1 : Nat) :=
  addi (e := (k.val + 1 : Nat)) (isInt_iv v k) (ofNat (e := 1) 1 ⟨rfl, by decide⟩) ⟨by push_cast; omega, by omega, by have := trips2_lt v k; push_cast; omega⟩
theorem isInt_rem (k : Fin (k0_t2_loop v).trips) : IsInt (Scalar.remsi (Scf.iv 0#32 1#32 k.val) 2#32) (k.val % 2 : Nat) :=
  remsi (e := (k.val % 2 : Nat)) (isInt_iv v k) (ofNat (e := 2) 2 ⟨rfl, by decide⟩) ⟨by omega, by omega, by omega⟩

/-- The remainder made non-negative, as the kernel computes the slot. -/
def fixup (r d : BitVec 32) : BitVec 32 :=
  Scalar.select (Scalar.andi (Scalar.xori (Scalar.cmpi .slt r 0#32) (Scalar.cmpi .slt d 0#32)) (Scalar.cmpi .ne r 0#32)) (Scalar.addi r d) r
theorem rem_word (k : Fin (k0_t2_loop v).trips) : Scalar.remsi (Scf.iv 0#32 1#32 k.val) 2#32 = BitVec.ofNat 32 (k.val % 2) := by
  have := toInt_of_isInt (isInt_rem v k)
  apply BitVec.eq_of_toInt_eq
  rw [this]
  rcases Nat.mod_two_eq_zero_or_one k.val with h | h <;> rw [h] <;> rfl
theorem slot_word (k : Fin (k0_t2_loop v).trips) : fixup (Scalar.remsi (Scf.iv 0#32 1#32 k.val) 2#32) 2#32 = BitVec.ofNat 32 (Ring.sl 2 k.val).val := by
  rw [rem_word]
  have : (Ring.sl 2 k.val).val = k.val % 2 := rfl
  rw [this]
  rcases Nat.mod_two_eq_zero_or_one k.val with h | h <;> rw [h] <;> decide
theorem slot_toNat (k : Fin (k0_t2_loop v).trips) : (fixup (Scalar.remsi (Scf.iv 0#32 1#32 k.val) 2#32) 2#32).toNat = (Ring.sl 2 k.val).val := by
  rw [slot_word]; generalize Ring.sl 2 k.val = s; revert s; decide
theorem slot1_toNat (k : Fin (k0_t2_loop v).trips) :
    (Scalar.subi 1#32 (fixup (Scalar.remsi (Scf.iv 0#32 1#32 k.val) 2#32) 2#32)).toNat = (Ring.sl 2 (k.val + 1)).val := by
  rw [slot_word]
  have h0 : (Ring.sl 2 k.val).val = k.val % 2 := rfl
  have h1 : (Ring.sl 2 (k.val + 1)).val = (k.val + 1) % 2 := rfl
  rw [h0, h1]
  rcases Nat.mod_two_eq_zero_or_one k.val with h | h
  · rw [h, show (k.val + 1) % 2 = 1 by omega]; decide
  · rw [h, show (k.val + 1) % 2 = 0 by omega]; decide

variable (k : Fin (k0_t2_loop v).trips)

theorem off6_eq : k0_off6 v k = ![k.val] := vec_cons (indexCast (isInt_iv v k)) rfl vec_nil
theorem off7_eq : k0_off7 v k = ![k.val + 1] := vec_cons (indexCast (isInt_iv1 v k)) rfl vec_nil
theorem off11_eq : k0_off11 v k = ![k.val + 1] := vec_cons (indexCast (isInt_iv1 v k)) rfl vec_nil
theorem off15_eq : k0_off15 v k = cOff (Ring.sl 2 k.val) := congrArg (fun n => ![n]) (slot_toNat v k)
theorem off18_eq : k0_off18 v k = cOff (Ring.sl 2 k.val) := congrArg (fun n => ![n]) (slot_toNat v k)
theorem off16_eq : k0_off16 v k = wsOff (Ring.sl 2 k.val) := congrArg (fun n => ![n, 0, 0]) (slot_toNat v k)
theorem off22_eq : k0_off22 v k = wsOff (Ring.sl 2 k.val) := congrArg (fun n => ![n, 0, 0]) (slot_toNat v k)
theorem off19_eq : k0_off19 v k = msOff (Ring.sl 2 k.val) := congrArg (fun n => ![n, 0, 0, 0, 0]) (slot_toNat v k)
theorem off8_eq : k0_off8 v k = cOff (Ring.sl 2 (k.val + 1)) := congrArg (fun n => ![n]) (slot1_toNat v k)
theorem off12_eq : k0_off12 v k = cOff (Ring.sl 2 (k.val + 1)) := congrArg (fun n => ![n]) (slot1_toNat v k)
theorem off9_eq : k0_off9 v k = wsOff (Ring.sl 2 (k.val + 1)) := congrArg (fun n => ![n, 0, 0]) (slot1_toNat v k)
theorem off13_eq : k0_off13 v k = msOff (Ring.sl 2 (k.val + 1)) := congrArg (fun n => ![n, 0, 0, 0, 0]) (slot1_toNat v k)

/-- The mask row of `i`: the word of sublane `i` in the copied mask block, lane chunk `j % 4`, group `j / 4`. -/
abbrev mkOff (s : Fin 2) (j i : Nat) : Fin 5 → Nat := ![s.val, j % 4, j / 4, i, 0]
/-- `j / 4` as the kernel computes it, rounding towards minus infinity. -/
def floorDiv4 (x : BitVec 32) : BitVec 32 :=
  Scalar.select (Scalar.andi (Scalar.cmpi .ne
      (Scalar.subi (Scalar.extui (Scalar.cmpi .sgt x 0#32)) (Scalar.extui (Scalar.cmpi .slt x 0#32)))
      (Scalar.subi (Scalar.extui (Scalar.cmpi .sgt 4#32 0#32)) (Scalar.extui (Scalar.cmpi .slt 4#32 0#32))))
      (Scalar.cmpi .ne (Scalar.remsi x 4#32) 0#32)) (Scalar.subi (Scalar.divsi x 4#32) 1#32) (Scalar.divsi x 4#32)
theorem div4_all : ∀ j : Fin k0_t3_loop.trips, (floorDiv4 (Scf.iv 0#32 1#32 j.val)).toNat = j.val / 4 := by decide +kernel
theorem mod4_all : ∀ j : Fin k0_t3_loop.trips, (fixup (Scalar.remsi (Scf.iv 0#32 1#32 j.val) 4#32) 4#32).toNat = j.val % 4 := by decide +kernel
theorem mk_vec (j : Fin k0_t3_loop.trips) (i : Nat) :
    (![(fixup (Scalar.remsi (Scf.iv 0#32 1#32 k.val) 2#32) 2#32).toNat, (fixup (Scalar.remsi (Scf.iv 0#32 1#32 j.val) 4#32) 4#32).toNat,
      (floorDiv4 (Scf.iv 0#32 1#32 j.val)).toNat, i, 0] : Fin 5 → Nat) = mkOff (Ring.sl 2 k.val) j.val i := by
  rw [slot_toNat, div4_all, mod4_all]
variable (j : Fin k0_t3_loop.trips)
theorem off25_eq : k0_off25 v k j = mkOff (Ring.sl 2 k.val) j.val 0 := mk_vec v k j 0
theorem off26_eq : k0_off26 v k j = mkOff (Ring.sl 2 k.val) j.val 1 := mk_vec v k j 1
theorem off27_eq : k0_off27 v k j = mkOff (Ring.sl 2 k.val) j.val 2 := mk_vec v k j 2
theorem off28_eq : k0_off28 v k j = mkOff (Ring.sl 2 k.val) j.val 3 := mk_vec v k j 3
theorem off29_eq : k0_off29 v k j = mkOff (Ring.sl 2 k.val) j.val 4 := mk_vec v k j 4
theorem off30_eq : k0_off30 v k j = mkOff (Ring.sl 2 k.val) j.val 5 := mk_vec v k j 5
theorem off31_eq : k0_off31 v k j = mkOff (Ring.sl 2 k.val) j.val 6 := mk_vec v k j 6
theorem off32_eq : k0_off32 v k j = mkOff (Ring.sl 2 k.val) j.val 7 := mk_vec v k j 7

instance : ClosedOff (k0_off22 v k) := ⟨wsOff (Ring.sl 2 k.val), off22_eq v k⟩
instance : ClosedOff (k0_off16 v k) := ⟨wsOff (Ring.sl 2 k.val), off16_eq v k⟩
instance : ClosedOff (k0_off19 v k) := ⟨msOff (Ring.sl 2 k.val), off19_eq v k⟩
instance : ClosedOff (k0_off25 v k j) := ⟨_, off25_eq v k j⟩
instance : ClosedOff (k0_off26 v k j) := ⟨_, off26_eq v k j⟩
instance : ClosedOff (k0_off27 v k j) := ⟨_, off27_eq v k j⟩
instance : ClosedOff (k0_off28 v k j) := ⟨_, off28_eq v k j⟩
instance : ClosedOff (k0_off29 v k j) := ⟨_, off29_eq v k j⟩
instance : ClosedOff (k0_off30 v k j) := ⟨_, off30_eq v k j⟩
instance : ClosedOff (k0_off31 v k j) := ⟨_, off31_eq v k j⟩
instance : ClosedOff (k0_off32 v k j) := ⟨_, off32_eq v k j⟩
end Chain

/-! ## The checks -/

section Checks

theorem inb_ul {off : Fin 1 → Nat} {x : Nat} (e : off = ![x]) (h : x < 128) : ∀ a, off a + S1.size a ≤ S128.size a := by
  subst e; intro a; fin_cases a; show x + 1 ≤ 128; omega
theorem inb_c {off : Fin 1 → Nat} {s : Fin 2} (e : off = cOff s) : ∀ a, off a + S1.size a ≤ S2.size a := by subst e; exact cOff_inb s
theorem inb_ws {off : Fin 3 → Nat} {s : Fin 2} (e : off = wsOff s) : ∀ a, off a + S1x256x4096.size a ≤ S2x256x4096.size a := by subst e; exact wsOff_inb s
theorem inb_ms {off : Fin 5 → Nat} {s : Fin 2} (e : off = msOff s) : ∀ a, off a + S1x4x5x8x128.size a ≤ S2x4x5x8x128.size a := by subst e; exact msOff_inb s
theorem inb_w {off : Fin 2 → Nat} {u : Fin 125} (e : off = wOff u) : ∀ a, off a + S256x4096.size a ≤ S32000x4096.size a := by subst e; exact wOff_inb u
theorem inb_m {off : Fin 5 → Nat} {u : Fin 125} (e : off = mOff u) : ∀ a, off a + S4x1x5x8x128.size a ≤ S4x125x5x8x128.size a := by subst e; exact mOff_inb u
theorem words_ws {off : Fin 3 → Nat} {s : Fin 2} (e : off = wsOff s) (hinb : ∀ a, off a + S1x256x4096.size a ≤ S2x256x4096.size a) :
    (Rect.unit (s := S2x256x4096) off S1x256x4096.size hinb).WholeWords (EltTy.packing .i8) := by subst e; exact wSlot_words s
theorem words_w {off : Fin 2 → Nat} {u : Fin 125} (e : off = wOff u) (hinb : ∀ a, off a + S256x4096.size a ≤ S32000x4096.size a) :
    (Rect.unit (s := S32000x4096) off S256x4096.size hinb).WholeWords (EltTy.packing .i8) := by subst e; exact wBlock_words u
theorem inb_mk {off : Fin 5 → Nat} {s : Fin 2} {j i : Nat} (e : off = mkOff s j i) (hj : j < 20) (hi : i < 8) :
    ∀ a, off a + S1x1x1x1x128.size a ≤ S2x4x5x8x128.size a := by
  subst e; intro a; have := s.isLt; fin_cases a
  · show s.val + 1 ≤ 2; omega
  · show j % 4 + 1 ≤ 4; omega
  · show j / 4 + 1 ≤ 5; omega
  · show i + 1 ≤ 8; omega
  · show 0 + 128 ≤ 128; omega

theorem t3_lt (j : Fin k0_t3_loop.trips) : j.val < 20 := Nat.lt_of_lt_of_le j.isLt k0_t3_abs.2.1

variable (v : BitVec 32)
theorem t2_ok : (k0_t2_loop v).OK := Affine.ok (Affine.ofNat (e := 0) 0 ⟨rfl, by decide⟩) (isInt_v29 v) (Affine.ofNat (e := 1) 1 ⟨rfl, by decide⟩)
  (by have := Affine.word_range v; omega)
theorem t4_ok : (k0_t4_loop v).OK := Affine.ok (isInt_v29 v) (isInt_v26 v) (Affine.ofNat (e := 1) 1 ⟨rfl, by decide⟩)
  (by have := Affine.word_range v; omega)
theorem no_t4 (k : Fin (k0_t4_loop v).trips) : False := Nat.not_lt_zero _ (Nat.lt_of_lt_of_eq k.isLt (trips4_eq v))

theorem cond3_iff (k : Fin (k0_t2_loop v).trips) : k0_cond3 v k = 1#1 ↔ k.val + 1 < (k0_t2_loop v).trips := by
  have h1 := toInt_of_isInt (isInt_iv1 v k)
  have h2 := trips2_toInt v k
  have h3 := trips2_eq v
  have e : k0_cond3 v k = Scalar.cmpi .ne (Scalar.extui (Scalar.cmpi .slt (Scalar.addi (Scf.iv 0#32 1#32 k.val) 1#32) v)) 0#32 := rfl
  have e2 : Scalar.cmpi .slt (Scalar.addi (Scf.iv 0#32 1#32 k.val) 1#32) v = if (Scalar.addi (Scf.iv 0#32 1#32 k.val) 1#32).toInt < v.toInt then 1#1 else 0#1 := by
    simp only [Scalar.cmpi, IntOp.cmpi, BitVec.slt, BitVec.toInt_zero]; split <;> rename_i hc <;> simp only [hc, decide_true, decide_false] <;> rfl
  rw [e, e2, h1]
  by_cases hh : ((k.val + 1 : Nat) : Int) < v.toInt
  · rw [if_pos hh]; exact iff_of_true (by decide) (by omega)
  · rw [if_neg hh]; exact iff_of_false (by decide) (by omega)
theorem cond2_iff : k0_cond2 v = 1#1 ↔ 0 < (k0_t2_loop v).trips := by
  have h3 := trips2_eq v
  have e : k0_cond2 v = Scalar.cmpi .ne (Scalar.extui (Scalar.cmpi .sgt v 0#32)) 0#32 := rfl
  have e2 : Scalar.cmpi .sgt v 0#32 = if (0 : Int) < v.toInt then 1#1 else 0#1 := by
    simp only [Scalar.cmpi, IntOp.cmpi, BitVec.slt, BitVec.toInt_zero]; split <;> rename_i hc <;> simp only [hc, decide_true, decide_false] <;> rfl
  rw [e, e2]
  by_cases hh : (0 : Int) < v.toInt
  · rw [if_pos hh]; exact iff_of_true (by decide) (by omega)
  · rw [if_neg hh]; exact iff_of_false (by decide) (by omega)

/-- The check of the unit count: any count of at most 125 passes. -/
theorem chk4_of (hv : (k0_t2_loop v).trips ≤ 125) : k0_chk4 v := by
  refine ⟨⟨t2_ok v, ?_, ?_, ?_, ?_, ?_, ?_, ?_, ?_, ?_, ?_, ?_, ?_, ?_, ?_, ?_, ?_, ?_, ?_, ?_, ?_, ?_, ?_, t4_ok v, ?_, ?_, ?_, ?_, ?_, ?_, ?_, ?_⟩,
    ⟨?_, ?_, ?_, ?_, ?_, ?_, ?_, ?_, ?_, ?_, ?_, ?_, ?_, ?_⟩⟩
  · exact fun k => inb_ul (off6_eq v k) (by have := k.isLt; omega)
  · exact fun k _ => inb_ul (off7_eq v k) (by have := k.isLt; omega)
  · exact fun k _ => inb_c (off8_eq v k)
  · exact fun k _ => inb_ws (off9_eq v k)
  · exact fun k _ => words_ws (off9_eq v k)
  · exact fun k _ => inb_ul (off11_eq v k) (by have := k.isLt; omega)
  · exact fun k _ => inb_c (off12_eq v k)
  · exact fun k _ => inb_ms (off13_eq v k)
  · exact fun k => inb_c (off15_eq v k)
  · exact fun k => inb_ws (off16_eq v k)
  · exact fun k => words_ws (off16_eq v k)
  · exact fun k => inb_c (off18_eq v k)
  · exact fun k => inb_ms (off19_eq v k)
  · exact fun k => inb_ws (off22_eq v k)
  · exact fun k j => inb_mk (off25_eq v k j) (t3_lt j) (by omega)
  · exact fun k j => inb_mk (off26_eq v k j) (t3_lt j) (by omega)
  · exact fun k j => inb_mk (off27_eq v k j) (t3_lt j) (by omega)
  · exact fun k j => inb_mk (off28_eq v k j) (t3_lt j) (by omega)
  · exact fun k j => inb_mk (off29_eq v k j) (t3_lt j) (by omega)
  · exact fun k j => inb_mk (off30_eq v k j) (t3_lt j) (by omega)
  · exact fun k j => inb_mk (off31_eq v k j) (t3_lt j) (by omega)
  · exact fun k j => inb_mk (off32_eq v k j) (t3_lt j) (by omega)
  all_goals exact fun k => (no_t4 v k).elim

variable {v}
theorem chk2_of {x : BitVec 32} (h : x.toNat < 125) : k0_chk2 v x := ⟨fun _ => inb_w (off4_eq h), fun _ => words_w (off4_eq h)⟩
theorem chk3_of {x : BitVec 32} (h : x.toNat < 125) : k0_chk3 v x := fun _ => inb_m (off5_eq h)
theorem chk5_of {k} {x : BitVec 32} (h : x.toNat < 125) : k0_chk5 v k x := ⟨fun _ => inb_w (off10_eq h), fun _ => words_w (off10_eq h)⟩
theorem chk6_of {k} {x : BitVec 32} (h : x.toNat < 125) : k0_chk6 v k x := fun _ => inb_m (off14_eq h)
theorem chk7_of {x : BitVec 32} (h : x.toNat < 125) : k0_chk7 x := by
  refine ⟨inb_w (off17_eq h), words_w (off17_eq h), inb_m (off20_eq h), fun r a => ?_, fun a => ?_⟩
  · rw [off21_eq h]; have := r.isLt; fin_cases a
    · show 2 * x.toNat + r.val + 1 ≤ 250; omega
    · show 0 + 128 ≤ 128; omega
  · rw [off34_eq h]; fin_cases a
    · show x.toNat / 2 + 1 ≤ 63; omega
    · show 0 + 24 ≤ 24; omega
    · show 0 + 128 ≤ 128; omega
end Checks

/-! ## The canonical-name equations -/

section Canon

theorem wcs_congr {off : Fin 1 → Nat} {s : Fin 2} (e : off = cOff s) (hh) :
    (cc0_scratch9.slice (Rect.unit (s := S2) off S1.size hh)).squeeze S_ squeezes_S1_S_ = wcs s :=
  congrArg (fun A : DmaSems sig S1 => A.squeeze S_ squeezes_S1_S_) (SemArray.slice_unit_congr _ e _ _)
theorem mcs_congr {off : Fin 1 → Nat} {s : Fin 2} (e : off = cOff s) (hh) :
    (cc0_scratch10.slice (Rect.unit (s := S2) off S1.size hh)).squeeze S_ squeezes_S1_S_ = mcs s :=
  congrArg (fun A : DmaSems sig S1 => A.squeeze S_ squeezes_S1_S_) (SemArray.slice_unit_congr _ e _ _)
theorem wslot_congr {off : Fin 3 → Nat} {s : Fin 2} (e : off = wsOff s) (hh hs) :
    (wB.slice (Rect.unit (s := S2x256x4096) off S1x256x4096.size hh) hs).squeeze S256x4096 squeezes_S1x256x4096_S256x4096 = wslot s :=
  congrArg (fun M : Memref sig .tc .vmem S1x256x4096 .i8 => M.squeeze S256x4096 squeezes_S1x256x4096_S256x4096) (Memref.slice_unit_congr _ e _ _ _ _)
theorem mslot_congr {off : Fin 5 → Nat} {s : Fin 2} (e : off = msOff s) (hh hs) :
    (mB.slice (Rect.unit (s := S2x4x5x8x128) off S1x4x5x8x128.size hh) hs).squeeze S4x5x8x128 squeezes_S1x4x5x8x128_S4x5x8x128 = mslot s :=
  congrArg (fun M : Memref sig .tc .vmem S1x4x5x8x128 .i32 => M.squeeze S4x5x8x128 squeezes_S1x4x5x8x128_S4x5x8x128) (Memref.slice_unit_congr _ e _ _ _ _)
theorem wblk_congr {off : Fin 2 → Nat} {u : Fin 125} (e : off = wOff u) (hh hs) :
    wM.slice (Rect.unit (s := S32000x4096) off S256x4096.size hh) hs = wblk u := Memref.slice_unit_congr _ e _ (wOff_inb u) _ (fun _ => rfl)
theorem mblk_congr {off : Fin 5 → Nat} {u : Fin 125} (e : off = mOff u) (hh hs) :
    (mM.slice (Rect.unit (s := S4x125x5x8x128) off S4x1x5x8x128.size hh) hs).squeeze S4x5x8x128 squeezes_S4x1x5x8x128_S4x5x8x128 = mblk u :=
  congrArg (fun M : Memref sig .tc .hbm S4x1x5x8x128 .i32 => M.squeeze S4x5x8x128 squeezes_S4x1x5x8x128_S4x5x8x128) (Memref.slice_unit_congr _ e _ _ _ _)

@[sl_canon] theorem wcsL (hh) : (cc0_scratch9.slice (Rect.unit (s := S2) ![0] S1.size hh)).squeeze S_ squeezes_S1_S_ = wcs 0 := wcs_congr (by decide) _
@[sl_canon] theorem mcsL (hh) : (cc0_scratch10.slice (Rect.unit (s := S2) ![0] S1.size hh)).squeeze S_ squeezes_S1_S_ = mcs 0 := mcs_congr (by decide) _
@[sl_canon] theorem wslotL (hh hs) : (wB.slice (Rect.unit (s := S2x256x4096) ![0, 0, 0] S1x256x4096.size hh) hs).squeeze S256x4096 squeezes_S1x256x4096_S256x4096 = wslot 0 := wslot_congr (by decide) _ _
@[sl_canon] theorem mslotL (hh hs) : (mB.slice (Rect.unit (s := S2x4x5x8x128) ![0, 0, 0, 0, 0] S1x4x5x8x128.size hh) hs).squeeze S4x5x8x128 squeezes_S1x4x5x8x128_S4x5x8x128 = mslot 0 := mslot_congr (by decide) _ _

variable (v : BitVec 32) (k : Fin (k0_t2_loop v).trips)
@[sl_canon] theorem wcsI (hh) : (cc0_scratch9.slice (Rect.unit (s := S2) (k0_off8 v k) S1.size hh)).squeeze S_ squeezes_S1_S_ = wcs (Ring.sl 2 (k.val + 1)) := wcs_congr (off8_eq v k) _
@[sl_canon] theorem mcsI (hh) : (cc0_scratch10.slice (Rect.unit (s := S2) (k0_off12 v k) S1.size hh)).squeeze S_ squeezes_S1_S_ = mcs (Ring.sl 2 (k.val + 1)) := mcs_congr (off12_eq v k) _
@[sl_canon] theorem wcsW (hh) : (cc0_scratch9.slice (Rect.unit (s := S2) (k0_off15 v k) S1.size hh)).squeeze S_ squeezes_S1_S_ = wcs (Ring.sl 2 k.val) := wcs_congr (off15_eq v k) _
@[sl_canon] theorem mcsW (hh) : (cc0_scratch10.slice (Rect.unit (s := S2) (k0_off18 v k) S1.size hh)).squeeze S_ squeezes_S1_S_ = mcs (Ring.sl 2 k.val) := mcs_congr (off18_eq v k) _
@[sl_canon] theorem wslotI (hh hs) : (wB.slice (Rect.unit (s := S2x256x4096) (k0_off9 v k) S1x256x4096.size hh) hs).squeeze S256x4096 squeezes_S1x256x4096_S256x4096 = wslot (Ring.sl 2 (k.val + 1)) := wslot_congr (off9_eq v k) _ _
@[sl_canon] theorem wslotW (hh hs) : (wB.slice (Rect.unit (s := S2x256x4096) (k0_off16 v k) S1x256x4096.size hh) hs).squeeze S256x4096 squeezes_S1x256x4096_S256x4096 = wslot (Ring.sl 2 k.val) := wslot_congr (off16_eq v k) _ _
@[sl_canon] theorem mslotI (hh hs) : (mB.slice (Rect.unit (s := S2x4x5x8x128) (k0_off13 v k) S1x4x5x8x128.size hh) hs).squeeze S4x5x8x128 squeezes_S1x4x5x8x128_S4x5x8x128 = mslot (Ring.sl 2 (k.val + 1)) := mslot_congr (off13_eq v k) _ _
@[sl_canon] theorem mslotW (hh hs) : (mB.slice (Rect.unit (s := S2x4x5x8x128) (k0_off19 v k) S1x4x5x8x128.size hh) hs).squeeze S4x5x8x128 squeezes_S1x4x5x8x128_S4x5x8x128 = mslot (Ring.sl 2 k.val) := mslot_congr (off19_eq v k) _ _

variable (x : BitVec 32) (hx : x.toNat < 125)
include hx
@[sl_canon] theorem wblkL (hh hs) : wM.slice (Rect.unit (s := S32000x4096) (k0_off4 x) S256x4096.size hh) hs = wblk (Ring.bk 125 x.toNat) := wblk_congr (off4_eq hx) _ _
@[sl_canon] theorem wblkI (hh hs) : wM.slice (Rect.unit (s := S32000x4096) (k0_off10 x) S256x4096.size hh) hs = wblk (Ring.bk 125 x.toNat) := wblk_congr (off10_eq hx) _ _
@[sl_canon] theorem wblkW (hh hs) : wM.slice (Rect.unit (s := S32000x4096) (k0_off17 x) S256x4096.size hh) hs = wblk (Ring.bk 125 x.toNat) := wblk_congr (off17_eq hx) _ _
@[sl_canon] theorem mblkL (hh hs) : (mM.slice (Rect.unit (s := S4x125x5x8x128) (k0_off5 x) S4x1x5x8x128.size hh) hs).squeeze S4x5x8x128 squeezes_S4x1x5x8x128_S4x5x8x128 = mblk (Ring.bk 125 x.toNat) := mblk_congr (off5_eq hx) _ _
@[sl_canon] theorem mblkI (hh hs) : (mM.slice (Rect.unit (s := S4x125x5x8x128) (k0_off14 x) S4x1x5x8x128.size hh) hs).squeeze S4x5x8x128 squeezes_S4x1x5x8x128_S4x5x8x128 = mblk (Ring.bk 125 x.toNat) := mblk_congr (off14_eq hx) _ _
@[sl_canon] theorem mblkW (hh hs) : (mM.slice (Rect.unit (s := S4x125x5x8x128) (k0_off20 x) S4x1x5x8x128.size hh) hs).squeeze S4x5x8x128 squeezes_S4x1x5x8x128_S4x5x8x128 = mblk (Ring.bk 125 x.toNat) := mblk_congr (off20_eq hx) _ _
end Canon

end Cert.Proof.ScoreIdeal
-- ==== Proof.ScoreSpec.lean ====
/-
  What the score kernel's loops compute, as functions.

  A tile is one unit (256 vocabulary rows) against one chunk (128 token rows). `TileIn` holds what one tile reads and
  `TileIn.um`, `TileIn.us`, `TileIn.tl` are the three rows it writes: the maximum of the tile's masked logits, the sum
  of their exponentials about it, and the target's logit. `umAt`, `usAt`, `tlAt` are the buffers after `j` chunks.
-/
module

public import proofs.«01_k».proof.Proof.ScoreChain

@[expose] public section

noncomputable section

namespace Cert.Proof.ScoreIdeal

open Cert.KernelIdeal Cert.KernelIdeal.Gen
open Idealize.ShloMosaic
open Idealize.ShloMosaic.TcCoe

variable {F : FTy → Type} [FloatOps F] [Named F]

/-- The factor `1 / log 2` the kernel moves its logits by. -/
def logE : F .f32 := Named.named κ "log2e" 0x3FB8AA3B#32

/-- What one tile reads: the unit's weight codes, the chunk's token codes and scales, the unit's number, the chunk's
   target tokens, eight rows of mask words and eight row groups of weight scales. -/
structure TileIn (F : FTy → Type) [FloatOps F] where
  w : Vec F S1x256x4096 .i8
  x : Vec F S1x4096x128 .i8
  xs : Vec F S1x128 .f32
  u : Elt F .i32
  tg : Vec F S1x128 .i32
  mw : Fin 8 → Vec F S1x1x1x1x128 .i32
  ws : Fin 8 → Vec F S32x128 .f32

namespace TileIn
variable (t : TileIn F)

abbrev acc : FVec F S256x128 .f32 := k0_pay1 t.w t.x
abbrev xs1 : FVec F S1x128 .f32 := k0_pay2 t.xs
abbrev xl : FVec F S1x128 .f32 := k0_pay3 t.xs1 logE
abbrev rel : IVec S1x128 32 := k0_pay4 (F := F) t.u t.tg
abbrev row : IVec S32x128 32 := iota .tc S32x128 32 [0] iota_S32x128_d0_w32
/-- The masked logits of rows `32 i ..< 32 (i+1)` of the unit, for `i = 0 … 7`. -/
abbrev l0 : FVec F S32x128 .f32 := k0_pay6 t.acc t.xs1 logE (t.mw 0) (t.ws 0)
abbrev l1 : FVec F S32x128 .f32 := k0_pay7 t.acc t.xs1 logE (t.mw 1) (t.ws 1)
abbrev l2 : FVec F S32x128 .f32 := k0_pay8 t.acc t.xl k0_pay5 (t.mw 2) (t.ws 2)
abbrev l3 : FVec F S32x128 .f32 := k0_pay9 t.acc t.xl k0_pay5 (t.mw 3) (t.ws 3)
abbrev m3 : FVec F S32x128 .f32 := k0_pay10 t.acc t.xl k0_pay5 t.l0 t.l1 (t.mw 2) (t.ws 2) (t.mw 3) (t.ws 3)
abbrev k4 : IVec S32x128 32 := k0_pay11 (F := F) k0_pay5 (t.mw 4)
abbrev l4 : FVec F S32x128 .f32 := k0_pay12 t.acc t.xl t.k4 0#32 (t.ws 4)
abbrev l5 : FVec F S32x128 .f32 := k0_pay13 t.acc t.xl k0_pay5 (t.mw 5) (t.ws 5)
abbrev m5 : FVec F S32x128 .f32 := k0_pay14 t.acc t.xl k0_pay5 t.m3 t.k4 0#32 (t.ws 4) (t.mw 5) (t.ws 5)
abbrev l6 : FVec F S32x128 .f32 := k0_pay15 t.acc t.xl k0_pay5 (t.mw 6) (t.ws 6)
abbrev l7 : FVec F S32x128 .f32 := k0_pay16 t.acc t.xl k0_pay5 (t.mw 7) (t.ws 7)
abbrev mx : FVec F S1x128 .f32 := k0_pay17 t.acc t.xl k0_pay5 t.m5 t.l6 (t.mw 7) (t.ws 7)
abbrev mx0 : FVec F S1x128 .f32 := k0_pay18 t.acc t.xl k0_pay5 t.m5 t.l6 (t.mw 7) (t.ws 7)
abbrev p0 : FVec F S32x128 .f32 := k0_pay19 t.rel row t.l0
abbrev e1 : FVec F S32x128 .f32 := k0_pay20 t.acc t.xl k0_pay5 t.l0 t.l1 t.m5 t.l6 (t.mw 7) (t.ws 7)
abbrev i1 : IVec S32x128 1 := k0_pay21 t.rel row
abbrev p5 : FVec F S32x128 .f32 := k0_pay22 t.rel row t.l1 t.l2 t.l3 t.l4 t.l5 t.p0 t.i1
abbrev e6 : FVec F S32x128 .f32 := k0_pay23 t.l2 t.l3 t.l4 t.l5 t.l6 t.mx0 t.e1

/-- The row of maxima. -/
def um : FVec F S1x128 .f32 := k0_pay26 t.mx
/-- The row of sums of exponentials about the maximum. -/
def us : FVec F S1x128 .f32 := k0_pay27 t.l7 t.mx0 t.e6
/-- The target's logits after the tile, from those before. -/
def tl (old : Vec F S1x128 .f32) : FVec F S1x128 .f32 := k0_pay28 t.rel row t.l6 t.l7 t.p5 old
end TileIn

abbrev chunkR (j : Fin k0_t3_loop.trips) : Rect S24x128 := Rect.unit (s := S24x128) (k0_off33 j) S1x128.size (k0_off33_inb j)

/-- The buffers of maxima, of sums and of target logits after `j` chunks of a unit. -/
def umAt (T : Fin k0_t3_loop.trips → TileIn F) (f0 : BufTy.Contents (Elt F) umB.view.ty) : ℕ → BufTy.Contents (Elt F) umB.view.ty
  | 0 => f0
  | j + 1 => if h : j < k0_t3_loop.trips then umB.view.writes (Elt F) (umAt T f0 j) [⟨chunkR ⟨j, h⟩, (T ⟨j, h⟩).um⟩] else umAt T f0 j
def usAt (T : Fin k0_t3_loop.trips → TileIn F) (f0 : BufTy.Contents (Elt F) usB.view.ty) : ℕ → BufTy.Contents (Elt F) usB.view.ty
  | 0 => f0
  | j + 1 => if h : j < k0_t3_loop.trips then usB.view.writes (Elt F) (usAt T f0 j) [⟨chunkR ⟨j, h⟩, (T ⟨j, h⟩).us⟩] else usAt T f0 j
def tlAt (T : Fin k0_t3_loop.trips → TileIn F) (f0 : BufTy.Contents (Elt F) tlB.view.ty) : ℕ → BufTy.Contents (Elt F) tlB.view.ty
  | 0 => f0
  | j + 1 => if h : j < k0_t3_loop.trips then
      tlB.view.writes (Elt F) (tlAt T f0 j) [⟨chunkR ⟨j, h⟩, (T ⟨j, h⟩).tl (tlB.view.readAt (Elt F) (chunkR ⟨j, h⟩).toLoadRect (tlAt T f0 j))⟩]
    else tlAt T f0 j

theorem umAt_succ (T : Fin k0_t3_loop.trips → TileIn F) (f0) (j : Fin k0_t3_loop.trips) :
    umAt T f0 (j.val + 1) = umB.view.writes (Elt F) (umAt T f0 j.val) [⟨chunkR j, (T j).um⟩] := by
  rw [umAt, dif_pos j.isLt]
theorem usAt_succ (T : Fin k0_t3_loop.trips → TileIn F) (f0) (j : Fin k0_t3_loop.trips) :
    usAt T f0 (j.val + 1) = usB.view.writes (Elt F) (usAt T f0 j.val) [⟨chunkR j, (T j).us⟩] := by
  rw [usAt, dif_pos j.isLt]
theorem tlAt_succ (T : Fin k0_t3_loop.trips → TileIn F) (f0) (j : Fin k0_t3_loop.trips) :
    tlAt T f0 (j.val + 1) = tlB.view.writes (Elt F) (tlAt T f0 j.val)
      [⟨chunkR j, (T j).tl (tlB.view.readAt (Elt F) (chunkR j).toLoadRect (tlAt T f0 j.val))⟩] := by
  rw [tlAt, dif_pos j.isLt]

end Cert.Proof.ScoreIdeal
-- ==== Proof.ScoreUnits.lean ====
/-
  The list of active vocabulary units the score kernel gathers in its first loop.

  `units a k` lists, in order, the units below `k` whose activity word `a u` is not zero. `UL a k acc ul` says that the
  counter `acc` is the list's length and that the scalar buffer holds the list. One trip keeps it: `UL_step`.
-/
module

public import proofs.«01_k».proof.Proof.ScoreSpec
public import Idealize.ShloMosaic.Lib.VecWindow

@[expose] public section

noncomputable section

namespace Cert.Proof.ScoreIdeal

open Cert.KernelIdeal Cert.KernelIdeal.Gen
open Idealize.ShloMosaic
open Idealize.ShloMosaic.TcCoe

variable {F : FTy → Type} [FloatOps F] [Named F]

/-- The units below `k` whose activity word is not zero, in order. -/
def units (a : ℕ → BitVec 32) (k : ℕ) : List ℕ := (List.range k).filter (fun u => decide (a u ≠ 0#32))

theorem units_succ_of (a : ℕ → BitVec 32) (k : ℕ) (h : a k ≠ 0#32) : units a (k + 1) = units a k ++ [k] := by
  simp [units, List.range_succ, List.filter_append, h]
theorem units_succ_not (a : ℕ → BitVec 32) (k : ℕ) (h : ¬ a k ≠ 0#32) : units a (k + 1) = units a k := by
  have h' : a k = 0#32 := not_not.mp h
  simp [units, List.range_succ, List.filter_append, h']
theorem units_length_le (a : ℕ → BitVec 32) (k : ℕ) : (units a k).length ≤ k :=
  (List.length_filter_le _ _).trans (by simp)
theorem units_lt (a : ℕ → BitVec 32) {k u : ℕ} (h : u ∈ units a k) : u < k :=
  List.mem_range.mp (List.mem_of_mem_filter h)
theorem units_sorted (a : ℕ → BitVec 32) (k : ℕ) : (units a k).Pairwise (· < ·) :=
  List.Pairwise.filter _ List.pairwise_lt_range
theorem units_get_lt (a : ℕ → BitVec 32) (k i j : ℕ) (hj : j < (units a k).length) (hij : i < j) :
    (units a k)[i]'(hij.trans hj) < (units a k)[j] :=
  List.pairwise_iff_getElem.mp (units_sorted a k) i j (hij.trans hj) hj hij

/-- The word of the list buffer at a one-element window. -/
abbrev ulRd (ul : BufTy.Contents (Elt F) ulB.view.ty) (off : Fin 1 → ℕ) (h : ∀ a, off a + S1.size a ≤ S128.size a) : BitVec 32 :=
  ulB.view.readAt (Elt F) (Rect.unit (s := S128) off S1.size h).toLoadRect ul (Shape.Idx.first (show 0 < S1.numel by decide))

theorem ulRd_congr (ul : BufTy.Contents (Elt F) ulB.view.ty) {off off' : Fin 1 → ℕ} (e : off = off') (h h') :
    ulRd ul off h = ulRd ul off' h' := by subst e; rfl

/-- A write of one word is read back in its own place and nowhere else. -/
theorem ulRd_put_same (ul : BufTy.Contents (Elt F) ulB.view.ty) (off : Fin 1 → ℕ) (h : ∀ a, off a + S1.size a ≤ S128.size a) (x : BitVec 32) :
    ulRd (F := F) (ulB.view.writes (Elt F) ul [⟨Rect.unit (s := S128) off S1.size h, fun _ => x⟩]) off h = x := by
  rw [ulRd, View.readAt_unit _ _ h rfl h, View.read_writes_cons_put _ _ h _ _ rfl, VecWindow.window_put_same]

theorem ulRd_put_other (ul : BufTy.Contents (Elt F) ulB.view.ty) (off off' : Fin 1 → ℕ) (h : ∀ a, off a + S1.size a ≤ S128.size a)
    (h' : ∀ a, off' a + S1.size a ≤ S128.size a) (x : BitVec 32) (hne : off 0 ≠ off' 0) :
    ulRd (F := F) (ulB.view.writes (Elt F) ul [⟨Rect.unit (s := S128) off S1.size h, fun _ => x⟩]) off' h' = ulRd ul off' h' := by
  have hd : off 0 + S1.size 0 ≤ off' 0 ∨ off' 0 + S1.size 0 ≤ off 0 := by
    have : S1.size 0 = 1 := rfl
    omega
  rw [ulRd, ulRd, View.readAt_unit _ _ h' rfl h', View.readAt_unit _ _ h' rfl h', View.read_writes_cons_put _ _ h _ _ rfl,
    VecWindow.window_put_of_disjoint _ _ _ _ _ h' _ 0 hd.symm, View.writes_nil]

/-- After `k` units: the counter is the number of active ones and the buffer lists them. -/
def UL (a : ℕ → BitVec 32) (k : ℕ) (acc : BitVec 32) (ul : BufTy.Contents (Elt F) ulB.view.ty) : Prop :=
  acc.toNat = (units a k).length ∧ ∀ (i : ℕ) (hi : i < (units a k).length) (h : ∀ b, (![i] : Fin 1 → ℕ) b + S1.size b ≤ S128.size b),
    ulRd (F := F) ul ![i] h = BitVec.ofNat 32 ((units a k)[i])

theorem UL_zero (a : ℕ → BitVec 32) (ul : BufTy.Contents (Elt F) ulB.view.ty) : UL a 0 0#32 ul :=
  ⟨rfl, fun i hi => absurd hi (by simp [units])⟩

theorem off2_eq (acc : BitVec 32) (h : acc.toNat < 2 ^ 31) : k0_off2 acc = ![acc.toNat] := by
  unfold k0_off2
  rfl

theorem cond1_iff (x : BitVec 32) : k0_cond1 x = 1#1 ↔ x ≠ 0#32 := by
  unfold k0_cond1
  simp only [Scalar.cmpi, IntOp.cmpi, Scalar.extui]
  by_cases h : x = 0#32
  · subst h; decide
  · have : (x != 0#32) = true := by simpa using h
    simp only [this]
    exact ⟨fun _ => h, fun _ => by decide⟩

theorem chk1_of (acc x : BitVec 32) (h : acc.toNat < 125) : k0_chk1 acc x := fun _ => by
  rw [off2_eq acc (by omega)]
  intro a
  have : a = 0 := Subsingleton.elim _ _
  subst this
  show acc.toNat + 1 ≤ 128
  omega

theorem iv_word (j : ℕ) : Scf.iv 0#32 1#32 j = BitVec.ofNat 32 j := by
  unfold Scf.iv
  simp

theorem UL_step_of (a : ℕ → BitVec 32) (k : ℕ) (acc : BitVec 32) (ul : BufTy.Contents (Elt F) ulB.view.ty) (hk : k < 125) (H : UL a k acc ul)
    (ha : a k ≠ 0#32) (h : ∀ b, k0_off2 acc b + S1.size b ≤ S128.size b) :
    UL a (k + 1) (Scalar.addi acc 1#32) (ulB.view.writes (Elt F) ul [⟨Rect.unit (s := S128) (k0_off2 acc) S1.size h, fun _ => Scf.iv 0#32 1#32 k⟩]) := by
  obtain ⟨h1, h2⟩ := H
  have hle := units_length_le a k
  have e2 : k0_off2 acc = ![(units a k).length] := by rw [off2_eq acc (by omega), h1]
  refine ⟨?_, fun i hi hin => ?_⟩
  · rw [units_succ_of a k ha, List.length_append]
    show (acc + 1#32).toNat = _
    rw [BitVec.toNat_add, h1]
    simp
    omega
  · have hl : (units a (k + 1)).length = (units a k).length + 1 := by rw [units_succ_of a k ha]; simp
    by_cases hlt : i < (units a k).length
    · rw [ulRd_put_other _ _ _ h hin _ (by rw [e2]; show (units a k).length ≠ i; omega), h2 i hlt hin]
      congr 1
      simp only [units_succ_of a k ha]
      rw [List.getElem_append_left hlt]
    · have hi' : i = (units a k).length := by omega
      subst hi'
      rw [ulRd_congr _ e2.symm hin h, ulRd_put_same, iv_word]
      congr 1
      simp only [units_succ_of a k ha]
      rw [List.getElem_append_right (le_refl _)]
      simp

theorem UL_step_not (a : ℕ → BitVec 32) (k : ℕ) (acc : BitVec 32) (ul : BufTy.Contents (Elt F) ulB.view.ty) (H : UL a k acc ul)
    (ha : ¬ a k ≠ 0#32) : UL a (k + 1) (Scalar.addi acc 0#32) ul := by
  have e : Scalar.addi acc 0#32 = acc := by show acc + 0#32 = acc; simp
  rw [e]
  unfold UL at *
  simp only [units_succ_not a k ha]
  exact H

/-- The counter's step, as the loop computes it. -/
theorem cnt_of (x acc : BitVec 32) (h : x ≠ 0#32) : Scalar.addi acc (Scalar.select (Scalar.cmpi .ne x 0#32) 1#32 0#32) = Scalar.addi acc 1#32 := by
  have : Scalar.cmpi .ne x 0#32 = 1#1 := by
    have hb : (x != 0#32) = true := by simpa using h
    simp only [Scalar.cmpi, IntOp.cmpi, hb]; rfl
  rw [this]; rfl
theorem cnt_not (x acc : BitVec 32) (h : ¬ x ≠ 0#32) : Scalar.addi acc (Scalar.select (Scalar.cmpi .ne x 0#32) 1#32 0#32) = Scalar.addi acc 0#32 := by
  have h' : x = 0#32 := not_not.mp h
  subst h'; rfl

end Cert.Proof.ScoreIdeal
-- ==== Proof.ScoreLoops.lean ====
/-
  The loops of the score kernel over the chunks of a unit and over the block rows, one trip at a time.
-/
module

public import proofs.«01_k».proof.Proof.ScoreUnits
public import Idealize.ShloMosaic.Lib.Pipeline.FrameBody

@[expose] public section

noncomputable section

namespace Cert.Proof.ScoreIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

abbrev 𝒱₀ : Variants := Variants.none
abbrev UU := Pipeline.UD sig nD τ

variable (c : Dev nD)

/-- Slot `s` of the weight buffer, of the mask buffer, at contents `f`. -/
abbrev wslotP (s : Fin 2) (f : BufTy.Contents (Elt F) wB.view.ty) : sProp 𝕄 :=
  ((wslot s).view.loc (c : Thread nD τ) ↦[(wslot s).view.set]{fullShare} f)
abbrev mslotP (s : Fin 2) (f : BufTy.Contents (Elt F) mB.view.ty) : sProp 𝕄 :=
  ((mslot s).view.loc (c : Thread nD τ) ↦[(mslot s).view.set]{fullShare} f)

section Args
variable (arg0 : Memref sig .tc .smem S1x128 .i32) (harg0 : arg0.IsWhole) (arg1 : Memref sig .tc .vmem S20x4096x128 .i8) (harg1 : arg1.IsWhole) (arg2 : Memref sig .tc .vmem S20x128 .f32) (harg2 : arg2.IsWhole) (arg3 : Memref sig .tc .vmem S20x128 .i32) (harg3 : arg3.IsWhole) (arg4 : Memref sig .tc .vmem S250x128 .f32) (harg4 : arg4.IsWhole) (arg7 : Memref sig .tc .vmem S5x4x128 .f32) (harg7 : arg7.IsWhole) (arg8 : Memref sig .tc .vmem S5x4x128 .f32) (harg8 : arg8.IsWhole) (arg9 : Memref sig .tc .vmem S63x5x4x128 .f32) (harg9 : arg9.IsWhole)
  (harg5 : wM.IsWhole) (harg6 : mM.IsWhole) (harg10 : wB.IsWhole) (harg11 : mB.IsWhole) (harg12 : wsB.IsWhole) (harg13 : bmB.IsWhole) (harg14 : bsB.IsWhole) (harg15 : tlB.IsWhole) (harg16 : umB.IsWhole) (harg17 : usB.IsWhole) (harg18 : ulB.IsWhole)

section T3
variable (v13 : BitVec 32) (k0_hw4 : k0_chk4 v13) (k0_t2 : Fin (k0_t2_loop v13).trips) (v68 : BitVec 32) (v70 : Elt F .i32) (k0_hw7 : k0_chk7 v70) (v90 : Vec F S1x128 .f32)
variable (X1 : BufTy.Contents (Elt F) arg1.view.ty) (X2 : BufTy.Contents (Elt F) arg2.view.ty) (X3 : BufTy.Contents (Elt F) arg3.view.ty)
  (fW : BufTy.Contents (Elt F) wB.view.ty) (fM : BufTy.Contents (Elt F) mB.view.ty) (fS : BufTy.Contents (Elt F) wsB.view.ty)

/-- What tile `j` of the unit in slot `k0_t2 % 2` reads. -/
def tileRd (j : Fin k0_t3_loop.trips) : TileIn F where
  w := wB.view.readAt (Elt F) (Rect.unit (s := S2x256x4096) (k0_off22 v13 k0_t2) S1x256x4096.size (k0_off22_inb v13 k0_hw4 k0_t2)).toLoadRect fW
  x := arg1.view.readAt (Elt F) (Rect.unit (s := S20x4096x128) (k0_off23 j) S1x4096x128.size (k0_off23_inb j)).toLoadRect X1
  xs := arg2.view.readAt (Elt F) (Rect.unit (s := S20x128) (k0_off24 j) S1x128.size (k0_off24_inb j)).toLoadRect X2
  u := v70
  tg := arg3.view.readAt (Elt F) (Rect.unit (s := S20x128) (k0_off24 j) S1x128.size (k0_off24_inb j)).toLoadRect X3
  mw := ![mB.view.readAt (Elt F) (Rect.unit (s := S2x4x5x8x128) (k0_off25 v13 k0_t2 j) S1x1x1x1x128.size (k0_off25_inb v13 k0_hw4 k0_t2 j)).toLoadRect fM, mB.view.readAt (Elt F) (Rect.unit (s := S2x4x5x8x128) (k0_off26 v13 k0_t2 j) S1x1x1x1x128.size (k0_off26_inb v13 k0_hw4 k0_t2 j)).toLoadRect fM, mB.view.readAt (Elt F) (Rect.unit (s := S2x4x5x8x128) (k0_off27 v13 k0_t2 j) S1x1x1x1x128.size (k0_off27_inb v13 k0_hw4 k0_t2 j)).toLoadRect fM, mB.view.readAt (Elt F) (Rect.unit (s := S2x4x5x8x128) (k0_off28 v13 k0_t2 j) S1x1x1x1x128.size (k0_off28_inb v13 k0_hw4 k0_t2 j)).toLoadRect fM, mB.view.readAt (Elt F) (Rect.unit (s := S2x4x5x8x128) (k0_off29 v13 k0_t2 j) S1x1x1x1x128.size (k0_off29_inb v13 k0_hw4 k0_t2 j)).toLoadRect fM, mB.view.readAt (Elt F) (Rect.unit (s := S2x4x5x8x128) (k0_off30 v13 k0_t2 j) S1x1x1x1x128.size (k0_off30_inb v13 k0_hw4 k0_t2 j)).toLoadRect fM, mB.view.readAt (Elt F) (Rect.unit (s := S2x4x5x8x128) (k0_off31 v13 k0_t2 j) S1x1x1x1x128.size (k0_off31_inb v13 k0_hw4 k0_t2 j)).toLoadRect fM, mB.view.readAt (Elt F) (Rect.unit (s := S2x4x5x8x128) (k0_off32 v13 k0_t2 j) S1x1x1x1x128.size (k0_off32_inb v13 k0_hw4 k0_t2 j)).toLoadRect fM]
  ws := ![wsB.view.readAt (Elt F) (Rect.unit (s := S256x128) ![0, 0] S32x128.size inb_S256x128_S32x128_0_0).toLoadRect fS, wsB.view.readAt (Elt F) (Rect.unit (s := S256x128) ![32, 0] S32x128.size inb_S256x128_S32x128_32_0).toLoadRect fS, wsB.view.readAt (Elt F) (Rect.unit (s := S256x128) ![64, 0] S32x128.size inb_S256x128_S32x128_64_0).toLoadRect fS, wsB.view.readAt (Elt F) (Rect.unit (s := S256x128) ![96, 0] S32x128.size inb_S256x128_S32x128_96_0).toLoadRect fS, wsB.view.readAt (Elt F) (Rect.unit (s := S256x128) ![128, 0] S32x128.size inb_S256x128_S32x128_128_0).toLoadRect fS, wsB.view.readAt (Elt F) (Rect.unit (s := S256x128) ![160, 0] S32x128.size inb_S256x128_S32x128_160_0).toLoadRect fS, wsB.view.readAt (Elt F) (Rect.unit (s := S256x128) ![192, 0] S32x128.size inb_S256x128_S32x128_192_0).toLoadRect fS, wsB.view.readAt (Elt F) (Rect.unit (s := S256x128) ![224, 0] S32x128.size inb_S256x128_S32x128_224_0).toLoadRect fS]

/-- What the chunk loop holds: the staged tokens, scales and targets, the two slots of the unit, the expanded weight
   scales, and its three result buffers. -/
def t3Inv (tl : BufTy.Contents (Elt F) tlB.view.ty) (um : BufTy.Contents (Elt F) umB.view.ty) (us : BufTy.Contents (Elt F) usB.view.ty) : sProp 𝕄 :=
  iprop((arg1.view.loc (c : Thread nD τ) ↦[arg1.view.set]{fullShare} X1) ∗ (arg2.view.loc (c : Thread nD τ) ↦[arg2.view.set]{fullShare} X2)
    ∗ (arg3.view.loc (c : Thread nD τ) ↦[arg3.view.set]{fullShare} X3)
    ∗ wslotP c (Ring.sl 2 k0_t2.val) fW ∗ mslotP c (Ring.sl 2 k0_t2.val) fM
    ∗ (wsB.view.loc (c : Thread nD τ) ↦[wsB.view.set]{fullShare} fS)
    ∗ (tlB.view.loc (c : Thread nD τ) ↦[tlB.view.set]{fullShare} tl) ∗ (umB.view.loc (c : Thread nD τ) ↦[umB.view.set]{fullShare} um)
    ∗ (usB.view.loc (c : Thread nD τ) ↦[usB.view.set]{fullShare} us))

theorem trip3 (j : Fin k0_t3_loop.trips) (acc : BitVec 32) (tl : BufTy.Contents (Elt F) tlB.view.ty) (um : BufTy.Contents (Elt F) umB.view.ty) (us : BufTy.Contents (Elt F) usB.view.ty) :
    t3Inv (F := F) c arg1 arg2 arg3 v13 k0_t2 X1 X2 X3 fW fM fS tl um us
      ⊢ wp frame (wpE (defs₀ (F := F)) 𝒱₀ (c : Thread nD τ) none) Set.univ
          (k0_t3_body (F := F) arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10 v13 k0_hw4 k0_t2 v68 v70 k0_hw7 v90 j acc)
          (fun _ => t3Inv (F := F) c arg1 arg2 arg3 v13 k0_t2 X1 X2 X3 fW fM fS
            (tlB.view.writes (Elt F) tl [⟨chunkR j, (tileRd arg1 arg2 arg3 v13 k0_hw4 k0_t2 v70 X1 X2 X3 fW fM fS j).tl (tlB.view.readAt (Elt F) (chunkR j).toLoadRect tl)⟩])
            (umB.view.writes (Elt F) um [⟨chunkR j, (tileRd arg1 arg2 arg3 v13 k0_hw4 k0_t2 v70 X1 X2 X3 fW fM fS j).um⟩])
            (usB.view.writes (Elt F) us [⟨chunkR j, (tileRd arg1 arg2 arg3 v13 k0_hw4 k0_t2 v70 X1 X2 X3 fW fM fS j).us⟩])) := by
  have hk : j.val < 20 := t3_lt j
  unfold t3Inv
  iintro ⟨H1, H2, H3, HW, HM, HS, HT, HUM, HUS⟩
  unfold k0_t3_body
  sl_exec
  sl_step
  isplitl [H1]; · iexact H1
  isplitl [H2]; · iexact H2
  isplitl [H3]; · iexact H3
  isplitl [HW]; · iexact HW
  isplitl [HM]; · iexact HM
  isplitl [HS]; · iexact HS
  isplitl [HT]; · iexact HT
  isplitl [HUM]; · iexact HUM
  iexact HUS
set_option warn.classDefReducibility false in
/-- The chunk loop: after `j` chunks the three buffers hold `tlAt`, `umAt`, `usAt`. -/
@[sl_loop] def loopInv3 (tl0 : BufTy.Contents (Elt F) tlB.view.ty) (um0 : BufTy.Contents (Elt F) umB.view.ty) (us0 : BufTy.Contents (Elt F) usB.view.ty) (init : BitVec 32) :
    LoopInvTy_k0_t3 (F := F) Unit ℕ (Pipeline.UD sig nD τ) ℕ 𝒱₀ c none Set.univ arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10 v13 k0_hw4 k0_t2 v68 v70 k0_hw7 v90 init where
  inv j _ := t3Inv (F := F) c arg1 arg2 arg3 v13 k0_t2 X1 X2 X3 fW fM fS
    (tlAt (tileRd arg1 arg2 arg3 v13 k0_hw4 k0_t2 v70 X1 X2 X3 fW fM fS) tl0 j)
    (umAt (tileRd arg1 arg2 arg3 v13 k0_hw4 k0_t2 v70 X1 X2 X3 fW fM fS) um0 j)
    (usAt (tileRd arg1 arg2 arg3 v13 k0_hw4 k0_t2 v70 X1 X2 X3 fW fM fS) us0 j)
  step j acc := by
    rw [tlAt_succ, umAt_succ, usAt_succ]
    exact trip3 c arg0 harg0 arg1 harg1 arg2 harg2 arg3 harg3 arg4 harg4 arg7 harg7 arg8 harg8 arg9 harg9 harg5 harg6 harg10 harg11 harg12 harg13 harg14 harg15 harg16 harg17 harg18 v13 k0_hw4 k0_t2 v68 v70 k0_hw7 v90 X1 X2 X3 fW fM fS j acc _ _ _
end T3

section T1
variable (X0 : BufTy.Contents (Elt F) arg0.view.ty)

/-- The activity word of unit `u`. -/
def anyW (u : ℕ) : BitVec 32 := if h : u < k0_t1_loop.trips then
    arg0.view.readAt (Elt F) (Rect.unit (s := S1x128) (k0_off1 ⟨u, h⟩) S1x1.size (k0_off1_inb ⟨u, h⟩)).toLoadRect X0 (Shape.Idx.first (show 0 < S1x1.numel by decide))
  else 0#32

theorem anyW_eq (k : Fin k0_t1_loop.trips) : anyW arg0 X0 k.val =
    arg0.view.readAt (Elt F) (Rect.unit (s := S1x128) (k0_off1 k) S1x1.size (k0_off1_inb k)).toLoadRect X0 (Shape.Idx.first (show 0 < S1x1.numel by decide)) := by
  rw [anyW, dif_pos k.isLt]

theorem t1_lt (k : Fin k0_t1_loop.trips) : k.val < 125 := Nat.lt_of_lt_of_le k.isLt k0_t1_abs.2.1

def t1Inv (k : ℕ) (acc : BitVec 32) : sProp 𝕄 :=
  iprop((arg0.view.loc (c : Thread nD τ) ↦[arg0.view.set]{fullShare} X0)
    ∗ ∃ ul, ⌜UL (F := F) (anyW arg0 X0) k acc ul⌝ ∗ (ulB.view.loc (c : Thread nD τ) ↦[ulB.view.set]{fullShare} ul))

theorem trip1 (k : Fin k0_t1_loop.trips) (acc : BitVec 32) :
    t1Inv (F := F) c arg0 X0 k.val acc
      ⊢ wp frame (wpE (defs₀ (F := F)) 𝒱₀ (c : Thread nD τ) none) Set.univ
          (k0_t1_body (F := F) arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10 k acc)
          (fun acc' => t1Inv (F := F) c arg0 X0 (k.val + 1) acc') := by
  have hk : k.val < 125 := t1_lt k
  unfold t1Inv
  iintro ⟨H0, %ul, %hul, HU⟩
  have hacc : acc.toNat < 125 := by
    have := units_length_le (anyW arg0 X0) k.val
    rw [hul.1]; omega
  unfold k0_t1_body
  sl_exec
  have hR : trip1.sl.r (F := F) arg0 X0 k = anyW arg0 X0 k.val := (anyW_eq arg0 X0 k).symm
  have hchk : k0_chk1 acc (trip1.sl.r (F := F) arg0 X0 k) := chk1_of acc _ hacc
  by_cases hA : anyW arg0 X0 k.val ≠ 0#32
  · have hC : k0_cond1 (trip1.sl.r (F := F) arg0 X0 k) = 1#1 := (cond1_iff _).mpr (by rw [hR]; exact hA)
    sl_exec
    sl_step
    isplitl [H0]; · iexact H0
    iexists _
    isplitr
    rotate_left
    · iexact HU
    · ipureintro
      have e : trip1.sl.v68 (F := F) arg0 X0 k acc = Scalar.addi acc 1#32 := cnt_of _ acc (show trip1.sl.r (F := F) arg0 X0 k ≠ 0#32 by rw [hR]; exact hA)
      rw [e]; exact UL_step_of (F := F) (anyW arg0 X0) k.val acc ul hk hul hA _
  · have hC : ¬ k0_cond1 (trip1.sl.r (F := F) arg0 X0 k) = 1#1 := fun h => hA (by rw [← hR]; exact (cond1_iff _).mp h)
    sl_exec
    sl_step
    isplitl [H0]; · iexact H0
    iexists _
    isplitr
    rotate_left
    · iexact HU
    · ipureintro
      have e : trip1.sl.v68_1 (F := F) arg0 X0 k acc = Scalar.addi acc 0#32 := cnt_not _ acc (show ¬ trip1.sl.r (F := F) arg0 X0 k ≠ 0#32 by rw [hR]; exact hA)
      rw [e]; exact UL_step_not (F := F) (anyW arg0 X0) k.val acc ul hul hA

set_option warn.classDefReducibility false in
/-- The loop that lists the active units. -/
@[sl_loop] def loopInv1 (init : BitVec 32) :
    LoopInvTy_k0_t1 (F := F) Unit ℕ (Pipeline.UD sig nD τ) ℕ 𝒱₀ c none Set.univ arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10 init where
  inv k acc := t1Inv (F := F) c arg0 X0 k acc
  step k acc := trip1 c arg0 harg0 arg1 harg1 arg2 harg2 arg3 harg3 arg4 harg4 arg7 harg7 arg8 harg8 arg9 harg9 harg5 harg6 harg10 harg11 harg12 harg13 harg14 harg15 harg16 harg17 harg18 X0 k acc
end T1

section T67
variable (v13 : BitVec 32) (k0_hw4 : k0_chk4 v13) (a19 a20 v25 : BitVec 32)
variable (fBm : BufTy.Contents (Elt F) bmB.view.ty) (fBs : BufTy.Contents (Elt F) bsB.view.ty)

/-- Block row `k` of the block maxima and of the block sums. -/
def bmRow (k : Fin k0_t6_loop.trips) : Vec F S1x24x128 .f32 := bmB.view.readAt (Elt F) (Rect.unit (s := S63x24x128) (k0_off64 k) S1x24x128.size (k0_off64_inb k)).toLoadRect fBm
def bsRow (k : Fin k0_t6_loop.trips) : Vec F S1x24x128 .f32 := bsB.view.readAt (Elt F) (Rect.unit (s := S63x24x128) (k0_off64 k) S1x24x128.size (k0_off64_inb k)).toLoadRect fBs
def bmRow' (k : Fin k0_t7_loop.trips) : Vec F S1x24x128 .f32 := bmB.view.readAt (Elt F) (Rect.unit (s := S63x24x128) (k0_off65 k) S1x24x128.size (k0_off65_inb k)).toLoadRect fBm
def bsRow' (k : Fin k0_t7_loop.trips) : Vec F S1x24x128 .f32 := bsB.view.readAt (Elt F) (Rect.unit (s := S63x24x128) (k0_off65 k) S1x24x128.size (k0_off65_inb k)).toLoadRect fBs

/-- The running maximum over the first `k` blocks. -/
def mAt (m0 : FVec F S24x128 .f32) : ℕ → FVec F S24x128 .f32
  | 0 => m0
  | k + 1 => if h : k < k0_t6_loop.trips then k0_pay71 (mAt m0 k) (bmRow fBm ⟨k, h⟩) (bsRow fBs ⟨k, h⟩) else mAt m0 k
theorem mAt_succ (m0) (k : Fin k0_t6_loop.trips) : mAt fBm fBs m0 (k.val + 1) = k0_pay71 (mAt fBm fBs m0 k.val) (bmRow fBm k) (bsRow fBs k) := by
  rw [mAt, dif_pos k.isLt]

set_option warn.classDefReducibility false in
/-- The loop that takes the maximum over the blocks. -/
@[sl_loop] def loopInv6 (init : FVec F S24x128 .f32) :
    LoopInvTy_k0_t6 (F := F) Unit ℕ (Pipeline.UD sig nD τ) ℕ 𝒱₀ c none Set.univ arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10 v13 k0_hw4 a19 a20 v25 init where
  inv k acc := iprop(⌜acc = mAt fBm fBs init k⌝ ∗ (bmB.view.loc (c : Thread nD τ) ↦[bmB.view.set]{fullShare} fBm) ∗ (bsB.view.loc (c : Thread nD τ) ↦[bsB.view.set]{fullShare} fBs))
  step k acc := by
    have hk : k.val < 63 := Nat.lt_of_lt_of_le k.isLt k0_t6_abs.2.1
    iintro ⟨%ha, HM, HS⟩
    unfold k0_t6_body
    sl_exec
    sl_step
    isplitr; · ipureintro; rw [mAt_succ, ← ha]; rfl
    isplitl [HM]; · iexact HM
    iexact HS

/-- The running sum over the first `k` blocks, and the blocks' log-sum-exps written so far. -/
def sAt (v34 s0 : FVec F S24x128 .f32) : ℕ → FVec F S24x128 .f32
  | 0 => s0
  | k + 1 => if h : k < k0_t7_loop.trips then k0_pay77 v34 (sAt v34 s0 k) (bmRow' fBm ⟨k, h⟩) (bsRow' fBs ⟨k, h⟩) else sAt v34 s0 k
theorem sAt_succ (v34 s0) (k : Fin k0_t7_loop.trips) : sAt fBm fBs v34 s0 (k.val + 1) = k0_pay77 v34 (sAt fBm fBs v34 s0 k.val) (bmRow' fBm k) (bsRow' fBs k) := by
  rw [sAt, dif_pos k.isLt]
def oAt (o0 : BufTy.Contents (Elt F) arg9.view.ty) : ℕ → BufTy.Contents (Elt F) arg9.view.ty
  | 0 => o0
  | k + 1 => if h : k < k0_t7_loop.trips then
      arg9.view.writes (Elt F) (oAt o0 k) [⟨Rect.unit (s := S63x5x4x128) (k0_off66 ⟨k, h⟩) S1x5x4x128.size (k0_off66_inb ⟨k, h⟩), k0_pay76 (bmRow' fBm ⟨k, h⟩) (bsRow' fBs ⟨k, h⟩)⟩]
    else oAt o0 k
theorem oAt_succ (o0) (k : Fin k0_t7_loop.trips) : oAt arg9 fBm fBs o0 (k.val + 1) =
    arg9.view.writes (Elt F) (oAt arg9 fBm fBs o0 k.val) [⟨Rect.unit (s := S63x5x4x128) (k0_off66 k) S1x5x4x128.size (k0_off66_inb k), k0_pay76 (bmRow' fBm k) (bsRow' fBs k)⟩] := by
  rw [oAt, dif_pos k.isLt]

set_option warn.classDefReducibility false in
/-- The loop that sums over the blocks and writes each block's log-sum-exp. -/
@[sl_loop] def loopInv7 (v34 : FVec F S24x128 .f32) (o0 : BufTy.Contents (Elt F) arg9.view.ty) (init : FVec F S24x128 .f32) :
    LoopInvTy_k0_t7 (F := F) Unit ℕ (Pipeline.UD sig nD τ) ℕ 𝒱₀ c none Set.univ arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10 v13 k0_hw4 a19 a20 v25 v34 init where
  inv k acc := iprop(⌜acc = sAt fBm fBs v34 init k⌝ ∗ (bmB.view.loc (c : Thread nD τ) ↦[bmB.view.set]{fullShare} fBm) ∗ (bsB.view.loc (c : Thread nD τ) ↦[bsB.view.set]{fullShare} fBs)
    ∗ (arg9.view.loc (c : Thread nD τ) ↦[arg9.view.set]{fullShare} oAt arg9 fBm fBs o0 k))
  step k acc := by
    have hk : k.val < 63 := Nat.lt_of_lt_of_le k.isLt k0_t7_abs.2.1
    rw [oAt_succ]
    iintro ⟨%ha, HM, HS, HO⟩
    unfold k0_t7_body
    sl_exec
    sl_step
    isplitr; · ipureintro; rw [sAt_succ, ← ha]; rfl
    isplitl [HM]; · iexact HM
    isplitl [HS]; · iexact HS
    iexact HO
end T67
end Args

end Cert.Proof.ScoreIdeal
-- ==== Proof.ScoreUnit.lean ====
/-
  What one unit does to the buffers of the score kernel, as a function of the unit alone: the tile it reads for each
  chunk (`unitTile`), the state of the five result buffers after it (`stNext`), and after the first `k` active units (`stAt`).
-/
module

public import proofs.«01_k».proof.Proof.ScoreLoops
public import Idealize.ShloMosaic.Lib.VecWindow
public import Idealize.ShloMosaic.Lib.ValueLayout

@[expose] public section

noncomputable section

namespace Cert.Proof.ScoreIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] [Named F]

variable (XW : BufTy.Contents (Elt F) wM.view.ty) (XM : BufTy.Contents (Elt F) mM.view.ty)

/-- What the copy of unit `u`'s weights (mask words) leaves in slot `s` over contents `f`. -/
abbrev landedW (s : Fin 2) (u : Fin 125) (f : BufTy.Contents (Elt F) wB.view.ty) : BufTy.Contents (Elt F) wB.view.ty :=
  (wslot s).view.writes (Elt F) f [⟨Rect.whole S256x4096, ReadAs.same.apply ((wblk u).view.read (Elt F) XW)⟩]
abbrev landedM (s : Fin 2) (u : Fin 125) (f : BufTy.Contents (Elt F) mB.view.ty) : BufTy.Contents (Elt F) mB.view.ty :=
  (mslot s).view.writes (Elt F) f [⟨Rect.whole S4x5x8x128, ReadAs.same.apply ((mblk u).view.read (Elt F) XM)⟩]

/-- A row of the landed weights is the row of the unit. -/
theorem wRead (s : Fin 2) (u : Fin 125) (f) {off : Fin 3 → ℕ} (inb) (e : off = wsOff s) :
    wB.view.readAt (Elt F) (Rect.unit (s := S2x256x4096) off S1x256x4096.size inb).toLoadRect (landedW XW s u f)
      = fun y => (wblk u).view.read (Elt F) XW (ix2 (y 1) (y 2)) := by
  subst e
  funext y
  have h := congrFun (View.read_writes_whole (Val := Elt F) (wslot s).view f (ReadAs.same.apply ((wblk u).view.read (Elt F) XW))) (ix2 (y 1) (y 2))
  have hy : Shape.reshapeEquiv (squeezes_S1x256x4096_S256x4096).numel_eq (ix2 (y 1) (y 2)) = y := by
    refine (reshapeEquiv_ix2_1ab (a := 256) (b := 4096) _ _ _).trans (funext fun a => ?_)
    fin_cases a
    · exact (Subsingleton.elim (α := Fin 1) _ _)
    · rfl
    · rfl
  refine Eq.trans ?_ h
  show _ = wB.view.read (Elt F) _ ((Rect.unit (s := S2x256x4096) (wsOff s) S1x256x4096.size (wsOff_inb s)).emb
    (Shape.reshapeEquiv (squeezes_S1x256x4096_S256x4096).numel_eq (ix2 (y 1) (y 2))))
  rw [hy]; rfl

/-- The mask word row `i` of chunk `j`, landed, is that row of the unit. -/
theorem mRead (s : Fin 2) (u : Fin 125) (f) {off : Fin 5 → ℕ} (inb) {j i : ℕ} (e : off = mkOff s j i) (hj : j < 20) (hi : i < 8) :
    mB.view.readAt (Elt F) (Rect.unit (s := S2x4x5x8x128) off S1x1x1x1x128.size inb).toLoadRect (landedM XM s u f)
      = fun y => (mblk u).view.read (Elt F) XM (ix4 (⟨j % 4, by omega⟩ : Fin 4) (⟨j / 4, by omega⟩ : Fin 5) (⟨i, hi⟩ : Fin 8) (y 4)) := by
  subst e
  funext y
  have h := congrFun (View.read_writes_whole (Val := Elt F) (mslot s).view f (ReadAs.same.apply ((mblk u).view.read (Elt F) XM)))
    (ix4 (⟨j % 4, by omega⟩ : Fin 4) (⟨j / 4, by omega⟩ : Fin 5) (⟨i, hi⟩ : Fin 8) (y 4))
  refine Eq.trans ?_ h
  show mB.view.read (Elt F) _ ((Rect.unit (s := S2x4x5x8x128) (mkOff s j i) S1x1x1x1x128.size inb).emb y) = mB.view.read (Elt F) _ ((Rect.unit (s := S2x4x5x8x128) (msOff s) S1x4x5x8x128.size (msOff_inb s)).emb
    (Shape.reshapeEquiv (squeezes_S1x4x5x8x128_S4x5x8x128).numel_eq _))
  refine congrArg _ ?_
  rw [show ∀ x : S4x5x8x128.Idx, Shape.reshapeEquiv (squeezes_S1x4x5x8x128_S4x5x8x128).numel_eq x = Fin.cons ⟨0, Nat.one_pos⟩ x from Shape.reshapeEquiv_cons_one _]
  have z0 : (y 0).val = 0 := Nat.lt_one_iff.mp (y 0).isLt
  have z1 : (y 1).val = 0 := Nat.lt_one_iff.mp (y 1).isLt
  have z2 : (y 2).val = 0 := Nat.lt_one_iff.mp (y 2).isLt
  have z3 : (y 3).val = 0 := Nat.lt_one_iff.mp (y 3).isLt
  funext a; apply Fin.ext; fin_cases a
  · show s.val + 1 * (y 0).val = s.val + 1 * 0; omega
  · show j % 4 + 1 * (y 1).val = 0 + 1 * (j % 4); omega
  · show j / 4 + 1 * (y 2).val = 0 + 1 * (j / 4); omega
  · show i + 1 * (y 3).val = 0 + 1 * i; omega
  · show 0 + 1 * (y 4).val = 0 + 1 * (y 4).val; rfl

section Args
variable (arg0 : Memref sig .tc .smem S1x128 .i32) (harg0 : arg0.IsWhole) (arg1 : Memref sig .tc .vmem S20x4096x128 .i8) (harg1 : arg1.IsWhole) (arg2 : Memref sig .tc .vmem S20x128 .f32) (harg2 : arg2.IsWhole) (arg3 : Memref sig .tc .vmem S20x128 .i32) (harg3 : arg3.IsWhole) (arg4 : Memref sig .tc .vmem S250x128 .f32) (harg4 : arg4.IsWhole) (arg7 : Memref sig .tc .vmem S5x4x128 .f32) (harg7 : arg7.IsWhole) (arg8 : Memref sig .tc .vmem S5x4x128 .f32) (harg8 : arg8.IsWhole) (arg9 : Memref sig .tc .vmem S63x5x4x128 .f32) (harg9 : arg9.IsWhole)
  (harg5 : wM.IsWhole) (harg6 : mM.IsWhole) (harg10 : wB.IsWhole) (harg11 : mB.IsWhole) (harg12 : wsB.IsWhole) (harg13 : bmB.IsWhole) (harg14 : bsB.IsWhole) (harg15 : tlB.IsWhole) (harg16 : umB.IsWhole) (harg17 : usB.IsWhole) (harg18 : ulB.IsWhole)
variable (X1 : BufTy.Contents (Elt F) arg1.view.ty) (X2 : BufTy.Contents (Elt F) arg2.view.ty) (X3 : BufTy.Contents (Elt F) arg3.view.ty) (X4 : BufTy.Contents (Elt F) arg4.view.ty)

theorem chk7_all (u : Fin 125) : k0_chk7 (BitVec.ofNat 32 u.val) := chk7_of (by rw [BitVec.toNat_ofNat]; omega)

/-- Row `r` of unit `u`'s weight scales: of 128 vocabulary rows. -/
def wsRow (u : Fin 125) (r : Fin 2) : Vec F S1x128 .f32 :=
  arg4.view.readAt (Elt F) (Rect.unit (s := S250x128) (k0_off21 (BitVec.ofNat 32 u.val) (BitVec.ofNat 32 r.val)) S1x128.size (k0_off21_inb (BitVec.ofNat 32 u.val) (chk7_all u) r)).toLoadRect X4
/-- The expanded weight scales of unit `u`: the two stores into the scale buffer. -/
def wsFill (u : Fin 125) (f : BufTy.Contents (Elt F) wsB.view.ty) : BufTy.Contents (Elt F) wsB.view.ty :=
  wsB.view.writes (Elt F) f [⟨Rect.unit (s := S256x128) ![128, 0] S128x128.size inb_S256x128_S128x128_128_0, k0_pay25 (wsRow arg4 X4 u 1)⟩,
    ⟨Rect.unit (s := S256x128) ![0, 0] S128x128.size inb_S256x128_S128x128_0_0, k0_pay24 (wsRow arg4 X4 u 0)⟩]
theorem wsFill_eq (u : Fin 125) (f f') : wsFill arg4 X4 u f = wsFill arg4 X4 u f' := by
  have h := View.read_writes_of_cover (Val := Elt F) wsB.view f wsB.view f'
    [⟨Rect.unit (s := S256x128) ![128, 0] S128x128.size inb_S256x128_S128x128_128_0, k0_pay25 (wsRow arg4 X4 u 1)⟩,
      ⟨Rect.unit (s := S256x128) ![0, 0] S128x128.size inb_S256x128_S128x128_0_0, k0_pay24 (wsRow arg4 X4 u 0)⟩] (fun y => by
    have h1 : (y 1).val < 128 := (y 1).isLt
    have h0 : (y 0).val < 256 := (y 0).isLt
    by_cases hy : (y 0).val < 128
    · refine ⟨_, List.mem_cons_of_mem _ (List.mem_singleton.mpr rfl), (Rect.mem_set_unit (inb := inb_S256x128_S128x128_0_0)).mpr fun a => ?_⟩
      fin_cases a
      · exact ⟨Nat.zero_le _, show (y 0).val < 0 + 128 by omega⟩
      · exact ⟨Nat.zero_le _, show (y 1).val < 0 + 128 by omega⟩
    · refine ⟨_, List.mem_cons_self, (Rect.mem_set_unit (inb := inb_S256x128_S128x128_128_0)).mpr fun a => ?_⟩
      fin_cases a
      · exact ⟨show 128 ≤ (y 0).val by omega, show (y 0).val < 128 + 128 by omega⟩
      · exact ⟨Nat.zero_le _, show (y 1).val < 0 + 128 by omega⟩)
  exact h

/-- What tile `j` of unit `u` reads. -/
def unitTile (u : Fin 125) (j : Fin k0_t3_loop.trips) : TileIn F where
  w := fun y => (wblk u).view.read (Elt F) XW (ix2 (y 1) (y 2))
  x := arg1.view.readAt (Elt F) (Rect.unit (s := S20x4096x128) (k0_off23 j) S1x4096x128.size (k0_off23_inb j)).toLoadRect X1
  xs := arg2.view.readAt (Elt F) (Rect.unit (s := S20x128) (k0_off24 j) S1x128.size (k0_off24_inb j)).toLoadRect X2
  u := BitVec.ofNat 32 u.val
  tg := arg3.view.readAt (Elt F) (Rect.unit (s := S20x128) (k0_off24 j) S1x128.size (k0_off24_inb j)).toLoadRect X3
  mw := fun i y => (mblk u).view.read (Elt F) XM (ix4 (⟨j.val % 4, by omega⟩ : Fin 4) (⟨j.val / 4, by have := t3_lt j; omega⟩ : Fin 5) i (y 4))
  ws := ![wsB.view.readAt (Elt F) (Rect.unit (s := S256x128) ![0, 0] S32x128.size inb_S256x128_S32x128_0_0).toLoadRect (wsFill arg4 X4 u wsB.view.junk), wsB.view.readAt (Elt F) (Rect.unit (s := S256x128) ![32, 0] S32x128.size inb_S256x128_S32x128_32_0).toLoadRect (wsFill arg4 X4 u wsB.view.junk), wsB.view.readAt (Elt F) (Rect.unit (s := S256x128) ![64, 0] S32x128.size inb_S256x128_S32x128_64_0).toLoadRect (wsFill arg4 X4 u wsB.view.junk), wsB.view.readAt (Elt F) (Rect.unit (s := S256x128) ![96, 0] S32x128.size inb_S256x128_S32x128_96_0).toLoadRect (wsFill arg4 X4 u wsB.view.junk), wsB.view.readAt (Elt F) (Rect.unit (s := S256x128) ![128, 0] S32x128.size inb_S256x128_S32x128_128_0).toLoadRect (wsFill arg4 X4 u wsB.view.junk), wsB.view.readAt (Elt F) (Rect.unit (s := S256x128) ![160, 0] S32x128.size inb_S256x128_S32x128_160_0).toLoadRect (wsFill arg4 X4 u wsB.view.junk), wsB.view.readAt (Elt F) (Rect.unit (s := S256x128) ![192, 0] S32x128.size inb_S256x128_S32x128_192_0).toLoadRect (wsFill arg4 X4 u wsB.view.junk), wsB.view.readAt (Elt F) (Rect.unit (s := S256x128) ![224, 0] S32x128.size inb_S256x128_S32x128_224_0).toLoadRect (wsFill arg4 X4 u wsB.view.junk)]

theorem TileIn.ext' (a b : TileIn F) (hw : a.w = b.w) (hx : a.x = b.x) (hxs : a.xs = b.xs) (hu : a.u = b.u) (ht : a.tg = b.tg)
    (hm : ∀ i, a.mw i = b.mw i) (hs : a.ws = b.ws) : a = b := by
  cases a; cases b; simp only at hw hx hxs hu ht hm hs
  subst hw hx hxs hu ht hs; rw [funext hm]
theorem vec8 {α : Type} {b0 b1 b2 b3 b4 b5 b6 b7 : α} {a : Fin 8 → α} (h0 : b0 = a 0) (h1 : b1 = a 1) (h2 : b2 = a 2) (h3 : b3 = a 3) (h4 : b4 = a 4)
    (h5 : b5 = a 5) (h6 : b6 = a 6) (h7 : b7 = a 7) : ∀ i, (![b0, b1, b2, b3, b4, b5, b6, b7] : Fin 8 → α) i = a i := by
  intro i; fin_cases i <;> assumption

/-- The tile read from the two slots the unit was copied to, and the filled scale buffer, is the unit's. -/
theorem tileRd_eq (v13 : BitVec 32) (k0_hw4 : k0_chk4 v13) (k0_t2 : Fin (k0_t2_loop v13).trips) (u : Fin 125) (f g h) (s s' : Fin 2) (hs : s = Ring.sl 2 k0_t2.val) (hs' : s' = Ring.sl 2 k0_t2.val) :
    tileRd arg1 arg2 arg3 v13 k0_hw4 k0_t2 (BitVec.ofNat 32 u.val) X1 X2 X3 (landedW XW s u f) (landedM XM s' u g) (wsFill arg4 X4 u h)
      = unitTile XW XM arg1 arg2 arg3 arg4 X1 X2 X3 X4 u := by
  subst hs hs'
  funext j
  refine TileIn.ext' _ _ ?_ rfl rfl rfl rfl ?_ ?_
  · unfold tileRd unitTile; dsimp only; exact wRead XW (Ring.sl 2 k0_t2.val) u f (k0_off22_inb v13 k0_hw4 k0_t2) (off22_eq v13 k0_t2)
  · have H (i : Fin 8) (off : Fin 5 → ℕ) (inb) (e : off = mkOff (Ring.sl 2 k0_t2.val) j.val i.val) :
        mB.view.readAt (Elt F) (Rect.unit (s := S2x4x5x8x128) off S1x1x1x1x128.size inb).toLoadRect (landedM XM (Ring.sl 2 k0_t2.val) u g)
          = (unitTile XW XM arg1 arg2 arg3 arg4 X1 X2 X3 X4 u j).mw i := mRead XM (Ring.sl 2 k0_t2.val) u g inb e (t3_lt j) i.isLt
    unfold tileRd; dsimp only
    refine vec8 ?_ ?_ ?_ ?_ ?_ ?_ ?_ ?_
    · exact H 0 _ _ (off25_eq v13 k0_t2 j)
    · exact H 1 _ _ (off26_eq v13 k0_t2 j)
    · exact H 2 _ _ (off27_eq v13 k0_t2 j)
    · exact H 3 _ _ (off28_eq v13 k0_t2 j)
    · exact H 4 _ _ (off29_eq v13 k0_t2 j)
    · exact H 5 _ _ (off30_eq v13 k0_t2 j)
    · exact H 6 _ _ (off31_eq v13 k0_t2 j)
    · exact H 7 _ _ (off32_eq v13 k0_t2 j)
  · unfold tileRd; rw [wsFill_eq arg4 X4 u h wsB.view.junk]; rfl

/-- The five result buffers. -/
structure St (F : FTy → Type) where
  bm : BufTy.Contents (Elt F) bmB.view.ty
  bs : BufTy.Contents (Elt F) bsB.view.ty
  tl : BufTy.Contents (Elt F) tlB.view.ty
  um : BufTy.Contents (Elt F) umB.view.ty
  us : BufTy.Contents (Elt F) usB.view.ty

/-- The block row of unit `u`, and the whole of a unit's rows. -/
abbrev blockR (u : Fin 125) : Rect S63x24x128 := Rect.unit (s := S63x24x128) (k0_off34 (BitVec.ofNat 32 u.val)) S1x24x128.size (k0_off34_inb (BitVec.ofNat 32 u.val) (chk7_all u))
abbrev fullR : Rect S24x128 := Rect.unit (s := S24x128) ![0, 0] S24x128.size inb_S24x128_S24x128_0_0

variable (T : Fin 125 → Fin k0_t3_loop.trips → TileIn F)
/-- The unit's maxima, sums and target logits after its chunks. -/
def St.um' (st : St F) (u : Fin 125) := umAt (T u) st.um k0_t3_loop.trips
def St.us' (st : St F) (u : Fin 125) := usAt (T u) st.us k0_t3_loop.trips
def St.tl' (st : St F) (u : Fin 125) := tlAt (T u) st.tl k0_t3_loop.trips
/-- The five buffers after unit `u`: its own three, and its block's row merged. -/
def St.next (st : St F) (u : Fin 125) : St F where
  bm := bmB.view.writes (Elt F) st.bm [⟨blockR u, k0_pay65 (bmB.view.readAt (Elt F) (blockR u).toLoadRect st.bm) (umB.view.readAt (Elt F) fullR.toLoadRect (st.um' T u))⟩]
  bs := bsB.view.writes (Elt F) st.bs [⟨blockR u, k0_pay64 (bmB.view.readAt (Elt F) (blockR u).toLoadRect st.bm) (umB.view.readAt (Elt F) fullR.toLoadRect (st.um' T u))
    (bsB.view.readAt (Elt F) (blockR u).toLoadRect st.bs) (usB.view.readAt (Elt F) fullR.toLoadRect (st.us' T u)) (umB.view.readAt (Elt F) fullR.toLoadRect (st.um' T u))⟩]
  tl := st.tl' T u
  um := st.um' T u
  us := st.us' T u
/-- The five buffers after the first `k` of the units `U`. -/
def St.at (U : ℕ → Fin 125) (st : St F) : ℕ → St F
  | 0 => st
  | k + 1 => (St.at U st k).next T (U k)
end Args

end Cert.Proof.ScoreIdeal
-- ==== Proof.ScoreRing.lean ====
/-
  The loop of the score kernel over the active units: the next unit is copied into one of two slots while the unit in the
  other is worked on.
-/
module

public import proofs.«01_k».proof.Proof.ScoreUnit
public import Idealize.ShloMosaic.Lib.VecWindow

@[expose] public section

noncomputable section

namespace Cert.Proof.ScoreIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

variable (c : Dev nD)

/-! ## The copies of a unit whose number is known -/

theorem u_lt (u : Fin 125) : (BitVec.ofNat 32 u.val).toNat < 125 := by rw [BitVec.toNat_ofNat]; omega
theorem bk_u (u : Fin 125) : Ring.bk 125 (BitVec.ofNat 32 u.val).toNat = u := by
  apply Fin.ext; rw [Ring.bk_val (u_lt u), BitVec.toNat_ofNat]; omega
@[sl_canon] theorem wblkLu (u : Fin 125) (hh hs) : wM.slice (Rect.unit (s := S32000x4096) (k0_off4 (BitVec.ofNat 32 u.val)) S256x4096.size hh) hs = wblk u := by
  rw [wblkL _ (u_lt u), bk_u]
@[sl_canon] theorem wblkIu (u : Fin 125) (hh hs) : wM.slice (Rect.unit (s := S32000x4096) (k0_off10 (BitVec.ofNat 32 u.val)) S256x4096.size hh) hs = wblk u := by
  rw [wblkI _ (u_lt u), bk_u]
@[sl_canon] theorem wblkWu (u : Fin 125) (hh hs) : wM.slice (Rect.unit (s := S32000x4096) (k0_off17 (BitVec.ofNat 32 u.val)) S256x4096.size hh) hs = wblk u := by
  rw [wblkW _ (u_lt u), bk_u]
@[sl_canon] theorem mblkLu (u : Fin 125) (hh hs) : (mM.slice (Rect.unit (s := S4x125x5x8x128) (k0_off5 (BitVec.ofNat 32 u.val)) S4x1x5x8x128.size hh) hs).squeeze S4x5x8x128 squeezes_S4x1x5x8x128_S4x5x8x128 = mblk u := by
  rw [mblkL _ (u_lt u), bk_u]
@[sl_canon] theorem mblkIu (u : Fin 125) (hh hs) : (mM.slice (Rect.unit (s := S4x125x5x8x128) (k0_off14 (BitVec.ofNat 32 u.val)) S4x1x5x8x128.size hh) hs).squeeze S4x5x8x128 squeezes_S4x1x5x8x128_S4x5x8x128 = mblk u := by
  rw [mblkI _ (u_lt u), bk_u]
@[sl_canon] theorem mblkWu (u : Fin 125) (hh hs) : (mM.slice (Rect.unit (s := S4x125x5x8x128) (k0_off20 (BitVec.ofNat 32 u.val)) S4x1x5x8x128.size hh) hs).squeeze S4x5x8x128 squeezes_S4x1x5x8x128_S4x5x8x128 = mblk u := by
  rw [mblkW _ (u_lt u), bk_u]
theorem chk7u (u : Fin 125) : k0_chk7 (BitVec.ofNat 32 u.val) := chk7_of (u_lt u)
theorem chk5u {v : BitVec 32} {k} (u : Fin 125) : k0_chk5 v k (BitVec.ofNat 32 u.val) := chk5_of (u_lt u)
theorem chk6u {v : BitVec 32} {k} (u : Fin 125) : k0_chk6 v k (BitVec.ofNat 32 u.val) := chk6_of (u_lt u)
theorem chk2u {v : BitVec 32} (u : Fin 125) : k0_chk2 v (BitVec.ofNat 32 u.val) := chk2_of (u_lt u)
theorem chk3u {v : BitVec 32} (u : Fin 125) : k0_chk3 v (BitVec.ofNat 32 u.val) := chk3_of (u_lt u)

/-! ## The `i`-th active unit -/

section List
variable (a : ℕ → BitVec 32)

def unitAt (N i : ℕ) : Fin 125 := Ring.bk 125 ((units a N).getD i 0)

variable {a} {N : ℕ} {v : BitVec 32} {ul : BufTy.Contents (Elt F) ulB.view.ty}
theorem UL_trips (hN : N ≤ 125) (H : UL a N v ul) : (k0_t2_loop v).trips = (units a N).length := by
  have := units_length_le a N
  have hc := BitVec.toInt_eq_toNat_cond v
  have h1 := H.1
  rw [trips2_eq]; split at hc <;> omega
theorem UL_le (hN : N ≤ 125) (H : UL a N v ul) : (k0_t2_loop v).trips ≤ 125 := by
  rw [UL_trips hN H]; exact (units_length_le a N).trans hN
theorem unitAt_val (hN : N ≤ 125) {i : ℕ} (hi : i < (units a N).length) : (unitAt a N i).val = (units a N)[i] := by
  have h : (units a N)[i] < 125 := (units_lt a (List.getElem_mem hi)).trans_le hN
  unfold unitAt
  rw [List.getD_eq_getElem?_getD, List.getElem?_eq_getElem hi, Option.getD_some, Ring.bk_val h]
theorem unitAt_lt (hN : N ≤ 125) {i j : ℕ} (hj : j < (units a N).length) (hij : i < j) : (unitAt a N i).val < (unitAt a N j).val := by
  rw [unitAt_val hN hj, unitAt_val hN (hij.trans hj)]; exact units_get_lt a N i j hj hij
theorem UL_word (hN : N ≤ 125) (H : UL a N v ul) {i : ℕ} (hi : i < (k0_t2_loop v).trips) {off : Fin 1 → ℕ} (e : off = ![i]) (h) :
    ulRd (F := F) ul off h = BitVec.ofNat 32 (unitAt a N i).val := by
  subst e
  rw [UL_trips hN H] at hi
  rw [H.2 i hi h, unitAt_val hN hi]
end List

/-! ## The pieces of memory -/

variable (XW : BufTy.Contents (Elt F) wM.view.ty) (XM : BufTy.Contents (Elt F) mM.view.ty)

abbrev wcellP (s : Fin 2) : sProp 𝕄 := semVal ((c : Thread nD τ), SemLoc.dma (wcs s).sem) 0
abbrev mcellP (s : Fin 2) : sProp 𝕄 := semVal ((c : Thread nD τ), SemLoc.dma (mcs s).sem) 0
/-- Unit `u` of the weights, of the mask, not in flight. -/
abbrev whomeP (u : Fin 125) : sProp 𝕄 := ((wblk u).view.loc (c : Thread nD τ) ↦[(wblk u).view.set]{fullShare} XW)
abbrev mhomeP (u : Fin 125) : sProp 𝕄 := ((mblk u).view.loc (c : Thread nD τ) ↦[(mblk u).view.set]{fullShare} XM)
/-- Unit `u` in flight to slot `s`. -/
abbrev wflightP (s : Fin 2) (u : Fin 125) (f : BufTy.Contents (Elt F) wB.view.ty) : sProp 𝕄 :=
  Transfers.Flight countersEmb (c : Thread nD τ) (SemLoc.dma (wcs s).sem) () 32768 iprop(wslotP c s (landedW XW s u f) ∗ whomeP c XW u)
abbrev mflightP (s : Fin 2) (u : Fin 125) (f : BufTy.Contents (Elt F) mB.view.ty) : sProp 𝕄 :=
  Transfers.Flight countersEmb (c : Thread nD τ) (SemLoc.dma (mcs s).sem) () 2560 iprop(mslotP c s (landedM XM s u f) ∗ mhomeP c XM u)

/-- Before trip `k < n`: the `k`-th unit in flight to slot `k % 2`, the other slot free. -/
def ringOn (U : ℕ → Fin 125) (k : ℕ) : sProp 𝕄 :=
  iprop((∃ f, wflightP c XW (Ring.sl 2 k) (U k) f) ∗ (∃ f, mflightP c XM (Ring.sl 2 k) (U k) f)
    ∗ (∃ f, wslotP c (Ring.sl 2 (k + 1)) f) ∗ (∃ f, mslotP c (Ring.sl 2 (k + 1)) f)
    ∗ wcellP c (Ring.sl 2 (k + 1)) ∗ mcellP c (Ring.sl 2 (k + 1))
    ∗ bigSep (Finset.univ.erase (U k)) (whomeP c XW) ∗ bigSep (Finset.univ.erase (U k)) (mhomeP c XM))
/-- After the last trip: both slots free. -/
def ringOff (k : ℕ) : sProp 𝕄 :=
  iprop((∃ f, wslotP c (Ring.sl 2 k) f) ∗ (∃ f, mslotP c (Ring.sl 2 k) f) ∗ (∃ f, wslotP c (Ring.sl 2 (k + 1)) f) ∗ (∃ f, mslotP c (Ring.sl 2 (k + 1)) f)
    ∗ wcellP c (Ring.sl 2 k) ∗ mcellP c (Ring.sl 2 k) ∗ wcellP c (Ring.sl 2 (k + 1)) ∗ mcellP c (Ring.sl 2 (k + 1))
    ∗ bigSep Finset.univ (whomeP c XW) ∗ bigSep Finset.univ (mhomeP c XM))
def ringP (n : ℕ) (U : ℕ → Fin 125) (k : ℕ) : sProp 𝕄 := if k < n then ringOn c XW XM U k else ringOff c XW XM k

theorem erase_take {P : Fin 125 → sProp 𝕄} {a b : Fin 125} (h : b ≠ a) :
    bigSep (Finset.univ.erase a) P = iprop(P b ∗ bigSep ((Finset.univ.erase a).erase b) P) :=
  bigSep_erase (Finset.mem_erase.mpr ⟨h, Finset.mem_univ _⟩)
theorem univ_take {P : Fin 125 → sProp 𝕄} (a : Fin 125) : bigSep Finset.univ P = iprop(P a ∗ bigSep (Finset.univ.erase a) P) :=
  bigSep_erase (Finset.mem_univ _)
theorem sl2_add2 (k : ℕ) : Ring.sl 2 (k + 1 + 1) = Ring.sl 2 k := by rw [show k + 1 + 1 = k + 2 from rfl, Ring.sl_add]

section Args
variable (arg0 : Memref sig .tc .smem S1x128 .i32) (harg0 : arg0.IsWhole) (arg1 : Memref sig .tc .vmem S20x4096x128 .i8) (harg1 : arg1.IsWhole) (arg2 : Memref sig .tc .vmem S20x128 .f32) (harg2 : arg2.IsWhole) (arg3 : Memref sig .tc .vmem S20x128 .i32) (harg3 : arg3.IsWhole) (arg4 : Memref sig .tc .vmem S250x128 .f32) (harg4 : arg4.IsWhole) (arg7 : Memref sig .tc .vmem S5x4x128 .f32) (harg7 : arg7.IsWhole) (arg8 : Memref sig .tc .vmem S5x4x128 .f32) (harg8 : arg8.IsWhole) (arg9 : Memref sig .tc .vmem S63x5x4x128 .f32) (harg9 : arg9.IsWhole)
  (harg5 : wM.IsWhole) (harg6 : mM.IsWhole) (harg10 : wB.IsWhole) (harg11 : mB.IsWhole) (harg12 : wsB.IsWhole) (harg13 : bmB.IsWhole) (harg14 : bsB.IsWhole) (harg15 : tlB.IsWhole) (harg16 : umB.IsWhole) (harg17 : usB.IsWhole) (harg18 : ulB.IsWhole)
variable (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty)

section T2
variable (st : St F) (v13 : BitVec 32) (k0_hw4 : k0_chk4 v13) (v25 : BitVec 32)

abbrev UN (i : ℕ) : Fin 125 := unitAt (anyW arg0 X0) k0_t1_loop.trips i
abbrev TU := unitTile XW XM arg1 arg2 arg3 arg4 X1 X2 X3 X4
/-- The five result buffers after `k` active units. -/
def stK (k : ℕ) : St F := St.at (unitTile XW XM arg1 arg2 arg3 arg4 X1 X2 X3 X4) (UN arg0 X0) st k

/-- The five buffers held at the state `s`. -/
def stP (s : St F) : sProp 𝕄 :=
  iprop((bmB.view.loc (c : Thread nD τ) ↦[bmB.view.set]{fullShare} s.bm) ∗ (bsB.view.loc (c : Thread nD τ) ↦[bsB.view.set]{fullShare} s.bs)
    ∗ (tlB.view.loc (c : Thread nD τ) ↦[tlB.view.set]{fullShare} s.tl) ∗ (umB.view.loc (c : Thread nD τ) ↦[umB.view.set]{fullShare} s.um)
    ∗ (usB.view.loc (c : Thread nD τ) ↦[usB.view.set]{fullShare} s.us))

/-- What the unit loop holds before trip `k`. -/
def t2Inv (k : ℕ) : sProp 𝕄 :=
  iprop((arg0.view.loc (c : Thread nD τ) ↦[arg0.view.set]{fullShare} X0) ∗ (arg1.view.loc (c : Thread nD τ) ↦[arg1.view.set]{fullShare} X1)
    ∗ (arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4)
    ∗ (∃ ul, ⌜UL (F := F) (anyW arg0 X0) k0_t1_loop.trips v13 ul⌝ ∗ (ulB.view.loc (c : Thread nD τ) ↦[ulB.view.set]{fullShare} ul))
    ∗ (∃ W, owes (c : Thread nD τ) 0 W)
    ∗ (∃ f, (wsB.view.loc (c : Thread nD τ) ↦[wsB.view.set]{fullShare} f))
    ∗ stP c (stK XW XM arg0 arg1 arg2 arg3 arg4 X0 X1 X2 X3 X4 st k)
    ∗ ringP c XW XM (k0_t2_loop v13).trips (UN arg0 X0) k)

set_option maxHeartbeats 4000000 in
/-- A trip with a next unit. -/
theorem trip2a (k : Fin (k0_t2_loop v13).trips) (acc : BitVec 32) (hc : k.val + 1 < (k0_t2_loop v13).trips) :
    t2Inv c XW XM arg0 arg1 arg2 arg3 arg4 X0 X1 X2 X3 X4 st v13 k.val
      ⊢ wp frame (wpE (defs₀ (F := F)) 𝒱₀ (c : Thread nD τ) none) Set.univ
          (k0_t2_body (F := F) arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10 v13 k0_hw4 0#32 0#32 v25 k acc)
          (fun _ => t2Inv c XW XM arg0 arg1 arg2 arg3 arg4 X0 X1 X2 X3 X4 st v13 (k.val + 1)) := by
  have hN : k0_t1_loop.trips ≤ 125 := k0_t1_abs.2.1
  have hk := k.isLt
  unfold t2Inv ringP
  rw [if_pos hk]
  unfold stP ringOn
  have hC : k0_cond3 v13 k = 1#1 := (cond3_iff v13 k).mpr hc
  by_cases hul' : ∃ ul, UL (F := F) (anyW arg0 X0) k0_t1_loop.trips v13 ul
  swap
  · iintro ⟨H0, H1, H2, H3, H4, ⟨%ul, %hul, HU⟩, HX⟩
    exact absurd ⟨ul, hul⟩ hul'
  have hne : UN arg0 X0 (k.val + 1) ≠ UN arg0 X0 k.val := by
    obtain ⟨ul, hul⟩ := hul'
    have h := unitAt_lt (a := anyW arg0 X0) hN (i := k.val) (j := k.val + 1) (by rw [← UL_trips hN hul]; exact hc) (by omega)
    intro e; rw [UN, UN] at e; rw [e] at h; omega
  rw [erase_take (P := whomeP c XW) hne, erase_take (P := mhomeP c XM) hne]
  iintro ⟨H0, H1, H2, H3, H4, ⟨%ul, %hul, HU⟩, ⟨%W, HW⟩, ⟨%fS, HS⟩, ⟨HBM, HBS, HTL, HUM, HUS⟩, ⟨%fw, HFW⟩, ⟨%fm, HFM⟩, ⟨%gw, HGW⟩, ⟨%gm, HGM⟩, HCW, HCM, ⟨HWN, HHW⟩, ⟨HMN, HHM⟩⟩
  unfold k0_t2_body
  sl_exec
  have hr : trip2a.sl.r (F := F) v13 k0_hw4 k ul = BitVec.ofNat 32 (UN arg0 X0 k.val).val := UL_word hN hul hk (off6_eq v13 k) _
  rw [hr]
  have h7 := chk7u (UN arg0 X0 k.val)
  sl_exec
  have hr1 : trip2a.sl.r_1 (F := F) v13 k0_hw4 k hC ul = BitVec.ofNat 32 (UN arg0 X0 (k.val + 1)).val := UL_word hN hul hc (off7_eq v13 k) _
  rw [hr1]
  have h5 := chk5u (v := v13) (k := k) (UN arg0 X0 (k.val + 1))
  sl_exec
  have hr2 : trip2a.sl.r_2 (F := F) v13 k0_hw4 k hC ul = BitVec.ofNat 32 (UN arg0 X0 (k.val + 1)).val := UL_word hN hul hc (off11_eq v13 k) _
  rw [hr2]
  have h6 := chk6u (v := v13) (k := k) (UN arg0 X0 (k.val + 1))
  sl_exec
  have hT : tileRd arg1 arg2 arg3 v13 k0_hw4 k (BitVec.ofNat 32 (UN arg0 X0 k.val).val) X1 X2 X3 (landedW XW (Ring.sl 2 k.val) (UN arg0 X0 k.val) (wslot (Ring.sl 2 k.val)).view.junk)
      (landedM XM (Ring.sl 2 k.val) (UN arg0 X0 k.val) (mslot (Ring.sl 2 k.val)).view.junk) (wsB.view.writes (Elt F) wsB.view.junk (trip2a.sl.HS_2 (F := F) arg0 arg4 X0 X4 v13 k h7))
        = unitTile XW XM arg1 arg2 arg3 arg4 X1 X2 X3 X4 (UN arg0 X0 k.val) :=
    tileRd_eq XW XM arg1 arg2 arg3 arg4 X1 X2 X3 X4 v13 k0_hw4 k (UN arg0 X0 k.val) _ _ wsB.view.junk _ _ rfl rfl
  have e131 : trip2a.sl.v131 (F := F) XW XM arg0 arg1 arg2 arg3 arg4 X0 X1 X2 X3 X4 st v13 k0_hw4 k h7
      = umB.view.readAt (Elt F) fullR.toLoadRect ((stK XW XM arg0 arg1 arg2 arg3 arg4 X0 X1 X2 X3 X4 st k.val).um' (unitTile XW XM arg1 arg2 arg3 arg4 X1 X2 X3 X4) (UN arg0 X0 k.val)) := by unfold St.um'; rw [← hT]; rfl
  have e143 : trip2a.sl.v143 (F := F) XW XM arg0 arg1 arg2 arg3 arg4 X0 X1 X2 X3 X4 st v13 k0_hw4 k h7
      = usB.view.readAt (Elt F) fullR.toLoadRect ((stK XW XM arg0 arg1 arg2 arg3 arg4 X0 X1 X2 X3 X4 st k.val).us' (unitTile XW XM arg1 arg2 arg3 arg4 X1 X2 X3 X4) (UN arg0 X0 k.val)) := by unfold St.us'; rw [← hT]; rfl
  rw [hT, e131, e143]
  rw [if_pos hc, erase_take (P := whomeP c XW) hne.symm, erase_take (P := mhomeP c XM) hne.symm, Finset.erase_right_comm, sl2_add2]
  sl_step
  isplitl [H0]; · iexact H0
  isplitl [H1]; · iexact H1
  isplitl [H2]; · iexact H2
  isplitl [H3]; · iexact H3
  isplitl [H4]; · iexact H4
  isplitl [HU]
  · iexists ul
    isplitr; · ipureintro; exact hul
    iexact HU
  isplitl [HW]; · iexists _; iexact HW
  isplitl [HS]; · iexists _; iexact HS
  isplitl [HBM HBS HTL HUM HUS]
  · isplitl [HBM]; · iexact HBM
    isplitl [HBS]; · iexact HBS
    isplitl [HTL]; · iexact HTL
    isplitl [HUM]; · iexact HUM
    iexact HUS
  isplitl [HCW]; · iexists gw; iexact HCW
  isplitl [HCM]; · iexists gm; iexact HCM
  isplitl [HFW_dst]; · iexists _; iexact HFW_dst
  isplitl [HFM_dst]; · iexists _; iexact HFM_dst
  isplitl [HFW]; · iexact HFW
  isplitl [HFM]; · iexact HFM
  isplitl [HFW_src HHW]
  · isplitl [HFW_src]; · iexact HFW_src
    iexact HHW
  isplitl [HFM_src]; · iexact HFM_src
  iexact HHM

set_option maxHeartbeats 4000000 in
/-- The last trip. -/
theorem trip2b (k : Fin (k0_t2_loop v13).trips) (acc : BitVec 32) (hc : ¬ k.val + 1 < (k0_t2_loop v13).trips) :
    t2Inv c XW XM arg0 arg1 arg2 arg3 arg4 X0 X1 X2 X3 X4 st v13 k.val
      ⊢ wp frame (wpE (defs₀ (F := F)) 𝒱₀ (c : Thread nD τ) none) Set.univ
          (k0_t2_body (F := F) arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10 v13 k0_hw4 0#32 0#32 v25 k acc)
          (fun _ => t2Inv c XW XM arg0 arg1 arg2 arg3 arg4 X0 X1 X2 X3 X4 st v13 (k.val + 1)) := by
  have hN : k0_t1_loop.trips ≤ 125 := k0_t1_abs.2.1
  have hk := k.isLt
  unfold t2Inv ringP
  rw [if_pos hk]
  unfold stP ringOn
  have hC : ¬ k0_cond3 v13 k = 1#1 := fun h => hc ((cond3_iff v13 k).mp h)
  iintro ⟨H0, H1, H2, H3, H4, ⟨%ul, %hul, HU⟩, ⟨%W, HW⟩, ⟨%fS, HS⟩, ⟨HBM, HBS, HTL, HUM, HUS⟩, ⟨%fw, HFW⟩, ⟨%fm, HFM⟩, ⟨%gw, HGW⟩, ⟨%gm, HGM⟩, HCW, HCM, HHW, HHM⟩
  unfold k0_t2_body
  sl_exec
  have hr : trip2b.sl.r (F := F) v13 k0_hw4 k ul = BitVec.ofNat 32 (UN arg0 X0 k.val).val := UL_word hN hul hk (off6_eq v13 k) _
  rw [hr]
  have h7 := chk7u (UN arg0 X0 k.val)
  sl_exec

  have hT : tileRd arg1 arg2 arg3 v13 k0_hw4 k (BitVec.ofNat 32 (UN arg0 X0 k.val).val) X1 X2 X3 (landedW XW (Ring.sl 2 k.val) (UN arg0 X0 k.val) (wslot (Ring.sl 2 k.val)).view.junk)
      (landedM XM (Ring.sl 2 k.val) (UN arg0 X0 k.val) (mslot (Ring.sl 2 k.val)).view.junk) (wsB.view.writes (Elt F) wsB.view.junk (trip2b.sl.HS_2 (F := F) arg0 arg4 X0 X4 v13 k h7))
        = unitTile XW XM arg1 arg2 arg3 arg4 X1 X2 X3 X4 (UN arg0 X0 k.val) :=
    tileRd_eq XW XM arg1 arg2 arg3 arg4 X1 X2 X3 X4 v13 k0_hw4 k (UN arg0 X0 k.val) _ _ wsB.view.junk _ _ rfl rfl
  have e131 : trip2b.sl.v131 (F := F) XW XM arg0 arg1 arg2 arg3 arg4 X0 X1 X2 X3 X4 st v13 k0_hw4 k h7
      = umB.view.readAt (Elt F) fullR.toLoadRect ((stK XW XM arg0 arg1 arg2 arg3 arg4 X0 X1 X2 X3 X4 st k.val).um' (unitTile XW XM arg1 arg2 arg3 arg4 X1 X2 X3 X4) (UN arg0 X0 k.val)) := by unfold St.um'; rw [← hT]; rfl
  have e143 : trip2b.sl.v143 (F := F) XW XM arg0 arg1 arg2 arg3 arg4 X0 X1 X2 X3 X4 st v13 k0_hw4 k h7
      = usB.view.readAt (Elt F) fullR.toLoadRect ((stK XW XM arg0 arg1 arg2 arg3 arg4 X0 X1 X2 X3 X4 st k.val).us' (unitTile XW XM arg1 arg2 arg3 arg4 X1 X2 X3 X4) (UN arg0 X0 k.val)) := by unfold St.us'; rw [← hT]; rfl
  rw [hT, e131, e143]
  rw [if_neg hc]
  unfold ringOff
  rw [sl2_add2, univ_take (P := whomeP c XW) (UN arg0 X0 k.val), univ_take (P := mhomeP c XM) (UN arg0 X0 k.val)]
  sl_step
  isplitl [H0]; · iexact H0
  isplitl [H1]; · iexact H1
  isplitl [H2]; · iexact H2
  isplitl [H3]; · iexact H3
  isplitl [H4]; · iexact H4
  isplitl [HU]
  · iexists ul
    isplitr; · ipureintro; exact hul
    iexact HU
  isplitl [HW]; · iexists _; iexact HW
  isplitl [HS]; · iexists _; iexact HS
  isplitl [HBM HBS HTL HUM HUS]
  · isplitl [HBM]; · iexact HBM
    isplitl [HBS]; · iexact HBS
    isplitl [HTL]; · iexact HTL
    isplitl [HUM]; · iexact HUM
    iexact HUS
  isplitl [HGW]; · iexists _; iexact HGW
  isplitl [HGM]; · iexists _; iexact HGM
  isplitl [HFW_dst]; · iexists _; iexact HFW_dst
  isplitl [HFM_dst]; · iexists _; iexact HFM_dst
  isplitl [HCW]; · iexact HCW
  isplitl [HCM]; · iexact HCM
  isplitl [HFW]; · iexact HFW
  isplitl [HFM]; · iexact HFM
  isplitl [HFW_src HHW]
  · isplitl [HFW_src]; · iexact HFW_src
    iexact HHW
  isplitl [HFM_src]; · iexact HFM_src
  iexact HHM

set_option warn.classDefReducibility false in
/-- The loop over the active units: after `k` of them the five buffers hold `stK … k`. -/
@[sl_loop] def loopInv2 (bm0 : BufTy.Contents (Elt F) bmB.view.ty) (bs0 : BufTy.Contents (Elt F) bsB.view.ty) (tl0 : BufTy.Contents (Elt F) tlB.view.ty)
    (um0 : BufTy.Contents (Elt F) umB.view.ty) (us0 : BufTy.Contents (Elt F) usB.view.ty) (init : BitVec 32) :
    LoopInvTy_k0_t2 (F := F) Unit ℕ (Pipeline.UD sig nD τ) ℕ 𝒱₀ c none Set.univ arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10 v13 k0_hw4 0#32 0#32 v25 init where
  inv k _ := t2Inv c XW XM arg0 arg1 arg2 arg3 arg4 X0 X1 X2 X3 X4 ⟨bm0, bs0, tl0, um0, us0⟩ v13 k
  step k acc := by
    by_cases hc : k.val + 1 < (k0_t2_loop v13).trips
    · exact trip2a c XW XM arg0 harg0 arg1 harg1 arg2 harg2 arg3 harg3 arg4 harg4 arg7 harg7 arg8 harg8 arg9 harg9 harg5 harg6 harg10 harg11 harg12 harg13 harg14 harg15 harg16 harg17 harg18 X0 X1 X2 X3 X4 _ v13 k0_hw4 v25 k acc hc
    · exact trip2b c XW XM arg0 harg0 arg1 harg1 arg2 harg2 arg3 harg3 arg4 harg4 arg7 harg7 arg8 harg8 arg9 harg9 harg5 harg6 harg10 harg11 harg12 harg13 harg14 harg15 harg16 harg17 harg18 X0 X1 X2 X3 X4 _ v13 k0_hw4 v25 k acc hc

set_option warn.classDefReducibility false in
/-- The unit loop's remainder never runs. -/
@[sl_loop] def loopInv4 (a19 a20 v29 init : BitVec 32) :
    LoopInvTy_k0_t4 (F := F) Unit ℕ (Pipeline.UD sig nD τ) ℕ 𝒱₀ c none Set.univ arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10 v13 k0_hw4 a19 a20 v25 v29 init where
  inv _ _ := iprop(emp)
  step k _ := (no_t4 v13 k).elim
end T2
end Args

end Cert.Proof.ScoreIdeal
-- ==== Proof.ScoreTail.lean ====
/-
  The score kernel after its first copies are under way: the unit loop, then the reduction over the blocks.
-/
module

public import proofs.«01_k».proof.Proof.ScoreRing
public import Idealize.ShloMosaic.Lib.VecWindow

@[expose] public section

noncomputable section

namespace Cert.Proof.ScoreIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

variable (c : Dev nD)

variable (XW : BufTy.Contents (Elt F) wM.view.ty) (XM : BufTy.Contents (Elt F) mM.view.ty)

section Args
variable (arg0 : Memref sig .tc .smem S1x128 .i32) (harg0 : arg0.IsWhole) (arg1 : Memref sig .tc .vmem S20x4096x128 .i8) (harg1 : arg1.IsWhole) (arg2 : Memref sig .tc .vmem S20x128 .f32) (harg2 : arg2.IsWhole) (arg3 : Memref sig .tc .vmem S20x128 .i32) (harg3 : arg3.IsWhole) (arg4 : Memref sig .tc .vmem S250x128 .f32) (harg4 : arg4.IsWhole) (arg7 : Memref sig .tc .vmem S5x4x128 .f32) (harg7 : arg7.IsWhole) (arg8 : Memref sig .tc .vmem S5x4x128 .f32) (harg8 : arg8.IsWhole) (arg9 : Memref sig .tc .vmem S63x5x4x128 .f32) (harg9 : arg9.IsWhole)
  (harg5 : wM.IsWhole) (harg6 : mM.IsWhole) (harg10 : wB.IsWhole) (harg11 : mB.IsWhole) (harg12 : wsB.IsWhole) (harg13 : bmB.IsWhole) (harg14 : bsB.IsWhole) (harg15 : tlB.IsWhole) (harg16 : umB.IsWhole) (harg17 : usB.IsWhole) (harg18 : ulB.IsWhole)
variable (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty)
variable (g7 : BufTy.Contents (Elt F) arg7.view.ty) (g8 : BufTy.Contents (Elt F) arg8.view.ty) (g9 : BufTy.Contents (Elt F) arg9.view.ty)

/-- The five buffers before the first unit: maxima at minus infinity, sums at zero. -/
def st0 : St F where
  bm := bmB.view.writes (Elt F) bmB.view.junk [⟨Rect.unit (s := S63x24x128) ![0, 0, 0] S63x24x128.size inb_S63x24x128_S63x24x128_0_0_0, k0_pay57⟩]
  bs := bsB.view.writes (Elt F) bsB.view.junk [⟨Rect.unit (s := S63x24x128) ![0, 0, 0] S63x24x128.size inb_S63x24x128_S63x24x128_0_0_0, k0_pay58⟩]
  tl := tlB.view.writes (Elt F) tlB.view.junk [⟨Rect.unit (s := S24x128) ![0, 0] S24x128.size inb_S24x128_S24x128_0_0, k0_pay59⟩]
  um := umB.view.writes (Elt F) umB.view.junk [⟨Rect.unit (s := S24x128) ![0, 0] S24x128.size inb_S24x128_S24x128_0_0, k0_pay60⟩]
  us := usB.view.writes (Elt F) usB.view.junk [⟨Rect.unit (s := S24x128) ![0, 0] S24x128.size inb_S24x128_S24x128_0_0, k0_pay61⟩]

/-- The five buffers after `n` active units, the maximum and the sum over all blocks, the target's logit. -/
abbrev stN (n : ℕ) : St F := stK XW XM arg0 arg1 arg2 arg3 arg4 X0 X1 X2 X3 X4 st0 n
def mFin (n : ℕ) : FVec F S24x128 .f32 := mAt (stN XW XM arg0 arg1 arg2 arg3 arg4 X0 X1 X2 X3 X4 n).bm (stN XW XM arg0 arg1 arg2 arg3 arg4 X0 X1 X2 X3 X4 n).bs k0_pay70 k0_t6_loop.trips
def sFin (n : ℕ) : FVec F S24x128 .f32 := sAt (stN XW XM arg0 arg1 arg2 arg3 arg4 X0 X1 X2 X3 X4 n).bm (stN XW XM arg0 arg1 arg2 arg3 arg4 X0 X1 X2 X3 X4 n).bs (mFin XW XM arg0 arg1 arg2 arg3 arg4 X0 X1 X2 X3 X4 n) k0_pay72 k0_t7_loop.trips
def tFin (n : ℕ) : Vec F S24x128 .f32 := tlB.view.readAt (Elt F) fullR.toLoadRect (stN XW XM arg0 arg1 arg2 arg3 arg4 X0 X1 X2 X3 X4 n).tl
/-- What the three results hold. -/
def out7 (g7 : BufTy.Contents (Elt F) arg7.view.ty) (n : ℕ) : BufTy.Contents (Elt F) arg7.view.ty :=
  arg7.view.writes (Elt F) g7 [⟨Rect.unit (s := S5x4x128) ![0, 0, 0] S5x4x128.size inb_S5x4x128_S5x4x128_0_0_0, k0_pay79 (mFin XW XM arg0 arg1 arg2 arg3 arg4 X0 X1 X2 X3 X4 n) (sFin XW XM arg0 arg1 arg2 arg3 arg4 X0 X1 X2 X3 X4 n)⟩]
def out8v (n : ℕ) : FVec F S5x4x128 .f32 := k0_pay80 (mFin XW XM arg0 arg1 arg2 arg3 arg4 X0 X1 X2 X3 X4 n) (sFin XW XM arg0 arg1 arg2 arg3 arg4 X0 X1 X2 X3 X4 n) (tFin XW XM arg0 arg1 arg2 arg3 arg4 X0 X1 X2 X3 X4 n) (tFin XW XM arg0 arg1 arg2 arg3 arg4 X0 X1 X2 X3 X4 n)
def out8 (g8 : BufTy.Contents (Elt F) arg8.view.ty) (n : ℕ) : BufTy.Contents (Elt F) arg8.view.ty :=
  arg8.view.writes (Elt F) g8 [⟨Rect.unit (s := S5x4x128) ![0, 0, 0] S5x4x128.size inb_S5x4x128_S5x4x128_0_0_0, out8v XW XM arg0 arg1 arg2 arg3 arg4 X0 X1 X2 X3 X4 n⟩]
def out9 (n : ℕ) : BufTy.Contents (Elt F) arg9.view.ty := oAt arg9 (stN XW XM arg0 arg1 arg2 arg3 arg4 X0 X1 X2 X3 X4 n).bm (stN XW XM arg0 arg1 arg2 arg3 arg4 X0 X1 X2 X3 X4 n).bs g9 k0_t7_loop.trips

/-- What is held after the body, but for the second result. -/
def tailPost (n : ℕ) : sProp 𝕄 :=
  iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (arg7.view.loc (c : Thread nD τ) ↦[arg7.view.set]{fullShare} (out7 XW XM arg0 arg1 arg2 arg3 arg4 arg7 X0 X1 X2 X3 X4 g7 n)) ∗ (arg9.view.loc (c : Thread nD τ) ↦[arg9.view.set]{fullShare} (out9 XW XM arg0 arg1 arg2 arg3 arg4 arg9 X0 X1 X2 X3 X4 g9 n))
    ∗ (∃ f, (wsB.view.loc (c : Thread nD τ) ↦[wsB.view.set]{fullShare} f)) ∗ (∃ f, (bmB.view.loc (c : Thread nD τ) ↦[bmB.view.set]{fullShare} f)) ∗ (∃ f, (bsB.view.loc (c : Thread nD τ) ↦[bsB.view.set]{fullShare} f)) ∗ (∃ f, (tlB.view.loc (c : Thread nD τ) ↦[tlB.view.set]{fullShare} f)) ∗ (∃ f, (umB.view.loc (c : Thread nD τ) ↦[umB.view.set]{fullShare} f)) ∗ (∃ f, (usB.view.loc (c : Thread nD τ) ↦[usB.view.set]{fullShare} f)) ∗ (∃ f, (ulB.view.loc (c : Thread nD τ) ↦[ulB.view.set]{fullShare} f))
    ∗ ringOff c XW XM n ∗ (∃ W, owes (c : Thread nD τ) 0 W))

/-- The unit loop's invariant at its end, opened. -/
def t2Post (st : St F) (v13 : BitVec 32) (n : ℕ) : sProp 𝕄 :=
  iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (∃ ul, ⌜UL (F := F) (anyW arg0 X0) k0_t1_loop.trips v13 ul⌝ ∗ (ulB.view.loc (c : Thread nD τ) ↦[ulB.view.set]{fullShare} ul))
    ∗ (∃ W, owes (c : Thread nD τ) 0 W)
    ∗ (∃ f, (wsB.view.loc (c : Thread nD τ) ↦[wsB.view.set]{fullShare} f))
    ∗ (bmB.view.loc (c : Thread nD τ) ↦[bmB.view.set]{fullShare} (stK XW XM arg0 arg1 arg2 arg3 arg4 X0 X1 X2 X3 X4 st n).bm) ∗ (bsB.view.loc (c : Thread nD τ) ↦[bsB.view.set]{fullShare} (stK XW XM arg0 arg1 arg2 arg3 arg4 X0 X1 X2 X3 X4 st n).bs) ∗ (tlB.view.loc (c : Thread nD τ) ↦[tlB.view.set]{fullShare} (stK XW XM arg0 arg1 arg2 arg3 arg4 X0 X1 X2 X3 X4 st n).tl) ∗ (umB.view.loc (c : Thread nD τ) ↦[umB.view.set]{fullShare} (stK XW XM arg0 arg1 arg2 arg3 arg4 X0 X1 X2 X3 X4 st n).um) ∗ (usB.view.loc (c : Thread nD τ) ↦[usB.view.set]{fullShare} (stK XW XM arg0 arg1 arg2 arg3 arg4 X0 X1 X2 X3 X4 st n).us)
    ∗ ringOff c XW XM n)
theorem t2Exit (st : St F) (v13 : BitVec 32) : t2Inv c XW XM arg0 arg1 arg2 arg3 arg4 X0 X1 X2 X3 X4 st v13 (k0_t2_loop v13).trips ⊢ t2Post c XW XM arg0 arg1 arg2 arg3 arg4 X0 X1 X2 X3 X4 st v13 (k0_t2_loop v13).trips := by
  unfold t2Inv t2Post ringP stP
  rw [if_neg (Nat.lt_irrefl _)]
  iintro ⟨H0, H1, H2, H3, H4, HU, HW, HS, ⟨HBM, HBS, HTL, HUM, HUS⟩, HR⟩
  isplitl [H0]; · iexact H0
  isplitl [H1]; · iexact H1
  isplitl [H2]; · iexact H2
  isplitl [H3]; · iexact H3
  isplitl [H4]; · iexact H4
  isplitl [HU]; · iexact HU
  isplitl [HW]; · iexact HW
  isplitl [HS]; · iexact HS
  isplitl [HBM]; · iexact HBM
  isplitl [HBS]; · iexact HBS
  isplitl [HTL]; · iexact HTL
  isplitl [HUM]; · iexact HUM
  isplitl [HUS]; · iexact HUS
  iexact HR
instance exit2 (v13 : BitVec 32) (h4 : k0_chk4 v13) (v25 : BitVec 32) (bm0 bs0 tl0 um0 us0 init) :
    LoopExit (loopInv2 (F := F) c XW XM arg0 harg0 arg1 harg1 arg2 harg2 arg3 harg3 arg4 harg4 arg7 harg7 arg8 harg8 arg9 harg9 harg5 harg6 harg10 harg11 harg12 harg13 harg14 harg15 harg16 harg17 harg18 X0 X1 X2 X3 X4 v13 h4 v25 bm0 bs0 tl0 um0 us0 init) where
  post _ := t2Post c XW XM arg0 arg1 arg2 arg3 arg4 X0 X1 X2 X3 X4 ⟨bm0, bs0, tl0, um0, us0⟩ v13 (k0_t2_loop v13).trips
  exit _ := t2Exit c XW XM arg0 arg1 arg2 arg3 arg4 X0 X1 X2 X3 X4 _ v13

attribute [local irreducible] t2Inv
set_option maxHeartbeats 4000000 in
theorem tailRun (v13 : BitVec 32) (h4 : k0_chk4 v13) (v25 : BitVec 32) (Q : FVec F S5x4x128 .f32 → sProp 𝕄) :
    iprop(t2Inv c XW XM arg0 arg1 arg2 arg3 arg4 X0 X1 X2 X3 X4 st0 v13 0 ∗ (arg7.view.loc (c : Thread nD τ) ↦[arg7.view.set]{fullShare} g7) ∗ (arg9.view.loc (c : Thread nD τ) ↦[arg9.view.set]{fullShare} g9)
      ∗ (∀ v, (⌜v = out8v XW XM arg0 arg1 arg2 arg3 arg4 X0 X1 X2 X3 X4 (k0_t2_loop v13).trips⌝ ∗ tailPost c XW XM arg0 arg1 arg2 arg3 arg4 arg7 arg9 X0 X1 X2 X3 X4 g7 g9 (k0_t2_loop v13).trips) -∗ Q v))
      ⊢ wp frame (wpE (defs₀ (F := F)) 𝒱₀ (c : Thread nD τ) none) Set.univ (k0_part18 (F := F) arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10 v13 h4 0#32 0#32 v25) Q := by
  let L2 := loopInv2 (F := F) c XW XM arg0 harg0 arg1 harg1 arg2 harg2 arg3 harg3 arg4 harg4 arg7 harg7 arg8 harg8 arg9 harg9 harg5 harg6 harg10 harg11 harg12 harg13 harg14 harg15 harg16 harg17 harg18 X0 X1 X2 X3 X4 v13 h4 v25 st0.bm st0.bs st0.tl st0.um st0.us 0#32
  iintro ⟨HT, H7, H9, HQ⟩
  have htr : (k0_t4_loop v13).trips = 0 := trips4_eq v13
  unfold k0_part18
  let L6 := loopInv6 (F := F) c arg0 harg0 arg1 harg1 arg2 harg2 arg3 harg3 arg4 harg4 arg7 harg7 arg8 harg8 arg9 harg9 harg5 harg6 harg10 harg11 harg12 harg13 harg14 harg15 harg16 harg17 harg18 v13 h4 0#32 0#32 v25 (stK XW XM arg0 arg1 arg2 arg3 arg4 X0 X1 X2 X3 X4 ⟨st0.bm, st0.bs, st0.tl, st0.um, st0.us⟩ (k0_t2_loop v13).trips).bm (stK XW XM arg0 arg1 arg2 arg3 arg4 X0 X1 X2 X3 X4 ⟨st0.bm, st0.bs, st0.tl, st0.um, st0.us⟩ (k0_t2_loop v13).trips).bs k0_pay70
  let L7 := loopInv7 (F := F) c arg0 harg0 arg1 harg1 arg2 harg2 arg3 harg3 arg4 harg4 arg7 harg7 arg8 harg8 arg9 harg9 harg5 harg6 harg10 harg11 harg12 harg13 harg14 harg15 harg16 harg17 harg18 v13 h4 0#32 0#32 v25 (stK XW XM arg0 arg1 arg2 arg3 arg4 X0 X1 X2 X3 X4 ⟨st0.bm, st0.bs, st0.tl, st0.um, st0.us⟩ (k0_t2_loop v13).trips).bm (stK XW XM arg0 arg1 arg2 arg3 arg4 X0 X1 X2 X3 X4 ⟨st0.bm, st0.bs, st0.tl, st0.um, st0.us⟩ (k0_t2_loop v13).trips).bs
    (mAt (stK XW XM arg0 arg1 arg2 arg3 arg4 X0 X1 X2 X3 X4 ⟨st0.bm, st0.bs, st0.tl, st0.um, st0.us⟩ (k0_t2_loop v13).trips).bm (stK XW XM arg0 arg1 arg2 arg3 arg4 X0 X1 X2 X3 X4 ⟨st0.bm, st0.bs, st0.tl, st0.um, st0.us⟩ (k0_t2_loop v13).trips).bs k0_pay70 (Scf.trips k0_t6_loop.lb k0_t6_loop.ub k0_t6_loop.st)) g9 k0_pay72
  sl_exec
  sl_step
  iapply HQ
  isplitr; · ipureintro; rfl
  unfold tailPost ringOff
  isplitl [HL0]; · iexact HL0
  isplitl [HL1]; · iexact HL1
  isplitl [HL2]; · iexact HL2
  isplitl [HL3]; · iexact HL3
  isplitl [HL4]; · iexact HL4
  isplitl [H7]; · iexact H7
  isplitl [H9]; · iexact H9
  isplitl [HL8]; · iexists _; iexact HL8
  isplitl [HL9]; · iexists _; iexact HL9
  isplitl [HL10]; · iexists _; iexact HL10
  isplitl [HL11]; · iexists _; iexact HL11
  isplitl [HL12]; · iexists _; iexact HL12
  isplitl [HL13]; · iexists _; iexact HL13
  isplitl [HL6]; · iexists _; iexact HL6
  isplitl [HL14 HL15 HL16 HL17 HL18 HL19 HL20 HL21 HL22 HL23]
  · isplitl [HL14]; · iexists _; iexact HL14
    isplitl [HL15]; · iexists _; iexact HL15
    isplitl [HL16]; · iexists _; iexact HL16
    isplitl [HL17]; · iexists _; iexact HL17
    isplitl [HL18]; · iexact HL18
    isplitl [HL19]; · iexact HL19
    isplitl [HL20]; · iexact HL20
    isplitl [HL21]; · iexact HL21
    isplitl [HL22]; · iexact HL22
    iexact HL23
  iexists _; iexact HL7

end Args

end Cert.Proof.ScoreIdeal
-- ==== Proof.ScoreBody.lean ====
/-
  The whole body of the score kernel, run once: what it leaves in its three results, as functions of what it reads.
-/
module

public import proofs.«01_k».proof.Proof.ScoreTail
public import Idealize.ShloMosaic.Lib.VecWindow

@[expose] public section

noncomputable section

namespace Cert.Proof.ScoreIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

variable (c : Dev nD)

variable (XW : BufTy.Contents (Elt F) wM.view.ty) (XM : BufTy.Contents (Elt F) mM.view.ty)

section Args
variable (arg0 : Memref sig .tc .smem S1x128 .i32) (harg0 : arg0.IsWhole) (arg1 : Memref sig .tc .vmem S20x4096x128 .i8) (harg1 : arg1.IsWhole) (arg2 : Memref sig .tc .vmem S20x128 .f32) (harg2 : arg2.IsWhole) (arg3 : Memref sig .tc .vmem S20x128 .i32) (harg3 : arg3.IsWhole) (arg4 : Memref sig .tc .vmem S250x128 .f32) (harg4 : arg4.IsWhole) (arg7 : Memref sig .tc .vmem S5x4x128 .f32) (harg7 : arg7.IsWhole) (arg8 : Memref sig .tc .vmem S5x4x128 .f32) (harg8 : arg8.IsWhole) (arg9 : Memref sig .tc .vmem S63x5x4x128 .f32) (harg9 : arg9.IsWhole)
  (harg5 : wM.IsWhole) (harg6 : mM.IsWhole) (harg10 : wB.IsWhole) (harg11 : mB.IsWhole) (harg12 : wsB.IsWhole) (harg13 : bmB.IsWhole) (harg14 : bsB.IsWhole) (harg15 : tlB.IsWhole) (harg16 : umB.IsWhole) (harg17 : usB.IsWhole) (harg18 : ulB.IsWhole)
variable (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty)
variable (g7 : BufTy.Contents (Elt F) arg7.view.ty) (g8 : BufTy.Contents (Elt F) arg8.view.ty) (g9 : BufTy.Contents (Elt F) arg9.view.ty)

/-- What is held before the unit loop. -/
theorem t2Start (v13 : BitVec 32) (ul : BufTy.Contents (Elt F) ulB.view.ty) (hul : UL (F := F) (anyW arg0 X0) k0_t1_loop.trips v13 ul) (W) (fS : BufTy.Contents (Elt F) wsB.view.ty) :
    iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
      ∗ (ulB.view.loc (c : Thread nD τ) ↦[ulB.view.set]{fullShare} ul) ∗ owes (c : Thread nD τ) 0 W ∗ (wsB.view.loc (c : Thread nD τ) ↦[wsB.view.set]{fullShare} fS)
      ∗ (bmB.view.loc (c : Thread nD τ) ↦[bmB.view.set]{fullShare} (st0 (F := F)).bm) ∗ (bsB.view.loc (c : Thread nD τ) ↦[bsB.view.set]{fullShare} (st0 (F := F)).bs) ∗ (tlB.view.loc (c : Thread nD τ) ↦[tlB.view.set]{fullShare} (st0 (F := F)).tl) ∗ (umB.view.loc (c : Thread nD τ) ↦[umB.view.set]{fullShare} (st0 (F := F)).um) ∗ (usB.view.loc (c : Thread nD τ) ↦[usB.view.set]{fullShare} (st0 (F := F)).us)
      ∗ ringP c XW XM (k0_t2_loop v13).trips (UN arg0 X0) 0) ⊢ t2Inv c XW XM arg0 arg1 arg2 arg3 arg4 X0 X1 X2 X3 X4 st0 v13 0 := by
  unfold t2Inv stP
  iintro ⟨H0, H1, H2, H3, H4, HUL, HW, HS, HBM, HBS, HTL, HUM, HUS, HR⟩
  isplitl [H0]; · iexact H0
  isplitl [H1]; · iexact H1
  isplitl [H2]; · iexact H2
  isplitl [H3]; · iexact H3
  isplitl [H4]; · iexact H4
  isplitl [HUL]
  · iexists ul
    isplitr; · ipureintro; exact hul
    iexact HUL
  isplitl [HW]; · iexists _; iexact HW
  isplitl [HS]; · iexists _; iexact HS
  isplitl [HBM HBS HTL HUM HUS]
  · isplitl [HBM]; · iexact HBM
    isplitl [HBS]; · iexact HBS
    isplitl [HTL]; · iexact HTL
    isplitl [HUM]; · iexact HUM
    iexact HUS
  iexact HR

/-- What is held after the body. -/
def bodyPost : sProp 𝕄 :=
  iprop(tailPost c XW XM arg0 arg1 arg2 arg3 arg4 arg7 arg9 X0 X1 X2 X3 X4 g7 g9 (units (anyW arg0 X0) k0_t1_loop.trips).length ∗ (arg8.view.loc (c : Thread nD τ) ↦[arg8.view.set]{fullShare} (out8 XW XM arg0 arg1 arg2 arg3 arg4 arg8 X0 X1 X2 X3 X4 g8 (units (anyW arg0 X0) k0_t1_loop.trips).length)))

set_option maxHeartbeats 4000000 in
/-- The body from the unit loop on. -/
theorem restRun (v13 : BitVec 32) (h4 : k0_chk4 v13) (v25 : BitVec 32) (ul : BufTy.Contents (Elt F) ulB.view.ty) (hul : UL (F := F) (anyW arg0 X0) k0_t1_loop.trips v13 ul) (W) (fS : BufTy.Contents (Elt F) wsB.view.ty) (Q : PUnit → sProp 𝕄) :
    iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
      ∗ (ulB.view.loc (c : Thread nD τ) ↦[ulB.view.set]{fullShare} ul) ∗ owes (c : Thread nD τ) 0 W ∗ (wsB.view.loc (c : Thread nD τ) ↦[wsB.view.set]{fullShare} fS)
      ∗ (bmB.view.loc (c : Thread nD τ) ↦[bmB.view.set]{fullShare} (st0 (F := F)).bm) ∗ (bsB.view.loc (c : Thread nD τ) ↦[bsB.view.set]{fullShare} (st0 (F := F)).bs) ∗ (tlB.view.loc (c : Thread nD τ) ↦[tlB.view.set]{fullShare} (st0 (F := F)).tl) ∗ (umB.view.loc (c : Thread nD τ) ↦[umB.view.set]{fullShare} (st0 (F := F)).um) ∗ (usB.view.loc (c : Thread nD τ) ↦[usB.view.set]{fullShare} (st0 (F := F)).us)
      ∗ ringP c XW XM (k0_t2_loop v13).trips (UN arg0 X0) 0
      ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9)
      ∗ (bodyPost c XW XM arg0 arg1 arg2 arg3 arg4 arg7 arg8 arg9 X0 X1 X2 X3 X4 g7 g8 g9 -∗ Q ⟨⟩))
      ⊢ wp frame (wpE (defs₀ (F := F)) 𝒱₀ (c : Thread nD τ) none) Set.univ (k0_part18 (F := F) arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10 v13 h4 0#32 0#32 v25)
          (fun v57 => wp frame (wpE (defs₀ (F := F)) 𝒱₀ (c : Thread nD τ) none) Set.univ (do
              let v58 : Vec F S5x4x128 .f32 ← Prog.lift (.load arg8 (Rect.unit (s := S5x4x128) ![0, 0, 0] S5x4x128.size inb_S5x4x128_S5x4x128_0_0_0).toLoadRect (View.loadsAt_vmem h_S5x4x128))
              Prog.lift (.store arg8 (Rect.unit (s := S5x4x128) ![0, 0, 0] S5x4x128.size inb_S5x4x128_S5x4x128_0_0_0) v57 Finset.univ (View.stores_vmem_bits_univ h_S5x4x128 rfl) (.inl rfl))
              pure ⟨⟩ : Prog (TpuEff nD τ sig (Elt F) Λ₀ .tc) PUnit) Q) := by
  have hN : k0_t1_loop.trips ≤ 125 := k0_t1_abs.2.1
  iintro ⟨H0, H1, H2, H3, H4, HUL, HW, HS, HBM, HBS, HTL, HUM, HUS, HR, H7, H8, H9, HQ⟩
  iapply (tailRun c XW XM arg0 harg0 arg1 harg1 arg2 harg2 arg3 harg3 arg4 harg4 arg7 harg7 arg8 harg8 arg9 harg9 harg5 harg6 harg10 harg11 harg12 harg13 harg14 harg15 harg16 harg17 harg18 X0 X1 X2 X3 X4 g7 g9 v13 h4 v25 _)
  isplitl [H0 H1 H2 H3 H4 HUL HW HS HBM HBS HTL HUM HUS HR]
  · iapply (t2Start c XW XM arg0 arg1 arg2 arg3 arg4 X0 X1 X2 X3 X4 v13 ul hul W fS)
    isplitl [H0]; · iexact H0
    isplitl [H1]; · iexact H1
    isplitl [H2]; · iexact H2
    isplitl [H3]; · iexact H3
    isplitl [H4]; · iexact H4
    isplitl [HUL]; · iexact HUL
    isplitl [HW]; · iexact HW
    isplitl [HS]; · iexact HS
    isplitl [HBM]; · iexact HBM
    isplitl [HBS]; · iexact HBS
    isplitl [HTL]; · iexact HTL
    isplitl [HUM]; · iexact HUM
    isplitl [HUS]; · iexact HUS
    iexact HR
  isplitl [H7]; · iexact H7
  isplitl [H9]; · iexact H9
  iintro %w ⟨%hw, HP⟩
  sl_exec
  sl_step
  iapply HQ
  unfold bodyPost out8
  rw [← UL_trips hN hul, ← hw]
  isplitl [HP]; · iexact HP
  iexact H8

set_option maxHeartbeats 4000000 in
/-- The body when some unit is active: the first one's copies are started before the unit loop. -/
theorem bodyRunA (hpos : 0 < (units (anyW arg0 X0) k0_t1_loop.trips).length) (Q : PUnit → sProp 𝕄) :
    iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
      ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9)
      ∗ (∃ f, (wsB.view.loc (c : Thread nD τ) ↦[wsB.view.set]{fullShare} f)) ∗ (∃ f, (bmB.view.loc (c : Thread nD τ) ↦[bmB.view.set]{fullShare} f)) ∗ (∃ f, (bsB.view.loc (c : Thread nD τ) ↦[bsB.view.set]{fullShare} f)) ∗ (∃ f, (tlB.view.loc (c : Thread nD τ) ↦[tlB.view.set]{fullShare} f)) ∗ (∃ f, (umB.view.loc (c : Thread nD τ) ↦[umB.view.set]{fullShare} f)) ∗ (∃ f, (usB.view.loc (c : Thread nD τ) ↦[usB.view.set]{fullShare} f)) ∗ (∃ f, (ulB.view.loc (c : Thread nD τ) ↦[ulB.view.set]{fullShare} f))
      ∗ ringOff c XW XM 0 ∗ (∃ W, owes (c : Thread nD τ) 0 W)
      ∗ (bodyPost c XW XM arg0 arg1 arg2 arg3 arg4 arg7 arg8 arg9 X0 X1 X2 X3 X4 g7 g8 g9 -∗ Q ⟨⟩))
      ⊢ wp frame (wpE (defs₀ (F := F)) 𝒱₀ (c : Thread nD τ) none) Set.univ (cc0_score (F := F) arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10) Q := by
  iintro ⟨H0, H1, H2, H3, H4, H7, H8, H9, ⟨%fS, HS⟩, ⟨%fBM, HBM⟩, ⟨%fBS, HBS⟩, ⟨%fTL, HTL⟩, ⟨%fUM, HUM⟩, ⟨%fUS, HUS⟩, ⟨%fUL, HUL⟩, HR, ⟨%W, HW⟩, HQ⟩
  have hUL : UL (F := F) (anyW arg0 X0) 0 0#32 fUL := UL_zero _ _
  have hN : k0_t1_loop.trips ≤ 125 := k0_t1_abs.2.1
  let L1 := loopInv1 (F := F) c arg0 harg0 arg1 harg1 arg2 harg2 arg3 harg3 arg4 harg4 arg7 harg7 arg8 harg8 arg9 harg9 harg5 harg6 harg10 harg11 harg12 harg13 harg14 harg15 harg16 harg17 harg18 X0 0#32
  unfold cc0_score
  sl_exec
  rename_i v13
  have hul : UL (F := F) (anyW arg0 X0) k0_t1_loop.trips v13 ulL0 := hL1
  have h4 := chk4_of v13 (UL_le hN hul)
  have hk : 0 < (k0_t2_loop v13).trips := by rw [UL_trips hN hul]; exact hpos
  have hC : k0_cond2 v13 = 1#1 := (cond2_iff v13).mpr hk
  unfold ringOff
  rw [univ_take (P := whomeP c XW) (UN arg0 X0 0), univ_take (P := mhomeP c XM) (UN arg0 X0 0)]
  icases HR with ⟨⟨%gw, HGW⟩, ⟨%gm, HGM⟩, HR1, HR2, HCW, HCM, HC1, HC2, ⟨HWN, HHW⟩, ⟨HMN, HHM⟩⟩
  sl_exec
  have hr : bodyRunA.sl.r (F := F) ulL0 = BitVec.ofNat 32 (UN arg0 X0 0).val := UL_word hN hul hk rfl _
  rw [hr]
  have h2 := chk2u (v := v13) (UN arg0 X0 0)
  sl_exec
  have hr1 : bodyRunA.sl.r_1 (F := F) ulL0 = BitVec.ofNat 32 (UN arg0 X0 0).val := UL_word hN hul hk rfl _
  rw [hr1]
  have h3 := chk3u (v := v13) (UN arg0 X0 0)
  sl_exec
  ihave HR : (ringP c XW XM (k0_t2_loop v13).trips (UN arg0 X0) 0) $$ [HR1 HR2 HC1 HC2 HHW HHM HCW HCM]
  · unfold ringP
    rw [if_pos hk]
    unfold ringOn
    isplitl [HCW]; · iexists gw; iexact HCW
    isplitl [HCM]; · iexists gm; iexact HCM
    isplitl [HR1]; · iexact HR1
    isplitl [HR2]; · iexact HR2
    isplitl [HC1]; · iexact HC1
    isplitl [HC2]; · iexact HC2
    isplitl [HHW]; · iexact HHW
    iexact HHM
  iapply (restRun c XW XM arg0 harg0 arg1 harg1 arg2 harg2 arg3 harg3 arg4 harg4 arg7 harg7 arg8 harg8 arg9 harg9 harg5 harg6 harg10 harg11 harg12 harg13 harg14 harg15 harg16 harg17 harg18 X0 X1 X2 X3 X4 g7 g8 g9 v13 h4 (bodyRunA.sl.v25 v13) ulL0 hul W fS Q)
  isplitl [H0]; · iexact H0
  isplitl [H1]; · iexact H1
  isplitl [H2]; · iexact H2
  isplitl [H3]; · iexact H3
  isplitl [H4]; · iexact H4
  isplitl [HUL]; · iexact HUL
  isplitl [HW]; · iexact HW
  isplitl [HS]; · iexact HS
  isplitl [HBM]; · iexact HBM
  isplitl [HBS]; · iexact HBS
  isplitl [HTL]; · iexact HTL
  isplitl [HUM]; · iexact HUM
  isplitl [HUS]; · iexact HUS
  isplitl [HR]; · iexact HR
  isplitl [H7]; · iexact H7
  isplitl [H8]; · iexact H8
  isplitl [H9]; · iexact H9
  iexact HQ

set_option maxHeartbeats 4000000 in
/-- The body when no unit is active. -/
theorem bodyRunB (h0 : ¬ 0 < (units (anyW arg0 X0) k0_t1_loop.trips).length) (Q : PUnit → sProp 𝕄) :
    iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
      ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9)
      ∗ (∃ f, (wsB.view.loc (c : Thread nD τ) ↦[wsB.view.set]{fullShare} f)) ∗ (∃ f, (bmB.view.loc (c : Thread nD τ) ↦[bmB.view.set]{fullShare} f)) ∗ (∃ f, (bsB.view.loc (c : Thread nD τ) ↦[bsB.view.set]{fullShare} f)) ∗ (∃ f, (tlB.view.loc (c : Thread nD τ) ↦[tlB.view.set]{fullShare} f)) ∗ (∃ f, (umB.view.loc (c : Thread nD τ) ↦[umB.view.set]{fullShare} f)) ∗ (∃ f, (usB.view.loc (c : Thread nD τ) ↦[usB.view.set]{fullShare} f)) ∗ (∃ f, (ulB.view.loc (c : Thread nD τ) ↦[ulB.view.set]{fullShare} f))
      ∗ ringOff c XW XM 0 ∗ (∃ W, owes (c : Thread nD τ) 0 W)
      ∗ (bodyPost c XW XM arg0 arg1 arg2 arg3 arg4 arg7 arg8 arg9 X0 X1 X2 X3 X4 g7 g8 g9 -∗ Q ⟨⟩))
      ⊢ wp frame (wpE (defs₀ (F := F)) 𝒱₀ (c : Thread nD τ) none) Set.univ (cc0_score (F := F) arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10) Q := by
  iintro ⟨H0, H1, H2, H3, H4, H7, H8, H9, ⟨%fS, HS⟩, ⟨%fBM, HBM⟩, ⟨%fBS, HBS⟩, ⟨%fTL, HTL⟩, ⟨%fUM, HUM⟩, ⟨%fUS, HUS⟩, ⟨%fUL, HUL⟩, HR, ⟨%W, HW⟩, HQ⟩
  have hUL : UL (F := F) (anyW arg0 X0) 0 0#32 fUL := UL_zero _ _
  have hN : k0_t1_loop.trips ≤ 125 := k0_t1_abs.2.1
  let L1 := loopInv1 (F := F) c arg0 harg0 arg1 harg1 arg2 harg2 arg3 harg3 arg4 harg4 arg7 harg7 arg8 harg8 arg9 harg9 harg5 harg6 harg10 harg11 harg12 harg13 harg14 harg15 harg16 harg17 harg18 X0 0#32
  unfold cc0_score
  sl_exec
  rename_i v13
  have hul : UL (F := F) (anyW arg0 X0) k0_t1_loop.trips v13 ulL0 := hL1
  have h4 := chk4_of v13 (UL_le hN hul)
  have hk : ¬ 0 < (k0_t2_loop v13).trips := by rw [UL_trips hN hul]; exact h0
  have hC : ¬ k0_cond2 v13 = 1#1 := fun h => hk ((cond2_iff v13).mp h)
  ihave HR : (ringP c XW XM (k0_t2_loop v13).trips (UN arg0 X0) 0) $$ [HR]
  · unfold ringP
    rw [if_neg hk]
    iexact HR
  sl_exec
  iapply (restRun c XW XM arg0 harg0 arg1 harg1 arg2 harg2 arg3 harg3 arg4 harg4 arg7 harg7 arg8 harg8 arg9 harg9 harg5 harg6 harg10 harg11 harg12 harg13 harg14 harg15 harg16 harg17 harg18 X0 X1 X2 X3 X4 g7 g8 g9 v13 h4 (bodyRunB.sl.v25 v13) ulL0 hul W fS Q)
  isplitl [H0]; · iexact H0
  isplitl [H1]; · iexact H1
  isplitl [H2]; · iexact H2
  isplitl [H3]; · iexact H3
  isplitl [H4]; · iexact H4
  isplitl [HUL]; · iexact HUL
  isplitl [HW]; · iexact HW
  isplitl [HS]; · iexact HS
  isplitl [HBM]; · iexact HBM
  isplitl [HBS]; · iexact HBS
  isplitl [HTL]; · iexact HTL
  isplitl [HUM]; · iexact HUM
  isplitl [HUS]; · iexact HUS
  isplitl [HR]; · iexact HR
  isplitl [H7]; · iexact H7
  isplitl [H8]; · iexact H8
  isplitl [H9]; · iexact H9
  iexact HQ

/-- The body, run once. -/
theorem bodyRun (Q : PUnit → sProp 𝕄) :
    iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
      ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9)
      ∗ (∃ f, (wsB.view.loc (c : Thread nD τ) ↦[wsB.view.set]{fullShare} f)) ∗ (∃ f, (bmB.view.loc (c : Thread nD τ) ↦[bmB.view.set]{fullShare} f)) ∗ (∃ f, (bsB.view.loc (c : Thread nD τ) ↦[bsB.view.set]{fullShare} f)) ∗ (∃ f, (tlB.view.loc (c : Thread nD τ) ↦[tlB.view.set]{fullShare} f)) ∗ (∃ f, (umB.view.loc (c : Thread nD τ) ↦[umB.view.set]{fullShare} f)) ∗ (∃ f, (usB.view.loc (c : Thread nD τ) ↦[usB.view.set]{fullShare} f)) ∗ (∃ f, (ulB.view.loc (c : Thread nD τ) ↦[ulB.view.set]{fullShare} f))
      ∗ ringOff c XW XM 0 ∗ (∃ W, owes (c : Thread nD τ) 0 W)
      ∗ (bodyPost c XW XM arg0 arg1 arg2 arg3 arg4 arg7 arg8 arg9 X0 X1 X2 X3 X4 g7 g8 g9 -∗ Q ⟨⟩))
      ⊢ wp frame (wpE (defs₀ (F := F)) 𝒱₀ (c : Thread nD τ) none) Set.univ (cc0_score (F := F) arg0 harg0 arg1 harg1 arg2 harg2 arg3 harg3 arg4 harg4 wM harg5 mM harg6 arg7 harg7 arg8 harg8 arg9 harg9 wB harg10 mB harg11 wsB harg12 bmB harg13 bsB harg14 tlB harg15 umB harg16 usB harg17 ulB harg18 cc0_scratch9 cc0_scratch10) Q := by
  by_cases h : 0 < (units (anyW arg0 X0) k0_t1_loop.trips).length
  · exact bodyRunA c XW XM arg0 harg0 arg1 harg1 arg2 harg2 arg3 harg3 arg4 harg4 arg7 harg7 arg8 harg8 arg9 harg9 harg5 harg6 harg10 harg11 harg12 harg13 harg14 harg15 harg16 harg17 harg18 X0 X1 X2 X3 X4 g7 g8 g9 h Q
  · exact bodyRunB c XW XM arg0 harg0 arg1 harg1 arg2 harg2 arg3 harg3 arg4 harg4 arg7 harg7 arg8 harg8 arg9 harg9 harg5 harg6 harg10 harg11 harg12 harg13 harg14 harg15 harg16 harg17 harg18 X0 X1 X2 X3 X4 g7 g8 g9 h Q
end Args

end Cert.Proof.ScoreIdeal
-- ==== Proof.ScoreFrame.lean ====
/-
  The launch of the score kernel: its buffers and semaphores handed to the body, the run of the whole program, and the frame.
-/
module

public import proofs.«01_k».proof.Proof.ScoreBody
public import proofs.«01_k».proof.Proof.Gen.KernelIdeal.Launch
public import proofs.«01_k».proof.Proof.Gen.KernelIdeal.Points
public import proofs.«01_k».proof.Proof.Gen.KernelIdeal.Frame
public import Idealize.ShloMosaic.Lib.VecWindow
public import Idealize.ShloMosaic.Lib.Pipeline.FrameBody
public import Idealize.ShloMosaic.Lib.Ring

@[expose] public section

noncomputable section

namespace Cert.Proof.ScoreIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] [Named F]

local notation "𝕄" => MT nD τ sig Unit (Elt F) ℕ (Pipeline.UD sig nD τ) ℕ

variable (c : Dev nD)

/-! ## What the results' staging buffers read after the body -/

variable (XW : BufTy.Contents (Elt F) wM.view.ty) (XM : BufTy.Contents (Elt F) mM.view.ty)

theorem t7_trips : k0_t7_loop.trips = 63 := by decide +kernel
theorem off66_eq : ∀ k : Fin k0_t7_loop.trips, k0_off66 k = ![k.val, 0, 0, 0] := by decide +kernel

section Out
variable (arg9 : Memref sig .tc .vmem S63x5x4x128 .f32) (fBm : BufTy.Contents (Elt F) bmB.view.ty) (fBs : BufTy.Contents (Elt F) bsB.view.ty)

/-- A block's position within its row. -/
def o9Ix (y : S63x5x4x128.Idx) : S1x5x4x128.Idx := ix4 (0 : Fin 1) (⟨(y 1).val, (y 1).isLt⟩ : Fin 5) (⟨(y 2).val, (y 2).isLt⟩ : Fin 4) (⟨(y 3).val, (y 3).isLt⟩ : Fin 128)
/-- Block `y 0` of the third result. -/
def o9v (y : S63x5x4x128.Idx) : F .f32 :=
  k0_pay76 (bmRow' fBm ⟨(y 0).val, by rw [t7_trips]; exact (y 0).isLt⟩) (bsRow' fBs ⟨(y 0).val, by rw [t7_trips]; exact (y 0).isLt⟩) (o9Ix y)
theorem o9Ix_val (y : S63x5x4x128.Idx) (a : Fin 4) : (y a).val = (![(y 0).val, 0, 0, 0] : Fin 4 → ℕ) a + (o9Ix y a).val := by
  fin_cases a
  · exact (Nat.add_zero _).symm
  · exact (Nat.zero_add _).symm
  · exact (Nat.zero_add _).symm
  · exact (Nat.zero_add _).symm
theorem read_row_mem (o : BufTy.Contents (Elt F) arg9.view.ty) (off : Fin 4 → ℕ) (inb : ∀ a, off a + S1x5x4x128.size a ≤ S63x5x4x128.size a) (p : Vec F S1x5x4x128 .f32) (y : S63x5x4x128.Idx) (h : off = ![(y 0).val, 0, 0, 0]) :
    arg9.view.read (Elt F) (arg9.view.writes (Elt F) o [⟨Rect.unit (s := S63x5x4x128) off S1x5x4x128.size inb, p⟩]) y = p (o9Ix y) :=
  View.read_writes_cons_unit_of_mem arg9.view o inb p [] y (o9Ix y) h (o9Ix_val y)
theorem read_row_not_mem (o : BufTy.Contents (Elt F) arg9.view.ty) (off : Fin 4 → ℕ) (inb : ∀ a, off a + S1x5x4x128.size a ≤ S63x5x4x128.size a) (p : Vec F S1x5x4x128 .f32) (y : S63x5x4x128.Idx) (k : ℕ) (h : off = ![k, 0, 0, 0]) (hk : (y 0).val < k) :
    arg9.view.read (Elt F) (arg9.view.writes (Elt F) o [⟨Rect.unit (s := S63x5x4x128) off S1x5x4x128.size inb, p⟩]) y = arg9.view.read (Elt F) o y :=
  View.read_writes_cons_unit_of_not_mem arg9.view o inb p [] y h 0 (.inl hk)

theorem read_oAt (o0) (y : S63x5x4x128.Idx) (k : ℕ) (hk : k ≤ k0_t7_loop.trips) (h : (y 0).val < k) : arg9.view.read (Elt F) (oAt arg9 fBm fBs o0 k) y = o9v fBm fBs y := by
  induction k with
  | zero => exact absurd h (Nat.not_lt_zero _)
  | succ k ih =>
    refine (congrArg (fun o => arg9.view.read (Elt F) o y) (oAt_succ arg9 fBm fBs o0 ⟨k, hk⟩)).trans ?_
    by_cases hy : (y 0).val = k
    · subst hy
      exact read_row_mem arg9 _ _ _ _ y (off66_eq _)
    · exact (read_row_not_mem arg9 _ _ _ _ y k (off66_eq ⟨k, hk⟩) (by omega)).trans (ih (by omega) (by omega))
end Out

/-! ## The parts of memory the body's own copies use -/

theorem entails_of_eq {P Q : sProp 𝕄} (e : P = Q) : P ⊢ Q := e ▸ .rfl
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

abbrev GW (b : Fin 125) : Finset S32000x4096.Idx := (Rect.unit (s := S32000x4096) (wOff b) S256x4096.size (wOff_inb b)).set
theorem mem_GW (b : Fin 125) (y : S32000x4096.Idx) : y ∈ GW b ↔ (y 0).val / 256 = b.val := by
  rw [Rect.mem_set_unit]
  have h0 : (y 0).val < 32000 := (y 0).isLt
  have h1 : (y 1).val < 4096 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 4096; omega
theorem GW_disjoint : ∀ b b' : Fin 125, b ≠ b' → Disjoint (GW b) (GW b') := by
  intro b b' hne; rw [Finset.disjoint_left]; intro y hy hy'; rw [mem_GW] at hy hy'; exact hne (Fin.ext (hy.symm.trans hy'))
theorem GW_cover : (Finset.univ : Finset (Fin 125)).biUnion GW = Finset.univ := by
  ext y; simp only [Finset.mem_biUnion, Finset.mem_univ, true_and, iff_true]; exact ⟨⟨(y 0).val / 256, by have := (y 0).isLt; have : (y 0).val < 32000 := this; omega⟩, by rw [mem_GW]⟩
theorem wblk_set (b : Fin 125) : (wblk b).view.set = GW b := View.set_slice_whole _ _

abbrev GM (b : Fin 125) : Finset S4x125x5x8x128.Idx := (Rect.unit (s := S4x125x5x8x128) (mOff b) S4x1x5x8x128.size (mOff_inb b)).set
theorem mem_GM (b : Fin 125) (y : S4x125x5x8x128.Idx) : y ∈ GM b ↔ (y 1).val = b.val := by
  rw [Rect.mem_set_unit]
  have h0 : (y 0).val < 4 := (y 0).isLt
  have h1 : (y 1).val < 125 := (y 1).isLt
  have h2 : (y 2).val < 5 := (y 2).isLt
  have h3 : (y 3).val < 8 := (y 3).isLt
  have h4 : (y 4).val < 128 := (y 4).isLt
  constructor
  · intro H; have a0 : b.val ≤ (y 1).val ∧ (y 1).val < b.val + 1 := H 1; omega
  · intro H i; fin_cases i
    · show 0 ≤ (y 0).val ∧ (y 0).val < 0 + 4; omega
    · show b.val ≤ (y 1).val ∧ (y 1).val < b.val + 1; omega
    · show 0 ≤ (y 2).val ∧ (y 2).val < 0 + 5; omega
    · show 0 ≤ (y 3).val ∧ (y 3).val < 0 + 8; omega
    · show 0 ≤ (y 4).val ∧ (y 4).val < 0 + 128; omega
theorem GM_disjoint : ∀ b b' : Fin 125, b ≠ b' → Disjoint (GM b) (GM b') := by
  intro b b' hne; rw [Finset.disjoint_left]; intro y hy hy'; rw [mem_GM] at hy hy'; exact hne (Fin.ext (hy.symm.trans hy'))
theorem GM_cover : (Finset.univ : Finset (Fin 125)).biUnion GM = Finset.univ := by
  ext y; simp only [Finset.mem_biUnion, Finset.mem_univ, true_and, iff_true]; exact ⟨⟨(y 1).val, (y 1).isLt⟩, by rw [mem_GM]⟩
theorem mblk_set (b : Fin 125) : (mblk b).view.set = GM b := (View.set_reshape _ _).trans (View.set_slice_whole _ _)

abbrev SW (b : Fin 2) : Finset S2x256x4096.Idx := (Rect.unit (s := S2x256x4096) (wsOff b) S1x256x4096.size (wsOff_inb b)).set
theorem mem_SW (b : Fin 2) (y : S2x256x4096.Idx) : y ∈ SW b ↔ (y 0).val = b.val := by
  rw [Rect.mem_set_unit]
  have h0 : (y 0).val < 2 := (y 0).isLt
  have h1 : (y 1).val < 256 := (y 1).isLt
  have h2 : (y 2).val < 4096 := (y 2).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 256; omega
    · show 0 ≤ (y 2).val ∧ (y 2).val < 0 + 4096; omega
theorem SW_disjoint : ∀ b b' : Fin 2, b ≠ b' → Disjoint (SW b) (SW b') := by
  intro b b' hne; rw [Finset.disjoint_left]; intro y hy hy'; rw [mem_SW] at hy hy'; exact hne (Fin.ext (hy.symm.trans hy'))
theorem SW_cover : (Finset.univ : Finset (Fin 2)).biUnion SW = Finset.univ := by
  ext y; simp only [Finset.mem_biUnion, Finset.mem_univ, true_and, iff_true]; exact ⟨⟨(y 0).val, (y 0).isLt⟩, by rw [mem_SW]⟩
theorem wslot_set (b : Fin 2) : (wslot b).view.set = SW b := (View.set_reshape _ _).trans (View.set_slice_whole _ _)

abbrev SM (b : Fin 2) : Finset S2x4x5x8x128.Idx := (Rect.unit (s := S2x4x5x8x128) (msOff b) S1x4x5x8x128.size (msOff_inb b)).set
theorem mem_SM (b : Fin 2) (y : S2x4x5x8x128.Idx) : y ∈ SM b ↔ (y 0).val = b.val := by
  rw [Rect.mem_set_unit]
  have h0 : (y 0).val < 2 := (y 0).isLt
  have h1 : (y 1).val < 4 := (y 1).isLt
  have h2 : (y 2).val < 5 := (y 2).isLt
  have h3 : (y 3).val < 8 := (y 3).isLt
  have h4 : (y 4).val < 128 := (y 4).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 4; omega
    · show 0 ≤ (y 2).val ∧ (y 2).val < 0 + 5; omega
    · show 0 ≤ (y 3).val ∧ (y 3).val < 0 + 8; omega
    · show 0 ≤ (y 4).val ∧ (y 4).val < 0 + 128; omega
theorem SM_disjoint : ∀ b b' : Fin 2, b ≠ b' → Disjoint (SM b) (SM b') := by
  intro b b' hne; rw [Finset.disjoint_left]; intro y hy hy'; rw [mem_SM] at hy hy'; exact hne (Fin.ext (hy.symm.trans hy'))
theorem SM_cover : (Finset.univ : Finset (Fin 2)).biUnion SM = Finset.univ := by
  ext y; simp only [Finset.mem_biUnion, Finset.mem_univ, true_and, iff_true]; exact ⟨⟨(y 0).val, (y 0).isLt⟩, by rw [mem_SM]⟩
theorem mslot_set (b : Fin 2) : (mslot b).view.set = SM b := (View.set_reshape _ _).trans (View.set_slice_whole _ _)

theorem wslotP_eq (s : Fin 2) (f) : wslotP c s f = (((c : Thread nD τ).loc cc0_scratch0) ↦[SW s]{fullShare} f : sProp 𝕄) :=
  by rw [← wslot_set]; rfl
theorem wslotP_split : iprop(∃ f : Buf (Elt F) ((c : Thread nD τ).loc cc0_scratch0), ((c : Thread nD τ).loc cc0_scratch0) ↦{fullShare} f)
      ⊢ (iprop((∃ f, wslotP c 0 f) ∗ ∃ f, wslotP c 1 f) : sProp 𝕄) := by
  iintro ⟨%f, H⟩
  ihave H2 := (entails_of_eq ((Ring.pointsTo_blocks (Ix := Unit) (Name := ℕ) (U := Pipeline.UD sig nD τ) (Lvl := ℕ) (q := fullShare) (ℓ := (c : Thread nD τ).loc cc0_scratch0) SW SW_disjoint SW_cover f).trans (bigSep_fin2 _))) $$ H
  icases H2 with ⟨H0, H1⟩
  isplitl [H0]
  · iexists f; iapply (entails_of_eq (wslotP_eq c 0 f).symm); iexact H0
  · iexists f; iapply (entails_of_eq (wslotP_eq c 1 f).symm); iexact H1
theorem wslotP_join : iprop((∃ f, wslotP c 0 f) ∗ ∃ f, wslotP c 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) SW SW_disjoint SW_cover f0)
  irw [bigSep_fin2]
  isplitl [H0]
  · iexists f0; iapply (entails_of_eq (wslotP_eq c 0 f0)); iexact H0
  · iexists f1; iapply (entails_of_eq (wslotP_eq c 1 f1)); iexact H1

theorem mslotP_eq (s : Fin 2) (f) : mslotP c s f = (((c : Thread nD τ).loc cc0_scratch1) ↦[SM s]{fullShare} f : sProp 𝕄) :=
  by rw [← mslot_set]; rfl
theorem mslotP_split : iprop(∃ f : Buf (Elt F) ((c : Thread nD τ).loc cc0_scratch1), ((c : Thread nD τ).loc cc0_scratch1) ↦{fullShare} f)
      ⊢ (iprop((∃ f, mslotP c 0 f) ∗ ∃ f, mslotP c 1 f) : sProp 𝕄) := by
  iintro ⟨%f, H⟩
  ihave H2 := (entails_of_eq ((Ring.pointsTo_blocks (Ix := Unit) (Name := ℕ) (U := Pipeline.UD sig nD τ) (Lvl := ℕ) (q := fullShare) (ℓ := (c : Thread nD τ).loc cc0_scratch1) SM SM_disjoint SM_cover f).trans (bigSep_fin2 _))) $$ H
  icases H2 with ⟨H0, H1⟩
  isplitl [H0]
  · iexists f; iapply (entails_of_eq (mslotP_eq c 0 f).symm); iexact H0
  · iexists f; iapply (entails_of_eq (mslotP_eq c 1 f).symm); iexact H1
theorem mslotP_join : iprop((∃ f, mslotP c 0 f) ∗ ∃ f, mslotP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) SM SM_disjoint SM_cover f0)
  irw [bigSep_fin2]
  isplitl [H0]
  · iexists f0; iapply (entails_of_eq (mslotP_eq c 0 f0)); iexact H0
  · iexists f1; iapply (entails_of_eq (mslotP_eq c 1 f1)); iexact H1

theorem whomeP_all (X : Buf (Elt F) ((c : Thread nD τ).loc main_arg5)) :
    (((c : Thread nD τ).loc main_arg5) ↦{fullShare} X : sProp 𝕄) = bigSep Finset.univ (whomeP c X) := by
  rw [Ring.pointsTo_blocks (ℓ := (c : Thread nD τ).loc main_arg5) GW GW_disjoint GW_cover]
  exact bigSep_congr fun b _ => by rw [← wblk_set]; rfl

theorem mhomeP_all (X : Buf (Elt F) ((c : Thread nD τ).loc main_v2)) :
    (((c : Thread nD τ).loc main_v2) ↦{fullShare} X : sProp 𝕄) = bigSep Finset.univ (mhomeP c X) := by
  rw [Ring.pointsTo_blocks (ℓ := (c : Thread nD τ).loc main_v2) GM GM_disjoint GM_cover]
  exact bigSep_congr fun b _ => by rw [← mblk_set]; rfl

/-- The copies' memory with both slots free, whichever slot is next. -/
def ringFree : sProp 𝕄 :=
  iprop(iprop((∃ f, wslotP c 0 f) ∗ (∃ f, wslotP c 1 f)) ∗ iprop((∃ f, mslotP c 0 f) ∗ (∃ f, mslotP c 1 f))
    ∗ iprop(wcellP c 0 ∗ wcellP c 1 ∗ mcellP c 0 ∗ mcellP c 1)
    ∗ iprop(bigSep Finset.univ (whomeP c XW) ∗ bigSep Finset.univ (mhomeP c XM)))
theorem ringOff_free (k : ℕ) : ringOff c XW XM k ⊢ ringFree c XW XM := by
  unfold ringOff ringFree
  rcases Nat.mod_two_eq_zero_or_one k with h | h
  · rw [show Ring.sl 2 k = (0 : Fin 2) from Fin.ext h, show Ring.sl 2 (k + 1) = (1 : Fin 2) from Fin.ext (by show (k + 1) % 2 = 1; omega)]
    iintro ⟨A0, B0, A1, B1, C0, D0, C1, D1, HW, HM⟩
    isplitl [A0 A1]; · isplitl [A0]; · iexact A0
                       iexact A1
    isplitl [B0 B1]; · isplitl [B0]; · iexact B0
                       iexact B1
    isplitl [C0 C1 D0 D1]
    · isplitl [C0]; · iexact C0
      isplitl [C1]; · iexact C1
      isplitl [D0]; · iexact D0
      iexact D1
    isplitl [HW]; · iexact HW
    iexact HM
  · rw [show Ring.sl 2 k = (1 : Fin 2) from Fin.ext h, show Ring.sl 2 (k + 1) = (0 : Fin 2) from Fin.ext (by show (k + 1) % 2 = 0; omega)]
    iintro ⟨A1, B1, A0, B0, C1, D1, C0, D0, HW, HM⟩
    isplitl [A0 A1]; · isplitl [A0]; · iexact A0
                       iexact A1
    isplitl [B0 B1]; · isplitl [B0]; · iexact B0
                       iexact B1
    isplitl [C0 C1 D0 D1]
    · isplitl [C0]; · iexact C0
      isplitl [C1]; · iexact C1
      isplitl [D0]; · iexact D0
      iexact D1
    isplitl [HW]; · iexact HW
    iexact HM
theorem ringFree_off : ringFree c XW XM ⊢ ringOff c XW XM 0 := by
  unfold ringOff ringFree
  rw [show Ring.sl 2 0 = (0 : Fin 2) from rfl, show Ring.sl 2 (0 + 1) = (1 : Fin 2) from rfl]
  iintro ⟨⟨A0, A1⟩, ⟨B0, B1⟩, ⟨C0, C1, D0, D1⟩, HW, HM⟩
  isplitl [A0]; · iexact A0
  isplitl [B0]; · iexact B0
  isplitl [A1]; · iexact A1
  isplitl [B1]; · iexact B1
  isplitl [C0]; · iexact C0
  isplitl [D0]; · iexact D0
  isplitl [C1]; · iexact C1
  isplitl [D1]; · iexact D1
  isplitl [HW]; · iexact HW
  iexact HM

/-! ## The launch's data -/

variable (m : (ℓ : Loc nD τ sig) → Buf (Elt F) ℓ) (ρ : Dev nD → PrngReg)

/-- The semaphores of the body's own copies. -/
abbrev osem0 : Fin 4 → SemLoc sig := fun j => (![SemLoc.dma (wcs 0).sem, SemLoc.dma (wcs 1).sem, SemLoc.dma (mcs 0).sem, SemLoc.dma (mcs 1).sem] : Fin 4 → SemLoc sig) j
theorem ownSemFacts0 : Pipeline.OwnSemFacts spec0 osem0 := by decide
theorem ownSems00_eq :
    (Pipeline.ownSems0 (Ix := Unit) (Name := ℕ) (U := Pipeline.UD sig nD τ) (Lvl := ℕ) (Val := Elt F) (τ := τ) osem0 c : sProp 𝕄)
      = iprop(wcellP c 0 ∗ wcellP c 1 ∗ mcellP c 0 ∗ mcellP c 1) := by
  rw [Pipeline.ownSems0_eq_of_list c osem0 [0, 1, 2, 3] (by decide) (by decide)]; rfl
/-- The arrays the body's copies read. -/
def H0 : Finset (Ref sig .tc) := {main_arg5, main_v2}
theorem H0_sub : H0 ⊆ Pipeline.restRefs sig spec0 := by decide
theorem hbmPts0_eq :
    (bigSep H0 (fun b => ((c : Thread nD τ).loc b) ↦{fullShare} V m c b) : sProp 𝕄)
      = iprop(bigSep Finset.univ (whomeP c (V m c main_arg5)) ∗ bigSep Finset.univ (mhomeP c (V m c main_v2))) := by
  rw [BI.bigSep_eq_bigSepL_of_eq [main_arg5, main_v2] (by decide) (by decide), ← whomeP_all, ← mhomeP_all]; rfl

/-- What the body leaves in the results' staging buffers. -/
def aft5 (t : Fin cfg0.N) : S5x4x128.Idx → F .f32 := k0_pay79 (mFin (V m c main_arg5) (V m c main_v2) (st0_0 t) (st0_1 t) (st0_2 t) (st0_3 t) (st0_4 t) ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) ((units (anyW (st0_0 t) ((st0_0 t).view.rep (iblk m c 0 t))) k0_t1_loop.trips).length)) (sFin (V m c main_arg5) (V m c main_v2) (st0_0 t) (st0_1 t) (st0_2 t) (st0_3 t) (st0_4 t) ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) ((units (anyW (st0_0 t) ((st0_0 t).view.rep (iblk m c 0 t))) k0_t1_loop.trips).length))
def aft6 (t : Fin cfg0.N) : S5x4x128.Idx → F .f32 := out8v (V m c main_arg5) (V m c main_v2) (st0_0 t) (st0_1 t) (st0_2 t) (st0_3 t) (st0_4 t) ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) ((units (anyW (st0_0 t) ((st0_0 t).view.rep (iblk m c 0 t))) k0_t1_loop.trips).length)
def aft7 (t : Fin cfg0.N) : S63x5x4x128.Idx → F .f32 := o9v (stN (V m c main_arg5) (V m c main_v2) (st0_0 t) (st0_1 t) (st0_2 t) (st0_3 t) (st0_4 t) ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) ((units (anyW (st0_0 t) ((st0_0 t).view.rep (iblk m c 0 t))) k0_t1_loop.trips).length)).bm (stN (V m c main_arg5) (V m c main_v2) (st0_0 t) (st0_1 t) (st0_2 t) (st0_3 t) (st0_4 t) ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) ((units (anyW (st0_0 t) ((st0_0 t).view.rep (iblk m c 0 t))) k0_t1_loop.trips).length)).bs

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => aft5 c m t
    | ⟨6, _⟩ => aft6 c m t
    | ⟨7, _⟩ => aft7 c m t
  Φ _ := Pipeline.ΦD osem0 spec0 H0 (V m) c
  q _ := fullShare
  owed _ := 0
theorem A_eq (c : Dev nD) (w : Fin cfg0.W) : (dats m 0 c).A w = V m c (Pipeline.arrRef spec0 w) := by dsimp only [dats]
theorem after_0 (t : Fin cfg0.N) : (dats m 0 c).after 0 t = iblk m c 0 t := by dsimp only [dats]
theorem before_0 (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (t : Fin cfg0.N) : (dats m 0 c).after 1 t = iblk m c 1 t := by dsimp only [dats]
theorem before_1 (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (t : Fin cfg0.N) : (dats m 0 c).after 2 t = iblk m c 2 t := by dsimp only [dats]
theorem before_2 (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (t : Fin cfg0.N) : (dats m 0 c).after 3 t = iblk m c 3 t := by dsimp only [dats]
theorem before_3 (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem after_4 (t : Fin cfg0.N) : (dats m 0 c).after 4 t = iblk m c 4 t := by dsimp only [dats]
theorem before_4 (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem after_5 (t : Fin cfg0.N) : (dats m 0 c).after 5 t = aft5 c m t := by dsimp only [dats]
theorem after_6 (t : Fin cfg0.N) : (dats m 0 c).after 6 t = aft6 c m t := by dsimp only [dats]
theorem after_7 (t : Fin cfg0.N) : (dats m 0 c).after 7 t = aft7 c m t := by dsimp only [dats]

theorem defs₀_row (t : Fin cfg0.N) : defs₀ (F := F) .tc cfg0.body (cfg0.bodyArgs t (cfg0.slots t)) = bodyAt0 t := by
  unfold defs₀; rw [Defs.onTc_tc]

theorem ΦD0_eq : (Pipeline.ΦD osem0 spec0 H0 (V m) c : sProp 𝕄)
    = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f))
        ∗ (∃ r, prngReg c r) ∗ iprop(wcellP c 0 ∗ wcellP c 1 ∗ mcellP c 0 ∗ mcellP c 1)
        ∗ iprop(bigSep Finset.univ (whomeP c (V m c main_arg5)) ∗ bigSep Finset.univ (mhomeP c (V m c main_v2)))) := by
  rw [Pipeline.ΦD_eq, scopedRest0_eq, ownSems00_eq, hbmPts0_eq]
theorem wsP_eq : (iprop(∃ f, (wsB.view.loc (c : Thread nD τ) ↦[wsB.view.set]{fullShare} f)) : sProp 𝕄) = iprop(∃ f : Buf (Elt F) ((c : Thread nD τ).loc cc0_scratch2), ((c : Thread nD τ).loc cc0_scratch2) ↦{fullShare} f) := by
  rw [show wsB.view.set = Finset.univ from View.set_whole _]
theorem bmP_eq : (iprop(∃ f, (bmB.view.loc (c : Thread nD τ) ↦[bmB.view.set]{fullShare} f)) : sProp 𝕄) = iprop(∃ f : Buf (Elt F) ((c : Thread nD τ).loc cc0_scratch3), ((c : Thread nD τ).loc cc0_scratch3) ↦{fullShare} f) := by
  rw [show bmB.view.set = Finset.univ from View.set_whole _]
theorem bsP_eq : (iprop(∃ f, (bsB.view.loc (c : Thread nD τ) ↦[bsB.view.set]{fullShare} f)) : sProp 𝕄) = iprop(∃ f : Buf (Elt F) ((c : Thread nD τ).loc cc0_scratch4), ((c : Thread nD τ).loc cc0_scratch4) ↦{fullShare} f) := by
  rw [show bsB.view.set = Finset.univ from View.set_whole _]
theorem tlP_eq : (iprop(∃ f, (tlB.view.loc (c : Thread nD τ) ↦[tlB.view.set]{fullShare} f)) : sProp 𝕄) = iprop(∃ f : Buf (Elt F) ((c : Thread nD τ).loc cc0_scratch5), ((c : Thread nD τ).loc cc0_scratch5) ↦{fullShare} f) := by
  rw [show tlB.view.set = Finset.univ from View.set_whole _]
theorem umP_eq : (iprop(∃ f, (umB.view.loc (c : Thread nD τ) ↦[umB.view.set]{fullShare} f)) : sProp 𝕄) = iprop(∃ f : Buf (Elt F) ((c : Thread nD τ).loc cc0_scratch6), ((c : Thread nD τ).loc cc0_scratch6) ↦{fullShare} f) := by
  rw [show umB.view.set = Finset.univ from View.set_whole _]
theorem usP_eq : (iprop(∃ f, (usB.view.loc (c : Thread nD τ) ↦[usB.view.set]{fullShare} f)) : sProp 𝕄) = iprop(∃ f : Buf (Elt F) ((c : Thread nD τ).loc cc0_scratch7), ((c : Thread nD τ).loc cc0_scratch7) ↦{fullShare} f) := by
  rw [show usB.view.set = Finset.univ from View.set_whole _]
theorem ulP_eq : (iprop(∃ f, (ulB.view.loc (c : Thread nD τ) ↦[ulB.view.set]{fullShare} f)) : sProp 𝕄) = iprop(∃ f : Buf (Elt F) ((c : Thread nD τ).loc cc0_scratch8), ((c : Thread nD τ).loc cc0_scratch8) ↦{fullShare} f) := by
  rw [show ulB.view.set = Finset.univ from View.set_whole _]
set_option maxHeartbeats 1000000 in
/-- What the launch holds, as the body takes it; -/
theorem Φ_in : (Pipeline.ΦD osem0 spec0 H0 (V m) c : sProp 𝕄) ⊢ iprop(((∃ f, (wsB.view.loc (c : Thread nD τ) ↦[wsB.view.set]{fullShare} f)) ∗ (∃ f, (bmB.view.loc (c : Thread nD τ) ↦[bmB.view.set]{fullShare} f)) ∗ (∃ f, (bsB.view.loc (c : Thread nD τ) ↦[bsB.view.set]{fullShare} f)) ∗ (∃ f, (tlB.view.loc (c : Thread nD τ) ↦[tlB.view.set]{fullShare} f)) ∗ (∃ f, (umB.view.loc (c : Thread nD τ) ↦[umB.view.set]{fullShare} f)) ∗ (∃ f, (usB.view.loc (c : Thread nD τ) ↦[usB.view.set]{fullShare} f)) ∗ (∃ f, (ulB.view.loc (c : Thread nD τ) ↦[ulB.view.set]{fullShare} f))) ∗ ringOff c (V m c main_arg5) (V m c main_v2) 0 ∗ (∃ r, prngReg c r)) := by
  rw [ΦD0_eq]
  iintro ⟨⟨HS0, HS1, HS2, HS3, HS4, HS5, HS6, HS7, HS8⟩, Hg, HC, HH⟩
  ihave HS0 := (wslotP_split c) $$ HS0
  ihave HS1 := (mslotP_split c) $$ HS1
  ihave HS2 := (entails_of_eq (wsP_eq c).symm) $$ HS2
  ihave HS3 := (entails_of_eq (bmP_eq c).symm) $$ HS3
  ihave HS4 := (entails_of_eq (bsP_eq c).symm) $$ HS4
  ihave HS5 := (entails_of_eq (tlP_eq c).symm) $$ HS5
  ihave HS6 := (entails_of_eq (umP_eq c).symm) $$ HS6
  ihave HS7 := (entails_of_eq (usP_eq c).symm) $$ HS7
  ihave HS8 := (entails_of_eq (ulP_eq c).symm) $$ HS8
  isplitl [HS2 HS3 HS4 HS5 HS6 HS7 HS8]
  · isplitl [HS2]; · iexact HS2
    isplitl [HS3]; · iexact HS3
    isplitl [HS4]; · iexact HS4
    isplitl [HS5]; · iexact HS5
    isplitl [HS6]; · iexact HS6
    isplitl [HS7]; · iexact HS7
    iexact HS8
  isplitr [Hg]
  swap; · iexact Hg
  iapply (ringFree_off c (V m c main_arg5) (V m c main_v2))
  unfold ringFree
  isplitl [HS0]; · iexact HS0
  isplitl [HS1]; · iexact HS1
  isplitl [HC]; · iexact HC
  iexact HH
set_option maxHeartbeats 1000000 in
/-- and back. -/
theorem Φ_out (k : ℕ) : iprop(((∃ f, (wsB.view.loc (c : Thread nD τ) ↦[wsB.view.set]{fullShare} f)) ∗ (∃ f, (bmB.view.loc (c : Thread nD τ) ↦[bmB.view.set]{fullShare} f)) ∗ (∃ f, (bsB.view.loc (c : Thread nD τ) ↦[bsB.view.set]{fullShare} f)) ∗ (∃ f, (tlB.view.loc (c : Thread nD τ) ↦[tlB.view.set]{fullShare} f)) ∗ (∃ f, (umB.view.loc (c : Thread nD τ) ↦[umB.view.set]{fullShare} f)) ∗ (∃ f, (usB.view.loc (c : Thread nD τ) ↦[usB.view.set]{fullShare} f)) ∗ (∃ f, (ulB.view.loc (c : Thread nD τ) ↦[ulB.view.set]{fullShare} f))) ∗ ringOff c (V m c main_arg5) (V m c main_v2) k ∗ (∃ r, prngReg c r)) ⊢ (Pipeline.ΦD osem0 spec0 H0 (V m) c : sProp 𝕄) := by
  rw [ΦD0_eq]
  iintro ⟨HS, HR, Hg⟩
  ihave HR := (ringOff_free c (V m c main_arg5) (V m c main_v2) k) $$ HR
  unfold ringFree
  icases HR with ⟨HA, HB, HC, HH⟩
  ihave HA := (wslotP_join c) $$ HA
  ihave HB := (mslotP_join c) $$ HB
  icases HS with ⟨HS2, HS3, HS4, HS5, HS6, HS7, HS8⟩
  ihave HS2 := (entails_of_eq (wsP_eq c)) $$ HS2
  ihave HS3 := (entails_of_eq (bmP_eq c)) $$ HS3
  ihave HS4 := (entails_of_eq (bsP_eq c)) $$ HS4
  ihave HS5 := (entails_of_eq (tlP_eq c)) $$ HS5
  ihave HS6 := (entails_of_eq (umP_eq c)) $$ HS6
  ihave HS7 := (entails_of_eq (usP_eq c)) $$ HS7
  ihave HS8 := (entails_of_eq (ulP_eq c)) $$ HS8
  isplitl [HA HB HS2 HS3 HS4 HS5 HS6 HS7 HS8]
  · isplitl [HA]; · iexact HA
    isplitl [HB]; · iexact HB
    isplitl [HS2]; · iexact HS2
    isplitl [HS3]; · iexact HS3
    isplitl [HS4]; · iexact HS4
    isplitl [HS5]; · iexact HS5
    isplitl [HS6]; · iexact HS6
    isplitl [HS7]; · iexact HS7
    iexact HS8
  isplitl [Hg]; · iexact Hg
  isplitl [HC]; · iexact HC
  iexact HH

set_option maxHeartbeats 4000000 in
set_option backward.isDefEq.respectTransparency.types false in
theorem body_obligation : BodyObligation (dats (F := F) m 0 c) (defs₀ (F := F)) 𝒱₀ () Set.univ := fun t => by
  rw [bigSep_W0, bigSep_W0]
  dsimp only
  simp only [before_0, before_1, before_2, before_3, before_4, after_0, after_1, after_2, after_3, after_4, after_5, after_6, after_7]
  rw [show (dats m 0 c).Φ t.castSucc = Pipeline.ΦD osem0 spec0 H0 (V m) c from rfl, show (dats m 0 c).Φ t.succ = Pipeline.ΦD osem0 spec0 H0 (V m) c from rfl]
  unfold Dat.owesAt Pipeline.owesWithin
  rw [show (dats m 0 c).owed t.castSucc = 0 from rfl, show (dats m 0 c).owed t.succ = 0 from rfl]
  unfold owns
  iintro ⟨HΦ, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d7, %g7, -, H7⟩, ⟨%d8, %g8, -, H8⟩, ⟨%d9, %g9, -, H9⟩⟩
  ihave HΦ' := (Φ_in c m) $$ HΦ
  icases HΦ' with ⟨⟨HS2, HS3, HS4, HS5, HS6, HS7, HS8⟩, HR, Hg⟩
  ihave H0' := (pointsTo_rep_entails (c : Thread nD τ) (st0_0 t) g0 fullShare) $$ H0
  ihave H1' := (pointsTo_rep_entails (c : Thread nD τ) (st0_1 t) g1 fullShare) $$ H1
  ihave H2' := (pointsTo_rep_entails (c : Thread nD τ) (st0_2 t) g2 fullShare) $$ H2
  ihave H3' := (pointsTo_rep_entails (c : Thread nD τ) (st0_3 t) g3 fullShare) $$ H3
  ihave H4' := (pointsTo_rep_entails (c : Thread nD τ) (st0_4 t) g4 fullShare) $$ H4
  rw [hg0, hg1, hg2, hg3, hg4]
  sl_rw [defs₀_row t]
  iapply (bodyRun c (V m c main_arg5) (V m c main_v2) (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) g7 g8 g9 _)
  isplitl [H0']; · iexact H0'
  isplitl [H1']; · iexact H1'
  isplitl [H2']; · iexact H2'
  isplitl [H3']; · iexact H3'
  isplitl [H4']; · iexact H4'
  isplitl [H7]; · iexact H7
  isplitl [H8]; · iexact H8
  isplitl [H9]; · iexact H9
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HR]; · iexact HR
  isplitl [HW]; · iexists W; iexact HW
  unfold bodyPost tailPost
  iintro ⟨⟨H0, H1, H2, H3, H4, H7, H9, HS2, HS3, HS4, HS5, HS6, HS7, HS8, HR, ⟨%W', HW⟩⟩, H8⟩
  isplitl [HS2 HS3 HS4 HS5 HS6 HS7 HS8 HR Hg]
  · iapply (Φ_out c m ((units (anyW (st0_0 t) ((st0_0 t).view.rep (iblk m c 0 t))) k0_t1_loop.trips).length))
    isplitl [HS2 HS3 HS4 HS5 HS6 HS7 HS8]
    · isplitl [HS2]; · iexact HS2
      isplitl [HS3]; · iexact HS3
      isplitl [HS4]; · iexact HS4
      isplitl [HS5]; · iexact HS5
      isplitl [HS6]; · iexact HS6
      isplitl [HS7]; · iexact HS7
      iexact HS8
    isplitl [HR]; · iexact HR
    iexact Hg
  isplitl [HW]
  · iexists W'; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  isplitl [H2]
  · iexists _; isplitr; · ipureintro; exact View.read_rep _ _
    iexact H2
  isplitl [H3]
  · iexists _; isplitr; · ipureintro; exact View.read_rep _ _
    iexact H3
  isplitl [H4]
  · iexists _; isplitr; · ipureintro; exact View.read_rep _ _
    iexact H4
  isplitl [H7]
  · iexists _; isplitr
    swap; · iexact H7
    ipureintro; exact View.read_writes_full _ _ _ _ _
  isplitl [H8]
  · iexists _; isplitr
    swap; · iexact H8
    ipureintro; exact View.read_writes_full _ _ _ _ _
  iexists _; isplitr
  swap; · iexact H9
  ipureintro; exact funext fun y => read_oAt _ _ _ _ y _ le_rfl (by rw [t7_trips]; exact (y 0).isLt)

/-! ## The run and the frame -/

theorem hmain : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ 𝒱₀ ownSemFacts0 H0 H0_sub m ρ main
    (hbody := fun c => (body_obligation c m).loose) (hshare := fun c => (dats m 0 c).share_full fun _ => rfl)
    (howed := fun _ _ => rfl) (V := V m) (hmain := hmain m) (hA := A_eq m)
    (hin := fun _ => .rfl) (hout := fun _ => .rfl)

/-- The arguments end as they were, whatever else is known of the final memory. -/
theorem args_of {r : PUnit × MemSt nD τ sig (Elt F)} (h : Pipeline.FramePost cfgs (dats m) 0 (V m) r) (c : Dev nD) :
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) :=
  ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c), ((h c).2 main_arg3 (Pipeline.mem_restRefs_of main_arg3 (by decide) (by decide))).trans (V_main_arg3 m c), ((h c).2 main_arg4 (Pipeline.mem_restRefs_of main_arg4 (by decide) (by decide))).trans (V_main_arg4 m c), ((h c).2 main_arg5 (Pipeline.mem_restRefs_of main_arg5 (by decide) (by decide))).trans (V_main_arg5 m c), ((h c).2 main_arg6 (Pipeline.mem_restRefs_of main_arg6 (by decide) (by decide))).trans (V_main_arg6 m c)⟩
/-- The program terminates with its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0) :=
  (θ_run defs _ _).mono (fun _ h => ⟨fun c => args_of m h.1 c, h.2⟩) (run_main m ρ)

end Cert.Proof.ScoreIdeal
-- ==== Proof.ScoreMath.lean ====
/-
  The mathematics of a blockwise log-sum-exp over the extended reals.

  `mx l S` is the largest of the logits `l` over a finite set `S` of vocabulary rows, `z` moves `⊥` to `0`, and `sm l S`
  is the sum of the exponentials about `z` of the maximum. Two disjoint sets merge (`sm_union`), rows whose logit is `⊥`
  change neither (`mx_ignore`, `sm_ignore`), and a logit scaled by `1 / log 2` under the power of two is the logit under the
  exponential (`exp2_scaled`). Nothing is assumed finite.
-/
module

public import Idealize.ShloMosaic.PureOps.Ideal
public import Mathlib.Analysis.SpecialFunctions.Pow.Real

@[expose] public section

noncomputable section

namespace Cert.Proof.ScoreMath

open Idealize.ShloMosaic

/-- `1 / log 2`. -/
def L : ℝ := (Real.log 2)⁻¹
theorem L_pos : 0 < L := inv_pos.mpr (Real.log_pos one_lt_two)
theorem L_mul : L * Real.log 2 = 1 := inv_mul_cancel₀ (Real.log_pos one_lt_two).ne'

theorem exp_nonneg (x : EReal) : 0 ≤ Ideal.exp x := by
  induction x with
  | bot => exact le_refl _
  | top => exact le_top
  | coe r => exact EReal.coe_nonneg.mpr (Real.exp_nonneg r)

theorem bot_L : (⊥ : EReal) * (L : EReal) = ⊥ := EReal.bot_mul_coe_of_pos L_pos
theorem top_L : (⊤ : EReal) * (L : EReal) = ⊤ := EReal.top_mul_coe_of_pos L_pos

theorem exp2_scaled (x : EReal) : Ideal.exp2 (x * (L : EReal)) = Ideal.exp x := by
  induction x with
  | bot => rw [bot_L]; rfl
  | top => rw [top_L]; rfl
  | coe r =>
    rw [← EReal.coe_mul]
    show ((Real.rpow 2 (r * L) : ℝ) : EReal) = ((Real.exp r : ℝ) : EReal)
    congr 1
    show (2 : ℝ) ^ (r * L) = _
    rw [Real.rpow_def_of_pos two_pos]
    congr 1
    have := L_mul
    calc Real.log 2 * (r * L) = r * (L * Real.log 2) := by ring
      _ = r := by rw [this, mul_one]

theorem add_L (x y : EReal) : x * (L : EReal) + y * (L : EReal) = (x + y) * (L : EReal) :=
  (EReal.right_distrib_of_nonneg_of_ne_top (EReal.coe_nonneg.mpr L_pos.le) (EReal.coe_ne_top _) x y).symm

theorem sub_L (x y : EReal) : x * (L : EReal) - y * (L : EReal) = (x - y) * (L : EReal) := by
  rw [sub_eq_add_neg, sub_eq_add_neg, ← add_L, EReal.neg_mul]

theorem exp2_sub (x y : EReal) : Ideal.exp2 (x * (L : EReal) - y * (L : EReal)) = Ideal.exp (x - y) := by
  rw [sub_L, exp2_scaled]

theorem L_ln2 (x : EReal) : x * (L : EReal) * ((Real.log 2 : ℝ) : EReal) = x := by
  rw [mul_assoc, ← EReal.coe_mul, L_mul, EReal.coe_one, mul_one]

theorem le_L {x y : EReal} : x * (L : EReal) ≤ y * (L : EReal) ↔ x ≤ y := by
  constructor
  · intro h
    have := mul_le_mul_of_nonneg_right h (EReal.coe_nonneg.mpr (Real.log_pos one_lt_two).le)
    rwa [L_ln2, L_ln2] at this
  · intro h
    exact mul_le_mul_of_nonneg_right h (EReal.coe_nonneg.mpr L_pos.le)

theorem mono_L : Monotone (fun x : EReal => x * (L : EReal)) := fun _ _ h => le_L.mpr h
theorem max_L (x y : EReal) : max (x * (L : EReal)) (y * (L : EReal)) = max x y * (L : EReal) := (mono_L.map_max).symm
theorem bot_lt_L (x : EReal) : ⊥ < x * (L : EReal) ↔ ⊥ < x := by
  rw [bot_lt_iff_ne_bot, bot_lt_iff_ne_bot, not_iff_not]
  constructor
  · intro h; have := L_ln2 x; rw [h] at this; rw [← this]; exact EReal.bot_mul_coe_of_pos (Real.log_pos one_lt_two)
  · rintro rfl; exact bot_L

/-- `⊥` moved to `0`. -/
def z (x : EReal) : EReal := if ⊥ < x then x else 0
theorem z_L (x : EReal) : z (x * (L : EReal)) = z x * (L : EReal) := by
  unfold z
  by_cases h : ⊥ < x
  · rw [if_pos h, if_pos ((bot_lt_L x).mpr h)]
  · rw [if_neg h, if_neg (fun h' => h ((bot_lt_L x).mp h')), zero_mul]

variable (l : ℕ → EReal)

/-- The largest logit over `S`. -/
def mx (S : Finset ℕ) : EReal := S.sup l
/-- The sum of the exponentials about the largest logit. -/
def sm (S : Finset ℕ) : EReal := ∑ v ∈ S, Ideal.exp (l v - z (mx l S))

theorem mx_empty : mx l ∅ = ⊥ := rfl
theorem sm_empty : sm l ∅ = 0 := rfl
theorem mx_union (S T : Finset ℕ) : mx l (S ∪ T) = max (mx l S) (mx l T) := Finset.sup_union
theorem sm_nonneg (S : Finset ℕ) : 0 ≤ sm l S := Finset.sum_nonneg fun _ _ => exp_nonneg _

theorem sum_mul (S : Finset ℕ) (f : ℕ → EReal) (hf : ∀ v ∈ S, 0 ≤ f v) (c : EReal) :
    (∑ v ∈ S, f v) * c = ∑ v ∈ S, f v * c := by
  classical
  induction S using Finset.induction_on with
  | empty => simp
  | insert a S ha ih =>
    rw [Finset.sum_insert ha, Finset.sum_insert ha,
      EReal.right_distrib_of_nonneg (hf a (Finset.mem_insert_self _ _))
        (Finset.sum_nonneg fun v hv => hf v (Finset.mem_insert_of_mem hv)),
      ih fun v hv => hf v (Finset.mem_insert_of_mem hv)]

theorem bot_sub (x : EReal) : (⊥ : EReal) - x = ⊥ := by rw [sub_eq_add_neg, EReal.bot_add]
theorem sub_top (x : EReal) : x - (⊤ : EReal) = ⊥ := by rw [sub_eq_add_neg, EReal.neg_top, EReal.add_bot]

/-- Moving one exponential from its own maximum to a larger one. -/
theorem exp_move (x : EReal) (m n : ℝ) (hx : x ≤ m) :
    Ideal.exp (x - (m : EReal)) * Ideal.exp ((m : EReal) - (n : EReal)) = Ideal.exp (x - (n : EReal)) := by
  induction x with
  | bot => rw [bot_sub, bot_sub]; exact zero_mul _
  | top => exact absurd hx (by simp)
  | coe r =>
    rw [← EReal.coe_sub, ← EReal.coe_sub, ← EReal.coe_sub]
    show ((Real.exp _ : ℝ) : EReal) * ((Real.exp _ : ℝ) : EReal) = ((Real.exp _ : ℝ) : EReal)
    rw [← EReal.coe_mul, ← Real.exp_add]
    congr 2; ring

/-- The sum over `S` about its maximum, moved to a larger one. -/
theorem sm_move (S : Finset ℕ) (N : EReal) (h : mx l S ≤ N) :
    sm l S * Ideal.exp (mx l S - z N) = ∑ v ∈ S, Ideal.exp (l v - z N) := by
  have hv : ∀ v ∈ S, l v ≤ mx l S := fun v hv => Finset.le_sup (f := l) hv
  unfold sm
  rw [sum_mul _ _ fun _ _ => exp_nonneg _]
  refine Finset.sum_congr rfl fun v hS => ?_
  have hl := hv v hS
  generalize hM : mx l S = M at h hl
  induction M with
  | bot =>
    have : l v = ⊥ := le_bot_iff.mp hl
    rw [this, bot_sub, bot_sub]; exact zero_mul _
  | top =>
    have hN : N = ⊤ := top_le_iff.mp h
    subst hN
    have hz : z ⊤ = ⊤ := if_pos bot_lt_top
    rw [hz, sub_top, sub_top]; exact zero_mul _
  | coe m =>
    have hz : z (m : EReal) = m := if_pos (EReal.bot_lt_coe m)
    rw [hz]
    induction N with
    | bot => exact absurd h (by simp)
    | top =>
      have hz' : z ⊤ = ⊤ := if_pos bot_lt_top
      rw [hz', sub_top, sub_top]; exact mul_zero _
    | coe n =>
      have hz' : z (n : EReal) = n := if_pos (EReal.bot_lt_coe n)
      rw [hz']; exact exp_move _ m n hl

/-- Two disjoint sets merge. -/
theorem sm_union (S T : Finset ℕ) (hd : Disjoint S T) :
    sm l S * Ideal.exp (mx l S - z (max (mx l S) (mx l T))) + sm l T * Ideal.exp (mx l T - z (max (mx l S) (mx l T))) = sm l (S ∪ T) := by
  rw [sm_move l S _ (le_max_left _ _), sm_move l T _ (le_max_right _ _)]
  show _ = ∑ v ∈ S ∪ T, _
  rw [Finset.sum_union hd, mx_union]

/-- Rows with logit `⊥` do not change the maximum … -/
theorem mx_ignore (S T : Finset ℕ) (h : S ⊆ T) (hb : ∀ v ∈ T, v ∉ S → l v = ⊥) : mx l S = mx l T := by
  apply le_antisymm (Finset.sup_mono h)
  refine Finset.sup_le fun v hv => ?_
  by_cases hS : v ∈ S
  · exact Finset.le_sup (f := l) hS
  · rw [hb v hv hS]; exact bot_le
/-- … nor the sum. -/
theorem sm_ignore (S T : Finset ℕ) (h : S ⊆ T) (hb : ∀ v ∈ T, v ∉ S → l v = ⊥) : sm l S = sm l T := by
  unfold sm
  rw [mx_ignore l S T h hb]
  refine Finset.sum_subset h fun v hv hS => ?_
  rw [hb v hv hS, bot_sub]; rfl

/-- The rows of unit `u`. -/
def unitRows (u : ℕ) : Finset ℕ := Finset.Ico (256 * u) (256 * u + 256)
/-- The rows of block `b` that lie in one of the units `P`. -/
def blockRows (P : List ℕ) (b : ℕ) : Finset ℕ := (Finset.range 32000).filter (fun v => v / 256 ∈ P ∧ v / 512 = b)
/-- All rows of block `b`. -/
def wholeRows (b : ℕ) : Finset ℕ := (Finset.range 32000).filter (fun v => v / 512 = b)

theorem blockRows_nil (b : ℕ) : blockRows [] b = ∅ := by simp [blockRows]
theorem blockRows_same (P : List ℕ) (u : ℕ) (hu : u < 125) : blockRows (P ++ [u]) (u / 2) = blockRows P (u / 2) ∪ unitRows u := by
  ext v
  simp only [blockRows, unitRows, Finset.mem_filter, Finset.mem_range, Finset.mem_union, Finset.mem_Ico, List.mem_append, List.mem_singleton]
  constructor
  · rintro ⟨h1, h2 | h2, h3⟩
    · exact Or.inl ⟨h1, h2, h3⟩
    · exact Or.inr (by omega)
  · rintro (⟨h1, h2, h3⟩ | ⟨h1, h2⟩)
    · exact ⟨h1, Or.inl h2, h3⟩
    · exact ⟨by omega, Or.inr (by omega), by omega⟩
theorem blockRows_other (P : List ℕ) (u b : ℕ) (hb : b ≠ u / 2) : blockRows (P ++ [u]) b = blockRows P b := by
  ext v
  simp only [blockRows, Finset.mem_filter, Finset.mem_range, List.mem_append, List.mem_singleton]
  constructor
  · rintro ⟨h1, h2 | h2, h3⟩
    · exact ⟨h1, h2, h3⟩
    · exact absurd h3 (by omega)
  · rintro ⟨h1, h2, h3⟩; exact ⟨h1, Or.inl h2, h3⟩
theorem blockRows_disjoint (P : List ℕ) (u b : ℕ) (hu : u ∉ P) : Disjoint (blockRows P b) (unitRows u) := by
  rw [Finset.disjoint_left]
  intro v h1 h2
  simp only [blockRows, unitRows, Finset.mem_filter, Finset.mem_range, Finset.mem_Ico] at h1 h2
  have : v / 256 = u := by omega
  exact hu (this ▸ h1.2.1)
theorem blockRows_sub (P : List ℕ) (b : ℕ) : blockRows P b ⊆ wholeRows b := by
  intro v h
  simp only [blockRows, wholeRows, Finset.mem_filter] at h ⊢
  exact ⟨h.1, h.2.2⟩

/-- What a block holds once every unit with an allowed row has been seen. -/
theorem block_whole (P : List ℕ) (b : ℕ) (h : ∀ v < 32000, v / 256 ∉ P → l v = ⊥) :
    mx l (blockRows P b) = mx l (wholeRows b) ∧ sm l (blockRows P b) = sm l (wholeRows b) := by
  have hb : ∀ v ∈ wholeRows b, v ∉ blockRows P b → l v = ⊥ := by
    intro v hv hn
    simp only [blockRows, wholeRows, Finset.mem_filter, Finset.mem_range] at hv hn
    exact h v hv.1 fun hP => hn ⟨hv.1, hP, hv.2⟩
  exact ⟨mx_ignore l _ _ (blockRows_sub P b) hb, sm_ignore l _ _ (blockRows_sub P b) hb⟩

end Cert.Proof.ScoreMath
-- ==== Proof.ScoreTile.lean ====
/-
  A tile of the score kernel read as numbers.

  `TileIn.lg t i k c` is the masked logit of row `32 i + k` of the unit in lane `c`, in powers of two. The tile's row of
  maxima and its row of sums are those of `ScoreMath` over the unit's rows: `um_apply`, `us_apply`.
-/
module

public import proofs.«01_k».proof.Proof.ScoreSpec
public import proofs.«01_k».proof.Proof.ScoreMath
public import Idealize.ShloMosaic.Lib.Pointwise

@[expose] public section

set_option maxRecDepth 16384

noncomputable section

namespace Cert.Proof.ScoreIdeal

open Cert.KernelIdeal Cert.KernelIdeal.Gen
open Idealize.ShloMosaic
open Idealize.ShloMosaic.TcCoe
open Cert.Proof.ScoreMath

theorem logE_eq : (logE (F := Ideal) : EReal) = (L : EReal) :=
  IdealRules.named_const.ideal_named_scalar _ _ _ _ rfl

theorem negInf : Ideal.ofBits .f32 0xFF800000#32 = (⊥ : EReal) := by
  simp [Ideal.ofBits, Ideal.ieee]

namespace TileIn
variable (t : TileIn Ideal) (c : Fin 128)

/-- The masked logit, in powers of two, of row `32 i + k` of the unit in lane `c`. -/
def lg (i : Fin 8) (k : Fin 32) : EReal :=
  Scalar.select (IntOp.cmpi .ne (IntOp.andi (t.mw i (ix5 0 0 0 0 c)) (IntOp.shli ArithUnit.vector (1#32) (BitVec.ofNat 32 k.val))) 0#32)
    ((∑ x : Fin 4096, FloatOps.sitofp (F := Ideal) .bf16 (t.w (ix3 0 (⟨32 * i.val + k.val, by omega⟩ : Fin 256) x)) * FloatOps.sitofp (F := Ideal) .bf16 (t.x (ix3 0 x c)))
      * (t.xs (ix2 0 c) * (logE (F := Ideal) : EReal)) * t.ws i (ix2 k c))
    (Ideal.ofBits .f32 0xFF800000#32)

theorem l0_apply (k : Fin 32) : t.l0 (ix2 k c) = t.lg c 0 k := by
  pointwise [TileIn.lg, k0_pay6, k0_pay5, k0_pay3, k0_pay2, k0_pay1]
theorem l1_apply (k : Fin 32) : t.l1 (ix2 k c) = t.lg c 1 k := by
  pointwise [TileIn.lg, k0_pay7, k0_pay5, k0_pay3, k0_pay2, k0_pay1]
theorem l2_apply (k : Fin 32) : t.l2 (ix2 k c) = t.lg c 2 k := by
  pointwise [TileIn.lg, k0_pay8, k0_pay5, k0_pay3, k0_pay2, k0_pay1]
theorem l3_apply (k : Fin 32) : t.l3 (ix2 k c) = t.lg c 3 k := by
  pointwise [TileIn.lg, k0_pay9, k0_pay5, k0_pay3, k0_pay2, k0_pay1]
theorem l4_apply (k : Fin 32) : t.l4 (ix2 k c) = t.lg c 4 k := by
  pointwise [TileIn.lg, k0_pay12, k0_pay11, k0_pay5, k0_pay3, k0_pay2, k0_pay1]
theorem l5_apply (k : Fin 32) : t.l5 (ix2 k c) = t.lg c 5 k := by
  pointwise [TileIn.lg, k0_pay13, k0_pay5, k0_pay3, k0_pay2, k0_pay1]
theorem l6_apply (k : Fin 32) : t.l6 (ix2 k c) = t.lg c 6 k := by
  pointwise [TileIn.lg, k0_pay15, k0_pay5, k0_pay3, k0_pay2, k0_pay1]
theorem l7_apply (k : Fin 32) : t.l7 (ix2 k c) = t.lg c 7 k := by
  pointwise [TileIn.lg, k0_pay16, k0_pay5, k0_pay3, k0_pay2, k0_pay1]

/-- The largest of the eight rows `32 i + k`. -/
def top8 (k : Fin 32) : EReal :=
  max (max (max (max (max (max (max (t.lg c 0 k) (t.lg c 1 k)) (t.lg c 2 k)) (t.lg c 3 k)) (t.lg c 4 k)) (t.lg c 5 k)) (t.lg c 6 k)) (t.lg c 7 k)

theorem mx_fold : t.mx (ix2 0 c) = Finset.univ.fold max ⊥ (fun k : Fin 32 => t.top8 c k) := by
  have e : t.mx (ix2 0 c) = Finset.univ.fold max (Ideal.ofBits .f32 0xFF800000#32) (fun x : Fin 32 =>
      max (max (max (max (max (max (max (t.l0 (ix2 x c)) (t.l1 (ix2 x c))) (t.l2 (ix2 x c))) (t.l3 (ix2 x c))) (t.l4 (ix2 x c))) (t.l5 (ix2 x c))) (t.l6 (ix2 x c))) (t.l7 (ix2 x c))) := by
    pointwise [k0_pay17, k0_pay14, k0_pay10]
  rw [e, negInf]
  simp only [l0_apply, l1_apply, l2_apply, l3_apply, l4_apply, l5_apply, l6_apply, l7_apply, top8]

variable (l : ℕ → EReal) (u : ℕ)

theorem unitRows_image : unitRows u = Finset.univ.image (fun p : Fin 32 × Fin 8 => 256 * u + (32 * p.2.val + p.1.val)) := by
  ext v
  simp only [unitRows, Finset.mem_Ico, Finset.mem_image, Finset.mem_univ, true_and, Prod.exists]
  constructor
  · rintro ⟨h1, h2⟩
    exact ⟨⟨(v - 256 * u) % 32, by omega⟩, ⟨(v - 256 * u) / 32, by omega⟩, by show 256 * u + (32 * ((v - 256 * u) / 32) + (v - 256 * u) % 32) = v; omega⟩
  · rintro ⟨k, i, rfl⟩
    omega
theorem rows_inj : Function.Injective (fun p : Fin 32 × Fin 8 => 256 * u + (32 * p.2.val + p.1.val)) := by
  rintro ⟨k, i⟩ ⟨k', i'⟩ h
  have h' : 256 * u + (32 * i.val + k.val) = 256 * u + (32 * i'.val + k'.val) := h
  exact Prod.ext (Fin.ext (by show k.val = k'.val; omega)) (Fin.ext (by show i.val = i'.val; omega))

theorem mx_scaled (S : Finset ℕ) : S.sup (fun v => l v * (L : EReal)) = ScoreMath.mx l S * (L : EReal) :=
  (Finset.comp_sup_eq_sup_comp (g := fun x : EReal => x * (L : EReal)) (s := S) (f := l) (fun x y => (max_L x y).symm) bot_L).symm

variable (hl : ∀ (i : Fin 8) (k : Fin 32), t.lg c i k = l (256 * u + (32 * i.val + k.val)) * (L : EReal))
include hl

theorem mx_apply : t.mx (ix2 0 c) = ScoreMath.mx l (unitRows u) * (L : EReal) := by
  rw [mx_fold, ← mx_scaled, unitRows_image, Finset.sup_image]
  show Finset.univ.sup (fun k : Fin 32 => t.top8 c k) = _
  apply le_antisymm
  · refine Finset.sup_le fun k _ => ?_
    have h (i : Fin 8) : t.lg c i k ≤ (Finset.univ.sup ((fun v => l v * (L : EReal)) ∘ fun p : Fin 32 × Fin 8 => 256 * u + (32 * p.2.val + p.1.val))) := by
      rw [hl]
      exact Finset.le_sup (f := ((fun v => l v * (L : EReal)) ∘ fun p : Fin 32 × Fin 8 => 256 * u + (32 * p.2.val + p.1.val))) (Finset.mem_univ (k, i))
    exact max_le (max_le (max_le (max_le (max_le (max_le (max_le (h 0) (h 1)) (h 2)) (h 3)) (h 4)) (h 5)) (h 6)) (h 7)
  · refine Finset.sup_le fun p _ => ?_
    refine le_trans ?_ (Finset.le_sup (f := fun k : Fin 32 => t.top8 c k) (Finset.mem_univ p.1))
    show l (256 * u + (32 * p.2.val + p.1.val)) * (L : EReal) ≤ t.top8 c p.1
    rw [← hl]
    obtain ⟨k, i⟩ := p
    unfold top8
    fin_cases i <;> simp

theorem um_apply : t.um (ix2 0 c) = ScoreMath.mx l (unitRows u) * (L : EReal) := by
  rw [← t.mx_apply c l u hl]
  pointwise [TileIn.um, k0_pay26]

theorem mx0_apply : t.mx0 (ix2 0 c) = z (ScoreMath.mx l (unitRows u)) * (L : EReal) := by
  have e : t.mx0 (ix2 0 c) = if Ideal.ofBits .f32 0xFF800000#32 < t.mx (ix2 0 c) then t.mx (ix2 0 c) else 0 := by
    pointwise [k0_pay18]
  rw [e, negInf, ← z_L, ← t.mx_apply c l u hl]
  rfl

theorem us_apply : t.us (ix2 0 c) = sm l (unitRows u) := by
  have e : t.us (ix2 0 c) = ∑ x : Fin 32, (Ideal.exp2 (t.l0 (ix2 x c) - t.mx0 (ix2 0 c)) + Ideal.exp2 (t.l1 (ix2 x c) - t.mx0 (ix2 0 c))
      + Ideal.exp2 (t.l2 (ix2 x c) - t.mx0 (ix2 0 c)) + Ideal.exp2 (t.l3 (ix2 x c) - t.mx0 (ix2 0 c)) + Ideal.exp2 (t.l4 (ix2 x c) - t.mx0 (ix2 0 c))
      + Ideal.exp2 (t.l5 (ix2 x c) - t.mx0 (ix2 0 c)) + Ideal.exp2 (t.l6 (ix2 x c) - t.mx0 (ix2 0 c)) + Ideal.exp2 (t.l7 (ix2 x c) - t.mx0 (ix2 0 c))) := by
    pointwise [TileIn.us, k0_pay27, k0_pay23, k0_pay20]
    rfl
  rw [e, t.mx0_apply c l u hl]
  simp only [l0_apply, l1_apply, l2_apply, l3_apply, l4_apply, l5_apply, l6_apply, l7_apply, hl, exp2_sub]
  unfold sm
  generalize z (ScoreMath.mx l (unitRows u)) = m
  rw [unitRows_image, Finset.sum_image (fun _ _ _ _ h => rows_inj u h), Fintype.sum_prod_type]
  refine Finset.sum_congr rfl fun k _ => ?_
  simp only [Fin.sum_univ_eight]

end TileIn
end Cert.Proof.ScoreIdeal
-- ==== Proof.ScoreLogit.lean ====
/-
  The masked logits as one function of the arguments, and what the results are in terms of them.

  `lgt … a c v` is the logit of vocabulary row `v` for lane `c` of chunk `a`, or `⊥` when the mask does not allow it. Chunk `a`
  is position `a % 4` of the batch rows `128 * (a / 4) + c`. `blse` is the log-sum-exp of one block of 512 rows, `top` and
  `tot` the largest of them and the sum of their exponentials about it.
-/
module

public import proofs.«01_k».proof.Proof.ScoreMath
public import Idealize.ShloMosaic.Lib.Pointwise

@[expose] public section

noncomputable section

namespace Cert.Proof.ScoreMath

open Idealize.ShloMosaic

/-- The log-sum-exp of block `b`. -/
def blse (l : ℕ → EReal) (b : ℕ) : EReal := z (mx l (wholeRows b)) + Ideal.log (sm l (wholeRows b))
/-- The maximum of the log-sum-exps of the first `n` blocks. -/
def top (l : ℕ → EReal) (n : ℕ) : EReal := (Finset.range n).sup (blse l)
/-- The sum of the exponentials of the first `n` blocks' log-sum-exps about the maximum. -/
def tot (l : ℕ → EReal) (n : ℕ) : EReal := ∑ b ∈ Finset.range n, Ideal.exp (blse l b - top l 63)

/-- An int8 code as a number. -/
def code (b : BitVec 8) : EReal := ((b.toInt : ℝ) : EReal)

/-- The masked logit of row `v` for lane `c` of chunk `a`. -/
def lgt (x1 : Shape.Idx ⟨3, ![20, 4096, 128]⟩ → BitVec 8) (x2 : Shape.Idx ⟨3, ![5, 4, 128]⟩ → EReal) (x4 : Shape.Idx ⟨1, ![32000]⟩ → EReal)
    (x5 : Shape.Idx ⟨2, ![32000, 4096]⟩ → BitVec 8) (x6 : Shape.Idx ⟨3, ![640, 4, 1000]⟩ → BitVec 32) (a : Fin 20) (c : Fin 128) (v : ℕ) : EReal :=
  if h : v < 32000 then
    if (x6 (ix3 ⟨128 * (a.val / 4) + c.val, by omega⟩ ⟨a.val % 4, by omega⟩ ⟨v / 32, by omega⟩)).getLsbD (v % 32) then
      (∑ x : Fin 4096, code (x1 (ix3 a x c)) * code (x5 (ix2 ⟨v, h⟩ x))) * x2 (ix3 ⟨a.val / 4, by omega⟩ ⟨a.val % 4, by omega⟩ c) * x4 (ix1 ⟨v, h⟩)
    else ⊥
  else ⊥

theorem extend_toInt (b : BitVec 8) : (BitVec.signExtend 32 b).toInt = b.toInt := BitVec.toInt_signExtend_of_le (by decide)

/-- The mask's test by shifting the word down. -/
theorem bit_down (w : BitVec 32) (i : ℕ) (h : i < 32) :
    IntOp.cmpi .ne (IntOp.andi (IntOp.shrsi ArithUnit.host w (BitVec.ofNat 32 i)) 1#32) 0#32 = BitVec.ofBool (w.getLsbD i) := by
  have hi : (BitVec.ofNat 32 i).toNat = i := by rw [BitVec.toNat_ofNat]; omega
  unfold IntOp.cmpi IntOp.shrsi
  rw [if_pos (by rw [hi]; exact h)]
  congr 1
  show (w.sshiftRight' (BitVec.ofNat 32 i) &&& 1#32 != 0#32) = _
  rw [BitVec.sshiftRight_eq', hi]
  have e : w.sshiftRight i &&& 1#32 = BitVec.setWidth 32 (BitVec.ofBool ((w.sshiftRight i).getLsbD 0)) := by
    ext j hj
    simp [BitVec.getElem_one]
    by_cases hj0 : j = 0
    · subst hj0; simp
    · simp [hj0]
  rw [e, BitVec.getLsbD_sshiftRight]
  simp [h]
  generalize w[i] = b
  cases b <;> rfl

/-- The mask's test by shifting a one up. -/
theorem bit_up (w : BitVec 32) (i : ℕ) (h : i < 32) :
    IntOp.cmpi .ne (IntOp.andi w (IntOp.shli ArithUnit.vector 1#32 (BitVec.ofNat 32 i))) 0#32 = BitVec.ofBool (w.getLsbD i) := by
  have hi : (BitVec.ofNat 32 i).toNat = i := by rw [BitVec.toNat_ofNat]; omega
  unfold IntOp.cmpi IntOp.shli
  rw [if_pos (by rw [hi]; exact h)]
  congr 1
  show (w &&& (1#32 <<< BitVec.ofNat 32 i) != 0#32) = _
  rw [BitVec.shiftLeft_eq', hi]
  have e : w &&& (1#32 <<< i) = bif w.getLsbD i then 1#32 <<< i else 0#32 := by
    ext j hj
    cases hw : w.getLsbD i
    · by_cases hji : j = i
      · subst hji; simp [← BitVec.getLsbD_eq_getElem, hw]
      · simp; omega
    · by_cases hji : j = i
      · subst hji; simp [← BitVec.getLsbD_eq_getElem, hw]
      · simp; omega
  rw [e]
  cases w.getLsbD i
  · rfl
  · show (1#32 <<< i != 0#32) = true
    rw [bne_iff_ne]
    intro h0
    have := congrArg (fun b : BitVec 32 => b.getLsbD i) h0
    simp [h] at this

/-- The rows of block `b`, counted. -/
theorem rows_map (n b : ℕ) (h : n = if b < 62 then 512 else 256) (hb : b < 63) :
    wholeRows b = Finset.univ.image (fun k : Fin n => 512 * b + k.val) := by
  subst h
  ext v
  simp only [wholeRows, Finset.mem_filter, Finset.mem_range, Finset.mem_image, Finset.mem_univ, true_and]
  constructor
  · rintro ⟨h1, h2⟩
    exact ⟨⟨v - 512 * b, by split <;> omega⟩, by show 512 * b + (v - 512 * b) = v; omega⟩
  · rintro ⟨k, rfl⟩
    have := k.isLt
    split at this <;> omega

variable (l : ℕ → EReal)

theorem mx_rows (n b : ℕ) (h : n = if b < 62 then 512 else 256) (hb : b < 63) (f : Fin n → EReal) (hf : ∀ k, f k = l (512 * b + k.val)) :
    Finset.fold max ⊥ f Finset.univ = mx l (wholeRows b) := by
  unfold mx
  rw [rows_map n b h hb, Finset.sup_image]
  show Finset.univ.sup f = _
  exact Finset.sup_congr rfl fun k _ => hf k

theorem sum_rows (n b : ℕ) (h : n = if b < 62 then 512 else 256) (hb : b < 63) (f : ℕ → EReal) :
    ∑ v ∈ wholeRows b, f v = ∑ k : Fin n, f (512 * b + k.val) := by
  rw [rows_map n b h hb, Finset.sum_image]
  intro k _ k' _ hk
  exact Fin.ext (by have : 512 * b + k.val = 512 * b + k'.val := hk; omega)

theorem top_eq (f : Fin 63 → EReal) (hf : ∀ b, f b = blse l b.val) : Finset.fold max ⊥ f Finset.univ = top l 63 := by
  show Finset.univ.sup f = _
  unfold top
  apply le_antisymm
  · exact Finset.sup_le fun b _ => by rw [hf]; exact Finset.le_sup (f := blse l) (Finset.mem_range.mpr b.isLt)
  · refine Finset.sup_le fun b hb => ?_
    have hb' := Finset.mem_range.mp hb
    rw [show blse l b = f ⟨b, hb'⟩ from (hf ⟨b, hb'⟩).symm]
    exact Finset.le_sup (Finset.mem_univ _)

theorem tot_eq : ∑ b : Fin 63, Ideal.exp (blse l b.val - top l 63) = tot l 63 :=
  Fin.sum_univ_eq_sum_range (fun b => Ideal.exp (blse l b - top l 63)) 63

end Cert.Proof.ScoreMath
-- ==== Proof.ScoreRows.lean ====
/-
  The score kernel's buffers read as numbers.

  Let the masked logits of token row `c`, lane `j` be `l c j v`, over vocabulary rows `v`. If every tile of every unit holds
  them (`Holds`), then after the units `P` the block buffers hold, for each block, the maximum and the sum of `ScoreMath` over
  the block's rows that lie in `P` (`at_bm`, `at_bs`), and the two last loops give the maximum over the blocks' log-sum-exps
  and the sum of their exponentials about it (`mAt_apply`, `sAt_apply`).
-/
module

public import proofs.«01_k».proof.Proof.ScoreTile
public import proofs.«01_k».proof.Proof.ScoreLogit
public import proofs.«01_k».proof.Proof.ScoreTail

@[expose] public section

set_option maxRecDepth 16384

noncomputable section

namespace Cert.Proof.ScoreIdeal

open Cert.KernelIdeal Cert.KernelIdeal.Gen
open Idealize.ShloMosaic
open Idealize.ShloMosaic.TcCoe
open Cert.Proof.ScoreMath

/-! ## Reads and writes of rows -/

section Rows
variable (B : Memref sig .tc .vmem S24x128 .f32) (D : Memref sig .tc .vmem S63x24x128 .f32)

theorem off33_eq : ∀ j : Fin k0_t3_loop.trips, k0_off33 j = ![j.val, 0] := by decide +kernel

theorem chunk_same (f : BufTy.Contents (Elt Ideal) B.view.ty) (j : Fin k0_t3_loop.trips) (p : FVec Ideal S1x128 .f32) (a : Fin 24) (c : Fin 128) (h : a.val = j.val) :
    B.view.read (Elt Ideal) (B.view.writes (Elt Ideal) f [⟨chunkR j, p⟩]) (ix2 a c) = p (ix2 0 c) :=
  View.read_writes_cons_unit_of_mem B.view f _ p [] (ix2 a c) (ix2 0 c) (off33_eq j) (by
    intro i; fin_cases i
    · exact h
    · exact (Nat.zero_add _).symm)
theorem chunk_other (f : BufTy.Contents (Elt Ideal) B.view.ty) (j : Fin k0_t3_loop.trips) (p : FVec Ideal S1x128 .f32) (a : Fin 24) (c : Fin 128) (h : a.val < j.val) :
    B.view.read (Elt Ideal) (B.view.writes (Elt Ideal) f [⟨chunkR j, p⟩]) (ix2 a c) = B.view.read (Elt Ideal) f (ix2 a c) :=
  View.read_writes_cons_unit_of_not_mem B.view f _ p [] (ix2 a c) (off33_eq j) 0 (.inl h)

theorem off34_unit (u : Fin 125) : k0_off34 (BitVec.ofNat 32 u.val) = ![u.val / 2, 0, 0] := by
  have := u.isLt
  rw [off34_eq (by rw [BitVec.toNat_ofNat]; omega), BitVec.toNat_ofNat]
  congr 2; omega

theorem block_same (f : BufTy.Contents (Elt Ideal) D.view.ty) (u : Fin 125) (p : FVec Ideal S1x24x128 .f32) (b : Fin 63) (a : Fin 24) (c : Fin 128) (h : b.val = u.val / 2) :
    D.view.read (Elt Ideal) (D.view.writes (Elt Ideal) f [⟨blockR u, p⟩]) (ix3 b a c) = p (ix3 0 a c) :=
  View.read_writes_cons_unit_of_mem D.view f _ p [] (ix3 b a c) (ix3 0 a c) (off34_unit u) (by
    intro i; fin_cases i
    · exact h
    · exact (Nat.zero_add _).symm
    · exact (Nat.zero_add _).symm)
theorem block_other (f : BufTy.Contents (Elt Ideal) D.view.ty) (u : Fin 125) (p : FVec Ideal S1x24x128 .f32) (b : Fin 63) (a : Fin 24) (c : Fin 128) (h : b.val ≠ u.val / 2) :
    D.view.read (Elt Ideal) (D.view.writes (Elt Ideal) f [⟨blockR u, p⟩]) (ix3 b a c) = D.view.read (Elt Ideal) f (ix3 b a c) :=
  View.read_writes_cons_unit_of_not_mem D.view f _ p [] (ix3 b a c) (off34_unit u) 0 (by
    show b.val < u.val / 2 ∨ u.val / 2 + 1 ≤ b.val
    omega)

/-- Block `b` of a buffer, loaded. -/
theorem load_block (f : BufTy.Contents (Elt Ideal) D.view.ty) {off : Fin 3 → ℕ} (inb) (b : Fin 63) (h : off = ![b.val, 0, 0]) (a : Fin 24) (c : Fin 128) :
    D.view.readAt (Elt Ideal) (Rect.unit (s := S63x24x128) off S1x24x128.size inb).toLoadRect f (ix3 0 a c) = D.view.read (Elt Ideal) f (ix3 b a c) := by
  subst h
  show D.view.read (Elt Ideal) f _ = _
  refine congrArg _ (funext fun i => Fin.ext ?_)
  fin_cases i
  · show b.val + 1 * 0 = b.val; omega
  · show 0 + 1 * a.val = a.val; omega
  · show 0 + 1 * c.val = c.val; omega

theorem load_full (f : BufTy.Contents (Elt Ideal) B.view.ty) (i : S24x128.Idx) :
    B.view.readAt (Elt Ideal) fullR.toLoadRect f i = B.view.read (Elt Ideal) f i := by
  rw [View.readAt_full]
end Rows

/-! ## A unit -/

section Unit
variable (T : Fin 125 → Fin k0_t3_loop.trips → TileIn Ideal) (l : Fin 20 → Fin 128 → ℕ → EReal)

theorem t3_trips : k0_t3_loop.trips = 20 := by decide +kernel
/-- Chunk `a` as a trip of the chunk loop. -/
abbrev trip (a : Fin 20) : Fin k0_t3_loop.trips := ⟨a.val, by rw [t3_trips]; exact a.isLt⟩
/-- Chunk `a` as a row of the scratch buffers. -/
abbrev row24 (a : Fin 20) : Fin 24 := ⟨a.val, by omega⟩

/-- Every tile holds the masked logits `l`. -/
def Holds : Prop := ∀ (u : Fin 125) (a : Fin 20) (c : Fin 128) (i : Fin 8) (k : Fin 32),
  (T u (trip a)).lg c i k = l a c (256 * u.val + (32 * i.val + k.val)) * (L : EReal)

variable {T l} (hT : Holds T l)
include hT

theorem umAt_apply (u : Fin 125) (f0) (n : ℕ) (hn : n ≤ 20) (a : Fin 20) (h : a.val < n) (c : Fin 128) :
    umB.view.read (Elt Ideal) (umAt (T u) f0 n) (ix2 (row24 a) c) = mx (l a c) (unitRows u) * (L : EReal) := by
  induction n with
  | zero => exact absurd h (Nat.not_lt_zero _)
  | succ n ih =>
    rw [umAt_succ (T u) f0 (trip ⟨n, hn⟩)]
    by_cases e : a.val = n
    · rw [chunk_same umB _ _ _ _ _ e]
      have : trip ⟨n, hn⟩ = trip a := Fin.ext e.symm
      rw [this]
      exact TileIn.um_apply _ c (l a c) u.val (hT u a c)
    · rw [chunk_other umB _ _ _ _ _ (show a.val < n by omega)]
      exact ih (by omega) (by omega)

theorem usAt_apply (u : Fin 125) (f0) (n : ℕ) (hn : n ≤ 20) (a : Fin 20) (h : a.val < n) (c : Fin 128) :
    usB.view.read (Elt Ideal) (usAt (T u) f0 n) (ix2 (row24 a) c) = sm (l a c) (unitRows u) := by
  induction n with
  | zero => exact absurd h (Nat.not_lt_zero _)
  | succ n ih =>
    rw [usAt_succ (T u) f0 (trip ⟨n, hn⟩)]
    by_cases e : a.val = n
    · rw [chunk_same usB _ _ _ _ _ e]
      have : trip ⟨n, hn⟩ = trip a := Fin.ext e.symm
      rw [this]
      exact TileIn.us_apply _ c (l a c) u.val (hT u a c)
    · rw [chunk_other usB _ _ _ _ _ (show a.val < n by omega)]
      exact ih (by omega) (by omega)

theorem um'_apply (st : St Ideal) (u : Fin 125) (a : Fin 20) (c : Fin 128) :
    umB.view.read (Elt Ideal) (st.um' T u) (ix2 (row24 a) c) = mx (l a c) (unitRows u) * (L : EReal) :=
  umAt_apply hT u _ _ (le_of_eq t3_trips) a (by rw [t3_trips]; exact a.isLt) c
theorem us'_apply (st : St Ideal) (u : Fin 125) (a : Fin 20) (c : Fin 128) :
    usB.view.read (Elt Ideal) (st.us' T u) (ix2 (row24 a) c) = sm (l a c) (unitRows u) :=
  usAt_apply hT u _ _ (le_of_eq t3_trips) a (by rw [t3_trips]; exact a.isLt) c
end Unit

theorem pay65_apply (x : FVec Ideal S1x24x128 .f32) (y : FVec Ideal S24x128 .f32) (a : Fin 24) (c : Fin 128) :
    k0_pay65 x y (ix3 0 a c) = max (x (ix3 0 a c) : EReal) (y (ix2 a c)) := by
  pointwise [k0_pay65, k0_pay63, k0_pay62]
theorem pay64_apply (x : FVec Ideal S1x24x128 .f32) (y : FVec Ideal S24x128 .f32) (s : FVec Ideal S1x24x128 .f32) (w y' : FVec Ideal S24x128 .f32) (a : Fin 24) (c : Fin 128) :
    k0_pay64 x y s w y' (ix3 0 a c)
      = (s (ix3 0 a c) : EReal) * Ideal.exp2 ((x (ix3 0 a c) : EReal) - z (max (x (ix3 0 a c) : EReal) (y (ix2 a c))))
        + (w (ix2 a c) : EReal) * Ideal.exp2 ((y' (ix2 a c) : EReal) - z (max (x (ix3 0 a c) : EReal) (y (ix2 a c)))) := by
  unfold z
  pointwise [k0_pay64, k0_pay63, k0_pay62]
  rw [negInf]
  rfl

/-! ## The blocks after the units `P` -/

section Blocks
variable {T : Fin 125 → Fin k0_t3_loop.trips → TileIn Ideal} {l : Fin 20 → Fin 128 → ℕ → EReal} (hT : Holds T l)

/-- The block buffers hold the maxima and the sums over the rows in the units `P`. -/
def Blocks (l : Fin 20 → Fin 128 → ℕ → EReal) (st : St Ideal) (P : List ℕ) : Prop := ∀ (b : Fin 63) (a : Fin 20) (c : Fin 128),
  bmB.view.read (Elt Ideal) st.bm (ix3 b (row24 a) c) = mx (l a c) (blockRows P b.val) * (L : EReal)
  ∧ bsB.view.read (Elt Ideal) st.bs (ix3 b (row24 a) c) = sm (l a c) (blockRows P b.val)

theorem blocks_st0 : Blocks l st0 [] := by
  intro b a c
  rw [blockRows_nil, mx_empty, sm_empty, bot_L]
  unfold st0
  dsimp only
  rw [View.read_writes_full, View.read_writes_full]
  refine ⟨?_, ?_⟩
  · rw [← negInf]; pointwise [k0_pay57]
  · pointwise [k0_pay58]

include hT in
theorem blocks_next (st : St Ideal) (P : List ℕ) (u : Fin 125) (hu : u.val ∉ P) (h : Blocks l st P) : Blocks l (st.next T u) (P ++ [u.val]) := by
  intro b a c
  obtain ⟨h1, h2⟩ := h b a c
  by_cases hb : b.val = u.val / 2
  · have e1 := load_block bmB st.bm (k0_off34_inb (BitVec.ofNat 32 u.val) (chk7_all u)) b (by rw [off34_unit, hb]) (row24 a) c
    have e2 := load_block bsB st.bs (k0_off34_inb (BitVec.ofNat 32 u.val) (chk7_all u)) b (by rw [off34_unit, hb]) (row24 a) c
    have e3 := (load_full umB (st.um' T u) (ix2 (row24 a) c)).trans (um'_apply hT st u a c)
    have e4 := (load_full usB (st.us' T u) (ix2 (row24 a) c)).trans (us'_apply hT st u a c)
    have hr : blockRows (P ++ [u.val]) b.val = blockRows P b.val ∪ unitRows u.val := by
      rw [hb]; exact blockRows_same P u.val u.isLt
    rw [hr, mx_union, ← sm_union (l a c) _ _ (blockRows_disjoint P u.val b.val hu)]
    unfold St.next
    dsimp only
    rw [block_same bmB _ _ _ _ _ _ hb, block_same bsB _ _ _ _ _ _ hb, pay65_apply, pay64_apply]
    rw [e1, e2, e3, e4, h1, h2, max_L, z_L, exp2_sub, exp2_sub]
    exact ⟨rfl, rfl⟩
  · rw [blockRows_other P u.val b.val hb]
    unfold St.next
    dsimp only
    rw [block_other bmB _ _ _ _ _ _ hb, block_other bsB _ _ _ _ _ _ hb]
    exact ⟨h1, h2⟩

include hT in
/-- After the first `k` units of a list without repeats. -/
theorem blocks_at (U : ℕ → Fin 125) (P : List ℕ) (hP : P.Nodup) (hU : ∀ i (h : i < P.length), (U i).val = P[i]) (k : ℕ) (hk : k ≤ P.length) :
    Blocks l (St.at T U st0 k) (P.take k) := by
  induction k with
  | zero => rw [List.take_zero]; exact blocks_st0
  | succ k ih =>
    have hlt : k < P.length := hk
    have e : P.take (k + 1) = P.take k ++ [(U k).val] := by rw [hU k hlt, List.take_add_one, List.getElem?_eq_getElem hlt]; rfl
    rw [e]
    refine blocks_next hT _ _ _ ?_ (ih (by omega))
    rw [hU k hlt]
    intro hm
    obtain ⟨i, hi, he⟩ := List.mem_take_iff_getElem.mp hm
    have := (List.Nodup.getElem_inj_iff hP).mp he
    omega
end Blocks

/-! ## The last two loops -/

theorem ln2_eq : Named.named (F := Ideal) κ "ln2" (φ := .f32) 0x3F317218#32 = ((Real.log 2 : ℝ) : EReal) :=
  IdealRules.named_const.ideal_named_scalar _ _ _ _ rfl
theorem log2e_eq : Named.named (F := Ideal) κ "log2e" (φ := .f32) 0x3FB8AA3B#32 = (L : EReal) :=
  IdealRules.named_const.ideal_named_scalar _ _ _ _ rfl

theorem pay71_apply (m : FVec Ideal S24x128 .f32) (x s : FVec Ideal S1x24x128 .f32) (a : Fin 24) (c : Fin 128) :
    k0_pay71 m x s (ix2 a c) = max (m (ix2 a c) : EReal) (z (x (ix3 0 a c)) + Ideal.log (s (ix3 0 a c)) * (L : EReal)) := by
  unfold z
  pointwise [k0_pay71]
  rw [negInf, log2e_eq]
theorem pay75_apply (x s : FVec Ideal S1x24x128 .f32) (a : Fin 24) (c : Fin 128) :
    k0_pay75 (F := Ideal) x s (ix2 a c) = (z (x (ix3 0 a c)) + Ideal.log (s (ix3 0 a c)) * (L : EReal) : EReal) := by
  unfold z
  pointwise [k0_pay75, k0_pay74, k0_pay73]
  rw [negInf, log2e_eq]
theorem pay77_apply (m t : FVec Ideal S24x128 .f32) (x s : FVec Ideal S1x24x128 .f32) (a : Fin 24) (c : Fin 128) :
    k0_pay77 (F := Ideal) m t x s (ix2 a c) = ((t (ix2 a c) : EReal) + Ideal.exp2 ((k0_pay75 (F := Ideal) x s (ix2 a c) : EReal) - m (ix2 a c)) : EReal) := by
  pointwise [k0_pay77]
  rfl

section Last
variable {l : Fin 20 → Fin 128 → ℕ → EReal} {P : List ℕ} {st : St Ideal} (hB : Blocks l st P)
  (hl : ∀ (a : Fin 20) (c : Fin 128), ∀ v < 32000, v / 256 ∉ P → l a c v = ⊥)

theorem off64_eq : ∀ k : Fin k0_t6_loop.trips, k0_off64 k = ![k.val, 0, 0] := by decide +kernel
theorem off65_eq : ∀ k : Fin k0_t7_loop.trips, k0_off65 k = ![k.val, 0, 0] := by decide +kernel
theorem trips6 : k0_t6_loop.trips = 63 := by decide +kernel
theorem trips7 : k0_t7_loop.trips = 63 := by decide +kernel

include hB hl
theorem bm_apply (k : Fin k0_t7_loop.trips) (a : Fin 20) (c : Fin 128) :
    bmRow' st.bm k (ix3 0 (row24 a) c) = mx (l a c) (wholeRows k.val) * (L : EReal) := by
  have hk : k.val < 63 := trips7 ▸ k.isLt
  rw [← (block_whole (l a c) P k.val (hl a c)).1]
  exact (load_block bmB st.bm _ ⟨k.val, hk⟩ (off65_eq k) _ c).trans (hB ⟨k.val, hk⟩ a c).1
theorem bs_apply (k : Fin k0_t7_loop.trips) (a : Fin 20) (c : Fin 128) :
    bsRow' st.bs k (ix3 0 (row24 a) c) = sm (l a c) (wholeRows k.val) := by
  have hk : k.val < 63 := trips7 ▸ k.isLt
  rw [← (block_whole (l a c) P k.val (hl a c)).2]
  exact (load_block bsB st.bs _ ⟨k.val, hk⟩ (off65_eq k) _ c).trans (hB ⟨k.val, hk⟩ a c).2
theorem bm_apply6 (k : Fin k0_t6_loop.trips) (a : Fin 20) (c : Fin 128) :
    bmRow st.bm k (ix3 0 (row24 a) c) = mx (l a c) (wholeRows k.val) * (L : EReal) := by
  have hk : k.val < 63 := trips6 ▸ k.isLt
  rw [← (block_whole (l a c) P k.val (hl a c)).1]
  exact (load_block bmB st.bm _ ⟨k.val, hk⟩ (off64_eq k) _ c).trans (hB ⟨k.val, hk⟩ a c).1
theorem bs_apply6 (k : Fin k0_t6_loop.trips) (a : Fin 20) (c : Fin 128) :
    bsRow st.bs k (ix3 0 (row24 a) c) = sm (l a c) (wholeRows k.val) := by
  have hk : k.val < 63 := trips6 ▸ k.isLt
  rw [← (block_whole (l a c) P k.val (hl a c)).2]
  exact (load_block bsB st.bs _ ⟨k.val, hk⟩ (off64_eq k) _ c).trans (hB ⟨k.val, hk⟩ a c).2

theorem mAt_apply (n : ℕ) (hn : n ≤ 63) (a : Fin 20) (c : Fin 128) :
    mAt st.bm st.bs k0_pay70 n (ix2 (row24 a) c) = top (l a c) n * (L : EReal) := by
  induction n with
  | zero =>
    show k0_pay70 (F := Ideal) (ix2 (row24 a) c) = (⊥ : EReal) * (L : EReal)
    rw [bot_L, ← negInf]
    pointwise [k0_pay70]
  | succ n ih =>
    have hlt : n < k0_t6_loop.trips := by rw [trips6]; omega
    rw [mAt_succ st.bm st.bs k0_pay70 ⟨n, hlt⟩, pay71_apply, ih (by omega), bm_apply6 hB hl ⟨n, hlt⟩, bs_apply6 hB hl ⟨n, hlt⟩, z_L, add_L, max_L]
    unfold top
    rw [Finset.range_add_one, Finset.sup_insert, max_comm]
    rfl

theorem pay75_blse (k : Fin k0_t7_loop.trips) (a : Fin 20) (c : Fin 128) :
    k0_pay75 (bmRow' st.bm k) (bsRow' st.bs k) (ix2 (row24 a) c) = blse (l a c) k.val * (L : EReal) := by
  rw [pay75_apply, bm_apply hB hl, bs_apply hB hl, z_L, add_L]
  rfl

theorem sAt_apply (m : FVec Ideal S24x128 .f32) (a : Fin 20) (c : Fin 128) (hm : m (ix2 (row24 a) c) = top (l a c) 63 * (L : EReal)) (n : ℕ) (hn : n ≤ 63) :
    sAt st.bm st.bs m k0_pay72 n (ix2 (row24 a) c) = tot (l a c) n := by
  induction n with
  | zero =>
    show k0_pay72 (F := Ideal) (ix2 (row24 a) c) = (0 : EReal)
    pointwise [k0_pay72]
  | succ n ih =>
    have hlt : n < k0_t7_loop.trips := by rw [trips7]; omega
    rw [sAt_succ st.bm st.bs m k0_pay72 ⟨n, hlt⟩, pay77_apply, ih (by omega), pay75_blse hB hl ⟨n, hlt⟩, hm, exp2_sub]
    unfold tot
    rw [Finset.sum_range_succ]
end Last

end Cert.Proof.ScoreIdeal
-- ==== Proof.ScoreReads.lean ====
/-
  What a tile of the score kernel reads, by position in the kernel's arguments.

  The unit's weight codes, the chunk's token codes and scales, the mask's words and the weights' scales, each as an element of
  the array the kernel was called with.
-/
module

public import proofs.«01_k».proof.Proof.ScoreRows

@[expose] public section

set_option maxRecDepth 16384

noncomputable section

namespace Cert.Proof.ScoreIdeal

open Cert.KernelIdeal Cert.KernelIdeal.Gen
open Idealize.ShloMosaic
open Idealize.ShloMosaic.TcCoe
open Cert.Proof.ScoreMath

variable (XW : BufTy.Contents (Elt Ideal) wM.view.ty) (XM : BufTy.Contents (Elt Ideal) mM.view.ty)
variable (arg1 : Memref sig .tc .vmem S20x4096x128 .i8) (arg2 : Memref sig .tc .vmem S20x128 .f32) (arg3 : Memref sig .tc .vmem S20x128 .i32) (arg4 : Memref sig .tc .vmem S250x128 .f32)
variable (X1 : BufTy.Contents (Elt Ideal) arg1.view.ty) (X2 : BufTy.Contents (Elt Ideal) arg2.view.ty) (X3 : BufTy.Contents (Elt Ideal) arg3.view.ty) (X4 : BufTy.Contents (Elt Ideal) arg4.view.ty)
variable (u : Fin 125) (a : Fin 20) (c : Fin 128)

theorem off23_eq : ∀ j : Fin k0_t3_loop.trips, k0_off23 j = ![j.val, 0, 0] := by decide +kernel
theorem off24_eq : ∀ j : Fin k0_t3_loop.trips, k0_off24 j = ![j.val, 0] := by decide +kernel
theorem off21_unit : ∀ (u : Fin 125) (r : Fin 2), k0_off21 (BitVec.ofNat 32 u.val) (BitVec.ofNat 32 r.val) = ![2 * u.val + r.val, 0] := by decide +kernel

theorem tile_w (r : Fin 256) (x : Fin 4096) : (unitTile (F := Ideal) XW XM arg1 arg2 arg3 arg4 X1 X2 X3 X4 u (trip a)).w (ix3 0 r x) = XW (ix2 (⟨256 * u.val + r.val, by omega⟩ : Fin 32000) x) := by
  show (wblk u).view.read (Elt Ideal) XW _ = _
  show XW _ = XW _
  refine congrArg XW (funext fun i => Fin.ext ?_)
  fin_cases i
  · show 256 * u.val + 1 * r.val = _; rw [Nat.one_mul]; rfl
  · show 0 + 1 * x.val = _; rw [Nat.one_mul, Nat.zero_add]; rfl

theorem tile_x (x : Fin 4096) : (unitTile (F := Ideal) XW XM arg1 arg2 arg3 arg4 X1 X2 X3 X4 u (trip a)).x (ix3 0 x c) = arg1.view.read (Elt Ideal) X1 (ix3 a x c) := by
  show arg1.view.read (Elt Ideal) X1 _ = _
  refine congrArg _ (funext fun i => Fin.ext ?_)
  fin_cases i
  · show k0_off23 (trip a) 0 + 1 * 0 = a.val; rw [off23_eq]; rfl
  · show k0_off23 (trip a) 1 + 1 * x.val = x.val; rw [off23_eq]; show 0 + 1 * x.val = x.val; omega
  · show k0_off23 (trip a) 2 + 1 * c.val = c.val; rw [off23_eq]; show 0 + 1 * c.val = c.val; omega

theorem tile_xs : (unitTile (F := Ideal) XW XM arg1 arg2 arg3 arg4 X1 X2 X3 X4 u (trip a)).xs (ix2 0 c) = arg2.view.read (Elt Ideal) X2 (ix2 a c) := by
  show arg2.view.read (Elt Ideal) X2 _ = _
  refine congrArg _ (funext fun i => Fin.ext ?_)
  fin_cases i
  · show k0_off24 (trip a) 0 + 1 * 0 = a.val; rw [off24_eq]; rfl
  · show k0_off24 (trip a) 1 + 1 * c.val = c.val; rw [off24_eq]; show 0 + 1 * c.val = c.val; omega

theorem tile_mw (i : Fin 8) : (unitTile (F := Ideal) XW XM arg1 arg2 arg3 arg4 X1 X2 X3 X4 u (trip a)).mw i (ix5 0 0 0 0 c)
    = XM (ix5 (⟨a.val % 4, by omega⟩ : Fin 4) u (⟨a.val / 4, by omega⟩ : Fin 5) i c) := by
  show XM ((mM.slice (Rect.unit (s := S4x125x5x8x128) (mOff u) S4x1x5x8x128.size (mOff_inb u)) (fun _ => rfl)).view.emb
    (Shape.reshapeEquiv (squeezes_S4x1x5x8x128_S4x5x8x128).numel_eq (ix4 (⟨a.val % 4, by omega⟩ : Fin 4) (⟨a.val / 4, by omega⟩ : Fin 5) i c))) = _
  have e : Shape.reshapeEquiv (squeezes_S4x1x5x8x128_S4x5x8x128).numel_eq (ix4 (⟨a.val % 4, by omega⟩ : Fin 4) (⟨a.val / 4, by omega⟩ : Fin 5) i c)
      = ix5 (⟨a.val % 4, by omega⟩ : Fin 4) (0 : Fin 1) (⟨a.val / 4, by omega⟩ : Fin 5) i c :=
    Shape.reshapeEquiv_eq_of_rowMajor _ (by
      rw [Shape.rowMajor_val_five, Shape.rowMajor_val_four]
      show (((a.val % 4 * 1 + 0) * 5 + a.val / 4) * 8 + i.val) * 128 + c.val = ((a.val % 4 * 5 + a.val / 4) * 8 + i.val) * 128 + c.val
      omega)
  rw [e]
  refine congrArg XM (funext fun k => Fin.ext ?_)
  fin_cases k
  · show 0 + 1 * (a.val % 4) = _; rw [Nat.one_mul, Nat.zero_add]; rfl
  · show u.val + 1 * 0 = _; rfl
  · show 0 + 1 * (a.val / 4) = _; rw [Nat.one_mul, Nat.zero_add]; rfl
  · show 0 + 1 * i.val = _; rw [Nat.one_mul, Nat.zero_add]; rfl
  · show 0 + 1 * c.val = _; rw [Nat.one_mul, Nat.zero_add]; rfl

theorem wsRow_apply (r : Fin 2) (y : Fin 128) : wsRow arg4 X4 u r (ix2 0 y) = arg4.view.read (Elt Ideal) X4 (ix2 (⟨2 * u.val + r.val, by omega⟩ : Fin 250) y) := by
  show arg4.view.read (Elt Ideal) X4 _ = _
  refine congrArg _ (funext fun i => Fin.ext ?_)
  fin_cases i
  · show k0_off21 (BitVec.ofNat 32 u.val) (BitVec.ofNat 32 r.val) 0 + 1 * 0 = 2 * u.val + r.val; rw [off21_unit]; rfl
  · show k0_off21 (BitVec.ofNat 32 u.val) (BitVec.ofNat 32 r.val) 1 + 1 * y.val = y.val; rw [off21_unit]; show 0 + 1 * y.val = y.val; omega

theorem pay24_apply (w : FVec Ideal S1x128 .f32) (r c : Fin 128) : k0_pay24 w (ix2 r c) = w (ix2 0 r) := by
  pointwise [k0_pay24]
theorem pay25_apply (w : FVec Ideal S1x128 .f32) (r c : Fin 128) : k0_pay25 w (ix2 r c) = w (ix2 0 r) := by
  pointwise [k0_pay25]

theorem wsFill_apply (f) (r : Fin 256) : wsB.view.read (Elt Ideal) (wsFill arg4 X4 u f) (ix2 r c)
    = arg4.view.read (Elt Ideal) X4 (ix2 (⟨(256 * u.val + r.val) / 128, by omega⟩ : Fin 250) (⟨(256 * u.val + r.val) % 128, by omega⟩ : Fin 128)) := by
  unfold wsFill
  by_cases h : r.val < 128
  · refine (View.read_writes_cons_unit_of_not_mem wsB.view f inb_S256x128_S128x128_128_0 (k0_pay25 (wsRow arg4 X4 u 1)) _ (ix2 r c) rfl 0 (.inl h)).trans ?_
    refine (View.read_writes_cons_unit_of_mem wsB.view f inb_S256x128_S128x128_0_0 (k0_pay24 (wsRow arg4 X4 u 0)) [] (ix2 r c) (ix2 (⟨r.val, h⟩ : Fin 128) c) rfl (by
        intro i; fin_cases i
        · exact (Nat.zero_add _).symm
        · exact (Nat.zero_add _).symm)).trans ?_
    rw [pay24_apply, wsRow_apply]
    congr 2 <;> apply Fin.ext
    · show 2 * u.val + 0 = (256 * u.val + r.val) / 128; omega
    · show r.val = (256 * u.val + r.val) % 128; omega
  · refine (View.read_writes_cons_unit_of_mem wsB.view f inb_S256x128_S128x128_128_0 (k0_pay25 (wsRow arg4 X4 u 1)) _ (ix2 r c) (ix2 (⟨r.val - 128, by omega⟩ : Fin 128) c) rfl (by
        intro i; fin_cases i
        · show r.val = 128 + (r.val - 128); omega
        · exact (Nat.zero_add _).symm)).trans ?_
    rw [pay25_apply, wsRow_apply]
    congr 2 <;> apply Fin.ext
    · show 2 * u.val + 1 = (256 * u.val + r.val) / 128; omega
    · show r.val - 128 = (256 * u.val + r.val) % 128; omega

theorem load_rows (f : BufTy.Contents (Elt Ideal) wsB.view.ty) (n : Fin 8) (k : Fin 32) {off : Fin 2 → ℕ} (inb) (h : off = ![32 * n.val, 0]) :
    wsB.view.readAt (Elt Ideal) (Rect.unit (s := S256x128) off S32x128.size inb).toLoadRect f (ix2 k c)
      = wsB.view.read (Elt Ideal) f (ix2 (⟨32 * n.val + k.val, by omega⟩ : Fin 256) c) := by
  subst h
  show wsB.view.read (Elt Ideal) _ _ = _
  refine congrArg _ (funext fun i => Fin.ext ?_)
  fin_cases i
  · show 32 * n.val + 1 * k.val = 32 * n.val + k.val; omega
  · show 0 + 1 * c.val = c.val; omega

theorem tile_ws (i : Fin 8) (k : Fin 32) : (unitTile (F := Ideal) XW XM arg1 arg2 arg3 arg4 X1 X2 X3 X4 u (trip a)).ws i (ix2 k c)
    = arg4.view.read (Elt Ideal) X4 (ix2 (⟨(256 * u.val + (32 * i.val + k.val)) / 128, by omega⟩ : Fin 250) (⟨(256 * u.val + (32 * i.val + k.val)) % 128, by omega⟩ : Fin 128)) := by
  refine Eq.trans ?_ (wsFill_apply arg4 X4 u c wsB.view.junk (⟨32 * i.val + k.val, by omega⟩ : Fin 256))
  generalize hf : wsFill arg4 X4 u wsB.view.junk = f
  unfold unitTile
  rw [hf]
  fin_cases i
  · exact load_rows c f 0 k inb_S256x128_S32x128_0_0 rfl
  · exact load_rows c f 1 k inb_S256x128_S32x128_32_0 rfl
  · exact load_rows c f 2 k inb_S256x128_S32x128_64_0 rfl
  · exact load_rows c f 3 k inb_S256x128_S32x128_96_0 rfl
  · exact load_rows c f 4 k inb_S256x128_S32x128_128_0 rfl
  · exact load_rows c f 5 k inb_S256x128_S32x128_160_0 rfl
  · exact load_rows c f 6 k inb_S256x128_S32x128_192_0 rfl
  · exact load_rows c f 7 k inb_S256x128_S32x128_224_0 rfl

end Cert.Proof.ScoreIdeal
-- ==== Proof.ScoreValue.lean ====
/-
  What the score kernel's first and third results hold, by position in its arguments.

  The tiles' logits are those of `lgt`; after the last active unit the block buffers hold the maxima and the sums over whole blocks,
  because a unit that is not active has every mask word at zero.
-/
module

public import proofs.«01_k».proof.Proof.ScoreReads

@[expose] public section

set_option maxRecDepth 16384
set_option backward.proofsInPublic true

noncomputable section

namespace Cert.Proof.ScoreIdeal

open Cert.KernelIdeal Cert.KernelIdeal.Gen
open Idealize.ShloMosaic
open Idealize.ShloMosaic.TcCoe
open Cert.Proof.ScoreMath

variable {x0 : S1x128.Idx → BitVec 32} {x1 : S20x4096x128.Idx → BitVec 8} {x2 : S5x4x128.Idx → EReal} {x4 : S32000.Idx → EReal}
  {x5 : S32000x4096.Idx → BitVec 8} {x6 : S640x4x1000.Idx → BitVec 32}

section Tile
variable {XW : BufTy.Contents (Elt Ideal) wM.view.ty} {XM : BufTy.Contents (Elt Ideal) mM.view.ty}
variable {arg1 : Memref sig .tc .vmem S20x4096x128 .i8} {arg2 : Memref sig .tc .vmem S20x128 .f32} {arg3 : Memref sig .tc .vmem S20x128 .i32} {arg4 : Memref sig .tc .vmem S250x128 .f32}
variable {X1 : BufTy.Contents (Elt Ideal) arg1.view.ty} {X2 : BufTy.Contents (Elt Ideal) arg2.view.ty} {X3 : BufTy.Contents (Elt Ideal) arg3.view.ty} {X4 : BufTy.Contents (Elt Ideal) arg4.view.ty}
variable (hW : ∀ (v : Fin 32000) (x : Fin 4096), XW (ix2 v x) = x5 (ix2 v x))
  (hM : ∀ (s : Fin 4) (u : Fin 125) (q : Fin 5) (i : Fin 8) (c : Fin 128), XM (ix5 s u q i c) = x6 (ix3 (⟨128 * q.val + c.val, by omega⟩ : Fin 640) s (⟨8 * u.val + i.val, by omega⟩ : Fin 1000)))
  (h1 : ∀ (a : Fin 20) (x : Fin 4096) (c : Fin 128), arg1.view.read (Elt Ideal) X1 (ix3 a x c) = x1 (ix3 a x c))
  (h2 : ∀ (a : Fin 20) (c : Fin 128), arg2.view.read (Elt Ideal) X2 (ix2 a c) = x2 (ix3 (⟨a.val / 4, by omega⟩ : Fin 5) (⟨a.val % 4, by omega⟩ : Fin 4) c))
  (h4 : ∀ (p : Fin 250) (y : Fin 128), arg4.view.read (Elt Ideal) X4 (ix2 p y) = x4 (ix1 (⟨128 * p.val + y.val, by omega⟩ : Fin 32000)))

include hW hM h1 h2 h4 in
/-- The tiles' logits are the masked logits. -/
theorem holds : Holds (unitTile XW XM arg1 arg2 arg3 arg4 X1 X2 X3 X4) (lgt x1 x2 x4 x5 x6) := by
  intro u a c i k
  have hv : 256 * u.val + (32 * i.val + k.val) < 32000 := by omega
  have hs : (∑ x : Fin 4096, FloatOps.sitofp (F := Ideal) .bf16 ((unitTile XW XM arg1 arg2 arg3 arg4 X1 X2 X3 X4 u (trip a)).w (ix3 0 (⟨32 * i.val + k.val, by omega⟩ : Fin 256) x))
        * FloatOps.sitofp (F := Ideal) .bf16 ((unitTile XW XM arg1 arg2 arg3 arg4 X1 X2 X3 X4 u (trip a)).x (ix3 0 x c)) : EReal)
      = ∑ x : Fin 4096, code (x1 (ix3 a x c)) * code (x5 (ix2 (⟨256 * u.val + (32 * i.val + k.val), hv⟩ : Fin 32000) x)) :=
    Finset.sum_congr rfl fun x _ => by
      rw [tile_w, tile_x, hW, h1]
      exact mul_comm (code _) (code _)
  have hw : x6 (ix3 (⟨128 * (a.val / 4) + c.val, by omega⟩ : Fin 640) (⟨a.val % 4, by omega⟩ : Fin 4) (⟨(256 * u.val + (32 * i.val + k.val)) / 32, by omega⟩ : Fin 1000))
      = x6 (ix3 (⟨128 * (a.val / 4) + c.val, by omega⟩ : Fin 640) (⟨a.val % 4, by omega⟩ : Fin 4) (⟨8 * u.val + i.val, by omega⟩ : Fin 1000)) := by
    exact congrArg (fun n => x6 (ix3 _ _ n)) (Fin.ext (by show (256 * u.val + (32 * i.val + k.val)) / 32 = 8 * u.val + i.val; omega))
  have hx4 : x4 (ix1 (⟨128 * ((256 * u.val + (32 * i.val + k.val)) / 128) + (256 * u.val + (32 * i.val + k.val)) % 128, by omega⟩ : Fin 32000))
      = x4 (ix1 (⟨256 * u.val + (32 * i.val + k.val), hv⟩ : Fin 32000)) := by
    exact congrArg (fun n => x4 (ix1 n)) (Fin.ext (by show 128 * ((256 * u.val + (32 * i.val + k.val)) / 128) + (256 * u.val + (32 * i.val + k.val)) % 128 = 256 * u.val + (32 * i.val + k.val); omega))
  have hk : (256 * u.val + (32 * i.val + k.val)) % 32 = k.val := by omega
  unfold TileIn.lg
  rw [hs, tile_mw, tile_xs, tile_ws, logE_eq, negInf, hM, h2, h4, bit_up _ _ k.isLt]
  unfold lgt
  rw [dif_pos hv, hk]
  have hw' := congrArg (fun w : BitVec 32 => w.getLsbD k.val) hw
  dsimp only at hw' hx4 ⊢
  rw [hw', hx4]
  cases hb : (x6 (ix3 (⟨128 * (a.val / 4) + c.val, by omega⟩ : Fin 640) (⟨a.val % 4, by omega⟩ : Fin 4) (⟨8 * u.val + i.val, by omega⟩ : Fin 1000))).getLsbD k.val
  · exact bot_L.symm
  · show (_ * (_ * (L : EReal)) * _ : EReal) = (_ * _ * _) * (L : EReal)
    rw [← mul_assoc, mul_right_comm]
end Tile

section Units
variable {arg0 : Memref sig .tc .smem S1x128 .i32} {X0 : BufTy.Contents (Elt Ideal) arg0.view.ty}
variable (h0 : ∀ u : Fin 125, anyW arg0 X0 u.val = x0 (ix2 0 (⟨u.val, by omega⟩ : Fin 128)))
  (hp : ∀ (b : Fin 640) (s : Fin 4) (u : Fin 125) (i : Fin 8), x6 (ix3 b s (⟨8 * u.val + i.val, by omega⟩ : Fin 1000)) = 0#32 ∨ x0 (ix2 0 (⟨u.val, by omega⟩ : Fin 128)) ≠ 0#32)

theorem trips1 : k0_t1_loop.trips = 125 := by decide +kernel

include h0 hp in
/-- A row outside the active units is masked out. -/
theorem outside (a : Fin 20) (c : Fin 128) (v : ℕ) (hv : v < 32000) (h : v / 256 ∉ units (anyW arg0 X0) k0_t1_loop.trips) : lgt x1 x2 x4 x5 x6 a c v = ⊥ := by
  have hu : v / 256 < 125 := by omega
  have hz : x0 (ix2 0 (⟨v / 256, by omega⟩ : Fin 128)) = 0#32 := by
    by_contra hne
    apply h
    unfold units
    rw [List.mem_filter, List.mem_range, trips1]
    refine ⟨hu, decide_eq_true ?_⟩
    rw [h0 ⟨v / 256, hu⟩]
    exact hne
  have hw : x6 (ix3 (⟨128 * (a.val / 4) + c.val, by omega⟩ : Fin 640) (⟨a.val % 4, by omega⟩ : Fin 4) (⟨v / 32, by omega⟩ : Fin 1000)) = 0#32 := by
    rcases hp ⟨128 * (a.val / 4) + c.val, by omega⟩ ⟨a.val % 4, by omega⟩ ⟨v / 256, hu⟩ ⟨v / 32 % 8, by omega⟩ with h' | h'
    · rw [← h']
      congr 2; apply Fin.ext; show v / 32 = 8 * (v / 256) + v / 32 % 8; omega
    · exact absurd hz h'
  unfold lgt
  rw [dif_pos hv, hw]
  simp

theorem units_nodup (a : ℕ → BitVec 32) (k : ℕ) : (units a k).Nodup := List.Pairwise.imp (fun h => Nat.ne_of_lt h) (units_sorted a k)

theorem UN_val (i : ℕ) (h : i < (units (anyW arg0 X0) k0_t1_loop.trips).length) : (UN arg0 X0 i).val = (units (anyW arg0 X0) k0_t1_loop.trips)[i] := by
  have hl : (units (anyW arg0 X0) k0_t1_loop.trips)[i] < 125 := trips1 ▸ units_lt _ (List.getElem_mem h)
  show (units (anyW arg0 X0) k0_t1_loop.trips).getD i 0 % 125 = _
  rw [List.getD_eq_getElem?_getD, List.getElem?_eq_getElem h]
  exact Nat.mod_eq_of_lt hl
end Units

theorem pay79_apply (m s : FVec Ideal S24x128 .f32) (q : Fin 5) (r : Fin 4) (c : Fin 128) (a : Fin 20) (ha : a.val = q.val * 4 + r.val) :
    k0_pay79 (F := Ideal) m s (ix3 q r c) = (((m (ix2 (row24 a) c) : EReal) + Ideal.log (s (ix2 (row24 a) c)) * (L : EReal)) * ((Real.log 2 : ℝ) : EReal) : EReal) := by
  obtain rfl : a = ⟨q.val * 4 + r.val, by clear ha; omega⟩ := Fin.ext ha
  pointwise [k0_pay79, k0_pay78]
  rw [log2e_eq, ln2_eq]
theorem pay74_apply (x : FVec Ideal S1x24x128 .f32) (a : Fin 24) (c : Fin 128) : k0_pay74 (F := Ideal) x (ix2 a c) = BitVec.ofBool (decide (⊥ < (x (ix3 0 a c) : EReal))) := by
  pointwise [k0_pay74, k0_pay73]
  rw [negInf]
theorem pay76_apply (x s : FVec Ideal S1x24x128 .f32) (q : Fin 5) (r : Fin 4) (c : Fin 128) (a : Fin 20) (ha : a.val = q.val * 4 + r.val) :
    k0_pay76 (F := Ideal) x s (ix4 0 q r c) = ((Scalar.select (k0_pay74 (F := Ideal) x (ix2 (row24 a) c)) (k0_pay75 (F := Ideal) x s (ix2 (row24 a) c) : EReal) 0) * ((Real.log 2 : ℝ) : EReal) : EReal) := by
  obtain rfl : a = ⟨q.val * 4 + r.val, by clear ha; omega⟩ := Fin.ext ha
  pointwise [k0_pay76]
  rw [ln2_eq]

section Last
variable {XW : BufTy.Contents (Elt Ideal) wM.view.ty} {XM : BufTy.Contents (Elt Ideal) mM.view.ty}
variable {l : Fin 20 → Fin 128 → ℕ → EReal} {P : List ℕ} {st : St Ideal} (hB : Blocks l st P)
  (hl : ∀ (a : Fin 20) (c : Fin 128), ∀ v < 32000, v / 256 ∉ P → l a c v = ⊥)
include hB hl

/-- The first result: the log-sum-exp over the blocks. -/
theorem lse_last (q : Fin 5) (r : Fin 4) (c : Fin 128) (a : Fin 20) (ha : a.val = q.val * 4 + r.val) :
    k0_pay79 (F := Ideal) (mAt st.bm st.bs k0_pay70 k0_t6_loop.trips) (sAt st.bm st.bs (mAt st.bm st.bs k0_pay70 k0_t6_loop.trips) k0_pay72 k0_t7_loop.trips) (ix3 q r c)
      = (top (l a c) 63 + Ideal.log (tot (l a c) 63) : EReal) := by
  have hm := mAt_apply hB hl k0_t6_loop.trips (le_of_eq trips6) a c
  rw [pay79_apply _ _ q r c a ha, hm, sAt_apply hB hl _ a c (by rw [hm, trips6]) k0_t7_loop.trips (le_of_eq trips7), trips6, add_L, L_ln2]

/-- The third result: the log-sum-exp of each block, zero for a block without a row. -/
theorem block_last (b : Fin 63) (hb : b.val < k0_t7_loop.trips) (q : Fin 5) (r : Fin 4) (c : Fin 128) (a : Fin 20) (ha : a.val = q.val * 4 + r.val) :
    k0_pay76 (F := Ideal) (bmRow' st.bm ⟨b.val, hb⟩) (bsRow' st.bs ⟨b.val, hb⟩) (ix4 0 q r c) = (if ⊥ < mx (l a c) (wholeRows b.val) then blse (l a c) b.val else 0 : EReal) := by
  rw [pay76_apply _ _ q r c a ha, pay74_apply, pay75_blse hB hl, bm_apply hB hl]
  by_cases h : ⊥ < mx (l a c) (wholeRows b.val)
  · rw [if_pos h, decide_eq_true ((bot_lt_L _).mpr h)]
    exact L_ln2 _
  · rw [if_neg h, decide_eq_false (fun h' => h ((bot_lt_L _).mp h'))]
    exact zero_mul _
end Last

end Cert.Proof.ScoreIdeal
-- ==== Proof.ScoreLaunch.lean ====
/-
  What the score kernel's first and third results hold after the run, by position in the program's arguments.

  The kernel's operands are the arguments, three of them laid out anew by the host: each is read here at an index; the two results'
  arrays are then those of `lse_last` and `block_last`.
-/
module

public import proofs.«01_k».proof.Proof.ScoreValue
public import proofs.«01_k».proof.Proof.ScoreFrame
public import Idealize.ShloMosaic.Lib.Pipeline.ValueKit

@[expose] public section

set_option maxRecDepth 16384
set_option backward.proofsInPublic true

noncomputable section

namespace Cert.Proof.ScoreIdeal

open Cert.KernelIdeal Cert.KernelIdeal.Gen
open Idealize.ShloMosaic
open Idealize.ShloMosaic.TcCoe
open Cert.Proof.ScoreMath

variable (m : (ℓ : Loc nD τ sig) → Buf (Elt Ideal) ℓ) (c : Dev nD)

/-! ## The operands the host lays out -/

theorem mask_apply (s : Fin 4) (u : Fin 125) (q : Fin 5) (i : Fin 8) (y : Fin 128) :
    V m c main_v2 (ix5 s u q i y) = m ((c : Thread nD τ).loc main_arg6) (ix3 (⟨128 * q.val + y.val, by omega⟩ : Fin 640) s (⟨8 * u.val + i.val, by omega⟩ : Fin 1000)) := by
  have e1 : (⟨128 * q.val + y.val, by omega⟩ : Fin 640) = ⟨q.val * 128 + y.val, by omega⟩ := Fin.ext (by show 128 * q.val + y.val = q.val * 128 + y.val; omega)
  have e2 : (⟨8 * u.val + i.val, by omega⟩ : Fin 1000) = ⟨u.val * 8 + i.val, by omega⟩ := Fin.ext (by show 8 * u.val + i.val = u.val * 8 + i.val; omega)
  rw [e1, e2]
  entry_read
  pointwise []

theorem scale_apply (a : Fin 20) (y : Fin 128) :
    V m c main_v6 (ix2 a y) = m ((c : Thread nD τ).loc main_arg2) (ix3 (⟨a.val / 4, by omega⟩ : Fin 5) (⟨a.val % 4, by omega⟩ : Fin 4) y) := by
  entry_read
  pointwise []

theorem weight_apply (p : Fin 250) (y : Fin 128) :
    V m c main_v8 (ix2 p y) = m ((c : Thread nD τ).loc main_arg4) (ix1 (⟨128 * p.val + y.val, by omega⟩ : Fin 32000)) := by
  have e : (⟨128 * p.val + y.val, by omega⟩ : Fin 32000) = ⟨p.val * 128 + y.val, by omega⟩ := Fin.ext (by show 128 * p.val + y.val = p.val * 128 + y.val; omega)
  rw [e]
  entry_read
  pointwise []

/-! ## The operands' blocks -/

theorem idx0 : ∀ t : Fin cfg0.N, win0_0.index t = ![0, 0] := (by decide +kernel : ∀ t : Fin grid0.N, win0_0.index t = ![0, 0])
theorem idx1 : ∀ t : Fin cfg0.N, win0_1.index t = ![0, 0, 0] := (by decide +kernel : ∀ t : Fin grid0.N, win0_1.index t = ![0, 0, 0])
theorem idx2 : ∀ t : Fin cfg0.N, win0_2.index t = ![0, 0] := (by decide +kernel : ∀ t : Fin grid0.N, win0_2.index t = ![0, 0])
theorem idx4 : ∀ t : Fin cfg0.N, win0_4.index t = ![0, 0] := (by decide +kernel : ∀ t : Fin grid0.N, win0_4.index t = ![0, 0])

variable (t : Fin cfg0.N)

theorem read0 (y : Fin 128) : (st0_0 t).view.read (Elt Ideal) ((st0_0 t).view.rep (iblk m c 0 t)) (ix2 0 y) = m ((c : Thread nD τ).loc main_arg0) (ix2 0 y) := by
  rw [View.read_rep]
  blk_ext [iblk, idx0 t]
theorem read1 (a : Fin 20) (x : Fin 4096) (y : Fin 128) : (st0_1 t).view.read (Elt Ideal) ((st0_1 t).view.rep (iblk m c 1 t)) (ix3 a x y) = m ((c : Thread nD τ).loc main_arg1) (ix3 a x y) := by
  rw [View.read_rep]
  blk_ext [iblk, idx1 t]
theorem read2 (a : Fin 20) (y : Fin 128) : (st0_2 t).view.read (Elt Ideal) ((st0_2 t).view.rep (iblk m c 2 t)) (ix2 a y)
    = m ((c : Thread nD τ).loc main_arg2) (ix3 (⟨a.val / 4, by omega⟩ : Fin 5) (⟨a.val % 4, by omega⟩ : Fin 4) y) := by
  rw [View.read_rep, ← scale_apply m c a y]
  blk_ext [iblk, idx2 t]
theorem read4 (p : Fin 250) (y : Fin 128) : (st0_4 t).view.read (Elt Ideal) ((st0_4 t).view.rep (iblk m c 4 t)) (ix2 p y)
    = m ((c : Thread nD τ).loc main_arg4) (ix1 (⟨128 * p.val + y.val, by omega⟩ : Fin 32000)) := by
  rw [View.read_rep, ← weight_apply m c p y]
  blk_ext [iblk, idx4 t]

theorem off1_eq : ∀ k : Fin k0_t1_loop.trips, k0_off1 k = ![0, k.val] := by decide +kernel

theorem any_apply (u : Fin 125) : anyW (st0_0 t) ((st0_0 t).view.rep (iblk m c 0 t)) u.val = m ((c : Thread nD τ).loc main_arg0) (ix2 0 (⟨u.val, by omega⟩ : Fin 128)) := by
  have hu : u.val < k0_t1_loop.trips := by rw [trips1]; exact u.isLt
  refine (anyW_eq (st0_0 t) _ ⟨u.val, hu⟩).trans (Eq.trans ?_ (read0 m c t (⟨u.val, by omega⟩ : Fin 128)))
  show (st0_0 t).view.read (Elt Ideal) _ _ = _
  refine congrArg _ (funext fun i => Fin.ext ?_)
  fin_cases i
  · show k0_off1 ⟨u.val, hu⟩ 0 + 1 * 0 = 0; rw [off1_eq]; rfl
  · show k0_off1 ⟨u.val, hu⟩ 1 + 1 * 0 = u.val; rw [off1_eq]; rfl

/-! ## The results -/

/-- The masked logits of the program's arguments. -/
abbrev lgM : Fin 20 → Fin 128 → ℕ → EReal :=
  lgt (m ((c : Thread nD τ).loc main_arg1)) (m ((c : Thread nD τ).loc main_arg2)) (m ((c : Thread nD τ).loc main_arg4)) (m ((c : Thread nD τ).loc main_arg5)) (m ((c : Thread nD τ).loc main_arg6))

variable (hp : ∀ (b : Fin 640) (s : Fin 4) (u : Fin 125) (i : Fin 8), m ((c : Thread nD τ).loc main_arg6) (ix3 b s (⟨8 * u.val + i.val, by omega⟩ : Fin 1000)) = 0#32
  ∨ m ((c : Thread nD τ).loc main_arg0) (ix2 0 (⟨u.val, by omega⟩ : Fin 128)) ≠ 0#32)

theorem blocks_end : Blocks (lgM m c) (stN (V m c main_arg5) (V m c main_v2) (st0_0 t) (st0_1 t) (st0_2 t) (st0_3 t) (st0_4 t) ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) (units (anyW (st0_0 t) ((st0_0 t).view.rep (iblk m c 0 t))) k0_t1_loop.trips).length) (units (anyW (st0_0 t) ((st0_0 t).view.rep (iblk m c 0 t))) k0_t1_loop.trips) := by
  have hT : Holds (unitTile (V m c main_arg5) (V m c main_v2) (st0_1 t) (st0_2 t) (st0_3 t) (st0_4 t) ((st0_1 t).view.rep (iblk m c 1 t)) ((st0_2 t).view.rep (iblk m c 2 t)) ((st0_3 t).view.rep (iblk m c 3 t)) ((st0_4 t).view.rep (iblk m c 4 t))) (lgM m c) :=
    holds (fun v x => congrFun (V_main_arg5 m c) (ix2 v x)) (fun s u q i y => mask_apply m c s u q i y) (fun a x y => read1 m c t a x y) (fun a y => read2 m c t a y) (fun p y => read4 m c t p y)
  have h := blocks_at hT (UN (st0_0 t) ((st0_0 t).view.rep (iblk m c 0 t))) (units (anyW (st0_0 t) ((st0_0 t).view.rep (iblk m c 0 t))) k0_t1_loop.trips) (units_nodup _ _) (fun i h => UN_val i h) _ le_rfl
  rw [List.take_length] at h
  exact h

include hp in
theorem outside_end (a : Fin 20) (y : Fin 128) (v : ℕ) (hv : v < 32000) (h : v / 256 ∉ units (anyW (st0_0 t) ((st0_0 t).view.rep (iblk m c 0 t))) k0_t1_loop.trips) : lgM m c a y v = ⊥ :=
  outside (x0 := m ((c : Thread nD τ).loc main_arg0)) (fun u => any_apply m c t u) hp a y v hv h

include hp in
theorem aft5_apply (q : Fin 5) (r : Fin 4) (y : Fin 128) (a : Fin 20) (ha : a.val = q.val * 4 + r.val) :
    aft5 (F := Ideal) c m t (ix3 q r y) = (top (lgM m c a y) 63 + Ideal.log (tot (lgM m c a y) 63) : EReal) := by
  have hB := blocks_end m c t
  have hl := outside_end m c t hp
  unfold aft5 mFin sFin mFin
  generalize stN (V m c main_arg5) (V m c main_v2) (st0_0 t) (st0_1 t) (st0_2 t) (st0_3 t) (st0_4 t) ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) (units (anyW (st0_0 t) ((st0_0 t).view.rep (iblk m c 0 t))) k0_t1_loop.trips).length = st at hB ⊢
  exact lse_last hB hl q r y a ha

include hp in
theorem aft7_apply (b : Fin 63) (q : Fin 5) (r : Fin 4) (y : Fin 128) (a : Fin 20) (ha : a.val = q.val * 4 + r.val) :
    aft7 (F := Ideal) c m t (ix4 b q r y) = (if ⊥ < mx (lgM m c a y) (wholeRows b.val) then blse (lgM m c a y) b.val else 0 : EReal) := by
  have hB := blocks_end m c t
  have hl := outside_end m c t hp
  unfold aft7
  generalize stN (V m c main_arg5) (V m c main_v2) (st0_0 t) (st0_1 t) (st0_2 t) (st0_3 t) (st0_4 t) ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) (units (anyW (st0_0 t) ((st0_0 t).view.rep (iblk m c 0 t))) k0_t1_loop.trips).length = st at hB ⊢
  exact block_last hB hl b (by rw [trips7]; exact b.isLt) q r y a ha

/-- The only point of the grid. -/
def pt : Fin cfg0.N := ⟨0, by decide +kernel⟩

include hp in
/-- The first result's array. -/
theorem array5 (G : S5x4x128.Idx → EReal) (hG : ∀ (q : Fin 5) (r : Fin 4) (y : Fin 128) (a : Fin 20), a.val = q.val * 4 + r.val →
      G (ix3 q r y) = top (lgM m c a y) 63 + Ideal.log (tot (lgM m c a y) 63)) :
    (dats m 0 c).arrAt 5 cfg0.N = G := by
  refine (dats m 0 c).arrAt_eq_of_after_last 5 pt (by decide +kernel) _ fun j => ?_
  blk_simp
  rw [after_5]
  obtain ⟨q, r, y, rfl⟩ : ∃ (q : Fin 5) (r : Fin 4) (y : Fin 128), j = ix3 q r y := ⟨_, _, _, eq_ix3 j⟩
  have ha : q.val * 4 + r.val < 20 := by omega
  exact (aft5_apply m c pt hp q r y ⟨q.val * 4 + r.val, ha⟩ rfl).trans (hG q r y ⟨q.val * 4 + r.val, ha⟩ rfl).symm

include hp in
/-- The third result's array. -/
theorem array7 (G : S63x5x4x128.Idx → EReal) (hG : ∀ (b : Fin 63) (q : Fin 5) (r : Fin 4) (y : Fin 128) (a : Fin 20), a.val = q.val * 4 + r.val →
      G (ix4 b q r y) = if ⊥ < mx (lgM m c a y) (wholeRows b.val) then blse (lgM m c a y) b.val else 0) :
    (dats m 0 c).arrAt 7 cfg0.N = G := by
  refine (dats m 0 c).arrAt_eq_of_after_last 7 pt (by decide +kernel) _ fun j => ?_
  blk_simp
  rw [after_7]
  obtain ⟨b, q, r, y, rfl⟩ : ∃ (b : Fin 63) (q : Fin 5) (r : Fin 4) (y : Fin 128), j = ix4 b q r y := ⟨_, _, _, _, eq_ix4 j⟩
  have ha : q.val * 4 + r.val < 20 := by omega
  exact (aft7_apply m c pt hp b q r y ⟨q.val * 4 + r.val, ha⟩ rfl).trans (hG b q r y ⟨q.val * 4 + r.val, ha⟩ rfl).symm

end Cert.Proof.ScoreIdeal
-- ==== Proof.ScoreRef.lean ====
/-
  The reference's results, row by row.
-/
module

public import proofs.«01_k».proof.Proof.ScoreLogit
public import proofs.«01_k».proof.Proof.Gen.ReferenceIdeal.Read
public import Idealize.ShloMosaic.Lib.Pointwise

@[expose] public section

set_option maxRecDepth 16384

noncomputable section

namespace Cert.Proof.ScoreRef

open Cert.ReferenceIdeal Cert.ReferenceIdeal.Gen Cert.ReferenceIdeal.Read
open Idealize.ShloMosaic
open Idealize.ShloMosaic.TcCoe
open Cert.Proof.ScoreMath

variable (x1 : (⟨S20x4096x128, .i8⟩ : BufTy).Contents (Elt Ideal)) (x2 : (⟨S5x4x128, .f32⟩ : BufTy).Contents (Elt Ideal)) (x4 : (⟨S32000, .f32⟩ : BufTy).Contents (Elt Ideal)) (x5 : (⟨S32000x4096, .i8⟩ : BufTy).Contents (Elt Ideal)) (x6 : (⟨S640x4x1000, .i32⟩ : BufTy).Contents (Elt Ideal))

theorem negInf : Ideal.ofBits .f32 0xFF800000#32 = (⊥ : EReal) := by
  simp [Ideal.ofBits, Ideal.ieee]
theorem zeroE : Ideal.ofBits .f32 0#32 = (0 : EReal) := Ideal.ofBits_zero_f32

/-- Row `r`'s chunk and lane. -/
abbrev ra (r : Fin 2560) : Fin 20 := ⟨r.val / 512 * 4 + r.val % 4, by omega⟩
abbrev rc (r : Fin 2560) : Fin 128 := ⟨r.val / 4 % 128, by omega⟩
/-- Row `r`'s masked logits. -/
abbrev lg (r : Fin 2560) : ℕ → EReal := lgt x1 x2 x4 x5 x6 (ra r) (rc r)

theorem acc_apply (r : Fin 2560) (v : Fin 32000) : val_main_v15 (F := Ideal) x1 x2 x4 x5 (ix2 r v)
    = (∑ x : Fin 4096, code (x1 (ix3 (ra r) x (rc r))) * code (x5 (ix2 v x))) * x2 (ix3 ⟨(ra r).val / 4, by omega⟩ ⟨(ra r).val % 4, by omega⟩ (rc r)) * x4 (ix1 v) := by
  have e : val_main_v15 (F := Ideal) x1 x2 x4 x5 (ix2 r v)
      = (∑ x : Fin 4096, (((BitVec.signExtend 32 (x1 (ix3 (ra r) x (rc r)))).toInt : ℝ) : EReal) * (((BitVec.signExtend 32 (x5 (ix2 v x))).toInt : ℝ) : EReal))
        * x2 (ix3 (⟨r.val / 512, by omega⟩ : Fin 5) (⟨r.val % 4, by omega⟩ : Fin 4) (rc r)) * x4 (ix1 v) := by
    pointwise [val_main_v15, val_main_v14, val_main_v13, val_main_v12, val_main_v11, val_main_v10, val_main_v9, val_main_v8, val_main_v7, val_main_v6, val_main_v5, val_main_v4, val_main_v3, val_main_v2, val_main_v1, val_main_v0]
    rfl
  have h1 : (⟨(ra r).val / 4, by omega⟩ : Fin 5) = ⟨r.val / 512, by omega⟩ := Fin.ext (by show (r.val / 512 * 4 + r.val % 4) / 4 = r.val / 512; omega)
  have h2 : (⟨(ra r).val % 4, by omega⟩ : Fin 4) = ⟨r.val % 4, by omega⟩ := Fin.ext (by show (r.val / 512 * 4 + r.val % 4) % 4 = r.val % 4; omega)
  rw [e, h1, h2]
  simp only [extend_toInt]
  unfold code
  exact Eq.refl _

theorem bit_apply (r : Fin 2560) (v : Fin 32000) : val_main_v27 (F := Ideal) x6 (ix2 r v)
    = BitVec.ofBool ((x6 (ix3 (⟨r.val / 4, by omega⟩ : Fin 640) (⟨r.val % 4, by omega⟩ : Fin 4) (⟨v.val / 32, by omega⟩ : Fin 1000))).getLsbD (v.val % 32)) := by
  rw [← bit_down _ _ (by omega)]
  pointwise [val_main_v27, val_main_v26, val_main_v25, val_main_v24, val_main_v23, val_main_v22, val_main_v21, val_main_v20, val_main_v19, val_main_v18, val_main_v17, val_main_v16, val_main_c, val_main_c_0]

theorem masked_apply (r : Fin 2560) (v : Fin 32000) : val_main_v28 (F := Ideal) x1 x2 x4 x5 x6 (ix2 r v) = lg x1 x2 x4 x5 x6 r v.val := by
  have e : val_main_call0_v1 (F := Ideal) (ix2 r v) = (⊥ : EReal) := by
    rw [val_main_call0_v1_apply, val_main_call0_v0_apply, val_main_cst_apply]
    exact negInf
  rw [val_main_v28_apply, acc_apply, bit_apply, e]
  unfold lg lgt
  rw [dif_pos v.isLt]
  have e1 : (⟨128 * ((ra r).val / 4) + (rc r).val, by omega⟩ : Fin 640) = ⟨r.val / 4, by omega⟩ := Fin.ext (by show 128 * ((r.val / 512 * 4 + r.val % 4) / 4) + r.val / 4 % 128 = r.val / 4; omega)
  have e2 : (⟨(ra r).val % 4, by omega⟩ : Fin 4) = ⟨r.val % 4, by omega⟩ := Fin.ext (by show (r.val / 512 * 4 + r.val % 4) % 4 = r.val % 4; omega)
  rw [e1, e2]
  cases (x6 (ix3 (⟨r.val / 4, by omega⟩ : Fin 640) (⟨r.val % 4, by omega⟩ : Fin 4) (⟨v.val / 32, by omega⟩ : Fin 1000))).getLsbD (v.val % 32) <;> rfl

end Cert.Proof.ScoreRef
-- ==== Proof.ScoreRefRows.lean ====
/-
  The reference's results: the log-sum-exp of each block and of each row.
-/
module

public import proofs.«01_k».proof.Proof.ScoreRef
public import proofs.«01_k».proof.Proof.Gen.ReferenceIdeal.Read
public import Idealize.ShloMosaic.Lib.Pointwise

@[expose] public section

set_option maxRecDepth 16384

noncomputable section

namespace Cert.Proof.ScoreRef

open Cert.ReferenceIdeal Cert.ReferenceIdeal.Gen Cert.ReferenceIdeal.Read
open Idealize.ShloMosaic
open Idealize.ShloMosaic.TcCoe
open Cert.Proof.ScoreMath

variable (x1 : (⟨S20x4096x128, .i8⟩ : BufTy).Contents (Elt Ideal)) (x2 : (⟨S5x4x128, .f32⟩ : BufTy).Contents (Elt Ideal)) (x4 : (⟨S32000, .f32⟩ : BufTy).Contents (Elt Ideal)) (x5 : (⟨S32000x4096, .i8⟩ : BufTy).Contents (Elt Ideal)) (x6 : (⟨S640x4x1000, .i32⟩ : BufTy).Contents (Elt Ideal))

theorem mx62 (r : Fin 2560) (b : Fin 62) : val_main_v31 (F := Ideal) x1 x2 x4 x5 x6 (ix2 r b) = mx (lg x1 x2 x4 x5 x6 r) (wholeRows b.val) := by
  have hv := masked_apply x1 x2 x4 x5 x6 r
  unfold val_main_v31 val_main_v30 val_main_v29 val_main_cst_1
  generalize val_main_v28 (F := Ideal) x1 x2 x4 x5 x6 = y at hv ⊢
  generalize lg x1 x2 x4 x5 x6 r = l at hv ⊢
  have e := mx_rows l 512 b.val (if_pos b.isLt).symm (by omega) (fun k => y (ix2 r (⟨b.val * 512 + k.val, by omega⟩ : Fin 32000))) (fun k => by rw [hv]; show l (b.val * 512 + k.val) = _; rw [Nat.mul_comm])
  rw [← e, ← negInf]
  pointwise []

theorem mx1 (r : Fin 2560) : val_main_v44 (F := Ideal) x1 x2 x4 x5 x6 (ix2 r 0) = mx (lg x1 x2 x4 x5 x6 r) (wholeRows 62) := by
  have hv := masked_apply x1 x2 x4 x5 x6 r
  unfold val_main_v44 val_main_v43 val_main_v42 val_main_cst_5
  generalize val_main_v28 (F := Ideal) x1 x2 x4 x5 x6 = y at hv ⊢
  generalize lg x1 x2 x4 x5 x6 r = l at hv ⊢
  have e := mx_rows l 256 62 rfl (by omega) (fun k => y (ix2 r (⟨31744 + k.val, by omega⟩ : Fin 32000))) (fun k => hv _)
  rw [← e, ← negInf]
  pointwise []

theorem z_bit (x : EReal) : Scalar.select (FloatOps.cmpf (F := Ideal) .ogt x (FloatOps.ofBits (F := Ideal) .f32 0xFF800000#32)) x (FloatOps.ofBits (F := Ideal) .f32 0#32) = z x := by
  show Scalar.select (BitVec.ofBool (decide (Ideal.ofBits .f32 0xFF800000#32 < x))) x (Ideal.ofBits .f32 0#32) = z x
  rw [negInf, zeroE]
  unfold z
  by_cases h : ⊥ < x
  · rw [if_pos h, decide_eq_true h]; rfl
  · rw [if_neg h, decide_eq_false h]; rfl
theorem gt_bit (x : EReal) : FloatOps.cmpf (F := Ideal) (φ := .f32) .ogt x (FloatOps.ofBits (F := Ideal) .f32 0xFF800000#32) = BitVec.ofBool (decide (⊥ < x)) := by
  show BitVec.ofBool (decide (Ideal.ofBits .f32 0xFF800000#32 < x)) = _
  rw [negInf]

theorem z62 (r : Fin 2560) (b : Fin 62) : val_main_v34 (F := Ideal) x1 x2 x4 x5 x6 (ix2 r b) = z (mx (lg x1 x2 x4 x5 x6 r) (wholeRows b.val)) := by
  rw [val_main_v34_apply, val_main_v33_apply, mx62, val_main_v32_apply, val_main_cst_2_apply, val_main_call1_v1_apply, val_main_call1_v0_apply, val_main_cst_3_apply]
  generalize mx (lg x1 x2 x4 x5 x6 r) (wholeRows b.val) = x
  exact z_bit x
theorem z1 (r : Fin 2560) : val_main_v47 (F := Ideal) x1 x2 x4 x5 x6 (ix2 r 0) = z (mx (lg x1 x2 x4 x5 x6 r) (wholeRows 62)) := by
  rw [val_main_v47_apply, val_main_v46_apply, mx1, val_main_v45_apply, val_main_cst_6_apply, val_main_call2_v1_apply, val_main_call2_v0_apply, val_main_cst_7_apply]
  generalize mx (lg x1 x2 x4 x5 x6 r) (wholeRows 62) = x
  exact z_bit x

theorem exp62 (r : Fin 2560) (b : Fin 62) (k : Fin 512) : val_main_v38 (F := Ideal) x1 x2 x4 x5 x6 (ix3 r b k)
    = Ideal.exp (lg x1 x2 x4 x5 x6 r (512 * b.val + k.val) - z (mx (lg x1 x2 x4 x5 x6 r) (wholeRows b.val))) := by
  have hv := masked_apply x1 x2 x4 x5 x6 r
  rw [← z62]
  unfold val_main_v38 val_main_v37 val_main_v36 val_main_v35 val_main_v30 val_main_v29
  generalize val_main_v34 (F := Ideal) x1 x2 x4 x5 x6 = w
  generalize val_main_v28 (F := Ideal) x1 x2 x4 x5 x6 = y at hv ⊢
  generalize lg x1 x2 x4 x5 x6 r = l at hv ⊢
  have e : l (512 * b.val + k.val) = y (ix2 r (⟨b.val * 512 + k.val, by omega⟩ : Fin 32000)) := by
    rw [hv]; show l (512 * b.val + k.val) = l (b.val * 512 + k.val); rw [Nat.mul_comm]
  rw [e]
  pointwise []
theorem exp1 (r : Fin 2560) (k : Fin 256) : val_main_v51 (F := Ideal) x1 x2 x4 x5 x6 (ix3 r 0 k)
    = Ideal.exp (lg x1 x2 x4 x5 x6 r (512 * 62 + k.val) - z (mx (lg x1 x2 x4 x5 x6 r) (wholeRows 62))) := by
  have hv := masked_apply x1 x2 x4 x5 x6 r
  rw [← z1]
  unfold val_main_v51 val_main_v50 val_main_v49 val_main_v48 val_main_v43 val_main_v42
  generalize val_main_v47 (F := Ideal) x1 x2 x4 x5 x6 = w
  generalize val_main_v28 (F := Ideal) x1 x2 x4 x5 x6 = y at hv ⊢
  generalize lg x1 x2 x4 x5 x6 r = l at hv ⊢
  have e : l (512 * 62 + k.val) = y (ix2 r (⟨31744 + k.val, by omega⟩ : Fin 32000)) := by
    rw [hv]
  rw [e]
  pointwise []

theorem sum62 (r : Fin 2560) (b : Fin 62) : val_main_v39 (F := Ideal) x1 x2 x4 x5 x6 (ix2 r b) = sm (lg x1 x2 x4 x5 x6 r) (wholeRows b.val) := by
  have he := exp62 x1 x2 x4 x5 x6 r b
  rw [val_main_v39_apply, val_main_cst_4_apply]
  generalize val_main_v38 (F := Ideal) x1 x2 x4 x5 x6 = p at he ⊢
  generalize lg x1 x2 x4 x5 x6 r = l at he ⊢
  have e : ∀ k : Fin 512, p (idx_main_v39 (ix2 r b) k) = Ideal.exp (l (512 * b.val + k.val) - z (mx l (wholeRows b.val))) := fun k =>
    (congrArg p (funext fun a => Fin.ext (by match a with | ⟨0, _⟩ => rfl | ⟨1, _⟩ => rfl | ⟨2, _⟩ => rfl))).trans (he k)
  refine Eq.trans (congrArg (fun x : EReal => Ideal.ofBits .f32 0#32 + x) (Finset.sum_congr rfl fun k _ => e k)) ?_
  rw [zeroE, zero_add]
  exact (sum_rows 512 b.val (if_pos b.isLt).symm (by omega) (fun v => Ideal.exp (l v - z (mx l (wholeRows b.val))))).symm
theorem blse62 (r : Fin 2560) (b : Fin 62) : val_main_v41 (F := Ideal) x1 x2 x4 x5 x6 (ix2 r b) = blse (lg x1 x2 x4 x5 x6 r) b.val := by
  rw [val_main_v41_apply, val_main_v40_apply, sum62, z62]
  generalize lg x1 x2 x4 x5 x6 r = l
  unfold blse
  generalize z (mx l (wholeRows b.val)) = x
  generalize sm l (wholeRows b.val) = y
  rfl

theorem sum1 (r : Fin 2560) : val_main_v52 (F := Ideal) x1 x2 x4 x5 x6 (ix2 r 0) = sm (lg x1 x2 x4 x5 x6 r) (wholeRows 62) := by
  have he := exp1 x1 x2 x4 x5 x6 r
  rw [val_main_v52_apply, val_main_cst_8_apply]
  generalize val_main_v51 (F := Ideal) x1 x2 x4 x5 x6 = p at he ⊢
  generalize lg x1 x2 x4 x5 x6 r = l at he ⊢
  have e : ∀ k : Fin 256, p (idx_main_v52 (ix2 r 0) k) = Ideal.exp (l (512 * 62 + k.val) - z (mx l (wholeRows 62))) := fun k =>
    (congrArg p (funext fun a => Fin.ext (by match a with | ⟨0, _⟩ => rfl | ⟨1, _⟩ => rfl | ⟨2, _⟩ => rfl))).trans (he k)
  refine Eq.trans (congrArg (fun x : EReal => Ideal.ofBits .f32 0#32 + x) (Finset.sum_congr rfl fun k _ => e k)) ?_
  rw [zeroE, zero_add]
  exact (sum_rows 256 62 rfl (by omega) (fun v => Ideal.exp (l v - z (mx l (wholeRows 62))))).symm
theorem blse1 (r : Fin 2560) : val_main_v54 (F := Ideal) x1 x2 x4 x5 x6 (ix2 r 0) = blse (lg x1 x2 x4 x5 x6 r) 62 := by
  rw [val_main_v54_apply, val_main_v53_apply, sum1, z1]
  generalize lg x1 x2 x4 x5 x6 r = l
  unfold blse
  generalize z (mx l (wholeRows 62)) = x
  generalize sm l (wholeRows 62) = y
  rfl

theorem blse63 (r : Fin 2560) (b : Fin 63) : val_main_v55 (F := Ideal) x1 x2 x4 x5 x6 (ix2 r b) = blse (lg x1 x2 x4 x5 x6 r) b.val := by
  have h1 := blse62 x1 x2 x4 x5 x6 r
  have h2 := blse1 x1 x2 x4 x5 x6 r
  unfold val_main_v55
  generalize val_main_v41 (F := Ideal) x1 x2 x4 x5 x6 = p at h1 ⊢
  generalize val_main_v54 (F := Ideal) x1 x2 x4 x5 x6 = q at h2 ⊢
  have e : concatenate S2560x63 1 [⟨S2560x62, p⟩, ⟨S2560x1, q⟩] concatenates_S2560x62_S2560x1_S2560x63_d1 (ix2 r b)
      = if h : b.val < 62 then p (ix2 r (⟨b.val, h⟩ : Fin 62)) else q (ix2 r (⟨b.val - 62, by omega⟩ : Fin 1)) := by
    pointwise []
  rw [e]
  by_cases h : b.val < 62
  · rw [dif_pos h, h1]
  · rw [dif_neg h]
    have hb : b.val = 62 := by omega
    have : (⟨b.val - 62, by omega⟩ : Fin 1) = 0 := Fin.ext (by show b.val - 62 = 0; omega)
    rw [this, h2, hb]

theorem has63 (r : Fin 2560) (b : Fin 63) : val_main_v56 (F := Ideal) x1 x2 x4 x5 x6 (ix2 r b) = BitVec.ofBool (decide (⊥ < mx (lg x1 x2 x4 x5 x6 r) (wholeRows b.val))) := by
  have h1 := mx62 x1 x2 x4 x5 x6 r
  have h2 := mx1 x1 x2 x4 x5 x6 r
  unfold val_main_v56
  have e : ∀ (p : IVec S2560x62 1) (q : IVec S2560x1 1), concatenate S2560x63 1 [⟨S2560x62, p⟩, ⟨S2560x1, q⟩] concatenates_S2560x62_S2560x1_S2560x63_d1 (ix2 r b)
      = if h : b.val < 62 then p (ix2 r (⟨b.val, h⟩ : Fin 62)) else q (ix2 r (⟨b.val - 62, by omega⟩ : Fin 1)) := by
    intro p q
    pointwise []
  refine (e _ _).trans ?_
  by_cases h : b.val < 62
  · rw [dif_pos h, val_main_v33_apply, h1, val_main_v32_apply, val_main_cst_2_apply]
    exact gt_bit _
  · rw [dif_neg h]
    have hb : b.val = 62 := by omega
    have : (⟨b.val - 62, by omega⟩ : Fin 1) = 0 := Fin.ext (by show b.val - 62 = 0; omega)
    rw [this, val_main_v46_apply, h2, val_main_v45_apply, val_main_cst_6_apply, hb]
    exact gt_bit _

theorem top63 (r : Fin 2560) : val_main_v57 (F := Ideal) x1 x2 x4 x5 x6 (ix1 r) = top (lg x1 x2 x4 x5 x6 r) 63 := by
  have h := blse63 x1 x2 x4 x5 x6 r
  unfold val_main_v57 val_main_cst_9
  generalize val_main_v55 (F := Ideal) x1 x2 x4 x5 x6 = p at h ⊢
  rw [← top_eq _ (fun b => p (ix2 r b)) h, ← negInf]
  pointwise []

theorem lse_apply (q : Fin 5) (s : Fin 4) (c : Fin 128) (r : Fin 2560) (hr : r.val = q.val * 512 + c.val * 4 + s.val) :
    val_main_v67 (F := Ideal) x1 x2 x4 x5 x6 (ix3 q s c) = top (lg x1 x2 x4 x5 x6 r) 63 + Ideal.log (tot (lg x1 x2 x4 x5 x6 r) 63) := by
  have h := blse63 x1 x2 x4 x5 x6 r
  have h' := top63 x1 x2 x4 x5 x6 r
  unfold val_main_v67 val_main_v66 val_main_v64 val_main_v63 val_main_v62 val_main_v61 val_main_v60 val_main_v59 val_main_v58 val_main_cst_10
  generalize val_main_v55 (F := Ideal) x1 x2 x4 x5 x6 = p at h ⊢
  generalize val_main_v57 (F := Ideal) x1 x2 x4 x5 x6 = w at h' ⊢
  rw [← tot_eq, ← h']
  simp only [← h]
  have hlt : q.val * 512 + c.val * 4 + s.val < 2560 := by omega
  obtain rfl : r = ⟨q.val * 512 + c.val * 4 + s.val, hlt⟩ := Fin.ext hr
  pointwise []

theorem block_apply (b : Fin 63) (q : Fin 5) (s : Fin 4) (c : Fin 128) (r : Fin 2560) (hr : r.val = q.val * 512 + c.val * 4 + s.val) :
    val_main_v69 (F := Ideal) x1 x2 x4 x5 x6 (ix4 b q s c)
      = if ⊥ < mx (lg x1 x2 x4 x5 x6 r) (wholeRows b.val) then blse (lg x1 x2 x4 x5 x6 r) b.val else 0 := by
  have h := blse63 x1 x2 x4 x5 x6 r b
  have h' := has63 x1 x2 x4 x5 x6 r b
  unfold val_main_v69 val_main_v68 val_main_v65 val_main_call3_v1 val_main_call3_v0 val_main_cst_11
  generalize val_main_v55 (F := Ideal) x1 x2 x4 x5 x6 = p at h ⊢
  generalize val_main_v56 (F := Ideal) x1 x2 x4 x5 x6 = w at h' ⊢
  have e : Scalar.select (w (ix2 r b)) (p (ix2 r b)) (Ideal.ofBits .f32 0#32) = if ⊥ < mx (lg x1 x2 x4 x5 x6 r) (wholeRows b.val) then blse (lg x1 x2 x4 x5 x6 r) b.val else 0 := by
    rw [h, h', zeroE]
    by_cases hb : ⊥ < mx (lg x1 x2 x4 x5 x6 r) (wholeRows b.val)
    · rw [if_pos hb, decide_eq_true hb]; rfl
    · rw [if_neg hb, decide_eq_false hb]; rfl
  rw [← e]
  have hlt : q.val * 512 + c.val * 4 + s.val < 2560 := by omega
  obtain rfl : r = ⟨q.val * 512 + c.val * 4 + s.val, hlt⟩ := Fin.ext hr
  unfold id
  pointwise []

end Cert.Proof.ScoreRef
-- ==== Proof.ScoreEqual.lean ====
/-
  The kernel's results are the reference's: the precondition read at an index, and the two programs' values side by side.
-/
module

public import proofs.«01_k».proof.Defs
public import proofs.«01_k».proof.Proof.ScoreLaunch
public import proofs.«01_k».proof.Proof.ScoreRefRows

@[expose] public section

set_option maxRecDepth 16384
set_option backward.proofsInPublic true

noncomputable section

namespace Cert.Proof.ScoreEqual

open Idealize.ShloMosaic
open Idealize.ShloMosaic.TcCoe
open Cert.KernelIdeal
open Cert.Proof.ScoreMath

/-- The shape relations the precondition's operations take. -/
instance preFacts : Cert.Pre_marked.Facts where
  slices_S1x128_S1x125_0_0 := by decide
  shapeCasts_S1x125_S125 := by decide
  bcast_S_S125 := by decide
  shapeCasts_S640x4x1000_S640x4x125x8 := by decide
  bcast_S_S640x4x125x8 := by decide
  bcast_S125_S1x1x125x1_2 := by decide
  bcast_S1x1x125x1_S640x4x125x8_0_1_2_3 := by decide

/-- A mask word is zero or its unit is marked. -/
theorem marked_apply (x0 : IVec S1x128 32) (x1 : IVec S20x4096x128 8) (x2 : FVec Ideal S5x4x128 .f32) (x3 : IVec S640x4 32) (x4 : FVec Ideal S32000 .f32) (x5 : IVec S32000x4096 8) (x6 : IVec S640x4x1000 32)
    (h : Cert.Pre_marked.fn (F := Ideal) x0 x1 x2 x3 x4 x5 x6 = fun _ => 1#1) (b : Fin 640) (s : Fin 4) (u : Fin 125) (i : Fin 8) :
    x6 (ix3 b s (⟨8 * u.val + i.val, by omega⟩ : Fin 1000)) = 0#32 ∨ x0 (ix2 0 (⟨u.val, by omega⟩ : Fin 128)) ≠ 0#32 := by
  have e : Cert.Pre_marked.fn (F := Ideal) x0 x1 x2 x3 x4 x5 x6 (ix4 b s u i)
      = IntOp.ori (IntOp.cmpi .eq (x6 (ix3 b s (⟨u.val * 8 + i.val, by omega⟩ : Fin 1000))) 0#32) (IntOp.cmpi .ne (x0 (ix2 0 (⟨u.val, by omega⟩ : Fin 128))) 0#32) := by
    pointwise [Cert.Pre_marked.fn]
  have h1 := e.symm.trans (congrFun h (ix4 b s u i))
  have e8 : (⟨8 * u.val + i.val, by omega⟩ : Fin 1000) = ⟨u.val * 8 + i.val, by omega⟩ := Fin.ext (by show 8 * u.val + i.val = u.val * 8 + i.val; omega)
  rw [e8]
  generalize x6 (ix3 b s (⟨u.val * 8 + i.val, by omega⟩ : Fin 1000)) = w at h1 ⊢
  generalize x0 (ix2 0 (⟨u.val, by omega⟩ : Fin 128)) = v at h1 ⊢
  by_cases hw : w = 0#32
  · exact Or.inl hw
  · refine Or.inr fun hv => ?_
    subst hv
    have hw' : (w == 0#32) = false := by simpa using hw
    unfold IntOp.ori IntOp.cmpi at h1
    simp [hw'] at h1

variable (x1 : IVec S20x4096x128 8) (x2 : FVec Ideal S5x4x128 .f32) (x4 : FVec Ideal S32000 .f32) (x5 : IVec S32000x4096 8) (x6 : IVec S640x4x1000 32)

/-- The reference's row `512 q + 4 y + r` is lane `y` of chunk `4 q + r`. -/
theorem row_eq (q : Fin 5) (r : Fin 4) (y : Fin 128) (a : Fin 20) (ha : a.val = q.val * 4 + r.val) (h : q.val * 512 + y.val * 4 + r.val < 2560) :
    ScoreRef.lg x1 x2 x4 x5 x6 ⟨q.val * 512 + y.val * 4 + r.val, h⟩ = lgt x1 x2 x4 x5 x6 a y := by
  have e1 : ScoreRef.ra ⟨q.val * 512 + y.val * 4 + r.val, h⟩ = a := Fin.ext (by
    show (q.val * 512 + y.val * 4 + r.val) / 512 * 4 + (q.val * 512 + y.val * 4 + r.val) % 4 = a.val; omega)
  have e2 : ScoreRef.rc ⟨q.val * 512 + y.val * 4 + r.val, h⟩ = y := Fin.ext (by
    show (q.val * 512 + y.val * 4 + r.val) / 4 % 128 = y.val; omega)
  unfold ScoreRef.lg
  rw [e1, e2]

theorem lse_ref (q : Fin 5) (r : Fin 4) (y : Fin 128) (a : Fin 20) (ha : a.val = q.val * 4 + r.val) :
    Cert.ReferenceIdeal.Read.val_main_v67 (F := Ideal) x1 x2 x4 x5 x6 (ix3 q r y) = (top (lgt x1 x2 x4 x5 x6 a y) 63 + Ideal.log (tot (lgt x1 x2 x4 x5 x6 a y) 63) : EReal) := by
  have h : q.val * 512 + y.val * 4 + r.val < 2560 := by omega
  rw [← row_eq x1 x2 x4 x5 x6 q r y a ha h]
  exact ScoreRef.lse_apply x1 x2 x4 x5 x6 q r y ⟨q.val * 512 + y.val * 4 + r.val, h⟩ rfl

theorem block_ref (b : Fin 63) (q : Fin 5) (r : Fin 4) (y : Fin 128) (a : Fin 20) (ha : a.val = q.val * 4 + r.val) :
    Cert.ReferenceIdeal.Read.val_main_v69 (F := Ideal) x1 x2 x4 x5 x6 (ix4 b q r y)
      = (if ⊥ < mx (lgt x1 x2 x4 x5 x6 a y) (wholeRows b.val) then blse (lgt x1 x2 x4 x5 x6 a y) b.val else 0 : EReal) := by
  have h : q.val * 512 + y.val * 4 + r.val < 2560 := by omega
  rw [← row_eq x1 x2 x4 x5 x6 q r y a ha h]
  exact ScoreRef.block_apply x1 x2 x4 x5 x6 b q r y ⟨q.val * 512 + y.val * 4 + r.val, h⟩ rfl

end Cert.Proof.ScoreEqual
-- ==== Proof.lean ====
/-
  The proof of `Cert.Claim`: the runs of the two kernel programs (Proof/KScoreFrame.lean for the program as printed,
  Proof/ScoreFrame.lean for its idealization), the generated run of the reference, the two named constants, and the
  equality of the results: the kernel's arrays (Proof/ScoreLaunch.lean) are the reference's (Proof/ScoreEqual.lean).
-/
module

public import proofs.«01_k».proof.Defs
public import proofs.«01_k».proof.Proof.KScoreFrame
public import proofs.«01_k».proof.Proof.ScoreFrame
public import proofs.«01_k».proof.Proof.ScoreEqual
public import proofs.«01_k».proof.Proof.Gen.ReferenceIdeal
public import proofs.«01_k».proof.Proof.Gen.ReferenceIdeal.Run
public import proofs.«01_k».proof.Proof.Gen.ReferenceIdeal.Read
public import Idealize.ShloMosaic.Lib.Quiescent
public import Idealize.ShloMosaic.Adequacy
public import Idealize.ShloMosaic.Init

@[expose] public section

set_option backward.proofsInPublic true

noncomputable section

namespace Cert.Proof

open Idealize.ShloMosaic Idealize.SL.Sem

theorem frame_p : Cert.quiescent_Kernel := fun m ρ _ => Cert.Proof.Score.frame m ρ
theorem frame_pi : Cert.quiescent_KernelIdeal := fun m ρ _ => Cert.Proof.ScoreIdeal.frame m ρ
theorem frame_pi_marked : Cert.quiescent_KernelIdeal_pre_marked := fun m ρ _ => Cert.Proof.ScoreIdeal.frame m ρ
theorem frame_ri : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)
theorem frame_ri_marked : Cert.quiescent_ReferenceIdeal_pre_marked := fun m ρ _ => frame_ri m ρ trivial
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl⟩

/-- The value both programs end with is the reference's, read of the kernel's arguments. -/
theorem algebraic : Cert.algebraic_KernelIdeal_ReferenceIdeal_pre_marked := fun m g m' g' hpre hargs =>
  ⟨fun c => Cert.ReferenceIdeal.Read.val_main_v67 (F := Ideal)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    fun c => Cert.ReferenceIdeal.Read.val_main_v69 (F := Ideal)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    (θ_run Cert.KernelIdeal.defs _ _).mono (fun r h c =>
        have hp := ScoreEqual.marked_apply _ _ _ _ _ _ _ (hpre c)
        ⟨((h.1 c).1 5).trans (ScoreIdeal.array5 m c hp _ (fun q r y a ha => ScoreEqual.lse_ref _ _ _ _ _ q r y a ha)),
          ((h.1 c).1 7).trans (ScoreIdeal.array7 m c hp _ (fun b q r y a ha => ScoreEqual.block_ref _ _ _ _ _ b q r y a ha)),
          ScoreIdeal.args_of m h.1 c⟩)
      (Cert.Proof.ScoreIdeal.run_main m g),
    (θ_run Cert.ReferenceIdeal.defs _ _).mono (fun r h c => by
        obtain ⟨_, h1, h2, _, h4, h5, h6⟩ := hargs c
        refine ⟨(h c).1.trans ((Cert.ReferenceIdeal.Read.val_main_v67_eq m' c).trans ?_),
          (h c).2.1.trans ((Cert.ReferenceIdeal.Read.val_main_v69_eq m' c).trans ?_), (h c).2.2⟩
        · rw [h1, h2, h4, h5, h6]
        · rw [h1, h2, h4, h5, h6])
      (Cert.ReferenceIdeal.Value.run (F := Ideal) m' g')⟩

theorem claim : Cert.Claim :=
  ⟨Cert.Kernel.Gen.facts, Cert.KernelIdeal.Gen.facts, Cert.ReferenceIdeal.Gen.facts, ScoreEqual.preFacts, frame_p, frame_pi,
    frame_pi_marked, frame_ri, frame_ri_marked, preserves, algebraic⟩

end Cert.Proof

end
